-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_routed_distinct [hPre_routed_distinct : Cert.Pre_routed_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_routed_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_distinct [hPre_routed_distinct : Cert.Pre_routed_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routed_distinct [hKernelIdeal : Cert.KernelIdeal.Facts] [hPre_routed_distinct : Cert.Pre_routed_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routed_distinct [hReferenceIdeal : Cert.ReferenceIdeal.Facts] [hPre_routed_distinct : Cert.Pre_routed_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routed_distinct [hKernelIdeal : Cert.KernelIdeal.Facts] [hReferenceIdeal : Cert.ReferenceIdeal.Facts] [hPre_routed_distinct : Cert.Pre_routed_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routed : Cert.Pre_routed.Facts) (hPre_routed_distinct : Cert.Pre_routed_distinct.Facts),
    quiescent_Kernel (hKernel := hKernel) (hPre_routed := hPre_routed)
    ∧ quiescent_KernelIdeal (hKernelIdeal := hKernelIdeal) (hPre_routed := hPre_routed)
    ∧ quiescent_KernelIdeal_pre_routed_distinct (hKernelIdeal := hKernelIdeal) (hPre_routed_distinct := hPre_routed_distinct)
    ∧ quiescent_ReferenceIdeal (hReferenceIdeal := hReferenceIdeal)
    ∧ quiescent_ReferenceIdeal_pre_routed_distinct (hReferenceIdeal := hReferenceIdeal) (hPre_routed_distinct := hPre_routed_distinct)
    ∧ preserves_Kernel_KernelIdeal
    ∧ algebraic_KernelIdeal_ReferenceIdeal_pre_routed_distinct (hKernelIdeal := hKernelIdeal) (hReferenceIdeal := hReferenceIdeal) (hPre_routed_distinct := hPre_routed_distinct)
-- ==== Pre_routed.lean ====
abbrev S20x1x4096 : Shape := ⟨3, ![20, 1, 4096]⟩
abbrev S20x1x8 : Shape := ⟨3, ![20, 1, 8]⟩
abbrev S31x4096x3072 : Shape := ⟨3, ![31, 4096, 3072]⟩
abbrev S31x3072 : Shape := ⟨2, ![31, 3072]⟩
abbrev S31x1536x4096 : Shape := ⟨3, ![31, 1536, 4096]⟩
abbrev S31x4096 : Shape := ⟨2, ![31, 4096]⟩
abbrev S_ : Shape := ⟨0, ![]⟩

class Facts : Prop where
  bcast_S_S20x1x8 : S_.BroadcastsInDim S20x1x8 (![] : Fin 0 → Fin S20x1x8.rank)
  reducesTo_S20x1x8_S_d0_1_2 : S20x1x8.ReducesTo [0, 1, 2] S_
  h_S_ : 0 < S_.numel

variable [Facts]

def fn {F : FTy → Type} [FloatOps F] (main_arg0 : FVec F S20x1x4096 .bf16) (main_arg1 : IVec S20x1x8 32) (main_arg2 : FVec F S20x1x8 .f32) (main_arg3 : FVec F S31x4096x3072 .fp8e4m3) (main_arg4 : FVec F S31x3072 .f32) (main_arg5 : FVec F S31x1536x4096 .fp8e4m3) (main_arg6 : FVec F S31x4096 .f32) : IVec S_ 1 :=
  let main_c : IVec S_ 32 := constantI S_ 32 0#32
  let main_v0 : IVec S20x1x8 32 := broadcastInDim S20x1x8 ![] bcast_S_S20x1x8 main_c
  let main_v1 : IVec S20x1x8 1 := cmpi .sge main_arg1 main_v0
  let main_c_0 : IVec S_ 32 := constantI S_ 32 31#32
  let main_v2 : IVec S20x1x8 32 := broadcastInDim S20x1x8 ![] bcast_S_S20x1x8 main_c_0
  let main_v3 : IVec S20x1x8 1 := cmpi .slt main_arg1 main_v2
  let main_v4 : IVec S20x1x8 1 := andi main_v1 main_v3
  let main_c_1 : IVec S_ 1 := constantI S_ 1 1#1
  let main_v5 : IVec S_ 1 := (fun x v => Host.reduce IntOp.andi x v reducesTo_S20x1x8_S_d0_1_2 h_S_) main_v4 main_c_1
  main_v5
-- ==== Pre_routed_distinct.lean ====
abbrev S20x1x4096 : Shape := ⟨3, ![20, 1, 4096]⟩
abbrev S20x1x8 : Shape := ⟨3, ![20, 1, 8]⟩
abbrev S31x4096x3072 : Shape := ⟨3, ![31, 4096, 3072]⟩
abbrev S31x3072 : Shape := ⟨2, ![31, 3072]⟩
abbrev S31x1536x4096 : Shape := ⟨3, ![31, 1536, 4096]⟩
abbrev S31x4096 : Shape := ⟨2, ![31, 4096]⟩
abbrev S_ : Shape := ⟨0, ![]⟩
abbrev S20x1x8x8 : Shape := ⟨4, ![20, 1, 8, 8]⟩
abbrev S20x1x8x1 : Shape := ⟨4, ![20, 1, 8, 1]⟩
abbrev S20x1x1x8 : Shape := ⟨4, ![20, 1, 1, 8]⟩

class Facts : Prop where
  bcast_S_S20x1x8 : S_.BroadcastsInDim S20x1x8 (![] : Fin 0 → Fin S20x1x8.rank)
  reducesTo_S20x1x8_S_d0_1_2 : S20x1x8.ReducesTo [0, 1, 2] S_
  h_S_ : 0 < S_.numel
  bcast_S20x1x8_S20x1x8x1_0_1_2 : S20x1x8.BroadcastsInDim S20x1x8x1 (![0, 1, 2] : Fin 3 → Fin S20x1x8x1.rank)
  bcast_S20x1x8_S20x1x1x8_0_1_3 : S20x1x8.BroadcastsInDim S20x1x1x8 (![0, 1, 3] : Fin 3 → Fin S20x1x1x8.rank)
  bcast_S20x1x8x1_S20x1x8x8_0_1_2_3 : S20x1x8x1.BroadcastsInDim S20x1x8x8 (![0, 1, 2, 3] : Fin 4 → Fin S20x1x8x8.rank)
  bcast_S20x1x1x8_S20x1x8x8_0_1_2_3 : S20x1x1x8.BroadcastsInDim S20x1x8x8 (![0, 1, 2, 3] : Fin 4 → Fin S20x1x8x8.rank)
  reducesTo_S20x1x8x8_S_d0_1_2_3 : S20x1x8x8.ReducesTo [0, 1, 2, 3] S_

variable [Facts]

def fn {F : FTy → Type} [FloatOps F] (main_arg0 : FVec F S20x1x4096 .bf16) (main_arg1 : IVec S20x1x8 32) (main_arg2 : FVec F S20x1x8 .f32) (main_arg3 : FVec F S31x4096x3072 .fp8e4m3) (main_arg4 : FVec F S31x3072 .f32) (main_arg5 : FVec F S31x1536x4096 .fp8e4m3) (main_arg6 : FVec F S31x4096 .f32) : IVec S_ 1 :=
  let main_c : IVec S_ 32 := constantI S_ 32 0#32
  let main_v0 : IVec S20x1x8 32 := broadcastInDim S20x1x8 ![] bcast_S_S20x1x8 main_c
  let main_v1 : IVec S20x1x8 1 := cmpi .sge main_arg1 main_v0
  let main_c_0 : IVec S_ 32 := constantI S_ 32 31#32
  let main_v2 : IVec S20x1x8 32 := broadcastInDim S20x1x8 ![] bcast_S_S20x1x8 main_c_0
  let main_v3 : IVec S20x1x8 1 := cmpi .slt main_arg1 main_v2
  let main_v4 : IVec S20x1x8 1 := andi main_v1 main_v3
  let main_c_1 : IVec S_ 1 := constantI S_ 1 1#1
  let main_v5 : IVec S_ 1 := (fun x v => Host.reduce IntOp.andi x v reducesTo_S20x1x8_S_d0_1_2 h_S_) main_v4 main_c_1
  let main_v6 : IVec S20x1x8x8 32 := iotaInDim S20x1x8x8 32 2
  let main_v7 : IVec S20x1x8x8 32 := iotaInDim S20x1x8x8 32 3
  let main_v8 : IVec S20x1x8x8 1 := cmpi .eq main_v6 main_v7
  let main_v9 : IVec S20x1x8x1 32 := broadcastInDim S20x1x8x1 ![0, 1, 2] bcast_S20x1x8_S20x1x8x1_0_1_2 main_arg1
  let main_v10 : IVec S20x1x1x8 32 := broadcastInDim S20x1x1x8 ![0, 1, 3] bcast_S20x1x8_S20x1x1x8_0_1_3 main_arg1
  let main_v11 : IVec S20x1x8x8 32 := broadcastInDim S20x1x8x8 ![0, 1, 2, 3] bcast_S20x1x8x1_S20x1x8x8_0_1_2_3 main_v9
  let main_v12 : IVec S20x1x8x8 32 := broadcastInDim S20x1x8x8 ![0, 1, 2, 3] bcast_S20x1x1x8_S20x1x8x8_0_1_2_3 main_v10
  let main_v13 : IVec S20x1x8x8 1 := cmpi .ne main_v11 main_v12
  let main_v14 : IVec S20x1x8x8 1 := ori main_v8 main_v13
  let main_c_2 : IVec S_ 1 := constantI S_ 1 1#1
  let main_v15 : IVec S_ 1 := (fun x v => Host.reduce IntOp.andi x v reducesTo_S20x1x8x8_S_d0_1_2_3 h_S_) main_v14 main_c_2
  let main_v16 : IVec S_ 1 := andi main_v5 main_v15
  main_v16
-- ==== Kernel.lean ====
abbrev S20x1x4096 : Shape := ⟨3, ![20, 1, 4096]⟩
abbrev S20x1x8 : Shape := ⟨3, ![20, 1, 8]⟩
abbrev S31x4096x3072 : Shape := ⟨3, ![31, 4096, 3072]⟩
abbrev S31x3072 : Shape := ⟨2, ![31, 3072]⟩
abbrev S31x1536x4096 : Shape := ⟨3, ![31, 1536, 4096]⟩
abbrev S31x4096 : Shape := ⟨2, ![31, 4096]⟩
abbrev S20x8 : Shape := ⟨2, ![20, 8]⟩
abbrev S8x20 : Shape := ⟨2, ![8, 20]⟩
abbrev S20x4096 : Shape := ⟨2, ![20, 4096]⟩
abbrev S32 : Shape := ⟨1, ![32]⟩
abbrev S31 : Shape := ⟨1, ![31]⟩
abbrev S32x8 : Shape := ⟨2, ![32, 8]⟩
abbrev S32x4096 : Shape := ⟨2, ![32, 4096]⟩
abbrev S32x3072 : Shape := ⟨2, ![32, 3072]⟩
abbrev S32x1536 : Shape := ⟨2, ![32, 1536]⟩
abbrev S2x2x2048x3072 : Shape := ⟨4, ![2, 2, 2048, 3072]⟩
abbrev S2x1x1536x4096 : Shape := ⟨4, ![2, 1, 1536, 4096]⟩
abbrev S_ : Shape := ⟨0, ![]⟩
abbrev S5 : Shape := ⟨1, ![5]⟩
abbrev S2x2 : Shape := ⟨2, ![2, 2]⟩
abbrev S2x1 : Shape := ⟨2, ![2, 1]⟩
abbrev S1 : Shape := ⟨1, ![1]⟩
abbrev S1x1 : Shape := ⟨2, ![1, 1]⟩
abbrev S1x1x2048x3072 : Shape := ⟨4, ![1, 1, 2048, 3072]⟩
abbrev S2048x3072 : Shape := ⟨2, ![2048, 3072]⟩
abbrev S1x2048x3072 : Shape := ⟨3, ![1, 2048, 3072]⟩
abbrev S1x1x1536x4096 : Shape := ⟨4, ![1, 1, 1536, 4096]⟩
abbrev S1536x4096 : Shape := ⟨2, ![1536, 4096]⟩
abbrev S1x1536x4096 : Shape := ⟨3, ![1, 1536, 4096]⟩
abbrev S32x2048 : Shape := ⟨2, ![32, 2048]⟩
abbrev S1x3072 : Shape := ⟨2, ![1, 3072]⟩
abbrev S1x1536 : Shape := ⟨2, ![1, 1536]⟩
abbrev S32x1 : Shape := ⟨2, ![32, 1]⟩
abbrev S1x4096 : Shape := ⟨2, ![1, 4096]⟩

abbrev nBuf : Space → Nat
  | .hbm => 13
  | .vmem => 14
  | .smem => 3
  | _ => 0

abbrev bufTy : (tb : Table) → Fin (tcTables nBuf tb) → BufTy
  | .hbm, ⟨0, _⟩ => ⟨S20x1x4096, .bf16⟩
  | .hbm, ⟨1, _⟩ => ⟨S20x1x8, .i32⟩
  | .hbm, ⟨2, _⟩ => ⟨S20x1x8, .f32⟩
  | .hbm, ⟨3, _⟩ => ⟨S31x4096x3072, .fp8e4m3⟩
  | .hbm, ⟨4, _⟩ => ⟨S31x3072, .f32⟩
  | .hbm, ⟨5, _⟩ => ⟨S31x1536x4096, .fp8e4m3⟩
  | .hbm, ⟨6, _⟩ => ⟨S31x4096, .f32⟩
  | .hbm, ⟨7, _⟩ => ⟨S20x8, .i32⟩
  | .hbm, ⟨8, _⟩ => ⟨S8x20, .i32⟩
  | .hbm, ⟨9, _⟩ => ⟨S20x8, .f32⟩
  | .hbm, ⟨10, _⟩ => ⟨S8x20, .f32⟩
  | .hbm, ⟨11, _⟩ => ⟨S20x4096, .bf16⟩
  | .hbm, ⟨12, _⟩ => ⟨S20x4096, .bf16⟩
  | .local _ .vmem, ⟨0, _⟩ => ⟨S20x4096, .bf16⟩
  | .local _ .vmem, ⟨1, _⟩ => ⟨S8x20, .i32⟩
  | .local _ .vmem, ⟨2, _⟩ => ⟨S8x20, .f32⟩
  | .local _ .vmem, ⟨3, _⟩ => ⟨S20x4096, .bf16⟩
  | .local _ .vmem, ⟨4, _⟩ => ⟨S31x3072, .f32⟩
  | .local _ .vmem, ⟨5, _⟩ => ⟨S31x4096, .f32⟩
  | .local _ .vmem, ⟨6, _⟩ => ⟨S32x8, .i32⟩
  | .local _ .vmem, ⟨7, _⟩ => ⟨S32x8, .f32⟩
  | .local _ .vmem, ⟨8, _⟩ => ⟨S32x4096, .bf16⟩
  | .local _ .vmem, ⟨9, _⟩ => ⟨S32x3072, .f32⟩
  | .local _ .vmem, ⟨10, _⟩ => ⟨S32x1536, .bf16⟩
  | .local _ .vmem, ⟨11, _⟩ => ⟨S32x4096, .f32⟩
  | .local _ .vmem, ⟨12, _⟩ => ⟨S2x2x2048x3072, .fp8e4m3⟩
  | .local _ .vmem, ⟨13, _⟩ => ⟨S2x1x1536x4096, .fp8e4m3⟩
  | .local _ .smem, ⟨0, _⟩ => ⟨S8x20, .i32⟩
  | .local _ .smem, ⟨1, _⟩ => ⟨S32, .i32⟩
  | .local _ .smem, ⟨2, _⟩ => ⟨S31, .i32⟩
  | _, _ => ⟨S20x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

def k0_off1 (v10 : BitVec 32) : Fin 3 → Nat :=
  let c0_i32_7 : BitVec 32 := 0#32
  let c0_i32_8 : BitVec 32 := 0#32
  ![v10.toNat, 0, 0]

def k0_off2 (v10 : BitVec 32) : Fin 3 → Nat :=
  let c2048_i32 : BitVec 32 := 2048#32
  let c0_i32_15 : BitVec 32 := 0#32
  ![v10.toNat, 2048, 0]
def k0_off3 (v10 : BitVec 32) : Fin 3 → Nat :=
  let c0_i32_22 : BitVec 32 := 0#32
  let c0_i32_23 : BitVec 32 := 0#32
  ![v10.toNat, 0, 0]

def k0_chk1 (v10 : BitVec 32) : Prop :=
  (∀ a, (k0_off1 v10) a + S1x2048x3072.size a ≤ S31x4096x3072.size a) ∧
  (∀ (hinb : ∀ a, (k0_off1 v10) a + S1x2048x3072.size a ≤ S31x4096x3072.size a), (Rect.unit (s := S31x4096x3072) (k0_off1 v10) S1x2048x3072.size hinb).WholeWords (EltTy.packing .fp8e4m3)) ∧
  (∀ a, (k0_off2 v10) a + S1x2048x3072.size a ≤ S31x4096x3072.size a) ∧
  (∀ (hinb : ∀ a, (k0_off2 v10) a + S1x2048x3072.size a ≤ S31x4096x3072.size a), (Rect.unit (s := S31x4096x3072) (k0_off2 v10) S1x2048x3072.size hinb).WholeWords (EltTy.packing .fp8e4m3)) ∧
  (∀ a, (k0_off3 v10) a + S1x1536x4096.size a ≤ S31x1536x4096.size a) ∧
  (∀ (hinb : ∀ a, (k0_off3 v10) a + S1x1536x4096.size a ≤ S31x1536x4096.size a), (Rect.unit (s := S31x1536x4096) (k0_off3 v10) S1x1536x4096.size hinb).WholeWords (EltTy.packing .fp8e4m3))
theorem k0_off1_inb : ∀ (v10 : BitVec 32) (k0_hw1 : k0_chk1 v10), ∀ a, (k0_off1 v10) a + S1x2048x3072.size a ≤ S31x4096x3072.size a := fun v10 k0_hw1 => k0_hw1.1
theorem k0_off1_wordsfp8e4m3 : ∀ (v10 : BitVec 32) (k0_hw1 : k0_chk1 v10), (Rect.unit (s := S31x4096x3072) (k0_off1 v10) S1x2048x3072.size (k0_off1_inb v10 k0_hw1)).WholeWords (EltTy.packing .fp8e4m3) := fun v10 k0_hw1 => k0_hw1.2.1 (k0_off1_inb v10 k0_hw1)
theorem k0_off2_inb : ∀ (v10 : BitVec 32) (k0_hw1 : k0_chk1 v10), ∀ a, (k0_off2 v10) a + S1x2048x3072.size a ≤ S31x4096x3072.size a := fun v10 k0_hw1 => k0_hw1.2.2.1
theorem k0_off2_wordsfp8e4m3 : ∀ (v10 : BitVec 32) (k0_hw1 : k0_chk1 v10), (Rect.unit (s := S31x4096x3072) (k0_off2 v10) S1x2048x3072.size (k0_off2_inb v10 k0_hw1)).WholeWords (EltTy.packing .fp8e4m3) := fun v10 k0_hw1 => k0_hw1.2.2.2.1 (k0_off2_inb v10 k0_hw1)
theorem k0_off3_inb : ∀ (v10 : BitVec 32) (k0_hw1 : k0_chk1 v10), ∀ a, (k0_off3 v10) a + S1x1536x4096.size a ≤ S31x1536x4096.size a := fun v10 k0_hw1 => k0_hw1.2.2.2.2.1
theorem k0_off3_wordsfp8e4m3 : ∀ (v10 : BitVec 32) (k0_hw1 : k0_chk1 v10), (Rect.unit (s := S31x1536x4096) (k0_off3 v10) S1x1536x4096.size (k0_off3_inb v10 k0_hw1)).WholeWords (EltTy.packing .fp8e4m3) := fun v10 k0_hw1 => k0_hw1.2.2.2.2.2 (k0_off3_inb v10 k0_hw1)

@[reducible] def k0_t1_loop : Scf.Loop 32 :=
  let c0_i32_24 : BitVec 32 := 0#32
  let c31_i32 : BitVec 32 := 31#32
  let v29 : BitVec 32 := Scalar.addi c0_i32_24 c31_i32
  let c1_i32_25 : BitVec 32 := 1#32
  ⟨c0_i32_24, v29, c1_i32_25⟩
def k0_off4 (k0_t1 : Fin k0_t1_loop.trips) : Fin 1 → Nat :=
  let c0_i32_24 : BitVec 32 := 0#32
  let c1_i32_25 : BitVec 32 := 1#32
  let arg28 : BitVec 32 := Scf.iv c0_i32_24 c1_i32_25 k0_t1
  let v83 : Index := Scalar.indexCast arg28
  ![v83.toNat]
@[reducible] def k0_t2_loop : Scf.Loop 32 :=
  let c0_i32_28 : BitVec 32 := 0#32
  let c20_i32 : BitVec 32 := 20#32
  let v30 : BitVec 32 := Scalar.addi c0_i32_28 c20_i32
  let c1_i32_29 : BitVec 32 := 1#32
  ⟨c0_i32_28, v30, c1_i32_29⟩
def k0_off5 (k0_t2 : Fin k0_t2_loop.trips) : Fin 2 → Nat :=
  let c0_69 : Index := 0#32
  let c0_i32_28 : BitVec 32 := 0#32
  let c1_i32_29 : BitVec 32 := 1#32
  let arg28 : BitVec 32 := Scf.iv c0_i32_28 c1_i32_29 k0_t2
  let v83 : Index := Scalar.indexCast arg28
  ![0, v83.toNat]
def k0_off6 (arg29 : BitVec 32) : Fin 1 → Nat :=
  let v85 : Index := Scalar.indexCast arg29
  ![v85.toNat]

def k0_chk2 (arg29 : BitVec 32) : Prop :=
  (∀ a, (k0_off6 arg29) a + S1.size a ≤ S32.size a)
theorem k0_off6_inb : ∀ (arg29 : BitVec 32) (k0_hw2 : k0_chk2 arg29), ∀ a, (k0_off6 arg29) a + S1.size a ≤ S32.size a := fun arg29 k0_hw2 => k0_hw2

def k0_off7 (v84 : BitVec 32) : Fin 1 → Nat :=
  let v87 : Index := Scalar.indexCast v84
  ![v87.toNat]

def k0_chk3 (v84 : BitVec 32) : Prop :=
  (∀ a, (k0_off7 v84) a + S1.size a ≤ S31.size a)
theorem k0_off7_inb : ∀ (v84 : BitVec 32) (k0_hw3 : k0_chk3 v84), ∀ a, (k0_off7 v84) a + S1.size a ≤ S31.size a := fun v84 k0_hw3 => k0_hw3

def k0_off8 (k0_t2 : Fin k0_t2_loop.trips) : Fin 2 → Nat :=
  let c1 : Index := 1#32
  let c0_i32_28 : BitVec 32 := 0#32
  let c1_i32_29 : BitVec 32 := 1#32
  let arg28 : BitVec 32 := Scf.iv c0_i32_28 c1_i32_29 k0_t2
  let v93 : Index := Scalar.indexCast arg28
  ![1, v93.toNat]
def k0_off9 (arg29 : BitVec 32) (v88 : BitVec 32) : Fin 1 → Nat :=
  let c1_i32_70 : BitVec 32 := 1#32
  let v89 : BitVec 32 := Scalar.subi c1_i32_70 v88
  let v90 : BitVec 32 := Scalar.addi arg29 v89
  let v95 : Index := Scalar.indexCast v90
  ![v95.toNat]

def k0_chk4 (arg29 : BitVec 32) (v88 : BitVec 32) : Prop :=
  (∀ a, (k0_off9 arg29 v88) a + S1.size a ≤ S32.size a)
theorem k0_off9_inb : ∀ (arg29 : BitVec 32) (v88 : BitVec 32) (k0_hw4 : k0_chk4 arg29 v88), ∀ a, (k0_off9 arg29 v88) a + S1.size a ≤ S32.size a := fun arg29 v88 k0_hw4 => k0_hw4

def k0_off10 (v94 : BitVec 32) : Fin 1 → Nat :=
  let v97 : Index := Scalar.indexCast v94
  ![v97.toNat]

def k0_chk5 (v94 : BitVec 32) : Prop :=
  (∀ a, (k0_off10 v94) a + S1.size a ≤ S31.size a)
theorem k0_off10_inb : ∀ (v94 : BitVec 32) (k0_hw5 : k0_chk5 v94), ∀ a, (k0_off10 v94) a + S1.size a ≤ S31.size a := fun v94 k0_hw5 => k0_hw5

def k0_off11 (k0_t2 : Fin k0_t2_loop.trips) : Fin 2 → Nat :=
  let c2 : Index := 2#32
  let c0_i32_28 : BitVec 32 := 0#32
  let c1_i32_29 : BitVec 32 := 1#32
  let arg28 : BitVec 32 := Scf.iv c0_i32_28 c1_i32_29 k0_t2
  let v103 : Index := Scalar.indexCast arg28
  ![2, v103.toNat]
def k0_off12 (arg29 : BitVec 32) (v88 : BitVec 32) (v98 : BitVec 32) : Fin 1 → Nat :=
  let c1_i32_70 : BitVec 32 := 1#32
  let v89 : BitVec 32 := Scalar.subi c1_i32_70 v88
  let v90 : BitVec 32 := Scalar.addi arg29 v89
  let c1_i32_72 : BitVec 32 := 1#32
  let v99 : BitVec 32 := Scalar.subi c1_i32_72 v98
  let v100 : BitVec 32 := Scalar.addi v90 v99
  let v105 : Index := Scalar.indexCast v100
  ![v105.toNat]

def k0_chk6 (arg29 : BitVec 32) (v88 : BitVec 32) (v98 : BitVec 32) : Prop :=
  (∀ a, (k0_off12 arg29 v88 v98) a + S1.size a ≤ S32.size a)
theorem k0_off12_inb : ∀ (arg29 : BitVec 32) (v88 : BitVec 32) (v98 : BitVec 32) (k0_hw6 : k0_chk6 arg29 v88 v98), ∀ a, (k0_off12 arg29 v88 v98) a + S1.size a ≤ S32.size a := fun arg29 v88 v98 k0_hw6 => k0_hw6

def k0_off13 (v104 : BitVec 32) : Fin 1 → Nat :=
  let v107 : Index := Scalar.indexCast v104
  ![v107.toNat]

def k0_chk7 (v104 : BitVec 32) : Prop :=
  (∀ a, (k0_off13 v104) a + S1.size a ≤ S31.size a)
theorem k0_off13_inb : ∀ (v104 : BitVec 32) (k0_hw7 : k0_chk7 v104), ∀ a, (k0_off13 v104) a + S1.size a ≤ S31.size a := fun v104 k0_hw7 => k0_hw7

def k0_off14 (k0_t2 : Fin k0_t2_loop.trips) : Fin 2 → Nat :=
  let c3 : Index := 3#32
  let c0_i32_28 : BitVec 32 := 0#32
  let c1_i32_29 : BitVec 32 := 1#32
  let arg28 : BitVec 32 := Scf.iv c0_i32_28 c1_i32_29 k0_t2
  let v113 : Index := Scalar.indexCast arg28
  ![3, v113.toNat]
def k0_off15 (arg29 : BitVec 32) (v88 : BitVec 32) (v98 : BitVec 32) (v108 : BitVec 32) : Fin 1 → Nat :=
  let c1_i32_70 : BitVec 32 := 1#32
  let v89 : BitVec 32 := Scalar.subi c1_i32_70 v88
  let v90 : BitVec 32 := Scalar.addi arg29 v89
  let c1_i32_72 : BitVec 32 := 1#32
  let v99 : BitVec 32 := Scalar.subi c1_i32_72 v98
  let v100 : BitVec 32 := Scalar.addi v90 v99
  let c1_i32_74 : BitVec 32 := 1#32
  let v109 : BitVec 32 := Scalar.subi c1_i32_74 v108
  let v110 : BitVec 32 := Scalar.addi v100 v109
  let v115 : Index := Scalar.indexCast v110
  ![v115.toNat]

def k0_chk8 (arg29 : BitVec 32) (v88 : BitVec 32) (v98 : BitVec 32) (v108 : BitVec 32) : Prop :=
  (∀ a, (k0_off15 arg29 v88 v98 v108) a + S1.size a ≤ S32.size a)
theorem k0_off15_inb : ∀ (arg29 : BitVec 32) (v88 : BitVec 32) (v98 : BitVec 32) (v108 : BitVec 32) (k0_hw8 : k0_chk8 arg29 v88 v98 v108), ∀ a, (k0_off15 arg29 v88 v98 v108) a + S1.size a ≤ S32.size a := fun arg29 v88 v98 v108 k0_hw8 => k0_hw8

def k0_off16 (v114 : BitVec 32) : Fin 1 → Nat :=
  let v117 : Index := Scalar.indexCast v114
  ![v117.toNat]

def k0_chk9 (v114 : BitVec 32) : Prop :=
  (∀ a, (k0_off16 v114) a + S1.size a ≤ S31.size a)
theorem k0_off16_inb : ∀ (v114 : BitVec 32) (k0_hw9 : k0_chk9 v114), ∀ a, (k0_off16 v114) a + S1.size a ≤ S31.size a := fun v114 k0_hw9 => k0_hw9

def k0_off17 (k0_t2 : Fin k0_t2_loop.trips) : Fin 2 → Nat :=
  let c4 : Index := 4#32
  let c0_i32_28 : BitVec 32 := 0#32
  let c1_i32_29 : BitVec 32 := 1#32
  let arg28 : BitVec 32 := Scf.iv c0_i32_28 c1_i32_29 k0_t2
  let v123 : Index := Scalar.indexCast arg28
  ![4, v123.toNat]
def k0_off18 (arg29 : BitVec 32) (v88 : BitVec 32) (v98 : BitVec 32) (v108 : BitVec 32) (v118 : BitVec 32) : Fin 1 → Nat :=
  let c1_i32_70 : BitVec 32 := 1#32
  let v89 : BitVec 32 := Scalar.subi c1_i32_70 v88
  let v90 : BitVec 32 := Scalar.addi arg29 v89
  let c1_i32_72 : BitVec 32 := 1#32
  let v99 : BitVec 32 := Scalar.subi c1_i32_72 v98
  let v100 : BitVec 32 := Scalar.addi v90 v99
  let c1_i32_74 : BitVec 32 := 1#32
  let v109 : BitVec 32 := Scalar.subi c1_i32_74 v108
  let v110 : BitVec 32 := Scalar.addi v100 v109
  let c1_i32_76 : BitVec 32 := 1#32
  let v119 : BitVec 32 := Scalar.subi c1_i32_76 v118
  let v120 : BitVec 32 := Scalar.addi v110 v119
  let v125 : Index := Scalar.indexCast v120
  ![v125.toNat]

def k0_chk10 (arg29 : BitVec 32) (v88 : BitVec 32) (v98 : BitVec 32) (v108 : BitVec 32) (v118 : BitVec 32) : Prop :=
  (∀ a, (k0_off18 arg29 v88 v98 v108 v118) a + S1.size a ≤ S32.size a)
theorem k0_off18_inb : ∀ (arg29 : BitVec 32) (v88 : BitVec 32) (v98 : BitVec 32) (v108 : BitVec 32) (v118 : BitVec 32) (k0_hw10 : k0_chk10 arg29 v88 v98 v108 v118), ∀ a, (k0_off18 arg29 v88 v98 v108 v118) a + S1.size a ≤ S32.size a := fun arg29 v88 v98 v108 v118 k0_hw10 => k0_hw10

def k0_off19 (v124 : BitVec 32) : Fin 1 → Nat :=
  let v127 : Index := Scalar.indexCast v124
  ![v127.toNat]

def k0_chk11 (v124 : BitVec 32) : Prop :=
  (∀ a, (k0_off19 v124) a + S1.size a ≤ S31.size a)
theorem k0_off19_inb : ∀ (v124 : BitVec 32) (k0_hw11 : k0_chk11 v124), ∀ a, (k0_off19 v124) a + S1.size a ≤ S31.size a := fun v124 k0_hw11 => k0_hw11

def k0_off20 (k0_t2 : Fin k0_t2_loop.trips) : Fin 2 → Nat :=
  let c5 : Index := 5#32
  let c0_i32_28 : BitVec 32 := 0#32
  let c1_i32_29 : BitVec 32 := 1#32
  let arg28 : BitVec 32 := Scf.iv c0_i32_28 c1_i32_29 k0_t2
  let v133 : Index := Scalar.indexCast arg28
  ![5, v133.toNat]
def k0_off21 (arg29 : BitVec 32) (v88 : BitVec 32) (v98 : BitVec 32) (v108 : BitVec 32) (v118 : BitVec 32) (v128 : BitVec 32) : Fin 1 → Nat :=
  let c1_i32_70 : BitVec 32 := 1#32
  let v89 : BitVec 32 := Scalar.subi c1_i32_70 v88
  let v90 : BitVec 32 := Scalar.addi arg29 v89
  let c1_i32_72 : BitVec 32 := 1#32
  let v99 : BitVec 32 := Scalar.subi c1_i32_72 v98
  let v100 : BitVec 32 := Scalar.addi v90 v99
  let c1_i32_74 : BitVec 32 := 1#32
  let v109 : BitVec 32 := Scalar.subi c1_i32_74 v108
  let v110 : BitVec 32 := Scalar.addi v100 v109
  let c1_i32_76 : BitVec 32 := 1#32
  let v119 : BitVec 32 := Scalar.subi c1_i32_76 v118
  let v120 : BitVec 32 := Scalar.addi v110 v119
  let c1_i32_78 : BitVec 32 := 1#32
  let v129 : BitVec 32 := Scalar.subi c1_i32_78 v128
  let v130 : BitVec 32 := Scalar.addi v120 v129
  let v135 : Index := Scalar.indexCast v130
  ![v135.toNat]

def k0_chk12 (arg29 : BitVec 32) (v88 : BitVec 32) (v98 : BitVec 32) (v108 : BitVec 32) (v118 : BitVec 32) (v128 : BitVec 32) : Prop :=
  (∀ a, (k0_off21 arg29 v88 v98 v108 v118 v128) a + S1.size a ≤ S32.size a)
theorem k0_off21_inb : ∀ (arg29 : BitVec 32) (v88 : BitVec 32) (v98 : BitVec 32) (v108 : BitVec 32) (v118 : BitVec 32) (v128 : BitVec 32) (k0_hw12 : k0_chk12 arg29 v88 v98 v108 v118 v128), ∀ a, (k0_off21 arg29 v88 v98 v108 v118 v128) a + S1.size a ≤ S32.size a := fun arg29 v88 v98 v108 v118 v128 k0_hw12 => k0_hw12

def k0_off22 (v134 : BitVec 32) : Fin 1 → Nat :=
  let v137 : Index := Scalar.indexCast v134
  ![v137.toNat]

def k0_chk13 (v134 : BitVec 32) : Prop :=
  (∀ a, (k0_off22 v134) a + S1.size a ≤ S31.size a)
theorem k0_off22_inb : ∀ (v134 : BitVec 32) (k0_hw13 : k0_chk13 v134), ∀ a, (k0_off22 v134) a + S1.size a ≤ S31.size a := fun v134 k0_hw13 => k0_hw13

def k0_off23 (k0_t2 : Fin k0_t2_loop.trips) : Fin 2 → Nat :=
  let c6 : Index := 6#32
  let c0_i32_28 : BitVec 32 := 0#32
  let c1_i32_29 : BitVec 32 := 1#32
  let arg28 : BitVec 32 := Scf.iv c0_i32_28 c1_i32_29 k0_t2
  let v143 : Index := Scalar.indexCast arg28
  ![6, v143.toNat]
def k0_off24 (arg29 : BitVec 32) (v88 : BitVec 32) (v98 : BitVec 32) (v108 : BitVec 32) (v118 : BitVec 32) (v128 : BitVec 32) (v138 : BitVec 32) : Fin 1 → Nat :=
  let c1_i32_70 : BitVec 32 := 1#32
  let v89 : BitVec 32 := Scalar.subi c1_i32_70 v88
  let v90 : BitVec 32 := Scalar.addi arg29 v89
  let c1_i32_72 : BitVec 32 := 1#32
  let v99 : BitVec 32 := Scalar.subi c1_i32_72 v98
  let v100 : BitVec 32 := Scalar.addi v90 v99
  let c1_i32_74 : BitVec 32 := 1#32
  let v109 : BitVec 32 := Scalar.subi c1_i32_74 v108
  let v110 : BitVec 32 := Scalar.addi v100 v109
  let c1_i32_76 : BitVec 32 := 1#32
  let v119 : BitVec 32 := Scalar.subi c1_i32_76 v118
  let v120 : BitVec 32 := Scalar.addi v110 v119
  let c1_i32_78 : BitVec 32 := 1#32
  let v129 : BitVec 32 := Scalar.subi c1_i32_78 v128
  let v130 : BitVec 32 := Scalar.addi v120 v129
  let c1_i32_80 : BitVec 32 := 1#32
  let v139 : BitVec 32 := Scalar.subi c1_i32_80 v138
  let v140 : BitVec 32 := Scalar.addi v130 v139
  let v145 : Index := Scalar.indexCast v140
  ![v145.toNat]

def k0_chk14 (arg29 : BitVec 32) (v88 : BitVec 32) (v98 : BitVec 32) (v108 : BitVec 32) (v118 : BitVec 32) (v128 : BitVec 32) (v138 : BitVec 32) : Prop :=
  (∀ a, (k0_off24 arg29 v88 v98 v108 v118 v128 v138) a + S1.size a ≤ S32.size a)
theorem k0_off24_inb : ∀ (arg29 : BitVec 32) (v88 : BitVec 32) (v98 : BitVec 32) (v108 : BitVec 32) (v118 : BitVec 32) (v128 : BitVec 32) (v138 : BitVec 32) (k0_hw14 : k0_chk14 arg29 v88 v98 v108 v118 v128 v138), ∀ a, (k0_off24 arg29 v88 v98 v108 v118 v128 v138) a + S1.size a ≤ S32.size a := fun arg29 v88 v98 v108 v118 v128 v138 k0_hw14 => k0_hw14

def k0_off25 (v144 : BitVec 32) : Fin 1 → Nat :=
  let v147 : Index := Scalar.indexCast v144
  ![v147.toNat]

def k0_chk15 (v144 : BitVec 32) : Prop :=
  (∀ a, (k0_off25 v144) a + S1.size a ≤ S31.size a)
theorem k0_off25_inb : ∀ (v144 : BitVec 32) (k0_hw15 : k0_chk15 v144), ∀ a, (k0_off25 v144) a + S1.size a ≤ S31.size a := fun v144 k0_hw15 => k0_hw15

def k0_off26 (k0_t2 : Fin k0_t2_loop.trips) : Fin 2 → Nat :=
  let c7 : Index := 7#32
  let c0_i32_28 : BitVec 32 := 0#32
  let c1_i32_29 : BitVec 32 := 1#32
  let arg28 : BitVec 32 := Scf.iv c0_i32_28 c1_i32_29 k0_t2
  let v153 : Index := Scalar.indexCast arg28
  ![7, v153.toNat]
def k0_off27 (arg29 : BitVec 32) (v88 : BitVec 32) (v98 : BitVec 32) (v108 : BitVec 32) (v118 : BitVec 32) (v128 : BitVec 32) (v138 : BitVec 32) (v148 : BitVec 32) : Fin 1 → Nat :=
  let c1_i32_70 : BitVec 32 := 1#32
  let v89 : BitVec 32 := Scalar.subi c1_i32_70 v88
  let v90 : BitVec 32 := Scalar.addi arg29 v89
  let c1_i32_72 : BitVec 32 := 1#32
  let v99 : BitVec 32 := Scalar.subi c1_i32_72 v98
  let v100 : BitVec 32 := Scalar.addi v90 v99
  let c1_i32_74 : BitVec 32 := 1#32
  let v109 : BitVec 32 := Scalar.subi c1_i32_74 v108
  let v110 : BitVec 32 := Scalar.addi v100 v109
  let c1_i32_76 : BitVec 32 := 1#32
  let v119 : BitVec 32 := Scalar.subi c1_i32_76 v118
  let v120 : BitVec 32 := Scalar.addi v110 v119
  let c1_i32_78 : BitVec 32 := 1#32
  let v129 : BitVec 32 := Scalar.subi c1_i32_78 v128
  let v130 : BitVec 32 := Scalar.addi v120 v129
  let c1_i32_80 : BitVec 32 := 1#32
  let v139 : BitVec 32 := Scalar.subi c1_i32_80 v138
  let v140 : BitVec 32 := Scalar.addi v130 v139
  let c1_i32_82 : BitVec 32 := 1#32
  let v149 : BitVec 32 := Scalar.subi c1_i32_82 v148
  let v150 : BitVec 32 := Scalar.addi v140 v149
  let v155 : Index := Scalar.indexCast v150
  ![v155.toNat]

def k0_chk16 (arg29 : BitVec 32) (v88 : BitVec 32) (v98 : BitVec 32) (v108 : BitVec 32) (v118 : BitVec 32) (v128 : BitVec 32) (v138 : BitVec 32) (v148 : BitVec 32) : Prop :=
  (∀ a, (k0_off27 arg29 v88 v98 v108 v118 v128 v138 v148) a + S1.size a ≤ S32.size a)
theorem k0_off27_inb : ∀ (arg29 : BitVec 32) (v88 : BitVec 32) (v98 : BitVec 32) (v108 : BitVec 32) (v118 : BitVec 32) (v128 : BitVec 32) (v138 : BitVec 32) (v148 : BitVec 32) (k0_hw16 : k0_chk16 arg29 v88 v98 v108 v118 v128 v138 v148), ∀ a, (k0_off27 arg29 v88 v98 v108 v118 v128 v138 v148) a + S1.size a ≤ S32.size a := fun arg29 v88 v98 v108 v118 v128 v138 v148 k0_hw16 => k0_hw16

def k0_off28 (v154 : BitVec 32) : Fin 1 → Nat :=
  let v157 : Index := Scalar.indexCast v154
  ![v157.toNat]

def k0_chk17 (v154 : BitVec 32) : Prop :=
  (∀ a, (k0_off28 v154) a + S1.size a ≤ S31.size a)
theorem k0_off28_inb : ∀ (v154 : BitVec 32) (k0_hw17 : k0_chk17 v154), ∀ a, (k0_off28 v154) a + S1.size a ≤ S31.size a := fun v154 k0_hw17 => k0_hw17

def k0_off29 (v83 : BitVec 32) : Fin 3 → Nat :=
  let c0_i32_75 : BitVec 32 := 0#32
  let c0_i32_76 : BitVec 32 := 0#32
  ![v83.toNat, 0, 0]
def k0_cond1 (v31 : BitVec 32) : BitVec 1 :=
  let c1_i32_31 : BitVec 32 := 1#32
  let v32 : BitVec 1 := Scalar.cmpi .sgt v31 c1_i32_31
  let v33 : BitVec 32 := Scalar.extui v32
  let c0_i32_32 : BitVec 32 := 0#32
  let v34 : BitVec 1 := Scalar.cmpi .ne v33 c0_i32_32
  v34

def k0_off30 (v83 : BitVec 32) : Fin 3 → Nat :=
  let c2048_i32_83 : BitVec 32 := 2048#32
  let c0_i32_84 : BitVec 32 := 0#32
  ![v83.toNat, 2048, 0]
def k0_off31 (v83 : BitVec 32) : Fin 3 → Nat :=
  let c0_i32_91 : BitVec 32 := 0#32
  let c0_i32_92 : BitVec 32 := 0#32
  ![v83.toNat, 0, 0]

def k0_chk18 (v31 : BitVec 32) (v83 : BitVec 32) : Prop :=
  (∀ (k0_h1 : k0_cond1 v31 = 1#1), ∀ a, (k0_off29 v83) a + S1x2048x3072.size a ≤ S31x4096x3072.size a) ∧
  (∀ (k0_h1 : k0_cond1 v31 = 1#1), ∀ (hinb : ∀ a, (k0_off29 v83) a + S1x2048x3072.size a ≤ S31x4096x3072.size a), (Rect.unit (s := S31x4096x3072) (k0_off29 v83) S1x2048x3072.size hinb).WholeWords (EltTy.packing .fp8e4m3)) ∧
  (∀ (k0_h1 : k0_cond1 v31 = 1#1), ∀ a, (k0_off30 v83) a + S1x2048x3072.size a ≤ S31x4096x3072.size a) ∧
  (∀ (k0_h1 : k0_cond1 v31 = 1#1), ∀ (hinb : ∀ a, (k0_off30 v83) a + S1x2048x3072.size a ≤ S31x4096x3072.size a), (Rect.unit (s := S31x4096x3072) (k0_off30 v83) S1x2048x3072.size hinb).WholeWords (EltTy.packing .fp8e4m3)) ∧
  (∀ (k0_h1 : k0_cond1 v31 = 1#1), ∀ a, (k0_off31 v83) a + S1x1536x4096.size a ≤ S31x1536x4096.size a) ∧
  (∀ (k0_h1 : k0_cond1 v31 = 1#1), ∀ (hinb : ∀ a, (k0_off31 v83) a + S1x1536x4096.size a ≤ S31x1536x4096.size a), (Rect.unit (s := S31x1536x4096) (k0_off31 v83) S1x1536x4096.size hinb).WholeWords (EltTy.packing .fp8e4m3))
theorem k0_off29_inb : ∀ (v31 : BitVec 32) (v83 : BitVec 32) (k0_hw18 : k0_chk18 v31 v83), ∀ (k0_h1 : k0_cond1 v31 = 1#1), ∀ a, (k0_off29 v83) a + S1x2048x3072.size a ≤ S31x4096x3072.size a := fun v31 v83 k0_hw18 k0_h1 => k0_hw18.1 k0_h1
theorem k0_off29_wordsfp8e4m3 : ∀ (v31 : BitVec 32) (v83 : BitVec 32) (k0_hw18 : k0_chk18 v31 v83), ∀ (k0_h1 : k0_cond1 v31 = 1#1), (Rect.unit (s := S31x4096x3072) (k0_off29 v83) S1x2048x3072.size (k0_off29_inb v31 v83 k0_hw18 k0_h1)).WholeWords (EltTy.packing .fp8e4m3) := fun v31 v83 k0_hw18 k0_h1 => k0_hw18.2.1 k0_h1 (k0_off29_inb v31 v83 k0_hw18 k0_h1)
theorem k0_off30_inb : ∀ (v31 : BitVec 32) (v83 : BitVec 32) (k0_hw18 : k0_chk18 v31 v83), ∀ (k0_h1 : k0_cond1 v31 = 1#1), ∀ a, (k0_off30 v83) a + S1x2048x3072.size a ≤ S31x4096x3072.size a := fun v31 v83 k0_hw18 k0_h1 => k0_hw18.2.2.1 k0_h1
theorem k0_off30_wordsfp8e4m3 : ∀ (v31 : BitVec 32) (v83 : BitVec 32) (k0_hw18 : k0_chk18 v31 v83), ∀ (k0_h1 : k0_cond1 v31 = 1#1), (Rect.unit (s := S31x4096x3072) (k0_off30 v83) S1x2048x3072.size (k0_off30_inb v31 v83 k0_hw18 k0_h1)).WholeWords (EltTy.packing .fp8e4m3) := fun v31 v83 k0_hw18 k0_h1 => k0_hw18.2.2.2.1 k0_h1 (k0_off30_inb v31 v83 k0_hw18 k0_h1)
theorem k0_off31_inb : ∀ (v31 : BitVec 32) (v83 : BitVec 32) (k0_hw18 : k0_chk18 v31 v83), ∀ (k0_h1 : k0_cond1 v31 = 1#1), ∀ a, (k0_off31 v83) a + S1x1536x4096.size a ≤ S31x1536x4096.size a := fun v31 v83 k0_hw18 k0_h1 => k0_hw18.2.2.2.2.1 k0_h1
theorem k0_off31_wordsfp8e4m3 : ∀ (v31 : BitVec 32) (v83 : BitVec 32) (k0_hw18 : k0_chk18 v31 v83), ∀ (k0_h1 : k0_cond1 v31 = 1#1), (Rect.unit (s := S31x1536x4096) (k0_off31 v83) S1x1536x4096.size (k0_off31_inb v31 v83 k0_hw18 k0_h1)).WholeWords (EltTy.packing .fp8e4m3) := fun v31 v83 k0_hw18 k0_h1 => k0_hw18.2.2.2.2.2 k0_h1 (k0_off31_inb v31 v83 k0_hw18 k0_h1)

@[reducible] def k0_t3_loop (v31 : BitVec 32) : Scf.Loop 32 :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_63 : BitVec 32 := 1#32
  ⟨c0_i32_61, v79, c1_i32_63⟩

def k0_off32 (v31 : BitVec 32) (k0_t3 : Fin (k0_t3_loop v31).trips) : Fin 1 → Nat :=
  let c0_i32_61 : BitVec 32 := 0#32
  let c1_i32_63 : BitVec 32 := 1#32
  let arg28 : BitVec 32 := Scf.iv c0_i32_61 c1_i32_63 k0_t3
  let v84 : Index := Scalar.indexCast arg28
  ![v84.toNat]
def k0_off33 (v31 : BitVec 32) (k0_t3 : Fin (k0_t3_loop v31).trips) : Fin 1 → Nat :=
  let c0_i32_61 : BitVec 32 := 0#32
  let c1_i32_63 : BitVec 32 := 1#32
  let arg28 : BitVec 32 := Scf.iv c0_i32_61 c1_i32_63 k0_t3
  let c2_i32_71 : BitVec 32 := 2#32
  let v88 : BitVec 32 := Scalar.addi arg28 c2_i32_71
  let c1_i32_72 : BitVec 32 := 1#32
  let v89 : BitVec 32 := Scalar.subi v31 c1_i32_72
  let v90 : BitVec 32 := Scalar.minsi v88 v89
  let v91 : Index := Scalar.indexCast v90
  ![v91.toNat]
def k0_off34 (v31 : BitVec 32) (k0_t3 : Fin (k0_t3_loop v31).trips) : Fin 2 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_74 : BitVec 32 := 0#32
  ![v83.toNat, 0]
def k0_off35 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_73 : BitVec 32 := 0#32
  let c0_i32_75 : BitVec 32 := 0#32
  let c0_i32_76 : BitVec 32 := 0#32
  ![v83.toNat, 0, 0, 0]
def k0_off36 (v85 : BitVec 32) : Fin 3 → Nat :=
  let c0_i32_77 : BitVec 32 := 0#32
  let c0_i32_78 : BitVec 32 := 0#32
  ![v85.toNat, 0, 0]

def k0_off37 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let v100 : Index := Scalar.indexCast v83
  let c0_81 : Index := 0#32
  let c0_82 : Index := 0#32
  let c0_83 : Index := 0#32
  ![v100.toNat, 0, 0, 0]
def k0_off38 (v31 : BitVec 32) (k0_t3 : Fin (k0_t3_loop v31).trips) : Fin 2 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_137 : BitVec 32 := 0#32
  ![v83.toNat, 0]
def k0_cond2 (v31 : BitVec 32) (k0_t3 : Fin (k0_t3_loop v31).trips) : BitVec 1 :=
  let c0_i32_61 : BitVec 32 := 0#32
  let c1_i32_63 : BitVec 32 := 1#32
  let arg28 : BitVec 32 := Scf.iv c0_i32_61 c1_i32_63 k0_t3
  let c2_i32_70 : BitVec 32 := 2#32
  let v86 : BitVec 32 := Scalar.addi arg28 c2_i32_70
  let v87 : BitVec 1 := Scalar.cmpi .slt v86 v31
  let v107 : BitVec 32 := Scalar.extui v87
  let c0_i32_87 : BitVec 32 := 0#32
  let v108 : BitVec 1 := Scalar.cmpi .ne v107 c0_i32_87
  v108

def k0_off39 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_136 : BitVec 32 := 0#32
  let c0_i32_138 : BitVec 32 := 0#32
  let c0_i32_139 : BitVec 32 := 0#32
  ![v83.toNat, 0, 0, 0]
def k0_off40 (v92 : BitVec 32) : Fin 3 → Nat :=
  let c0_i32_140 : BitVec 32 := 0#32
  let c0_i32_141 : BitVec 32 := 0#32
  ![v92.toNat, 0, 0]

def k0_off41 (v31 : BitVec 32) (k0_t3 : Fin (k0_t3_loop v31).trips) : Fin 2 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c1_i32_89 : BitVec 32 := 1#32
  ![v83.toNat, 1]
def k0_off42 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c1_i32_88 : BitVec 32 := 1#32
  let c0_i32_90 : BitVec 32 := 0#32
  let c0_i32_91 : BitVec 32 := 0#32
  ![v83.toNat, 1, 0, 0]
def k0_off43 (v85 : BitVec 32) : Fin 3 → Nat :=
  let c2048_i32_92 : BitVec 32 := 2048#32
  let c0_i32_93 : BitVec 32 := 0#32
  ![v85.toNat, 2048, 0]
def k0_off44 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let v116 : Index := Scalar.indexCast v83
  let c1 : Index := 1#32
  let c0_95 : Index := 0#32
  let c0_96 : Index := 0#32
  ![v116.toNat, 1, 0, 0]
def k0_off45 (v31 : BitVec 32) (k0_t3 : Fin (k0_t3_loop v31).trips) : Fin 2 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c1_i32_137 : BitVec 32 := 1#32
  ![v83.toNat, 1]
def k0_cond3 (v31 : BitVec 32) (k0_t3 : Fin (k0_t3_loop v31).trips) : BitVec 1 :=
  let c0_i32_61 : BitVec 32 := 0#32
  let c1_i32_63 : BitVec 32 := 1#32
  let arg28 : BitVec 32 := Scf.iv c0_i32_61 c1_i32_63 k0_t3
  let c2_i32_70 : BitVec 32 := 2#32
  let v86 : BitVec 32 := Scalar.addi arg28 c2_i32_70
  let v87 : BitVec 1 := Scalar.cmpi .slt v86 v31
  let v125 : BitVec 32 := Scalar.extui v87
  let c0_i32_102 : BitVec 32 := 0#32
  let v126 : BitVec 1 := Scalar.cmpi .ne v125 c0_i32_102
  v126

def k0_off46 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c1_i32_136 : BitVec 32 := 1#32
  let c0_i32_138 : BitVec 32 := 0#32
  let c0_i32_139 : BitVec 32 := 0#32
  ![v83.toNat, 1, 0, 0]
def k0_off47 (v92 : BitVec 32) : Fin 3 → Nat :=
  let c2048_i32_140 : BitVec 32 := 2048#32
  let c0_i32_141 : BitVec 32 := 0#32
  ![v92.toNat, 2048, 0]
def k0_off48 (v85 : BitVec 32) : Fin 2 → Nat :=
  let v127 : Index := Scalar.indexCast v85
  let c0_103 : Index := 0#32
  ![v127.toNat, 0]
def k0_off49 (v85 : BitVec 32) : Fin 2 → Nat :=
  let v157 : Index := Scalar.indexCast v85
  let c0_117 : Index := 0#32
  ![v157.toNat, 0]
def k0_off50 (v31 : BitVec 32) (k0_t3 : Fin (k0_t3_loop v31).trips) : Fin 2 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_119 : BitVec 32 := 0#32
  ![v83.toNat, 0]
def k0_off51 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_118 : BitVec 32 := 0#32
  let c0_i32_120 : BitVec 32 := 0#32
  let c0_i32_121 : BitVec 32 := 0#32
  ![v83.toNat, 0, 0, 0]
def k0_off52 (v85 : BitVec 32) : Fin 3 → Nat :=
  let c0_i32_122 : BitVec 32 := 0#32
  let c0_i32_123 : BitVec 32 := 0#32
  ![v85.toNat, 0, 0]

def k0_chk20 (v85 : BitVec 32) : Prop :=
  (∀ a, (k0_off36 v85) a + S1x2048x3072.size a ≤ S31x4096x3072.size a) ∧
  (∀ (hinb : ∀ a, (k0_off36 v85) a + S1x2048x3072.size a ≤ S31x4096x3072.size a), (Rect.unit (s := S31x4096x3072) (k0_off36 v85) S1x2048x3072.size hinb).WholeWords (EltTy.packing .fp8e4m3)) ∧
  (∀ a, (k0_off43 v85) a + S1x2048x3072.size a ≤ S31x4096x3072.size a) ∧
  (∀ (hinb : ∀ a, (k0_off43 v85) a + S1x2048x3072.size a ≤ S31x4096x3072.size a), (Rect.unit (s := S31x4096x3072) (k0_off43 v85) S1x2048x3072.size hinb).WholeWords (EltTy.packing .fp8e4m3)) ∧
  (∀ a, (k0_off48 v85) a + S1x3072.size a ≤ S31x3072.size a) ∧
  (∀ a, (k0_off49 v85) a + S1x4096.size a ≤ S31x4096.size a) ∧
  (∀ a, (k0_off52 v85) a + S1x1536x4096.size a ≤ S31x1536x4096.size a) ∧
  (∀ (hinb : ∀ a, (k0_off52 v85) a + S1x1536x4096.size a ≤ S31x1536x4096.size a), (Rect.unit (s := S31x1536x4096) (k0_off52 v85) S1x1536x4096.size hinb).WholeWords (EltTy.packing .fp8e4m3))
theorem k0_off36_inb : ∀ (v85 : BitVec 32) (k0_hw20 : k0_chk20 v85), ∀ a, (k0_off36 v85) a + S1x2048x3072.size a ≤ S31x4096x3072.size a := fun v85 k0_hw20 => k0_hw20.1
theorem k0_off36_wordsfp8e4m3 : ∀ (v85 : BitVec 32) (k0_hw20 : k0_chk20 v85), (Rect.unit (s := S31x4096x3072) (k0_off36 v85) S1x2048x3072.size (k0_off36_inb v85 k0_hw20)).WholeWords (EltTy.packing .fp8e4m3) := fun v85 k0_hw20 => k0_hw20.2.1 (k0_off36_inb v85 k0_hw20)
theorem k0_off43_inb : ∀ (v85 : BitVec 32) (k0_hw20 : k0_chk20 v85), ∀ a, (k0_off43 v85) a + S1x2048x3072.size a ≤ S31x4096x3072.size a := fun v85 k0_hw20 => k0_hw20.2.2.1
theorem k0_off43_wordsfp8e4m3 : ∀ (v85 : BitVec 32) (k0_hw20 : k0_chk20 v85), (Rect.unit (s := S31x4096x3072) (k0_off43 v85) S1x2048x3072.size (k0_off43_inb v85 k0_hw20)).WholeWords (EltTy.packing .fp8e4m3) := fun v85 k0_hw20 => k0_hw20.2.2.2.1 (k0_off43_inb v85 k0_hw20)
theorem k0_off48_inb : ∀ (v85 : BitVec 32) (k0_hw20 : k0_chk20 v85), ∀ a, (k0_off48 v85) a + S1x3072.size a ≤ S31x3072.size a := fun v85 k0_hw20 => k0_hw20.2.2.2.2.1
theorem k0_off49_inb : ∀ (v85 : BitVec 32) (k0_hw20 : k0_chk20 v85), ∀ a, (k0_off49 v85) a + S1x4096.size a ≤ S31x4096.size a := fun v85 k0_hw20 => k0_hw20.2.2.2.2.2.1
theorem k0_off52_inb : ∀ (v85 : BitVec 32) (k0_hw20 : k0_chk20 v85), ∀ a, (k0_off52 v85) a + S1x1536x4096.size a ≤ S31x1536x4096.size a := fun v85 k0_hw20 => k0_hw20.2.2.2.2.2.2.1
theorem k0_off52_wordsfp8e4m3 : ∀ (v85 : BitVec 32) (k0_hw20 : k0_chk20 v85), (Rect.unit (s := S31x1536x4096) (k0_off52 v85) S1x1536x4096.size (k0_off52_inb v85 k0_hw20)).WholeWords (EltTy.packing .fp8e4m3) := fun v85 k0_hw20 => k0_hw20.2.2.2.2.2.2.2 (k0_off52_inb v85 k0_hw20)

def k0_off53 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let v166 : Index := Scalar.indexCast v83
  let c0_126 : Index := 0#32
  let c0_127 : Index := 0#32
  let c0_128 : Index := 0#32
  ![v166.toNat, 0, 0, 0]
def k0_off54 (v31 : BitVec 32) (k0_t3 : Fin (k0_t3_loop v31).trips) : Fin 2 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_137 : BitVec 32 := 0#32
  ![v83.toNat, 0]
def k0_cond4 (v31 : BitVec 32) (k0_t3 : Fin (k0_t3_loop v31).trips) : BitVec 1 :=
  let c0_i32_61 : BitVec 32 := 0#32
  let c1_i32_63 : BitVec 32 := 1#32
  let arg28 : BitVec 32 := Scf.iv c0_i32_61 c1_i32_63 k0_t3
  let c2_i32_70 : BitVec 32 := 2#32
  let v86 : BitVec 32 := Scalar.addi arg28 c2_i32_70
  let v87 : BitVec 1 := Scalar.cmpi .slt v86 v31
  let v183 : BitVec 32 := Scalar.extui v87
  let c0_i32_135 : BitVec 32 := 0#32
  let v184 : BitVec 1 := Scalar.cmpi .ne v183 c0_i32_135
  v184

def k0_off55 (v31 : BitVec 32) (k0_t3 : Fin (k0_t3_loop v31).trips) : Fin 4 → Nat :=
  let c0_i32_61 : BitVec 32 := 0#32
  let c1_i32_63 : BitVec 32 := 1#32
  let arg28 : BitVec 32 := Scf.iv c0_i32_61 c1_i32_63 k0_t3
  let c2_i32_69 : BitVec 32 := 2#32
  let v83 : BitVec 32 := Scalar.remsi arg28 c2_i32_69
  let c0_i32_136 : BitVec 32 := 0#32
  let c0_i32_138 : BitVec 32 := 0#32
  let c0_i32_139 : BitVec 32 := 0#32
  ![v83.toNat, 0, 0, 0]
def k0_off56 (v92 : BitVec 32) : Fin 3 → Nat :=
  let c0_i32_140 : BitVec 32 := 0#32
  let c0_i32_141 : BitVec 32 := 0#32
  ![v92.toNat, 0, 0]

def k0_chk21 (v31 : BitVec 32) (k0_t3 : Fin (k0_t3_loop v31).trips) (v92 : BitVec 32) : Prop :=
  (∀ (k0_h2 : k0_cond2 v31 k0_t3 = 1#1), ∀ a, (k0_off40 v92) a + S1x2048x3072.size a ≤ S31x4096x3072.size a) ∧
  (∀ (k0_h2 : k0_cond2 v31 k0_t3 = 1#1), ∀ (hinb : ∀ a, (k0_off40 v92) a + S1x2048x3072.size a ≤ S31x4096x3072.size a), (Rect.unit (s := S31x4096x3072) (k0_off40 v92) S1x2048x3072.size hinb).WholeWords (EltTy.packing .fp8e4m3)) ∧
  (∀ (k0_h3 : k0_cond3 v31 k0_t3 = 1#1), ∀ a, (k0_off47 v92) a + S1x2048x3072.size a ≤ S31x4096x3072.size a) ∧
  (∀ (k0_h3 : k0_cond3 v31 k0_t3 = 1#1), ∀ (hinb : ∀ a, (k0_off47 v92) a + S1x2048x3072.size a ≤ S31x4096x3072.size a), (Rect.unit (s := S31x4096x3072) (k0_off47 v92) S1x2048x3072.size hinb).WholeWords (EltTy.packing .fp8e4m3)) ∧
  (∀ (k0_h4 : k0_cond4 v31 k0_t3 = 1#1), ∀ a, (k0_off56 v92) a + S1x1536x4096.size a ≤ S31x1536x4096.size a) ∧
  (∀ (k0_h4 : k0_cond4 v31 k0_t3 = 1#1), ∀ (hinb : ∀ a, (k0_off56 v92) a + S1x1536x4096.size a ≤ S31x1536x4096.size a), (Rect.unit (s := S31x1536x4096) (k0_off56 v92) S1x1536x4096.size hinb).WholeWords (EltTy.packing .fp8e4m3))
theorem k0_off40_inb : ∀ (v31 : BitVec 32) (k0_t3 : Fin (k0_t3_loop v31).trips) (v92 : BitVec 32) (k0_hw21 : k0_chk21 v31 k0_t3 v92), ∀ (k0_h2 : k0_cond2 v31 k0_t3 = 1#1), ∀ a, (k0_off40 v92) a + S1x2048x3072.size a ≤ S31x4096x3072.size a := fun v31 k0_t3 v92 k0_hw21 k0_h2 => k0_hw21.1 k0_h2
theorem k0_off40_wordsfp8e4m3 : ∀ (v31 : BitVec 32) (k0_t3 : Fin (k0_t3_loop v31).trips) (v92 : BitVec 32) (k0_hw21 : k0_chk21 v31 k0_t3 v92), ∀ (k0_h2 : k0_cond2 v31 k0_t3 = 1#1), (Rect.unit (s := S31x4096x3072) (k0_off40 v92) S1x2048x3072.size (k0_off40_inb v31 k0_t3 v92 k0_hw21 k0_h2)).WholeWords (EltTy.packing .fp8e4m3) := fun v31 k0_t3 v92 k0_hw21 k0_h2 => k0_hw21.2.1 k0_h2 (k0_off40_inb v31 k0_t3 v92 k0_hw21 k0_h2)
theorem k0_off47_inb : ∀ (v31 : BitVec 32) (k0_t3 : Fin (k0_t3_loop v31).trips) (v92 : BitVec 32) (k0_hw21 : k0_chk21 v31 k0_t3 v92), ∀ (k0_h3 : k0_cond3 v31 k0_t3 = 1#1), ∀ a, (k0_off47 v92) a + S1x2048x3072.size a ≤ S31x4096x3072.size a := fun v31 k0_t3 v92 k0_hw21 k0_h3 => k0_hw21.2.2.1 k0_h3
theorem k0_off47_wordsfp8e4m3 : ∀ (v31 : BitVec 32) (k0_t3 : Fin (k0_t3_loop v31).trips) (v92 : BitVec 32) (k0_hw21 : k0_chk21 v31 k0_t3 v92), ∀ (k0_h3 : k0_cond3 v31 k0_t3 = 1#1), (Rect.unit (s := S31x4096x3072) (k0_off47 v92) S1x2048x3072.size (k0_off47_inb v31 k0_t3 v92 k0_hw21 k0_h3)).WholeWords (EltTy.packing .fp8e4m3) := fun v31 k0_t3 v92 k0_hw21 k0_h3 => k0_hw21.2.2.2.1 k0_h3 (k0_off47_inb v31 k0_t3 v92 k0_hw21 k0_h3)
theorem k0_off56_inb : ∀ (v31 : BitVec 32) (k0_t3 : Fin (k0_t3_loop v31).trips) (v92 : BitVec 32) (k0_hw21 : k0_chk21 v31 k0_t3 v92), ∀ (k0_h4 : k0_cond4 v31 k0_t3 = 1#1), ∀ a, (k0_off56 v92) a + S1x1536x4096.size a ≤ S31x1536x4096.size a := fun v31 k0_t3 v92 k0_hw21 k0_h4 => k0_hw21.2.2.2.2.1 k0_h4
theorem k0_off56_wordsfp8e4m3 : ∀ (v31 : BitVec 32) (k0_t3 : Fin (k0_t3_loop v31).trips) (v92 : BitVec 32) (k0_hw21 : k0_chk21 v31 k0_t3 v92), ∀ (k0_h4 : k0_cond4 v31 k0_t3 = 1#1), (Rect.unit (s := S31x1536x4096) (k0_off56 v92) S1x1536x4096.size (k0_off56_inb v31 k0_t3 v92 k0_hw21 k0_h4)).WholeWords (EltTy.packing .fp8e4m3) := fun v31 k0_t3 v92 k0_hw21 k0_h4 => k0_hw21.2.2.2.2.2 k0_h4 (k0_off56_inb v31 k0_t3 v92 k0_hw21 k0_h4)

@[reducible] def k0_t4_loop (v31 : BitVec 32) : Scf.Loop 32 :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let v76 : BitVec 32 := Scalar.addi c0_i32_61 v75
  let c1_i32_64 : BitVec 32 := 1#32
  ⟨v79, v76, c1_i32_64⟩
def k0_off57 (v31 : BitVec 32) (k0_t4 : Fin (k0_t4_loop v31).trips) : Fin 1 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let v84 : Index := Scalar.indexCast arg28
  ![v84.toNat]
def k0_off58 (v31 : BitVec 32) (k0_t4 : Fin (k0_t4_loop v31).trips) : Fin 1 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_71 : BitVec 32 := 2#32
  let v88 : BitVec 32 := Scalar.addi arg28 c2_i32_71
  let c1_i32_72 : BitVec 32 := 1#32
  let v89 : BitVec 32 := Scalar.subi v31 c1_i32_72
  let v90 : BitVec 32 := Scalar.minsi v88 v89
  let v91 : Index := Scalar.indexCast v90
  ![v91.toNat]
def k0_off59 (v31 : BitVec 32) (k0_t4 : Fin (k0_t4_loop v31).trips) : Fin 2 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_74 : BitVec 32 := 0#32
  ![v83.toNat, 0]
def k0_off60 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_73 : BitVec 32 := 0#32
  let c0_i32_75 : BitVec 32 := 0#32
  let c0_i32_76 : BitVec 32 := 0#32
  ![v83.toNat, 0, 0, 0]
def k0_off61 (v85 : BitVec 32) : Fin 3 → Nat :=
  let c0_i32_77 : BitVec 32 := 0#32
  let c0_i32_78 : BitVec 32 := 0#32
  ![v85.toNat, 0, 0]

def k0_off62 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let v100 : Index := Scalar.indexCast v83
  let c0_81 : Index := 0#32
  let c0_82 : Index := 0#32
  let c0_83 : Index := 0#32
  ![v100.toNat, 0, 0, 0]
def k0_off63 (v31 : BitVec 32) (k0_t4 : Fin (k0_t4_loop v31).trips) : Fin 2 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_137 : BitVec 32 := 0#32
  ![v83.toNat, 0]
def k0_cond5 (v31 : BitVec 32) (k0_t4 : Fin (k0_t4_loop v31).trips) : BitVec 1 :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_70 : BitVec 32 := 2#32
  let v86 : BitVec 32 := Scalar.addi arg28 c2_i32_70
  let v87 : BitVec 1 := Scalar.cmpi .slt v86 v31
  let v107 : BitVec 32 := Scalar.extui v87
  let c0_i32_87 : BitVec 32 := 0#32
  let v108 : BitVec 1 := Scalar.cmpi .ne v107 c0_i32_87
  v108

def k0_off64 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_136 : BitVec 32 := 0#32
  let c0_i32_138 : BitVec 32 := 0#32
  let c0_i32_139 : BitVec 32 := 0#32
  ![v83.toNat, 0, 0, 0]
def k0_off65 (v92 : BitVec 32) : Fin 3 → Nat :=
  let c0_i32_140 : BitVec 32 := 0#32
  let c0_i32_141 : BitVec 32 := 0#32
  ![v92.toNat, 0, 0]

def k0_off66 (v31 : BitVec 32) (k0_t4 : Fin (k0_t4_loop v31).trips) : Fin 2 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c1_i32_89 : BitVec 32 := 1#32
  ![v83.toNat, 1]
def k0_off67 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c1_i32_88 : BitVec 32 := 1#32
  let c0_i32_90 : BitVec 32 := 0#32
  let c0_i32_91 : BitVec 32 := 0#32
  ![v83.toNat, 1, 0, 0]
def k0_off68 (v85 : BitVec 32) : Fin 3 → Nat :=
  let c2048_i32_92 : BitVec 32 := 2048#32
  let c0_i32_93 : BitVec 32 := 0#32
  ![v85.toNat, 2048, 0]
def k0_off69 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let v116 : Index := Scalar.indexCast v83
  let c1 : Index := 1#32
  let c0_95 : Index := 0#32
  let c0_96 : Index := 0#32
  ![v116.toNat, 1, 0, 0]
def k0_off70 (v31 : BitVec 32) (k0_t4 : Fin (k0_t4_loop v31).trips) : Fin 2 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c1_i32_137 : BitVec 32 := 1#32
  ![v83.toNat, 1]
def k0_cond6 (v31 : BitVec 32) (k0_t4 : Fin (k0_t4_loop v31).trips) : BitVec 1 :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_70 : BitVec 32 := 2#32
  let v86 : BitVec 32 := Scalar.addi arg28 c2_i32_70
  let v87 : BitVec 1 := Scalar.cmpi .slt v86 v31
  let v125 : BitVec 32 := Scalar.extui v87
  let c0_i32_102 : BitVec 32 := 0#32
  let v126 : BitVec 1 := Scalar.cmpi .ne v125 c0_i32_102
  v126

def k0_off71 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c1_i32_136 : BitVec 32 := 1#32
  let c0_i32_138 : BitVec 32 := 0#32
  let c0_i32_139 : BitVec 32 := 0#32
  ![v83.toNat, 1, 0, 0]
def k0_off72 (v92 : BitVec 32) : Fin 3 → Nat :=
  let c2048_i32_140 : BitVec 32 := 2048#32
  let c0_i32_141 : BitVec 32 := 0#32
  ![v92.toNat, 2048, 0]
def k0_off73 (v85 : BitVec 32) : Fin 2 → Nat :=
  let v127 : Index := Scalar.indexCast v85
  let c0_103 : Index := 0#32
  ![v127.toNat, 0]
def k0_off74 (v85 : BitVec 32) : Fin 2 → Nat :=
  let v157 : Index := Scalar.indexCast v85
  let c0_117 : Index := 0#32
  ![v157.toNat, 0]
def k0_off75 (v31 : BitVec 32) (k0_t4 : Fin (k0_t4_loop v31).trips) : Fin 2 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_119 : BitVec 32 := 0#32
  ![v83.toNat, 0]
def k0_off76 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_118 : BitVec 32 := 0#32
  let c0_i32_120 : BitVec 32 := 0#32
  let c0_i32_121 : BitVec 32 := 0#32
  ![v83.toNat, 0, 0, 0]
def k0_off77 (v85 : BitVec 32) : Fin 3 → Nat :=
  let c0_i32_122 : BitVec 32 := 0#32
  let c0_i32_123 : BitVec 32 := 0#32
  ![v85.toNat, 0, 0]

def k0_chk22 (v85 : BitVec 32) : Prop :=
  (∀ a, (k0_off61 v85) a + S1x2048x3072.size a ≤ S31x4096x3072.size a) ∧
  (∀ (hinb : ∀ a, (k0_off61 v85) a + S1x2048x3072.size a ≤ S31x4096x3072.size a), (Rect.unit (s := S31x4096x3072) (k0_off61 v85) S1x2048x3072.size hinb).WholeWords (EltTy.packing .fp8e4m3)) ∧
  (∀ a, (k0_off68 v85) a + S1x2048x3072.size a ≤ S31x4096x3072.size a) ∧
  (∀ (hinb : ∀ a, (k0_off68 v85) a + S1x2048x3072.size a ≤ S31x4096x3072.size a), (Rect.unit (s := S31x4096x3072) (k0_off68 v85) S1x2048x3072.size hinb).WholeWords (EltTy.packing .fp8e4m3)) ∧
  (∀ a, (k0_off73 v85) a + S1x3072.size a ≤ S31x3072.size a) ∧
  (∀ a, (k0_off74 v85) a + S1x4096.size a ≤ S31x4096.size a) ∧
  (∀ a, (k0_off77 v85) a + S1x1536x4096.size a ≤ S31x1536x4096.size a) ∧
  (∀ (hinb : ∀ a, (k0_off77 v85) a + S1x1536x4096.size a ≤ S31x1536x4096.size a), (Rect.unit (s := S31x1536x4096) (k0_off77 v85) S1x1536x4096.size hinb).WholeWords (EltTy.packing .fp8e4m3))
theorem k0_off61_inb : ∀ (v85 : BitVec 32) (k0_hw22 : k0_chk22 v85), ∀ a, (k0_off61 v85) a + S1x2048x3072.size a ≤ S31x4096x3072.size a := fun v85 k0_hw22 => k0_hw22.1
theorem k0_off61_wordsfp8e4m3 : ∀ (v85 : BitVec 32) (k0_hw22 : k0_chk22 v85), (Rect.unit (s := S31x4096x3072) (k0_off61 v85) S1x2048x3072.size (k0_off61_inb v85 k0_hw22)).WholeWords (EltTy.packing .fp8e4m3) := fun v85 k0_hw22 => k0_hw22.2.1 (k0_off61_inb v85 k0_hw22)
theorem k0_off68_inb : ∀ (v85 : BitVec 32) (k0_hw22 : k0_chk22 v85), ∀ a, (k0_off68 v85) a + S1x2048x3072.size a ≤ S31x4096x3072.size a := fun v85 k0_hw22 => k0_hw22.2.2.1
theorem k0_off68_wordsfp8e4m3 : ∀ (v85 : BitVec 32) (k0_hw22 : k0_chk22 v85), (Rect.unit (s := S31x4096x3072) (k0_off68 v85) S1x2048x3072.size (k0_off68_inb v85 k0_hw22)).WholeWords (EltTy.packing .fp8e4m3) := fun v85 k0_hw22 => k0_hw22.2.2.2.1 (k0_off68_inb v85 k0_hw22)
theorem k0_off73_inb : ∀ (v85 : BitVec 32) (k0_hw22 : k0_chk22 v85), ∀ a, (k0_off73 v85) a + S1x3072.size a ≤ S31x3072.size a := fun v85 k0_hw22 => k0_hw22.2.2.2.2.1
theorem k0_off74_inb : ∀ (v85 : BitVec 32) (k0_hw22 : k0_chk22 v85), ∀ a, (k0_off74 v85) a + S1x4096.size a ≤ S31x4096.size a := fun v85 k0_hw22 => k0_hw22.2.2.2.2.2.1
theorem k0_off77_inb : ∀ (v85 : BitVec 32) (k0_hw22 : k0_chk22 v85), ∀ a, (k0_off77 v85) a + S1x1536x4096.size a ≤ S31x1536x4096.size a := fun v85 k0_hw22 => k0_hw22.2.2.2.2.2.2.1
theorem k0_off77_wordsfp8e4m3 : ∀ (v85 : BitVec 32) (k0_hw22 : k0_chk22 v85), (Rect.unit (s := S31x1536x4096) (k0_off77 v85) S1x1536x4096.size (k0_off77_inb v85 k0_hw22)).WholeWords (EltTy.packing .fp8e4m3) := fun v85 k0_hw22 => k0_hw22.2.2.2.2.2.2.2 (k0_off77_inb v85 k0_hw22)

def k0_off78 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let v166 : Index := Scalar.indexCast v83
  let c0_126 : Index := 0#32
  let c0_127 : Index := 0#32
  let c0_128 : Index := 0#32
  ![v166.toNat, 0, 0, 0]
def k0_off79 (v31 : BitVec 32) (k0_t4 : Fin (k0_t4_loop v31).trips) : Fin 2 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_137 : BitVec 32 := 0#32
  ![v83.toNat, 0]
def k0_cond7 (v31 : BitVec 32) (k0_t4 : Fin (k0_t4_loop v31).trips) : BitVec 1 :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_70 : BitVec 32 := 2#32
  let v86 : BitVec 32 := Scalar.addi arg28 c2_i32_70
  let v87 : BitVec 1 := Scalar.cmpi .slt v86 v31
  let v183 : BitVec 32 := Scalar.extui v87
  let c0_i32_135 : BitVec 32 := 0#32
  let v184 : BitVec 1 := Scalar.cmpi .ne v183 c0_i32_135
  v184

def k0_off80 (v31 : BitVec 32) (k0_t4 : Fin (k0_t4_loop v31).trips) : Fin 4 → Nat :=
  let c0_i32_61 : BitVec 32 := 0#32
  let v75 : BitVec 32 := Scalar.subi v31 c0_i32_61
  let c1_i32_62 : BitVec 32 := 1#32
  let v77 : BitVec 32 := Scalar.divsi v75 c1_i32_62
  let v78 : BitVec 32 := Scalar.muli v77 c1_i32_62
  let v79 : BitVec 32 := Scalar.addi c0_i32_61 v78
  let c1_i32_64 : BitVec 32 := 1#32
  let arg28 : BitVec 32 := Scf.iv v79 c1_i32_64 k0_t4
  let c2_i32_69 : BitVec 32 := 2#32
  let v83 : BitVec 32 := Scalar.remsi arg28 c2_i32_69
  let c0_i32_136 : BitVec 32 := 0#32
  let c0_i32_138 : BitVec 32 := 0#32
  let c0_i32_139 : BitVec 32 := 0#32
  ![v83.toNat, 0, 0, 0]
def k0_off81 (v92 : BitVec 32) : Fin 3 → Nat :=
  let c0_i32_140 : BitVec 32 := 0#32
  let c0_i32_141 : BitVec 32 := 0#32
  ![v92.toNat, 0, 0]

def k0_chk23 (v31 : BitVec 32) (k0_t4 : Fin (k0_t4_loop v31).trips) (v92 : BitVec 32) : Prop :=
  (∀ (k0_h5 : k0_cond5 v31 k0_t4 = 1#1), ∀ a, (k0_off65 v92) a + S1x2048x3072.size a ≤ S31x4096x3072.size a) ∧
  (∀ (k0_h5 : k0_cond5 v31 k0_t4 = 1#1), ∀ (hinb : ∀ a, (k0_off65 v92) a + S1x2048x3072.size a ≤ S31x4096x3072.size a), (Rect.unit (s := S31x4096x3072) (k0_off65 v92) S1x2048x3072.size hinb).WholeWords (EltTy.packing .fp8e4m3)) ∧
  (∀ (k0_h6 : k0_cond6 v31 k0_t4 = 1#1), ∀ a, (k0_off72 v92) a + S1x2048x3072.size a ≤ S31x4096x3072.size a) ∧
  (∀ (k0_h6 : k0_cond6 v31 k0_t4 = 1#1), ∀ (hinb : ∀ a, (k0_off72 v92) a + S1x2048x3072.size a ≤ S31x4096x3072.size a), (Rect.unit (s := S31x4096x3072) (k0_off72 v92) S1x2048x3072.size hinb).WholeWords (EltTy.packing .fp8e4m3)) ∧
  (∀ (k0_h7 : k0_cond7 v31 k0_t4 = 1#1), ∀ a, (k0_off81 v92) a + S1x1536x4096.size a ≤ S31x1536x4096.size a) ∧
  (∀ (k0_h7 : k0_cond7 v31 k0_t4 = 1#1), ∀ (hinb : ∀ a, (k0_off81 v92) a + S1x1536x4096.size a ≤ S31x1536x4096.size a), (Rect.unit (s := S31x1536x4096) (k0_off81 v92) S1x1536x4096.size hinb).WholeWords (EltTy.packing .fp8e4m3))
theorem k0_off65_inb : ∀ (v31 : BitVec 32) (k0_t4 : Fin (k0_t4_loop v31).trips) (v92 : BitVec 32) (k0_hw23 : k0_chk23 v31 k0_t4 v92), ∀ (k0_h5 : k0_cond5 v31 k0_t4 = 1#1), ∀ a, (k0_off65 v92) a + S1x2048x3072.size a ≤ S31x4096x3072.size a := fun v31 k0_t4 v92 k0_hw23 k0_h5 => k0_hw23.1 k0_h5
theorem k0_off65_wordsfp8e4m3 : ∀ (v31 : BitVec 32) (k0_t4 : Fin (k0_t4_loop v31).trips) (v92 : BitVec 32) (k0_hw23 : k0_chk23 v31 k0_t4 v92), ∀ (k0_h5 : k0_cond5 v31 k0_t4 = 1#1), (Rect.unit (s := S31x4096x3072) (k0_off65 v92) S1x2048x3072.size (k0_off65_inb v31 k0_t4 v92 k0_hw23 k0_h5)).WholeWords (EltTy.packing .fp8e4m3) := fun v31 k0_t4 v92 k0_hw23 k0_h5 => k0_hw23.2.1 k0_h5 (k0_off65_inb v31 k0_t4 v92 k0_hw23 k0_h5)
theorem k0_off72_inb : ∀ (v31 : BitVec 32) (k0_t4 : Fin (k0_t4_loop v31).trips) (v92 : BitVec 32) (k0_hw23 : k0_chk23 v31 k0_t4 v92), ∀ (k0_h6 : k0_cond6 v31 k0_t4 = 1#1), ∀ a, (k0_off72 v92) a + S1x2048x3072.size a ≤ S31x4096x3072.size a := fun v31 k0_t4 v92 k0_hw23 k0_h6 => k0_hw23.2.2.1 k0_h6
theorem k0_off72_wordsfp8e4m3 : ∀ (v31 : BitVec 32) (k0_t4 : Fin (k0_t4_loop v31).trips) (v92 : BitVec 32) (k0_hw23 : k0_chk23 v31 k0_t4 v92), ∀ (k0_h6 : k0_cond6 v31 k0_t4 = 1#1), (Rect.unit (s := S31x4096x3072) (k0_off72 v92) S1x2048x3072.size (k0_off72_inb v31 k0_t4 v92 k0_hw23 k0_h6)).WholeWords (EltTy.packing .fp8e4m3) := fun v31 k0_t4 v92 k0_hw23 k0_h6 => k0_hw23.2.2.2.1 k0_h6 (k0_off72_inb v31 k0_t4 v92 k0_hw23 k0_h6)
theorem k0_off81_inb : ∀ (v31 : BitVec 32) (k0_t4 : Fin (k0_t4_loop v31).trips) (v92 : BitVec 32) (k0_hw23 : k0_chk23 v31 k0_t4 v92), ∀ (k0_h7 : k0_cond7 v31 k0_t4 = 1#1), ∀ a, (k0_off81 v92) a + S1x1536x4096.size a ≤ S31x1536x4096.size a := fun v31 k0_t4 v92 k0_hw23 k0_h7 => k0_hw23.2.2.2.2.1 k0_h7
theorem k0_off81_wordsfp8e4m3 : ∀ (v31 : BitVec 32) (k0_t4 : Fin (k0_t4_loop v31).trips) (v92 : BitVec 32) (k0_hw23 : k0_chk23 v31 k0_t4 v92), ∀ (k0_h7 : k0_cond7 v31 k0_t4 = 1#1), (Rect.unit (s := S31x1536x4096) (k0_off81 v92) S1x1536x4096.size (k0_off81_inb v31 k0_t4 v92 k0_hw23 k0_h7)).WholeWords (EltTy.packing .fp8e4m3) := fun v31 k0_t4 v92 k0_hw23 k0_h7 => k0_hw23.2.2.2.2.2 k0_h7 (k0_off81_inb v31 k0_t4 v92 k0_hw23 k0_h7)

def k0_chk19_0 (v31 : BitVec 32) : Prop :=
  ((k0_t3_loop v31).OK) ∧
  (∀ k0_t3 : Fin (k0_t3_loop v31).trips, ∀ a, (k0_off32 v31 k0_t3) a + S1.size a ≤ S32.size a) ∧
  (∀ k0_t3 : Fin (k0_t3_loop v31).trips, ∀ a, (k0_off33 v31 k0_t3) a + S1.size a ≤ S32.size a) ∧
  (∀ k0_t3 : Fin (k0_t3_loop v31).trips, ∀ a, (k0_off34 v31 k0_t3) a + S1x1.size a ≤ S2x2.size a) ∧
  (∀ k0_t3 : Fin (k0_t3_loop v31).trips, ∀ a, (k0_off35 v31 k0_t3) a + S1x1x2048x3072.size a ≤ S2x2x2048x3072.size a) ∧
  (∀ k0_t3 : Fin (k0_t3_loop v31).trips, ∀ (hinb : ∀ a, (k0_off35 v31 k0_t3) a + S1x1x2048x3072.size a ≤ S2x2x2048x3072.size a), (Rect.unit (s := S2x2x2048x3072) (k0_off35 v31 k0_t3) S1x1x2048x3072.size hinb).WholeWords (EltTy.packing .fp8e4m3)) ∧
  (∀ k0_t3 : Fin (k0_t3_loop v31).trips, ∀ a, (k0_off37 v31 k0_t3) a + S1x1x2048x3072.size a ≤ S2x2x2048x3072.size a) ∧
  (∀ k0_t3 : Fin (k0_t3_loop v31).trips, ∀ (k0_h2 : k0_cond2 v31 k0_t3 = 1#1), ∀ a, (k0_off38 v31 k0_t3) a + S1x1.size a ≤ S2x2.size a) ∧
  (∀ k0_t3 : Fin (k0_t3_loop v31).trips, ∀ (k0_h2 : k0_cond2 v31 k0_t3 = 1#1), ∀ a, (k0_off39 v31 k0_t3) a + S1x1x2048x3072.size a ≤ S2x2x2048x3072.size a) ∧
  (∀ k0_t3 : Fin (k0_t3_loop v31).trips, ∀ (k0_h2 : k0_cond2 v31 k0_t3 = 1#1), ∀ (hinb : ∀ a, (k0_off39 v31 k0_t3) a + S1x1x2048x3072.size a ≤ S2x2x2048x3072.size a), (Rect.unit (s := S2x2x2048x3072) (k0_off39 v31 k0_t3) S1x1x2048x3072.size hinb).WholeWords (EltTy.packing .fp8e4m3)) ∧
  (∀ k0_t3 : Fin (k0_t3_loop v31).trips, ∀ a, (k0_off41 v31 k0_t3) a + S1x1.size a ≤ S2x2.size a) ∧
  (∀ k0_t3 : Fin (k0_t3_loop v31).trips, ∀ a, (k0_off42 v31 k0_t3) a + S1x1x2048x3072.size a ≤ S2x2x2048x3072.size a) ∧
  (∀ k0_t3 : Fin (k0_t3_loop v31).trips, ∀ (hinb : ∀ a, (k0_off42 v31 k0_t3) a + S1x1x2048x3072.size a ≤ S2x2x2048x3072.size a), (Rect.unit (s := S2x2x2048x3072) (k0_off42 v31 k0_t3) S1x1x2048x3072.size hinb).WholeWords (EltTy.packing .fp8e4m3)) ∧
  (∀ k0_t3 : Fin (k0_t3_loop v31).trips, ∀ a, (k0_off44 v31 k0_t3) a + S1x1x2048x3072.size a ≤ S2x2x2048x3072.size a) ∧
  (∀ k0_t3 : Fin (k0_t3_loop v31).trips, ∀ (k0_h3 : k0_cond3 v31 k0_t3 = 1#1), ∀ a, (k0_off45 v31 k0_t3) a + S1x1.size a ≤ S2x2.size a) ∧
  (∀ k0_t3 : Fin (k0_t3_loop v31).trips, ∀ (k0_h3 : k0_cond3 v31 k0_t3 = 1#1), ∀ a, (k0_off46 v31 k0_t3) a + S1x1x2048x3072.size a ≤ S2x2x2048x3072.size a) ∧
  (∀ k0_t3 : Fin (k0_t3_loop v31).trips, ∀ (k0_h3 : k0_cond3 v31 k0_t3 = 1#1), ∀ (hinb : ∀ a, (k0_off46 v31 k0_t3) a + S1x1x2048x3072.size a ≤ S2x2x2048x3072.size a), (Rect.unit (s := S2x2x2048x3072) (k0_off46 v31 k0_t3) S1x1x2048x3072.size hinb).WholeWords (EltTy.packing .fp8e4m3)) ∧
  (∀ k0_t3 : Fin (k0_t3_loop v31).trips, ∀ a, (k0_off50 v31 k0_t3) a + S1x1.size a ≤ S2x1.size a) ∧
  (∀ k0_t3 : Fin (k0_t3_loop v31).trips, ∀ a, (k0_off51 v31 k0_t3) a + S1x1x1536x4096.size a ≤ S2x1x1536x4096.size a) ∧
  (∀ k0_t3 : Fin (k0_t3_loop v31).trips, ∀ (hinb : ∀ a, (k0_off51 v31 k0_t3) a + S1x1x1536x4096.size a ≤ S2x1x1536x4096.size a), (Rect.unit (s := S2x1x1536x4096) (k0_off51 v31 k0_t3) S1x1x1536x4096.size hinb).WholeWords (EltTy.packing .fp8e4m3)) ∧
  (∀ k0_t3 : Fin (k0_t3_loop v31).trips, ∀ a, (k0_off53 v31 k0_t3) a + S1x1x1536x4096.size a ≤ S2x1x1536x4096.size a) ∧
  (∀ k0_t3 : Fin (k0_t3_loop v31).trips, ∀ (k0_h4 : k0_cond4 v31 k0_t3 = 1#1), ∀ a, (k0_off54 v31 k0_t3) a + S1x1.size a ≤ S2x1.size a) ∧
  (∀ k0_t3 : Fin (k0_t3_loop v31).trips, ∀ (k0_h4 : k0_cond4 v31 k0_t3 = 1#1), ∀ a, (k0_off55 v31 k0_t3) a + S1x1x1536x4096.size a ≤ S2x1x1536x4096.size a) ∧
  (∀ k0_t3 : Fin (k0_t3_loop v31).trips, ∀ (k0_h4 : k0_cond4 v31 k0_t3 = 1#1), ∀ (hinb : ∀ a, (k0_off55 v31 k0_t3) a + S1x1x1536x4096.size a ≤ S2x1x1536x4096.size a), (Rect.unit (s := S2x1x1536x4096) (k0_off55 v31 k0_t3) S1x1x1536x4096.size hinb).WholeWords (EltTy.packing .fp8e4m3)) ∧
  ((k0_t4_loop v31).OK) ∧
  (∀ k0_t4 : Fin (k0_t4_loop v31).trips, ∀ a, (k0_off57 v31 k0_t4) a + S1.size a ≤ S32.size a) ∧
  (∀ k0_t4 : Fin (k0_t4_loop v31).trips, ∀ a, (k0_off58 v31 k0_t4) a + S1.size a ≤ S32.size a) ∧
  (∀ k0_t4 : Fin (k0_t4_loop v31).trips, ∀ a, (k0_off59 v31 k0_t4) a + S1x1.size a ≤ S2x2.size a) ∧
  (∀ k0_t4 : Fin (k0_t4_loop v31).trips, ∀ a, (k0_off60 v31 k0_t4) a + S1x1x2048x3072.size a ≤ S2x2x2048x3072.size a) ∧
  (∀ k0_t4 : Fin (k0_t4_loop v31).trips, ∀ (hinb : ∀ a, (k0_off60 v31 k0_t4) a + S1x1x2048x3072.size a ≤ S2x2x2048x3072.size a), (Rect.unit (s := S2x2x2048x3072) (k0_off60 v31 k0_t4) S1x1x2048x3072.size hinb).WholeWords (EltTy.packing .fp8e4m3)) ∧
  (∀ k0_t4 : Fin (k0_t4_loop v31).trips, ∀ a, (k0_off62 v31 k0_t4) a + S1x1x2048x3072.size a ≤ S2x2x2048x3072.size a) ∧
  (∀ k0_t4 : Fin (k0_t4_loop v31).trips, ∀ (k0_h5 : k0_cond5 v31 k0_t4 = 1#1), ∀ a, (k0_off63 v31 k0_t4) a + S1x1.size a ≤ S2x2.size a)
def k0_chk19_1 (v31 : BitVec 32) : Prop :=
  (∀ k0_t4 : Fin (k0_t4_loop v31).trips, ∀ (k0_h5 : k0_cond5 v31 k0_t4 = 1#1), ∀ a, (k0_off64 v31 k0_t4) a + S1x1x2048x3072.size a ≤ S2x2x2048x3072.size a) ∧
  (∀ k0_t4 : Fin (k0_t4_loop v31).trips, ∀ (k0_h5 : k0_cond5 v31 k0_t4 = 1#1), ∀ (hinb : ∀ a, (k0_off64 v31 k0_t4) a + S1x1x2048x3072.size a ≤ S2x2x2048x3072.size a), (Rect.unit (s := S2x2x2048x3072) (k0_off64 v31 k0_t4) S1x1x2048x3072.size hinb).WholeWords (EltTy.packing .fp8e4m3)) ∧
  (∀ k0_t4 : Fin (k0_t4_loop v31).trips, ∀ a, (k0_off66 v31 k0_t4) a + S1x1.size a ≤ S2x2.size a) ∧
  (∀ k0_t4 : Fin (k0_t4_loop v31).trips, ∀ a, (k0_off67 v31 k0_t4) a + S1x1x2048x3072.size a ≤ S2x2x2048x3072.size a) ∧
  (∀ k0_t4 : Fin (k0_t4_loop v31).trips, ∀ (hinb : ∀ a, (k0_off67 v31 k0_t4) a + S1x1x2048x3072.size a ≤ S2x2x2048x3072.size a), (Rect.unit (s := S2x2x2048x3072) (k0_off67 v31 k0_t4) S1x1x2048x3072.size hinb).WholeWords (EltTy.packing .fp8e4m3)) ∧
  (∀ k0_t4 : Fin (k0_t4_loop v31).trips, ∀ a, (k0_off69 v31 k0_t4) a + S1x1x2048x3072.size a ≤ S2x2x2048x3072.size a) ∧
  (∀ k0_t4 : Fin (k0_t4_loop v31).trips, ∀ (k0_h6 : k0_cond6 v31 k0_t4 = 1#1), ∀ a, (k0_off70 v31 k0_t4) a + S1x1.size a ≤ S2x2.size a) ∧
  (∀ k0_t4 : Fin (k0_t4_loop v31).trips, ∀ (k0_h6 : k0_cond6 v31 k0_t4 = 1#1), ∀ a, (k0_off71 v31 k0_t4) a + S1x1x2048x3072.size a ≤ S2x2x2048x3072.size a) ∧
  (∀ k0_t4 : Fin (k0_t4_loop v31).trips, ∀ (k0_h6 : k0_cond6 v31 k0_t4 = 1#1), ∀ (hinb : ∀ a, (k0_off71 v31 k0_t4) a + S1x1x2048x3072.size a ≤ S2x2x2048x3072.size a), (Rect.unit (s := S2x2x2048x3072) (k0_off71 v31 k0_t4) S1x1x2048x3072.size hinb).WholeWords (EltTy.packing .fp8e4m3)) ∧
  (∀ k0_t4 : Fin (k0_t4_loop v31).trips, ∀ a, (k0_off75 v31 k0_t4) a + S1x1.size a ≤ S2x1.size a) ∧
  (∀ k0_t4 : Fin (k0_t4_loop v31).trips, ∀ a, (k0_off76 v31 k0_t4) a + S1x1x1536x4096.size a ≤ S2x1x1536x4096.size a) ∧
  (∀ k0_t4 : Fin (k0_t4_loop v31).trips, ∀ (hinb : ∀ a, (k0_off76 v31 k0_t4) a + S1x1x1536x4096.size a ≤ S2x1x1536x4096.size a), (Rect.unit (s := S2x1x1536x4096) (k0_off76 v31 k0_t4) S1x1x1536x4096.size hinb).WholeWords (EltTy.packing .fp8e4m3)) ∧
  (∀ k0_t4 : Fin (k0_t4_loop v31).trips, ∀ a, (k0_off78 v31 k0_t4) a + S1x1x1536x4096.size a ≤ S2x1x1536x4096.size a) ∧
  (∀ k0_t4 : Fin (k0_t4_loop v31).trips, ∀ (k0_h7 : k0_cond7 v31 k0_t4 = 1#1), ∀ a, (k0_off79 v31 k0_t4) a + S1x1.size a ≤ S2x1.size a) ∧
  (∀ k0_t4 : Fin (k0_t4_loop v31).trips, ∀ (k0_h7 : k0_cond7 v31 k0_t4 = 1#1), ∀ a, (k0_off80 v31 k0_t4) a + S1x1x1536x4096.size a ≤ S2x1x1536x4096.size a) ∧
  (∀ k0_t4 : Fin (k0_t4_loop v31).trips, ∀ (k0_h7 : k0_cond7 v31 k0_t4 = 1#1), ∀ (hinb : ∀ a, (k0_off80 v31 k0_t4) a + S1x1x1536x4096.size a ≤ S2x1x1536x4096.size a), (Rect.unit (s := S2x1x1536x4096) (k0_off80 v31 k0_t4) S1x1x1536x4096.size hinb).WholeWords (EltTy.packing .fp8e4m3))
def k0_chk19 (v31 : BitVec 32) : Prop :=
  k0_chk19_0 v31 ∧
  k0_chk19_1 v31
theorem k0_t3_ok : ∀ (v31 : BitVec 32) (k0_hw19 : k0_chk19 v31), (k0_t3_loop v31).OK := fun v31 k0_hw19 => k0_hw19.1.1
theorem k0_off32_inb : ∀ (v31 : BitVec 32) (k0_hw19 : k0_chk19 v31) (k0_t3 : Fin (k0_t3_loop v31).trips), ∀ a, (k0_off32 v31 k0_t3) a + S1.size a ≤ S32.size a := fun v31 k0_hw19 k0_t3 => k0_hw19.1.2.1 k0_t3
theorem k0_off33_inb : ∀ (v31 : BitVec 32) (k0_hw19 : k0_chk19 v31) (k0_t3 : Fin (k0_t3_loop v31).trips), ∀ a, (k0_off33 v31 k0_t3) a + S1.size a ≤ S32.size a := fun v31 k0_hw19 k0_t3 => k0_hw19.1.2.2.1 k0_t3
theorem k0_off34_inb : ∀ (v31 : BitVec 32) (k0_hw19 : k0_chk19 v31) (k0_t3 : Fin (k0_t3_loop v31).trips), ∀ a, (k0_off34 v31 k0_t3) a + S1x1.size a ≤ S2x2.size a := fun v31 k0_hw19 k0_t3 => k0_hw19.1.2.2.2.1 k0_t3
theorem k0_off35_inb : ∀ (v31 : BitVec 32) (k0_hw19 : k0_chk19 v31) (k0_t3 : Fin (k0_t3_loop v31).trips), ∀ a, (k0_off35 v31 k0_t3) a + S1x1x2048x3072.size a ≤ S2x2x2048x3072.size a := fun v31 k0_hw19 k0_t3 => k0_hw19.1.2.2.2.2.1 k0_t3
theorem k0_off35_wordsfp8e4m3 : ∀ (v31 : BitVec 32) (k0_hw19 : k0_chk19 v31) (k0_t3 : Fin (k0_t3_loop v31).trips), (Rect.unit (s := S2x2x2048x3072) (k0_off35 v31 k0_t3) S1x1x2048x3072.size (k0_off35_inb v31 k0_hw19 k0_t3)).WholeWords (EltTy.packing .fp8e4m3) := fun v31 k0_hw19 k0_t3 => k0_hw19.1.2.2.2.2.2.1 k0_t3 (k0_off35_inb v31 k0_hw19 k0_t3)
theorem k0_off37_inb : ∀ (v31 : BitVec 32) (k0_hw19 : k0_chk19 v31) (k0_t3 : Fin (k0_t3_loop v31).trips), ∀ a, (k0_off37 v31 k0_t3) a + S1x1x2048x3072.size a ≤ S2x2x2048x3072.size a := fun v31 k0_hw19 k0_t3 => k0_hw19.1.2.2.2.2.2.2.1 k0_t3
theorem k0_off38_inb : ∀ (v31 : BitVec 32) (k0_hw19 : k0_chk19 v31) (k0_t3 : Fin (k0_t3_loop v31).trips), ∀ (k0_h2 : k0_cond2 v31 k0_t3 = 1#1), ∀ a, (k0_off38 v31 k0_t3) a + S1x1.size a ≤ S2x2.size a := fun v31 k0_hw19 k0_t3 k0_h2 => k0_hw19.1.2.2.2.2.2.2.2.1 k0_t3 k0_h2
theorem k0_off39_inb : ∀ (v31 : BitVec 32) (k0_hw19 : k0_chk19 v31) (k0_t3 : Fin (k0_t3_loop v31).trips), ∀ (k0_h2 : k0_cond2 v31 k0_t3 = 1#1), ∀ a, (k0_off39 v31 k0_t3) a + S1x1x2048x3072.size a ≤ S2x2x2048x3072.size a := fun v31 k0_hw19 k0_t3 k0_h2 => k0_hw19.1.2.2.2.2.2.2.2.2.1 k0_t3 k0_h2
theorem k0_off39_wordsfp8e4m3 : ∀ (v31 : BitVec 32) (k0_hw19 : k0_chk19 v31) (k0_t3 : Fin (k0_t3_loop v31).trips), ∀ (k0_h2 : k0_cond2 v31 k0_t3 = 1#1), (Rect.unit (s := S2x2x2048x3072) (k0_off39 v31 k0_t3) S1x1x2048x3072.size (k0_off39_inb v31 k0_hw19 k0_t3 k0_h2)).WholeWords (EltTy.packing .fp8e4m3) := fun v31 k0_hw19 k0_t3 k0_h2 => k0_hw19.1.2.2.2.2.2.2.2.2.2.1 k0_t3 k0_h2 (k0_off39_inb v31 k0_hw19 k0_t3 k0_h2)
theorem k0_off41_inb : ∀ (v31 : BitVec 32) (k0_hw19 : k0_chk19 v31) (k0_t3 : Fin (k0_t3_loop v31).trips), ∀ a, (k0_off41 v31 k0_t3) a + S1x1.size a ≤ S2x2.size a := fun v31 k0_hw19 k0_t3 => k0_hw19.1.2.2.2.2.2.2.2.2.2.2.1 k0_t3
theorem k0_off42_inb : ∀ (v31 : BitVec 32) (k0_hw19 : k0_chk19 v31) (k0_t3 : Fin (k0_t3_loop v31).trips), ∀ a, (k0_off42 v31 k0_t3) a + S1x1x2048x3072.size a ≤ S2x2x2048x3072.size a := fun v31 k0_hw19 k0_t3 => k0_hw19.1.2.2.2.2.2.2.2.2.2.2.2.1 k0_t3
theorem k0_off42_wordsfp8e4m3 : ∀ (v31 : BitVec 32) (k0_hw19 : k0_chk19 v31) (k0_t3 : Fin (k0_t3_loop v31).trips), (Rect.unit (s := S2x2x2048x3072) (k0_off42 v31 k0_t3) S1x1x2048x3072.size (k0_off42_inb v31 k0_hw19 k0_t3)).WholeWords (EltTy.packing .fp8e4m3) := fun v31 k0_hw19 k0_t3 => k0_hw19.1.2.2.2.2.2.2.2.2.2.2.2.2.1 k0_t3 (k0_off42_inb v31 k0_hw19 k0_t3)
theorem k0_off44_inb : ∀ (v31 : BitVec 32) (k0_hw19 : k0_chk19 v31) (k0_t3 : Fin (k0_t3_loop v31).trips), ∀ a, (k0_off44 v31 k0_t3) a + S1x1x2048x3072.size a ≤ S2x2x2048x3072.size a := fun v31 k0_hw19 k0_t3 => k0_hw19.1.2.2.2.2.2.2.2.2.2.2.2.2.2.1 k0_t3
theorem k0_off45_inb : ∀ (v31 : BitVec 32) (k0_hw19 : k0_chk19 v31) (k0_t3 : Fin (k0_t3_loop v31).trips), ∀ (k0_h3 : k0_cond3 v31 k0_t3 = 1#1), ∀ a, (k0_off45 v31 k0_t3) a + S1x1.size a ≤ S2x2.size a := fun v31 k0_hw19 k0_t3 k0_h3 => k0_hw19.1.2.2.2.2.2.2.2.2.2.2.2.2.2.2.1 k0_t3 k0_h3
theorem k0_off46_inb : ∀ (v31 : BitVec 32) (k0_hw19 : k0_chk19 v31) (k0_t3 : Fin (k0_t3_loop v31).trips), ∀ (k0_h3 : k0_cond3 v31 k0_t3 = 1#1), ∀ a, (k0_off46 v31 k0_t3) a + S1x1x2048x3072.size a ≤ S2x2x2048x3072.size a := fun v31 k0_hw19 k0_t3 k0_h3 => k0_hw19.1.2.2.2.2.2.2.2.2.2.2.2.2.2.2.2.1 k0_t3 k0_h3
theorem k0_off46_wordsfp8e4m3 : ∀ (v31 : BitVec 32) (k0_hw19 : k0_chk19 v31) (k0_t3 : Fin (k0_t3_loop v31).trips), ∀ (k0_h3 : k0_cond3 v31 k0_t3 = 1#1), (Rect.unit (s := S2x2x2048x3072) (k0_off46 v31 k0_t3) S1x1x2048x3072.size (k0_off46_inb v31 k0_hw19 k0_t3 k0_h3)).WholeWords (EltTy.packing .fp8e4m3) := fun v31 k0_hw19 k0_t3 k0_h3 => k0_hw19.1.2.2.2.2.2.2.2.2.2.2.2.2.2.2.2.2.1 k0_t3 k0_h3 (k0_off46_inb v31 k0_hw19 k0_t3 k0_h3)
theorem k0_off50_inb : ∀ (v31 : BitVec 32) (k0_hw19 : k0_chk19 v31) (k0_t3 : Fin (k0_t3_loop v31).trips), ∀ a, (k0_off50 v31 k0_t3) a + S1x1.size a ≤ S2x1.size a := fun v31 k0_hw19 k0_t3 => k0_hw19.1.2.2.2.2.2.2.2.2.2.2.2.2.2.2.2.2.2.1 k0_t3
theorem k0_off51_inb : ∀ (v31 : BitVec 32) (k0_hw19 : k0_chk19 v31) (k0_t3 : Fin (k0_t3_loop v31).trips), ∀ a, (k0_off51 v31 k0_t3) a + S1x1x1536x4096.size a ≤ S2x1x1536x4096.size a := fun v31 k0_hw19 k0_t3 => k0_hw19.1.2.2.2.2.2.2.2.2.2.2.2.2.2.2.2.2.2.2.1 k0_t3
theorem k0_off51_wordsfp8e4m3 : ∀ (v31 : BitVec 32) (k0_hw19 : k0_chk19 v31) (k0_t3 : Fin (k0_t3_loop v31).trips), (Rect.unit (s := S2x1x1536x4096) (k0_off51 v31 k0_t3) S1x1x1536x4096.size (k0_off51_inb v31 k0_hw19 k0_t3)).WholeWords (EltTy.packing .fp8e4m3) := fun v31 k0_hw19 k0_t3 => k0_hw19.1.2.2.2.2.2.2.2.2.2.2.2.2.2.2.2.2.2.2.2.1 k0_t3 (k0_off51_inb v31 k0_hw19 k0_t3)
theorem k0_off53_inb : ∀ (v31 : BitVec 32) (k0_hw19 : k0_chk19 v31) (k0_t3 : Fin (k0_t3_loop v31).trips), ∀ a, (k0_off53 v31 k0_t3) a + S1x1x1536x4096.size a ≤ S2x1x1536x4096.size a := fun v31 k0_hw19 k0_t3 => k0_hw19.1.2.2.2.2.2.2.2.2.2.2.2.2.2.2.2.2.2.2.2.2.1 k0_t3
theorem k0_off54_inb : ∀ (v31 : BitVec 32) (k0_hw19 : k0_chk19 v31) (k0_t3 : Fin (k0_t3_loop v31).trips), ∀ (k0_h4 : k0_cond4 v31 k0_t3 = 1#1), ∀ a, (k0_off54 v31 k0_t3) a + S1x1.size a ≤ S2x1.size a := fun v31 k0_hw19 k0_t3 k0_h4 => k0_hw19.1.2.2.2.2.2.2.2.2.2.2.2.2.2.2.2.2.2.2.2.2.2.1 k0_t3 k0_h4
theorem k0_off55_inb : ∀ (v31 : BitVec 32) (k0_hw19 : k0_chk19 v31) (k0_t3 : Fin (k0_t3_loop v31).trips), ∀ (k0_h4 : k0_cond4 v31 k0_t3 = 1#1), ∀ a, (k0_off55 v31 k0_t3) a + S1x1x1536x4096.size a ≤ S2x1x1536x4096.size a := fun v31 k0_hw19 k0_t3 k0_h4 => k0_hw19.1.2.2.2.2.2.2.2.2.2.2.2.2.2.2.2.2.2.2.2.2.2.2.1 k0_t3 k0_h4
theorem k0_off55_wordsfp8e4m3 : ∀ (v31 : BitVec 32) (k0_hw19 : k0_chk19 v31) (k0_t3 : Fin (k0_t3_loop v31).trips), ∀ (k0_h4 : k0_cond4 v31 k0_t3 = 1#1), (Rect.unit (s := S2x1x1536x4096) (k0_off55 v31 k0_t3) S1x1x1536x4096.size (k0_off55_inb v31 k0_hw19 k0_t3 k0_h4)).WholeWords (EltTy.packing .fp8e4m3) := fun v31 k0_hw19 k0_t3 k0_h4 => k0_hw19.1.2.2.2.2.2.2.2.2.2.2.2.2.2.2.2.2.2.2.2.2.2.2.2.1 k0_t3 k0_h4 (k0_off55_inb v31 k0_hw19 k0_t3 k0_h4)
theorem k0_t4_ok : ∀ (v31 : BitVec 32) (k0_hw19 : k0_chk19 v31), (k0_t4_loop v31).OK := fun v31 k0_hw19 => k0_hw19.1.2.2.2.2.2.2.2.2.2.2.2.2.2.2.2.2.2.2.2.2.2.2.2.2.1
theorem k0_off57_inb : ∀ (v31 : BitVec 32) (k0_hw19 : k0_chk19 v31) (k0_t4 : Fin (k0_t4_loop v31).trips), ∀ a, (k0_off57 v31 k0_t4) a + S1.size a ≤ S32.size a := fun v31 k0_hw19 k0_t4 => k0_hw19.1.2.2.2.2.2.2.2.2.2.2.2.2.2.2.2.2.2.2.2.2.2.2.2.2.2.1 k0_t4
theorem k0_off58_inb : ∀ (v31 : BitVec 32) (k0_hw19 : k0_chk19 v31) (k0_t4 : Fin (k0_t4_loop v31).trips), ∀ a, (k0_off58 v31 k0_t4) a + S1.size a ≤ S32.size a := fun v31 k0_hw19 k0_t4 => k0_hw19.1.2.2.2.2.2.2.2.2.2.2.2.2.2.2.2.2.2.2.2.2.2.2.2.2.2.2.1 k0_t4
theorem k0_off59_inb : ∀ (v31 : BitVec 32) (k0_hw19 : k0_chk19 v31) (k0_t4 : Fin (k0_t4_loop v31).trips), ∀ a, (k0_off59 v31 k0_t4) a + S1x1.size a ≤ S2x2.size a := fun v31 k0_hw19 k0_t4 => k0_hw19.1.2.2.2.2.2.2.2.2.2.2.2.2.2.2.2.2.2.2.2.2.2.2.2.2.2.2.2.1 k0_t4
theorem k0_off60_inb : ∀ (v31 : BitVec 32) (k0_hw19 : k0_chk19 v31) (k0_t4 : Fin (k0_t4_loop v31).trips), ∀ a, (k0_off60 v31 k0_t4) a + S1x1x2048x3072.size a ≤ S2x2x2048x3072.size a := fun v31 k0_hw19 k0_t4 => k0_hw19.1.2.2.2.2.2.2.2.2.2.2.2.2.2.2.2.2.2.2.2.2.2.2.2.2.2.2.2.2.1 k0_t4
theorem k0_off60_wordsfp8e4m3 : ∀ (v31 : BitVec 32) (k0_hw19 : k0_chk19 v31) (k0_t4 : Fin (k0_t4_loop v31).trips), (Rect.unit (s := S2x2x2048x3072) (k0_off60 v31 k0_t4) S1x1x2048x3072.size (k0_off60_inb v31 k0_hw19 k0_t4)).WholeWords (EltTy.packing .fp8e4m3) := fun v31 k0_hw19 k0_t4 => k0_hw19.1.2.2.2.2.2.2.2.2.2.2.2.2.2.2.2.2.2.2.2.2.2.2.2.2.2.2.2.2.2.1 k0_t4 (k0_off60_inb v31 k0_hw19 k0_t4)
theorem k0_off62_inb : ∀ (v31 : BitVec 32) (k0_hw19 : k0_chk19 v31) (k0_t4 : Fin (k0_t4_loop v31).trips), ∀ a, (k0_off62 v31 k0_t4) a + S1x1x2048x3072.size a ≤ S2x2x2048x3072.size a := fun v31 k0_hw19 k0_t4 => k0_hw19.1.2.2.2.2.2.2.2.2.2.2.2.2.2.2.2.2.2.2.2.2.2.2.2.2.2.2.2.2.2.2.1 k0_t4
theorem k0_off63_inb : ∀ (v31 : BitVec 32) (k0_hw19 : k0_chk19 v31) (k0_t4 : Fin (k0_t4_loop v31).trips), ∀ (k0_h5 : k0_cond5 v31 k0_t4 = 1#1), ∀ a, (k0_off63 v31 k0_t4) a + S1x1.size a ≤ S2x2.size a := fun v31 k0_hw19 k0_t4 k0_h5 => k0_hw19.1.2.2.2.2.2.2.2.2.2.2.2.2.2.2.2.2.2.2.2.2.2.2.2.2.2.2.2.2.2.2.2 k0_t4 k0_h5
theorem k0_off64_inb : ∀ (v31 : BitVec 32) (k0_hw19 : k0_chk19 v31) (k0_t4 : Fin (k0_t4_loop v31).trips), ∀ (k0_h5 : k0_cond5 v31 k0_t4 = 1#1), ∀ a, (k0_off64 v31 k0_t4) a + S1x1x2048x3072.size a ≤ S2x2x2048x3072.size a := fun v31 k0_hw19 k0_t4 k0_h5 => k0_hw19.2.1 k0_t4 k0_h5
theorem k0_off64_wordsfp8e4m3 : ∀ (v31 : BitVec 32) (k0_hw19 : k0_chk19 v31) (k0_t4 : Fin (k0_t4_loop v31).trips), ∀ (k0_h5 : k0_cond5 v31 k0_t4 = 1#1), (Rect.unit (s := S2x2x2048x3072) (k0_off64 v31 k0_t4) S1x1x2048x3072.size (k0_off64_inb v31 k0_hw19 k0_t4 k0_h5)).WholeWords (EltTy.packing .fp8e4m3) := fun v31 k0_hw19 k0_t4 k0_h5 => k0_hw19.2.2.1 k0_t4 k0_h5 (k0_off64_inb v31 k0_hw19 k0_t4 k0_h5)
theorem k0_off66_inb : ∀ (v31 : BitVec 32) (k0_hw19 : k0_chk19 v31) (k0_t4 : Fin (k0_t4_loop v31).trips), ∀ a, (k0_off66 v31 k0_t4) a + S1x1.size a ≤ S2x2.size a := fun v31 k0_hw19 k0_t4 => k0_hw19.2.2.2.1 k0_t4
theorem k0_off67_inb : ∀ (v31 : BitVec 32) (k0_hw19 : k0_chk19 v31) (k0_t4 : Fin (k0_t4_loop v31).trips), ∀ a, (k0_off67 v31 k0_t4) a + S1x1x2048x3072.size a ≤ S2x2x2048x3072.size a := fun v31 k0_hw19 k0_t4 => k0_hw19.2.2.2.2.1 k0_t4
theorem k0_off67_wordsfp8e4m3 : ∀ (v31 : BitVec 32) (k0_hw19 : k0_chk19 v31) (k0_t4 : Fin (k0_t4_loop v31).trips), (Rect.unit (s := S2x2x2048x3072) (k0_off67 v31 k0_t4) S1x1x2048x3072.size (k0_off67_inb v31 k0_hw19 k0_t4)).WholeWords (EltTy.packing .fp8e4m3) := fun v31 k0_hw19 k0_t4 => k0_hw19.2.2.2.2.2.1 k0_t4 (k0_off67_inb v31 k0_hw19 k0_t4)
theorem k0_off69_inb : ∀ (v31 : BitVec 32) (k0_hw19 : k0_chk19 v31) (k0_t4 : Fin (k0_t4_loop v31).trips), ∀ a, (k0_off69 v31 k0_t4) a + S1x1x2048x3072.size a ≤ S2x2x2048x3072.size a := fun v31 k0_hw19 k0_t4 => k0_hw19.2.2.2.2.2.2.1 k0_t4
theorem k0_off70_inb : ∀ (v31 : BitVec 32) (k0_hw19 : k0_chk19 v31) (k0_t4 : Fin (k0_t4_loop v31).trips), ∀ (k0_h6 : k0_cond6 v31 k0_t4 = 1#1), ∀ a, (k0_off70 v31 k0_t4) a + S1x1.size a ≤ S2x2.size a := fun v31 k0_hw19 k0_t4 k0_h6 => k0_hw19.2.2.2.2.2.2.2.1 k0_t4 k0_h6
theorem k0_off71_inb : ∀ (v31 : BitVec 32) (k0_hw19 : k0_chk19 v31) (k0_t4 : Fin (k0_t4_loop v31).trips), ∀ (k0_h6 : k0_cond6 v31 k0_t4 = 1#1), ∀ a, (k0_off71 v31 k0_t4) a + S1x1x2048x3072.size a ≤ S2x2x2048x3072.size a := fun v31 k0_hw19 k0_t4 k0_h6 => k0_hw19.2.2.2.2.2.2.2.2.1 k0_t4 k0_h6
theorem k0_off71_wordsfp8e4m3 : ∀ (v31 : BitVec 32) (k0_hw19 : k0_chk19 v31) (k0_t4 : Fin (k0_t4_loop v31).trips), ∀ (k0_h6 : k0_cond6 v31 k0_t4 = 1#1), (Rect.unit (s := S2x2x2048x3072) (k0_off71 v31 k0_t4) S1x1x2048x3072.size (k0_off71_inb v31 k0_hw19 k0_t4 k0_h6)).WholeWords (EltTy.packing .fp8e4m3) := fun v31 k0_hw19 k0_t4 k0_h6 => k0_hw19.2.2.2.2.2.2.2.2.2.1 k0_t4 k0_h6 (k0_off71_inb v31 k0_hw19 k0_t4 k0_h6)
theorem k0_off75_inb : ∀ (v31 : BitVec 32) (k0_hw19 : k0_chk19 v31) (k0_t4 : Fin (k0_t4_loop v31).trips), ∀ a, (k0_off75 v31 k0_t4) a + S1x1.size a ≤ S2x1.size a := fun v31 k0_hw19 k0_t4 => k0_hw19.2.2.2.2.2.2.2.2.2.2.1 k0_t4
theorem k0_off76_inb : ∀ (v31 : BitVec 32) (k0_hw19 : k0_chk19 v31) (k0_t4 : Fin (k0_t4_loop v31).trips), ∀ a, (k0_off76 v31 k0_t4) a + S1x1x1536x4096.size a ≤ S2x1x1536x4096.size a := fun v31 k0_hw19 k0_t4 => k0_hw19.2.2.2.2.2.2.2.2.2.2.2.1 k0_t4
theorem k0_off76_wordsfp8e4m3 : ∀ (v31 : BitVec 32) (k0_hw19 : k0_chk19 v31) (k0_t4 : Fin (k0_t4_loop v31).trips), (Rect.unit (s := S2x1x1536x4096) (k0_off76 v31 k0_t4) S1x1x1536x4096.size (k0_off76_inb v31 k0_hw19 k0_t4)).WholeWords (EltTy.packing .fp8e4m3) := fun v31 k0_hw19 k0_t4 => k0_hw19.2.2.2.2.2.2.2.2.2.2.2.2.1 k0_t4 (k0_off76_inb v31 k0_hw19 k0_t4)
theorem k0_off78_inb : ∀ (v31 : BitVec 32) (k0_hw19 : k0_chk19 v31) (k0_t4 : Fin (k0_t4_loop v31).trips), ∀ a, (k0_off78 v31 k0_t4) a + S1x1x1536x4096.size a ≤ S2x1x1536x4096.size a := fun v31 k0_hw19 k0_t4 => k0_hw19.2.2.2.2.2.2.2.2.2.2.2.2.2.1 k0_t4
theorem k0_off79_inb : ∀ (v31 : BitVec 32) (k0_hw19 : k0_chk19 v31) (k0_t4 : Fin (k0_t4_loop v31).trips), ∀ (k0_h7 : k0_cond7 v31 k0_t4 = 1#1), ∀ a, (k0_off79 v31 k0_t4) a + S1x1.size a ≤ S2x1.size a := fun v31 k0_hw19 k0_t4 k0_h7 => k0_hw19.2.2.2.2.2.2.2.2.2.2.2.2.2.2.1 k0_t4 k0_h7
theorem k0_off80_inb : ∀ (v31 : BitVec 32) (k0_hw19 : k0_chk19 v31) (k0_t4 : Fin (k0_t4_loop v31).trips), ∀ (k0_h7 : k0_cond7 v31 k0_t4 = 1#1), ∀ a, (k0_off80 v31 k0_t4) a + S1x1x1536x4096.size a ≤ S2x1x1536x4096.size a := fun v31 k0_hw19 k0_t4 k0_h7 => k0_hw19.2.2.2.2.2.2.2.2.2.2.2.2.2.2.2.1 k0_t4 k0_h7
theorem k0_off80_wordsfp8e4m3 : ∀ (v31 : BitVec 32) (k0_hw19 : k0_chk19 v31) (k0_t4 : Fin (k0_t4_loop v31).trips), ∀ (k0_h7 : k0_cond7 v31 k0_t4 = 1#1), (Rect.unit (s := S2x1x1536x4096) (k0_off80 v31 k0_t4) S1x1x1536x4096.size (k0_off80_inb v31 k0_hw19 k0_t4 k0_h7)).WholeWords (EltTy.packing .fp8e4m3) := fun v31 k0_hw19 k0_t4 k0_h7 => k0_hw19.2.2.2.2.2.2.2.2.2.2.2.2.2.2.2.2 k0_t4 k0_h7 (k0_off80_inb v31 k0_hw19 k0_t4 k0_h7)

abbrev stage0_0 : Fin 1 → Memref sig .tc .vmem S20x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S20x1x4096 : Shape := ⟨3, ![20, 1, 4096]⟩
abbrev S20x1x8 : Shape := ⟨3, ![20, 1, 8]⟩
abbrev S31x4096x3072 : Shape := ⟨3, ![31, 4096, 3072]⟩
abbrev S31x3072 : Shape := ⟨2, ![31, 3072]⟩
abbrev S31x1536x4096 : Shape := ⟨3, ![31, 1536, 4096]⟩
abbrev S31x4096 : Shape := ⟨2, ![31, 4096]⟩
abbrev S20x4096 : Shape := ⟨2, ![20, 4096]⟩
abbrev S20x8 : Shape := ⟨2, ![20, 8]⟩
abbrev S1x4096x3072 : Shape := ⟨3, ![1, 4096, 3072]⟩
abbrev S4096x3072 : Shape := ⟨2, ![4096, 3072]⟩
abbrev S20x3072 : Shape := ⟨2, ![20, 3072]⟩
abbrev S1x3072 : Shape := ⟨2, ![1, 3072]⟩
abbrev S20x1536 : Shape := ⟨2, ![20, 1536]⟩
abbrev S1x1536x4096 : Shape := ⟨3, ![1, 1536, 4096]⟩
abbrev S1536x4096 : Shape := ⟨2, ![1536, 4096]⟩
abbrev S1x4096 : Shape := ⟨2, ![1, 4096]⟩
abbrev S20x1 : Shape := ⟨2, ![20, 1]⟩

abbrev nBuf : Space → Nat
  | .hbm => 11
  | .vmem => 8
  | .smem => 0
  | _ => 0

abbrev bufTy : (tb : Table) → Fin (tcTables nBuf tb) → BufTy
  | .hbm, ⟨0, _⟩ => ⟨S20x1x4096, .bf16⟩
  | .hbm, ⟨1, _⟩ => ⟨S20x1x8, .i32⟩
  | .hbm, ⟨2, _⟩ => ⟨S20x1x8, .f32⟩
  | .hbm, ⟨3, _⟩ => ⟨S31x4096x3072, .fp8e4m3⟩
  | .hbm, ⟨4, _⟩ => ⟨S31x3072, .f32⟩
  | .hbm, ⟨5, _⟩ => ⟨S31x1536x4096, .fp8e4m3⟩
  | .hbm, ⟨6, _⟩ => ⟨S31x4096, .f32⟩
  | .hbm, ⟨7, _⟩ => ⟨S20x4096, .bf16⟩
  | .hbm, ⟨8, _⟩ => ⟨S20x8, .i32⟩
  | .hbm, ⟨9, _⟩ => ⟨S20x8, .f32⟩
  | .hbm, ⟨10, _⟩ => ⟨S20x4096, .bf16⟩
  | .local _ .vmem, ⟨0, _⟩ => ⟨S20x4096, .bf16⟩
  | .local _ .vmem, ⟨1, _⟩ => ⟨S20x8, .i32⟩
  | .local _ .vmem, ⟨2, _⟩ => ⟨S20x8, .f32⟩
  | .local _ .vmem, ⟨3, _⟩ => ⟨S31x4096x3072, .fp8e4m3⟩
  | .local _ .vmem, ⟨4, _⟩ => ⟨S31x3072, .f32⟩
  | .local _ .vmem, ⟨5, _⟩ => ⟨S31x1536x4096, .fp8e4m3⟩
  | .local _ .vmem, ⟨6, _⟩ => ⟨S31x4096, .f32⟩
  | .local _ .vmem, ⟨7, _⟩ => ⟨S20x4096, .bf16⟩
  | _, _ => ⟨S20x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c31_i32 : BitVec 32 := 31#32
  let v7 : BitVec 32 := Scalar.addi c0_i32 c31_i32
  let c1_i32 : BitVec 32 := 1#32
  ⟨c0_i32, v7, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v11 : Index := Scalar.indexCast arg8
  let c0_8 : Index := 0#32
  let c0_9 : Index := 0#32
  ![v11.toNat, 0, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let v16 : Index := Scalar.indexCast arg8
  let c0_11 : Index := 0#32
  ![v16.toNat, 0]
def k0_off3 (k0_t1 : Fin k0_t1_loop.trips) : Fin 3 → Nat :=
  let c0_i32 : BitVec 32 := 0#32
  let c1_i32 : BitVec 32 := 1#32
  let arg8 : BitVec 32 := Scf.iv c0_i32 c1_i32 k0_t1
  let v26 : Index := Scalar.indexCast arg8
  let c0_12 : Index := 0#32
  let c0_13 : Index := 0#32
  ![v26.toNat, 0, 0]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let v31 : Index := Scalar.indexCast arg8
  let c0_15 : Index := 0#32
  ![v31.toNat, 0]
abbrev stage0_0 : Fin 1 → Memref sig .tc .vmem S20x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S20x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x4096x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x1536x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S20x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Rules.lean ====
/-
  The step rules the kernel's hand run uses, each stated over `owns`: a memref held at the values read through it.
  A load returns those values at its rectangle's elements, an unmasked store overwrites them (`put`), a copy delivers
  the source's values to the destination, and a wait hands the delivery back. `InFl` is a copy in flight whose source
  is a rectangle of a whole array of which the rest is kept aside, so that the wait gives the array back whole.
-/
module

public import Idealize.ShloMosaic.Lib.Tactic
public import Idealize.ShloMosaic.Lib.Transfers
public import Idealize.ShloMosaic.Lib.Memref

@[expose] public section

noncomputable section

namespace Cert.Moe

open Idealize.ShloMosaic Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants) (c : Thread nD τ)
  (bd : Option 𝒱.V)
variable {α : Type}
local notation "𝕄" => MT nD τ sig Ix Val Name U Lvl
variable {Φ : α → sProp (MT nD τ sig Ix Val Name U Lvl)} {sp sp' : Space} {s s' : Shape} {e : EltTy}

open Classical in
/-- Values `v` over a shape with the rectangle `r` overwritten by `w`. -/
def put {V : Type} (r : Rect s) (w : r.shape.Idx → V) (v : s.Idx → V) : s.Idx → V := fun y =>
  if h : ∃ x, r.emb x = y then w h.choose else v y

theorem put_emb {V : Type} (r : Rect s) (w : r.shape.Idx → V) (v : s.Idx → V) (x : r.shape.Idx) :
    put r w v (r.emb x) = w x := by
  have h : ∃ x', r.emb x' = r.emb x := ⟨x, rfl⟩
  unfold put
  rw [dif_pos h]
  exact congrArg w (r.emb.injective h.choose_spec)

theorem put_of_ne {V : Type} (r : Rect s) (w : r.shape.Idx → V) (v : s.Idx → V) {y : s.Idx} (h : ∀ x, r.emb x ≠ y) :
    put r w v y = v y := by
  unfold put
  exact dif_neg (fun ⟨x, hx⟩ => h x hx)

/-- A load at the head of a program. -/
theorem w_load {cs : CoreSpace} {m : Memref sig c.2.kind cs s e} {r : Rect s} {hl : m.view.LoadsAt r.toLoadRect}
    {k : (r.shape.Idx → Val e) → Prog (TpuEff nD τ sig Val Λ c.2) α} {q : PosShare TreeShare} {v : s.Idx → Val e} :
    (owns c m q v : sProp 𝕄) ⊢ iprop((owns c m q v -∗ wp frame (wpE defs 𝒱 c bd) Set.univ (k (fun x => v (r.emb x))) Φ)
      -∗ wp frame (wpE defs 𝒱 c bd) Set.univ (Prog.lift (.load m r.toLoadRect hl) >>= k) Φ) := by
  unfold owns
  iintro ⟨%f, %hf, H⟩ Hk
  iapply (wp_load (k := k) 𝒱 c bd Set.univ (S := m.view.set) (Finset.map_subset_map.mpr (Finset.subset_univ _))) $$ H
  iintro H
  subst hf
  iapply Hk
  iexists f
  isplitr
  · ipureintro; rfl
  · iexact H

/-- The same, the values loaded being `w`. -/
theorem w_load_eq {cs : CoreSpace} {m : Memref sig c.2.kind cs s e} {r : Rect s} {hl : m.view.LoadsAt r.toLoadRect}
    {k : (r.shape.Idx → Val e) → Prog (TpuEff nD τ sig Val Λ c.2) α} {q : PosShare TreeShare} {v : s.Idx → Val e}
    (w : r.shape.Idx → Val e) (hw : (fun x => v (r.emb x)) = w) :
    (owns c m q v : sProp 𝕄) ⊢ iprop((owns c m q v -∗ wp frame (wpE defs 𝒱 c bd) Set.univ (k w) Φ)
      -∗ wp frame (wpE defs 𝒱 c bd) Set.univ (Prog.lift (.load m r.toLoadRect hl) >>= k) Φ) := by
  subst hw
  exact w_load 𝒱 c bd

/-- A load at the head of a program through a memref of which only the rectangle loaded is held, re-indexed. -/
theorem w_load_part {cs : CoreSpace} {m : Memref sig c.2.kind cs s e} {r : Rect s} {hr : ∀ a, r.stride a = 1} {hl : m.view.LoadsAt r.toLoadRect}
    {hq : r.shape.Squeezes s'}
    {k : (r.shape.Idx → Val e) → Prog (TpuEff nD τ sig Val Λ c.2) α} {q : PosShare TreeShare} {v : s'.Idx → Val e} :
    (owns c ((m.slice r hr).squeeze s' hq) q v : sProp 𝕄) ⊢ iprop((owns c ((m.slice r hr).squeeze s' hq) q v -∗
        wp frame (wpE defs 𝒱 c bd) Set.univ (k (fun x => v ((Shape.reshapeEquiv hq.numel_eq).symm x))) Φ)
      -∗ wp frame (wpE defs 𝒱 c bd) Set.univ (Prog.lift (.load m r.toLoadRect hl) >>= k) Φ) := by
  unfold owns
  iintro ⟨%f, %hf, H⟩ Hk
  have hset : ((m.slice r hr).squeeze s' hq).view.set = (m.access r).set := View.set_reshape _ _
  have hread : (fun x => v ((Shape.reshapeEquiv hq.numel_eq).symm x)) = (m.access r).read Val f := by
    subst hf
    funext x
    show (m.access r).read Val f (Shape.reshapeEquiv hq.numel_eq ((Shape.reshapeEquiv hq.numel_eq).symm x)) = _
    rw [Equiv.apply_symm_apply]
  iapply (wp_load_rect (k := k) 𝒱 c bd Set.univ (S := ((m.slice r hr).squeeze s' hq).view.set) hset.ge) $$ H
  iintro H
  rw [hread]
  iapply Hk
  iexists f
  isplitr
  · ipureintro; exact hf
  · iexact H

/-- A load of one word of scalar memory at the head of a program. -/
theorem w_smem {m : Memref sig c.2.kind .smem s e} {r : Rect s} {h1 : r.shape.numel = 1} {hp : e.packing = 1}
    {k : Val e → Prog (TpuEff nD τ sig Val Λ c.2) α} {q : PosShare TreeShare} {v : s.Idx → Val e} :
    (owns c m q v : sProp 𝕄) ⊢ iprop((owns c m q v -∗
        wp frame (wpE defs 𝒱 c bd) Set.univ (k (v (r.emb (Shape.Idx.first (h1.symm ▸ Nat.one_pos))))) Φ)
      -∗ wp frame (wpE defs 𝒱 c bd) Set.univ (smemLoad (p := c.2) m r h1 hp >>= k) Φ) :=
  w_load 𝒱 c bd (k := fun f => k (f (Shape.Idx.first (h1.symm ▸ Nat.one_pos)))) (hl := View.loadsAt_rect (View.loads_smem_one hp h1))

/-- The same, the word named. -/
theorem w_smem' {m : Memref sig c.2.kind .smem s e} {r : Rect s} {h1 : r.shape.numel = 1} {hp : e.packing = 1}
    {k : Val e → Prog (TpuEff nD τ sig Val Λ c.2) α} {q : PosShare TreeShare} {v : s.Idx → Val e} (w : Val e)
    (hw : v (r.emb (Shape.Idx.first (h1.symm ▸ Nat.one_pos))) = w) :
    (owns c m q v : sProp 𝕄) ⊢ iprop((owns c m q v -∗ wp frame (wpE defs 𝒱 c bd) Set.univ (k w) Φ)
      -∗ wp frame (wpE defs 𝒱 c bd) Set.univ (smemLoad (p := c.2) m r h1 hp >>= k) Φ) := by
  subst hw
  exact w_smem 𝒱 c bd

/-- An unmasked store at the head of a program. -/
theorem w_store {cs : CoreSpace} {m : Memref sig c.2.kind cs s e} {r : Rect s} {w : r.shape.Idx → Val e}
    {hx : (m.access r).Stores Finset.univ} {hm : Finset.univ = (Finset.univ : Finset r.shape.Idx) ∨ ∀ a, r.stride a = 1}
    {k : PUnit → Prog (TpuEff nD τ sig Val Λ c.2) α} {v : s.Idx → Val e} :
    (owns c m fullShare v : sProp 𝕄) ⊢ iprop((owns c m fullShare (put r w v) -∗ wp frame (wpE defs 𝒱 c bd) Set.univ (k ⟨⟩) Φ)
      -∗ wp frame (wpE defs 𝒱 c bd) Set.univ (Prog.lift (.store m r w Finset.univ hx hm) >>= k) Φ) := by
  unfold owns
  iintro ⟨%f, %hf, H⟩ Hk
  iapply (wp_store (m := m) (r := r) (w := w) (k := k) 𝒱 c bd Set.univ (S := m.view.set) (f := f) (View.set_slice_subset _ r)) $$ H
  iintro H
  iapply Hk
  iexists _
  isplitr
  · ipureintro
    exact (show m.view.read Val ((m.access r).write Val f w Finset.univ) = put r w v by
      funext y
      by_cases h : ∃ x, r.emb x = y
      · obtain ⟨x, rfl⟩ := h
        rw [put_emb]
        exact View.read_slice_write_emb (v := m.view) r f w (Finset.mem_univ x)
      · have h' : ∀ x, r.emb x ≠ y := fun x hx => h ⟨x, hx⟩
        rw [put_of_ne _ _ _ h', ← hf]
        refine View.read_slice_write_of_not_mem (v := m.view) r f w Finset.univ (fun hm => ?_)
        obtain ⟨x, -, hx⟩ := Finset.mem_map.mp hm
        exact h' x hx)
  · iexact H

/-- An assumed side condition at the head of a program, when it holds. -/
theorem w_assume {P : Prop} {d : Decidable P} {k : PLift P → Prog (TpuEff nD τ sig Val Λ c.2) α} (h : P) :
    (wp frame (wpE defs 𝒱 c bd) Set.univ (k ⟨h⟩) Φ : sProp 𝕄)
      ⊢ wp frame (wpE defs 𝒱 c bd) Set.univ (Prog.lift (.assume P d) >>= k) Φ :=
  wp_assume 𝒱 c bd Set.univ h

theorem emb_full {off : Fin s.rank → ℕ} {h : ∀ a, off a + s.size a ≤ s.size a} (x : s.Idx) : (Rect.unit off s.size h).emb x = x := by
  funext a
  refine Fin.ext ?_
  show off a + 1 * (x a).val = (x a).val
  have := h a
  omega

theorem put_full {V : Type} {off : Fin s.rank → ℕ} {h : ∀ a, off a + s.size a ≤ s.size a} (w v : s.Idx → V) :
    put (Rect.unit off s.size h) w v = w := by
  funext y
  have e := put_emb (Rect.unit off s.size h) w v y
  rwa [emb_full] at e

/-- A load of a whole memref. -/
theorem w_load_full {cs : CoreSpace} {m : Memref sig c.2.kind cs s e} {off : Fin s.rank → ℕ} {h : ∀ a, off a + s.size a ≤ s.size a}
    {hl : m.view.LoadsAt (Rect.unit off s.size h).toLoadRect}
    {k : (s.Idx → Val e) → Prog (TpuEff nD τ sig Val Λ c.2) α} {q : PosShare TreeShare} {v : s.Idx → Val e} :
    (owns c m q v : sProp 𝕄) ⊢ iprop((owns c m q v -∗ wp frame (wpE defs 𝒱 c bd) Set.univ (k v) Φ)
      -∗ wp frame (wpE defs 𝒱 c bd) Set.univ (Prog.lift (.load m (Rect.unit off s.size h).toLoadRect hl) >>= k) Φ) := by
  have e : (fun x : s.Idx => v ((Rect.unit off s.size h).emb x)) = v := funext fun x => congrArg v (emb_full x)
  iintro H Hk
  iapply (w_load 𝒱 c bd (r := Rect.unit off s.size h)) $$ H
  iintro H
  iapply (show iprop(wp frame (wpE defs 𝒱 c bd) Set.univ (k v) Φ) ⊢ wp frame (wpE defs 𝒱 c bd) Set.univ (k (fun x : s.Idx => v ((Rect.unit off s.size h).emb x))) Φ from by rw [e])
  iapply Hk
  iexact H

/-- An unmasked store of a whole memref. -/
theorem w_store_full {cs : CoreSpace} {m : Memref sig c.2.kind cs s e} {off : Fin s.rank → ℕ} {h : ∀ a, off a + s.size a ≤ s.size a} {w : s.Idx → Val e}
    {hx : (m.access (Rect.unit off s.size h)).Stores Finset.univ}
    {hm : Finset.univ = (Finset.univ : Finset (Rect.unit off s.size h).shape.Idx) ∨ ∀ a, (Rect.unit off s.size h).stride a = 1}
    {k : PUnit → Prog (TpuEff nD τ sig Val Λ c.2) α} {v : s.Idx → Val e} :
    (owns c m fullShare v : sProp 𝕄) ⊢ iprop((owns c m fullShare w -∗ wp frame (wpE defs 𝒱 c bd) Set.univ (k ⟨⟩) Φ)
      -∗ wp frame (wpE defs 𝒱 c bd) Set.univ (Prog.lift (.store m (Rect.unit off s.size h) w Finset.univ hx hm) >>= k) Φ) := by
  iintro H Hk
  iapply (w_store 𝒱 c bd (r := Rect.unit off s.size h)) $$ H
  rw [put_full]
  iexact Hk

/-- A branch whose two arms go on alike, with what they do alike taken out. -/
theorem dite_tail {E : Type → Type _} {P : Prop} [Decidable P] {A : P → Prog E PUnit} {K : Prog E α} :
    (if h : P then A h >>= fun _ => K else K) = ((if h : P then A h >>= fun _ => (pure ⟨⟩ : Prog E PUnit) else (pure ⟨⟩ : Prog E PUnit)) >>= fun _ => K) := by
  split
  · rw [Prog.bind_assoc]; rfl
  · rfl

/-- A program that branches on a condition, where both branches turn `R` into `R'`. -/
theorem w_dite {β : Type} {P : Prop} [Decidable P] {A : P → Prog (TpuEff nD τ sig Val Λ c.2) β} {B : ¬P → Prog (TpuEff nD τ sig Val Λ c.2) β}
    {k : β → Prog (TpuEff nD τ sig Val Λ c.2) α} {R R' : sProp (MT nD τ sig Ix Val Name U Lvl)} (hA : ∀ h, R ⊢ wp frame (wpE defs 𝒱 c bd) Set.univ (A h) (fun _ => R'))
    (hB : ∀ h, R ⊢ wp frame (wpE defs 𝒱 c bd) Set.univ (B h) (fun _ => R')) :
    R ⊢ iprop((∀ b, R' -∗ wp frame (wpE defs 𝒱 c bd) Set.univ (k b) Φ)
      -∗ wp frame (wpE defs 𝒱 c bd) Set.univ ((if h : P then A h else B h) >>= k) Φ) := by
  have key : R ⊢ wp frame (wpE defs 𝒱 c bd) Set.univ (if h : P then A h else B h) (fun _ => R') := by
    split
    · exact hA _
    · exact hB _
  iintro H Hk
  rw [wp_bind]
  ihave H := key $$ H
  iapply (wp_wand_r) $$ [H Hk]
  isplitl [H]; · iexact H
  iintro %b HR
  iapply Hk
  iexact HR

/-- A program that branches on a condition, its second arm what the first ends with. -/
theorem w_dite_tail {P : Prop} [Decidable P] {A : P → Prog (TpuEff nD τ sig Val Λ c.2) α} {K : Prog (TpuEff nD τ sig Val Λ c.2) α}
    {R R' : sProp (MT nD τ sig Ix Val Name U Lvl)}
    (hA : ∀ h, R ⊢ iprop((R' -∗ wp frame (wpE defs 𝒱 c bd) Set.univ K Φ) -∗ wp frame (wpE defs 𝒱 c bd) Set.univ (A h) Φ))
    (hB : ¬P → R ⊢ R') :
    R ⊢ iprop((R' -∗ wp frame (wpE defs 𝒱 c bd) Set.univ K Φ)
      -∗ wp frame (wpE defs 𝒱 c bd) Set.univ (if h : P then A h else K) Φ) := by
  split
  · exact hA _
  · rename_i h
    iintro H Hk
    iapply Hk
    iapply (hB h)
    iexact H

/-- A copy in flight to `dst`, delivering `v`, whose source is a rectangle of `m`, all of `m` coming back with it. -/
def InFl [CountersIn U] (sm : SemLoc sig) (ι : Ix) (N : ℕ) {s₂ : Shape} {e₂ : EltTy}
    (dst : Memref sig c.2.kind sp' s e) (v : s.Idx → Val e) (m : Memref sig c.2.kind sp s₂ e₂) (q : PosShare TreeShare) (X : s₂.Idx → Val e₂) :
    sProp 𝕄 :=
  iprop(∃ (S : Finset (Idx (m.view.loc c))) (f : Buf Val (m.view.loc c)), ⌜m.view.read Val f = X⌝ ∗ ⌜S ⊆ m.view.set⌝
    ∗ Flight (countersEmb (U := U)) c sm ι N iprop(owns c dst fullShare v ∗ (m.view.loc c ↦[S]{q} f))
    ∗ (m.view.loc c ↦[m.view.set \ S]{q} f))

variable [Infinite Name] [CountersIn U]

/-- The start of a copy of the whole of `m`. -/
theorem w_dma {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X v₀ : s.Idx → Val e}
    (ι : Ix) (N : ℕ) (hN : dst.view.amount sm = N) (hN0 : 0 < N) :
    (iprop(owns c src q X ∗ owns c dst fullShare v₀ ∗ semVal (c, sm) 0) : sProp 𝕄)
      ⊢ iprop((InFl c sm ι N dst X src q X -∗ wp frame (wpE defs 𝒱 c bd) Set.univ (k ⟨⟩) Φ)
        -∗ wp frame (wpE defs 𝒱 c bd) Set.univ (Prog.lift (.enqueueDma src (.here dst) sm hsrc hdst hsem) >>= k) Φ) := by
  unfold InFl owns
  iintro ⟨⟨%fs, %hfs, Hs⟩, ⟨%fd, %hfd, Hd⟩, Hv⟩ Hk
  iapply (wp_dmaLocal (countersEmb (U := U)) 𝒱 c bd (k := k) ι N hN hN0 (Sd := dst.view.set) subset_rfl) $$ [Hs Hd Hv]
  · isplitl [Hs]; · iexact Hs
    isplitl [Hd]; · iexact Hd
    iexact Hv
  iintro HF
  iapply Hk
  iexists src.view.set, fs
  isplitr; · ipureintro; exact hfs
  isplitr; · ipureintro; exact subset_rfl
  isplitl [HF]
  · iapply (Flight_mono (countersEmb (U := U)) c ?_) $$ HF
    iintro ⟨Hd, Hs⟩
    isplitl [Hd]
    · iexists _
      isplitr
      · ipureintro
        exact (View.read_write_univ fd (src.view.read Val fs)).trans hfs
      · iexact Hd
    · iexact Hs
  · rw [Finset.sdiff_self, pointsTo_empty]; iempintro

/-- The start of a copy of a rectangle of `m`, some axes of size one dropped. -/
theorem w_dma_part {s₂ : Shape} {m : Memref sig c.2.kind sp s₂ e} {r : Rect s₂} {hr : ∀ a, r.stride a = 1} {hq : r.shape.Squeezes s}
    {dst : Memref sig c.2.kind sp' s e} {sm : SemLoc sig}
    {hsrc : ((m.slice r hr).squeeze s hq).view.WordExact} {hdst : dst.view.WordExact} {hsem : DmaTarget.Typed (nD := nD) sp sm (.here dst)}
    {k : PUnit → Prog (TpuEff nD τ sig Val Λ c.2) α} {q : PosShare TreeShare} {X : s₂.Idx → Val e} {v₀ : s.Idx → Val e}
    (ι : Ix) (N : ℕ) (hN : dst.view.amount sm = N) (hN0 : 0 < N) (v : s.Idx → Val e)
    (hv : ∀ i, X (r.emb (Shape.reshapeEquiv hq.numel_eq i)) = v i) :
    (iprop(owns c m q X ∗ owns c dst fullShare v₀ ∗ semVal (c, sm) 0) : sProp 𝕄)
      ⊢ iprop((InFl c sm ι N dst v m q X -∗ wp frame (wpE defs 𝒱 c bd) Set.univ (k ⟨⟩) Φ)
        -∗ wp frame (wpE defs 𝒱 c bd) Set.univ
          (Prog.lift (.enqueueDma ((m.slice r hr).squeeze s hq) (.here dst) sm hsrc hdst hsem) >>= k) Φ) := by
  unfold InFl owns
  iintro ⟨⟨%fs, %hfs, Hs⟩, ⟨%fd, %hfd, Hd⟩, Hv⟩ Hk
  have hsub : ((m.slice r hr).squeeze s hq).view.set ⊆ m.view.set :=
    (View.set_reshape _ _).trans_subset (View.set_slice_subset _ r)
  have hread : ((m.slice r hr).squeeze s hq).view.read Val fs = v := by
    subst hfs; funext i; exact hv i
  ihave ⟨Hs, Hr⟩ := (pointsTo_split_subset hsub).1 $$ Hs
  iapply (wp_dmaLocal (countersEmb (U := U)) 𝒱 c bd (src := (m.slice r hr).squeeze s hq) (k := k) ι N hN hN0 (Sd := dst.view.set) subset_rfl) $$ [Hs Hd Hv]
  · isplitl [Hs]; · iexact Hs
    isplitl [Hd]; · iexact Hd
    iexact Hv
  iintro HF
  iapply Hk
  iexists ((m.slice r hr).squeeze s hq).view.set, fs
  isplitr; · ipureintro; exact hfs
  isplitr; · ipureintro; exact hsub
  isplitl [HF]
  · iapply (Flight_mono (countersEmb (U := U)) c ?_) $$ HF
    iintro ⟨Hd, Hs⟩
    isplitl [Hd]
    · iexists _
      isplitr
      · ipureintro
        exact (View.read_write_univ fd _).trans hread
      · iexact Hd
    · iexact Hs
  · iexact Hr

/-- The wait for a copy in flight. -/
theorem w_wait {s₂ : Shape} {e₂ : EltTy} {sp₃ sp₄ : Space} {s₃ s₄ : Shape} {e₃ e₄ : EltTy} {κ' : Kind} {sem : DmaSem sig}
    {srcw : Memref sig c.2.kind sp₃ s₃ e₃} {dstw : Memref sig κ' sp₄ s₄ e₄} {hsrc : srcw.view.WordExact} {hdst : dstw.view.WordExact}
    {k : PUnit → Prog (TpuEff nD τ sig Val Λ c.2) α} (ι : Ix) {N : ℕ} (hN : dstw.view.dmaCredit = N)
    {dst : Memref sig c.2.kind sp' s e} {v : s.Idx → Val e} {m : Memref sig c.2.kind sp s₂ e₂} {q : PosShare TreeShare} {X : s₂.Idx → Val e₂} :
    (iprop(InFl c (.dma sem) ι N dst v m q X ∗ ∃ W, owes c 0 W) : sProp 𝕄)
      ⊢ iprop((iprop(owns c dst fullShare v ∗ owns c m q X ∗ semVal (c, .dma sem) 0 ∗ ∃ W, owes c 0 W)
          -∗ wp frame (wpE defs 𝒱 c bd) Set.univ (k ⟨⟩) Φ)
        -∗ wp frame (wpE defs 𝒱 c bd) Set.univ (Prog.lift (.waitDma2 sem srcw dstw hsrc hdst) >>= k) Φ) := by
  unfold InFl
  iintro ⟨⟨%S, %f, %hf, %hS, HF, Hr⟩, ⟨%W, HO⟩⟩ Hk
  iapply (wp_waitLocal (countersEmb (U := U)) 𝒱 c bd (k := k) ι hN) $$ [HF HO]
  · isplitl [HF]; · iexact HF
    iexact HO
  iintro ⟨⟨Hd, Hs⟩, Hv, HO⟩
  iapply Hk
  isplitl [Hd]; · iexact Hd
  isplitl [Hs Hr]
  · unfold owns
    iexists f
    isplitr; · ipureintro; exact hf
    iapply (pointsTo_split_subset hS).2
    isplitl [Hs] <;> iassumption
  isplitl [Hv]; · iexact Hv
  iexists _
  iexact HO

end Cert.Moe
-- ==== Proof.CollectPure.lean ====
/-
  What the kernel's first loops compute, as lists: the distinct experts in the order in which the tokens' choices name
  them first. `St L order seen n` says that the two tables of scalar memory and the carried count hold the list `L`;
  `St.step` is one choice. `colT` is the list after a number of tokens.
-/
module

public import Idealize.ShloMosaic.Lib.Tactic
public import proofs.«01_k».proof.Proof.Rules
public import Idealize.ShloMosaic.Lib.ValueIdxCore

@[expose] public section

noncomputable section

namespace Cert.Moe

open Idealize.ShloMosaic

/-- `L` with `e` added at the end unless it is there. -/
def ins (L : List ℕ) (e : ℕ) : List ℕ := if e ∈ L then L else L ++ [e]

theorem mem_ins {L : List ℕ} {e x : ℕ} : x ∈ ins L e ↔ x ∈ L ∨ x = e := by
  unfold ins; split <;> simp; rintro rfl; assumption

theorem ins_nodup {L : List ℕ} {e : ℕ} (h : L.Nodup) : (ins L e).Nodup := by
  unfold ins; split
  · exact h
  · rw [List.nodup_append]
    exact ⟨h, List.nodup_singleton _, by rintro a ha b hb; rw [List.mem_singleton] at hb; subst hb; rintro rfl; contradiction⟩

theorem ins_prefix (L : List ℕ) (e : ℕ) : L <+: ins L e := by
  unfold ins; split
  · exact List.prefix_refl _
  · exact List.prefix_append _ _

/-- A rectangle of one word: what it overwrites. -/
theorem put_word {V : Type} {n : ℕ} {off size : Fin 1 → ℕ} (hs : size 0 = 1) (h : ∀ a, off a + size a ≤ (⟨1, ![n]⟩ : Shape).size a)
    (w : V) (v : (⟨1, ![n]⟩ : Shape).Idx → V) (y : (⟨1, ![n]⟩ : Shape).Idx) :
    put (Rect.unit (s := ⟨1, ![n]⟩) off size h) (fun _ => w) v y = if (y 0).val = off 0 then w else v y := by
  by_cases hy : (y 0).val = off 0
  · rw [if_pos hy]
    have : (Rect.unit (s := ⟨1, ![n]⟩) off size h).emb (fun a => ⟨0, by
        obtain rfl : a = 0 := Subsingleton.elim (α := Fin 1) _ _
        show 0 < size 0; omega⟩) = y := by
      funext a
      obtain rfl : a = 0 := Subsingleton.elim (α := Fin 1) _ _
      apply Fin.ext
      show off 0 + 1 * 0 = _
      omega
    rw [← this, put_emb]
  · rw [if_neg hy]
    refine put_of_ne _ _ _ (fun x hx => hy ?_)
    have h1 := congrArg (fun z : (⟨1, ![n]⟩ : Shape).Idx => (z 0).val) hx
    have h2 : (x 0).val < size 0 := (x 0).isLt
    have h3 : off 0 + 1 * (x 0).val = (y 0).val := h1
    omega

/-- The two tables and the count hold the list `L`. -/
structure St (L : List ℕ) (ord : (⟨1, ![32]⟩ : Shape).Idx → BitVec 32) (seen : (⟨1, ![31]⟩ : Shape).Idx → BitVec 32) (n : BitVec 32) :
    Prop where
  len : n.toNat = L.length
  nodup : L.Nodup
  lt : ∀ x ∈ L, x < 31
  seen_eq : ∀ i, seen i = if (i 0).val ∈ L then 1#32 else 0#32
  ord_eq : ∀ i, ∀ h : (i 0).val < L.length, ord i = BitVec.ofNat 32 L[(i 0).val]

theorem len_le_of {L : List ℕ} (nodup : L.Nodup) (lt : ∀ x ∈ L, x < 31) : L.length ≤ 31 := by
  rw [← List.toFinset_card_of_nodup nodup]
  refine (Finset.card_le_card (t := Finset.range 31) (fun x hx => ?_)).trans (by simp)
  exact Finset.mem_range.mpr (lt x (List.mem_toFinset.mp hx))

theorem St.len_le {L ord seen n} (h : St L ord seen n) : L.length ≤ 31 := len_le_of h.nodup h.lt

/-- The word read of the membership table. -/
def sn (L : List ℕ) (e : ℕ) : BitVec 32 := if e ∈ L then 1#32 else 0#32

theorem St.ord_bound {L ord seen n} (h : St L ord seen n) {off : Fin 1 → ℕ} (ho : off 0 = n.toNat) :
    ∀ a, off a + (⟨1, ![1]⟩ : Shape).size a ≤ (⟨1, ![32]⟩ : Shape).size a := by
  intro a
  obtain rfl : a = 0 := Subsingleton.elim (α := Fin 1) _ _
  show off 0 + 1 ≤ 32
  have := h.len_le; have := h.len
  omega

theorem word_bound {n : ℕ} {off : Fin 1 → ℕ} (ho : off 0 < n) :
    ∀ a, off a + (⟨1, ![1]⟩ : Shape).size a ≤ (⟨1, ![n]⟩ : Shape).size a := by
  intro a
  obtain rfl : a = 0 := Subsingleton.elim (α := Fin 1) _ _
  show off 0 + 1 ≤ n
  omega

theorem St.read {L ord seen n} (h : St L ord seen n) {e : BitVec 32} {off size : Fin 1 → ℕ}
    {hb : ∀ a, off a + size a ≤ (⟨1, ![31]⟩ : Shape).size a} {x : (Rect.unit (s := ⟨1, ![31]⟩) off size hb).shape.Idx} (hs : size 0 = 1)
    (ho : off 0 = e.toNat) : seen ((Rect.unit (s := ⟨1, ![31]⟩) off size hb).emb x) = sn L e.toNat := by
  rw [h.seen_eq]
  have : (((Rect.unit (s := ⟨1, ![31]⟩) off size hb).emb x) 0).val = e.toNat := by
    have h2 : (x 0).val < size 0 := (x 0).isLt
    show off 0 + 1 * (x 0).val = _
    omega
  rw [this]; rfl

/-- One choice: the expert goes at the list's end, its membership is set, and the count grows unless it was set. -/
theorem St.step {L ord seen n} (h : St L ord seen n) {e : BitVec 32} (he : e.toNat < 31) {off off' size : Fin 1 → ℕ} (hs : size 0 = 1)
    (hb : ∀ a, off a + size a ≤ (⟨1, ![32]⟩ : Shape).size a) (hb' : ∀ a, off' a + size a ≤ (⟨1, ![31]⟩ : Shape).size a)
    (ho : off 0 = n.toNat) (ho' : off' 0 = e.toNat) :
    St (ins L e.toNat) (put (Rect.unit (s := ⟨1, ![32]⟩) off size hb) (fun _ => e) ord)
      (put (Rect.unit (s := ⟨1, ![31]⟩) off' size hb') (fun _ => 1#32) seen) (Scalar.addi n (Scalar.subi 1#32 (sn L e.toNat))) := by
  have hlen := h.len_le
  have hn := h.len
  by_cases hm : e.toNat ∈ L
  · have hi : ins L e.toNat = L := if_pos hm
    rw [hi]
    refine ⟨?_, h.nodup, h.lt, fun i => ?_, fun i hi => ?_⟩
    · rw [sn, if_pos hm, ← hn]
      show (n + (1#32 - 1#32)).toNat = _
      simp
    · rw [put_word hs, ho', h.seen_eq]
      by_cases hie : (i 0).val = e.toNat
      · rw [if_pos hie, hie, if_pos hm]
      · rw [if_neg hie]
    · rw [put_word hs, ho, if_neg (by omega), h.ord_eq i hi]
  · have hi : ins L e.toNat = L ++ [e.toNat] := if_neg hm
    refine ⟨?_, ins_nodup h.nodup, fun x hx => ?_, fun i => ?_, fun i hi' => ?_⟩
    · rw [sn, if_neg hm, hi, List.length_append, ← hn]
      show (n + (1#32 - 0#32)).toNat = _
      rw [show (1#32 - 0#32 : BitVec 32) = 1#32 from rfl, BitVec.toNat_add]
      show (n.toNat + 1) % 2 ^ 32 = n.toNat + 1
      omega
    · rcases mem_ins.mp hx with hx | rfl
      · exact h.lt x hx
      · exact he
    · rw [put_word hs, ho', h.seen_eq]
      by_cases hie : (i 0).val = e.toNat
      · rw [if_pos hie, if_pos (mem_ins.mpr (.inr hie))]
      · rw [if_neg hie]
        by_cases hil : (i 0).val ∈ L
        · rw [if_pos hil, if_pos (mem_ins.mpr (.inl hil))]
        · rw [if_neg hil, if_neg (fun hx => (mem_ins.mp hx).elim hil hie)]
    · rw [put_word hs, ho]
      have hl : (i 0).val < L.length + 1 := by rw [hi, List.length_append] at hi'; exact hi'
      by_cases hie : (i 0).val = n.toNat
      · rw [if_pos hie]
        have : (ins L e.toNat)[(i 0).val] = e.toNat := by
          simp only [hi]
          rw [List.getElem_append_right (by omega)]
          simp
        rw [this, BitVec.ofNat_toNat, BitVec.setWidth_eq]
      · rw [if_neg hie, h.ord_eq i (by omega)]
        congr 1
        simp only [hi]
        rw [List.getElem_append_left]

/-- The expert that token `t` names at its place `k`. -/
def cho (ids : (⟨2, ![8, 20]⟩ : Shape).Idx → BitVec 32) (k : Fin 8) (t : ℕ) : ℕ :=
  if h : t < 20 then (ids (ValueIdx.ix2 k ⟨t, h⟩)).toNat else 0

/-- The distinct experts the first `t` tokens name, in the order in which they are first named. -/
def colT (ids : (⟨2, ![8, 20]⟩ : Shape).Idx → BitVec 32) : ℕ → List ℕ
  | 0 => []
  | t + 1 => ins (ins (ins (ins (ins (ins (ins (ins (colT ids t) (cho ids 0 t)) (cho ids 1 t)) (cho ids 2 t)) (cho ids 3 t))
      (cho ids 4 t)) (cho ids 5 t)) (cho ids 6 t)) (cho ids 7 t)

theorem colT_succ (ids : (⟨2, ![8, 20]⟩ : Shape).Idx → BitVec 32) (t : ℕ) : colT ids (t + 1)
    = ins (ins (ins (ins (ins (ins (ins (ins (colT ids t) (cho ids 0 t)) (cho ids 1 t)) (cho ids 2 t)) (cho ids 3 t))
      (cho ids 4 t)) (cho ids 5 t)) (cho ids 6 t)) (cho ids 7 t) := rfl

theorem ins8_prefix (L : List ℕ) (a b c d e f g h : ℕ) :
    ins L a <+: ins (ins (ins (ins (ins (ins (ins (ins L a) b) c) d) e) f) g) h :=
  (ins_prefix _ _).trans <| (ins_prefix _ _).trans <| (ins_prefix _ _).trans <|
      (ins_prefix _ _).trans <| (ins_prefix _ _).trans <| (ins_prefix _ _).trans (ins_prefix _ _)

theorem colT_mono (ids : (⟨2, ![8, 20]⟩ : Shape).Idx → BitVec 32) (t : ℕ) : ∀ n, colT ids t <+: colT ids (t + n) := by
  intro n
  induction n with
  | zero => exact List.prefix_refl _
  | succ n ih =>
    refine ih.trans ?_
    rw [← Nat.add_assoc, colT_succ]
    exact (ins_prefix _ _).trans (ins8_prefix _ _ _ _ _ _ _ _ _)

/-- Every expert a token names is in the list. -/
theorem colT_mem (ids : (⟨2, ![8, 20]⟩ : Shape).Idx → BitVec 32) (k : Fin 8) (t : Fin 20) :
    (ids (ValueIdx.ix2 k t)).toNat ∈ colT ids 20 := by
  obtain ⟨n, hn⟩ : ∃ n, 20 = (t.val + 1) + n := ⟨20 - (t.val + 1), by have := t.isLt; omega⟩
  have h : cho ids k t ∈ colT ids (t.val + 1) := by
    rw [colT_succ]
    simp only [mem_ins]
    fin_cases k <;> simp
  have h2 := (colT_mono ids (t.val + 1) n).subset h
  rw [← hn] at h2
  have h3 : cho ids k t = (ids (ValueIdx.ix2 k t)).toNat := dif_pos t.isLt
  rwa [h3] at h2

/-- The list's head is the first token's first choice. -/
theorem colT_head (ids : (⟨2, ![8, 20]⟩ : Shape).Idx → BitVec 32) : (colT ids 20)[0]? = some (ids (ValueIdx.ix2 0 0)).toNat := by
  have h0 : cho ids 0 0 = (ids (ValueIdx.ix2 0 0)).toNat := dif_pos (by decide)
  have h1 : [cho ids 0 0] <+: colT ids 1 := by
    have : ins (colT ids 0) (cho ids 0 0) = [cho ids 0 0] := by simp [ins, colT]
    rw [colT_succ, ← this]
    exact ins8_prefix _ _ _ _ _ _ _ _ _
  obtain ⟨r, hr⟩ := h1.trans (colT_mono ids 1 19)
  have h2 : colT ids 20 = [cho ids 0 0] ++ r := hr.symm
  rw [h2, ← h0]; rfl

theorem St.init {ord : (⟨1, ![32]⟩ : Shape).Idx → BitVec 32} {seen : (⟨1, ![31]⟩ : Shape).Idx → BitVec 32} (h : ∀ i, seen i = 0#32) :
    St [] ord seen 0#32 :=
  ⟨rfl, List.nodup_nil, fun _ h => by simp at h, fun i => by rw [h]; simp, fun i h => by simp at h⟩

/-- The word of the choices' table at a token's place. -/
theorem ids_word (ids : (⟨2, ![8, 20]⟩ : Shape).Idx → BitVec 32) (k : Fin 8) (t : Fin 20) {off size : Fin 2 → ℕ}
    {hb : ∀ a, off a + size a ≤ (⟨2, ![8, 20]⟩ : Shape).size a} {x : (Rect.unit (s := ⟨2, ![8, 20]⟩) off size hb).shape.Idx}
    (hs : size = ![1, 1]) (ho : off = ![k.val, t.val]) :
    ids ((Rect.unit (s := ⟨2, ![8, 20]⟩) off size hb).emb x) = ids (ValueIdx.ix2 k t) := by
  subst hs ho
  congr 1
  funext a
  apply Fin.ext
  match a with
  | ⟨0, _⟩ =>
    have h2 : (x 0).val < 1 := (x 0).isLt
    show k.val + 1 * (x 0).val = k.val
    omega
  | ⟨1, _⟩ =>
    have h2 : (x 1).val < 1 := (x 1).isLt
    show t.val + 1 * (x 1).val = t.val
    omega

end Cert.Moe
-- ==== Proof.Collect.lean ====
/-
  The kernel's first two loops: the membership table is cleared, and the tokens' choices are walked in order, each
  expert not yet a member appended to the order table. The walk leaves the tables holding the list `colT`.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.CollectPure

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ
variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

/-- The walk's holdings before token `t`, the count being `n`. -/
def walkI (c : Dev nD) (arg8 : Memref sig .tc .smem S8x20 .i32) (arg9 : Memref sig .tc .smem S32 .i32) (arg10 : Memref sig .tc .smem S31 .i32)
    (ids : S8x20.Idx → Elt F .i32) (t : ℕ) (n : BitVec 32) : sProp 𝕄 :=
  iprop(∃ (ord : S32.Idx → Elt F .i32) (seen : S31.Idx → Elt F .i32), ⌜St (colT ids t) ord seen n⌝ ∗ owns (c : Thread nD τ) arg8 fullShare ids
    ∗ owns (c : Thread nD τ) arg9 fullShare ord ∗ owns (c : Thread nD τ) arg10 fullShare seen)

theorem iv_one (k : ℕ) (h : k < 32) : (Scf.iv 0#32 1#32 k).toNat = k := by
  show (0#32 + BitVec.ofNat 32 k * 1#32).toNat = k
  simp
  omega

set_option maxHeartbeats 4000000 in
theorem t2_trip (c : Dev nD) (v10 : Elt F .i32) (k0_hw1 : k0_chk1 v10) (ids : S8x20.Idx → Elt F .i32) (hids : ∀ i, BitVec.toNat (ids i) < 31)
    (t : Fin k0_t2_loop.trips) (arg29 : BitVec 32) :
    (walkI c arg8 arg9 arg10 ids t.val arg29 : sProp 𝕄)
      ⊢ wp frame (wpE (defs₀ (F := F)) Variants.none (c : Thread nD τ) none (Ix := Unit) (Name := ℕ) (U := Pipeline.UD sig nD τ) (Lvl := ℕ)) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v10 k0_hw1 t arg29)
        (walkI c arg8 arg9 arg10 ids (t.val + 1)) := by
  have ht : t.val < 20 := t.isLt
  have hiv := iv_one t.val (by omega)
  have ho0 : k0_off5 t = ![0, t.val] := congrArg (fun z => ![0, z]) hiv
  have ho1 : k0_off8 t = ![1, t.val] := congrArg (fun z => ![1, z]) hiv
  have ho2 : k0_off11 t = ![2, t.val] := congrArg (fun z => ![2, z]) hiv
  have ho3 : k0_off14 t = ![3, t.val] := congrArg (fun z => ![3, z]) hiv
  have ho4 : k0_off17 t = ![4, t.val] := congrArg (fun z => ![4, z]) hiv
  have ho5 : k0_off20 t = ![5, t.val] := congrArg (fun z => ![5, z]) hiv
  have ho6 : k0_off23 t = ![6, t.val] := congrArg (fun z => ![6, z]) hiv
  have ho7 : k0_off26 t = ![7, t.val] := congrArg (fun z => ![7, z]) hiv
  unfold walkI
  iintro ⟨%ord0, %seen0, %hst0, H8, H9, H10⟩
  have he0 := hids (ValueIdx.ix2 0 ⟨t.val, ht⟩)
  have hc0 : cho ids 0 t.val = (ids (ValueIdx.ix2 0 ⟨t.val, ht⟩)).toNat := dif_pos ht
  have he1 := hids (ValueIdx.ix2 1 ⟨t.val, ht⟩)
  have hc1 : cho ids 1 t.val = (ids (ValueIdx.ix2 1 ⟨t.val, ht⟩)).toNat := dif_pos ht
  have he2 := hids (ValueIdx.ix2 2 ⟨t.val, ht⟩)
  have hc2 : cho ids 2 t.val = (ids (ValueIdx.ix2 2 ⟨t.val, ht⟩)).toNat := dif_pos ht
  have he3 := hids (ValueIdx.ix2 3 ⟨t.val, ht⟩)
  have hc3 : cho ids 3 t.val = (ids (ValueIdx.ix2 3 ⟨t.val, ht⟩)).toNat := dif_pos ht
  have he4 := hids (ValueIdx.ix2 4 ⟨t.val, ht⟩)
  have hc4 : cho ids 4 t.val = (ids (ValueIdx.ix2 4 ⟨t.val, ht⟩)).toNat := dif_pos ht
  have he5 := hids (ValueIdx.ix2 5 ⟨t.val, ht⟩)
  have hc5 : cho ids 5 t.val = (ids (ValueIdx.ix2 5 ⟨t.val, ht⟩)).toNat := dif_pos ht
  have he6 := hids (ValueIdx.ix2 6 ⟨t.val, ht⟩)
  have hc6 : cho ids 6 t.val = (ids (ValueIdx.ix2 6 ⟨t.val, ht⟩)).toNat := dif_pos ht
  have he7 := hids (ValueIdx.ix2 7 ⟨t.val, ht⟩)
  have hc7 : cho ids 7 t.val = (ids (ValueIdx.ix2 7 ⟨t.val, ht⟩)).toNat := dif_pos ht
  rw [colT_succ, hc0, hc1, hc2, hc3, hc4, hc5, hc6, hc7]
  generalize hg0 : ids (ValueIdx.ix2 0 ⟨t.val, ht⟩) = e0 at he0 hc0 ⊢
  generalize hg1 : ids (ValueIdx.ix2 1 ⟨t.val, ht⟩) = e1 at he1 hc1 ⊢
  generalize hg2 : ids (ValueIdx.ix2 2 ⟨t.val, ht⟩) = e2 at he2 hc2 ⊢
  generalize hg3 : ids (ValueIdx.ix2 3 ⟨t.val, ht⟩) = e3 at he3 hc3 ⊢
  generalize hg4 : ids (ValueIdx.ix2 4 ⟨t.val, ht⟩) = e4 at he4 hc4 ⊢
  generalize hg5 : ids (ValueIdx.ix2 5 ⟨t.val, ht⟩) = e5 at he5 hc5 ⊢
  generalize hg6 : ids (ValueIdx.ix2 6 ⟨t.val, ht⟩) = e6 at he6 hc6 ⊢
  generalize hg7 : ids (ValueIdx.ix2 7 ⟨t.val, ht⟩) = e7 at he7 hc7 ⊢
  generalize colT ids t.val = L0 at hst0 ⊢
  dsimp only [k0_t2_body]
  rw [wp_bind, k0_part1_eq_skeleton]
  dsimp only [k0_part1_skel]
  iapply (w_assume Variants.none (c : Thread nD τ) none (P := k0_chk2 arg29) (hst0.ord_bound rfl))
  -- choice 0
  iapply (w_smem' Variants.none (c : Thread nD τ) none (m := arg8) e0 ((ids_word ids 0 ⟨t.val, ht⟩ rfl ho0).trans hg0)) $$ H8
  iintro H8
  dsimp only
  iapply (w_assume Variants.none (c : Thread nD τ) none (P := k0_chk3 e0) (word_bound he0))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L0 e0.toNat) (hst0.read rfl rfl)) $$ H10
  iintro H10
  dsimp only
  generalize hL1 : ins L0 e0.toNat = L1
  have hst1 := hst0.step he0 (off := ![BitVec.toNat arg29]) (off' := ![e0.toNat]) (size := S1.size) rfl (hst0.ord_bound rfl) (word_bound he0) rfl rfl
  rw [hL1] at hst1
  iapply (w_assume Variants.none (c : Thread nD τ) none (hst1.ord_bound rfl))
  iapply (w_smem' Variants.none (c : Thread nD τ) none (m := arg10) _ rfl) $$ H10
  iintro H10
  iapply (w_store Variants.none (c : Thread nD τ) none (m := arg10)) $$ H10
  iintro H10
  -- choice 1
  iapply (w_smem' Variants.none (c : Thread nD τ) none (m := arg8) e1 ((ids_word ids 1 ⟨t.val, ht⟩ rfl ho1).trans hg1)) $$ H8
  iintro H8
  dsimp only
  iapply (w_assume Variants.none (c : Thread nD τ) none (P := k0_chk5 e1) (word_bound he1))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L1 e1.toNat) (hst1.read rfl rfl)) $$ H10
  iintro H10
  dsimp only
  generalize hL2 : ins L1 e1.toNat = L2
  have hst2 := hst1.step he1 (off := ![BitVec.toNat (Scalar.addi arg29 (Scalar.subi 1#32 (sn L0 e0.toNat)))]) (off' := ![e1.toNat]) (size := S1.size) rfl (hst1.ord_bound rfl) (word_bound he1) rfl rfl
  rw [hL2] at hst2
  iapply (w_assume Variants.none (c : Thread nD τ) none (hst2.ord_bound rfl))
  iapply (w_smem' Variants.none (c : Thread nD τ) none (m := arg10) _ rfl) $$ H10
  iintro H10
  iapply (w_store Variants.none (c : Thread nD τ) none (m := arg10)) $$ H10
  iintro H10
  -- choice 2
  iapply (w_smem' Variants.none (c : Thread nD τ) none (m := arg8) e2 ((ids_word ids 2 ⟨t.val, ht⟩ rfl ho2).trans hg2)) $$ H8
  iintro H8
  dsimp only
  iapply (w_assume Variants.none (c : Thread nD τ) none (P := k0_chk7 e2) (word_bound he2))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L2 e2.toNat) (hst2.read rfl rfl)) $$ H10
  iintro H10
  dsimp only
  generalize hL3 : ins L2 e2.toNat = L3
  have hst3 := hst2.step he2 (off := ![BitVec.toNat (Scalar.addi (Scalar.addi arg29 (Scalar.subi 1#32 (sn L0 e0.toNat))) (Scalar.subi 1#32 (sn L1 e1.toNat)))]) (off' := ![e2.toNat]) (size := S1.size) rfl (hst2.ord_bound rfl) (word_bound he2) rfl rfl
  rw [hL3] at hst3
  iapply (w_assume Variants.none (c : Thread nD τ) none (hst3.ord_bound rfl))
  iapply (w_smem' Variants.none (c : Thread nD τ) none (m := arg10) _ rfl) $$ H10
  iintro H10
  iapply (w_store Variants.none (c : Thread nD τ) none (m := arg10)) $$ H10
  iintro H10
  -- choice 3
  iapply (w_smem' Variants.none (c : Thread nD τ) none (m := arg8) e3 ((ids_word ids 3 ⟨t.val, ht⟩ rfl ho3).trans hg3)) $$ H8
  iintro H8
  dsimp only
  iapply (w_assume Variants.none (c : Thread nD τ) none (P := k0_chk9 e3) (word_bound he3))
  iapply (w_smem' Variants.none (c : Thread nD τ) none (m := arg9) _ rfl) $$ H9
  iintro H9
  iapply (w_store Variants.none (c : Thread nD τ) none (m := arg9)) $$ H9
  iintro H9
  rw [wp_pure]
  imodintro
  dsimp only
  rw [wp_bind, k0_part2_eq_skeleton]
  dsimp only [k0_part2_skel]
  iapply (w_smem' Variants.none (c : Thread nD τ) none (m := arg10) (sn L3 e3.toNat) (hst3.read rfl rfl)) $$ H10
  iintro H10
  dsimp only
  generalize hL4 : ins L3 e3.toNat = L4
  have hst4 := hst3.step he3 (off := ![BitVec.toNat (Scalar.addi (Scalar.addi (Scalar.addi arg29 (Scalar.subi 1#32 (sn L0 e0.toNat))) (Scalar.subi 1#32 (sn L1 e1.toNat))) (Scalar.subi 1#32 (sn L2 e2.toNat)))]) (off' := ![e3.toNat]) (size := S1.size) rfl (hst3.ord_bound rfl) (word_bound he3) rfl rfl
  rw [hL4] at hst4
  iapply (w_assume Variants.none (c : Thread nD τ) none (hst4.ord_bound rfl))
  iapply (w_smem' Variants.none (c : Thread nD τ) none (m := arg10) _ rfl) $$ H10
  iintro H10
  iapply (w_store Variants.none (c : Thread nD τ) none (m := arg10)) $$ H10
  iintro H10
  -- choice 4
  iapply (w_smem' Variants.none (c : Thread nD τ) none (m := arg8) e4 ((ids_word ids 4 ⟨t.val, ht⟩ rfl ho4).trans hg4)) $$ H8
  iintro H8
  dsimp only
  iapply (w_assume Variants.none (c : Thread nD τ) none (P := k0_chk11 e4) (word_bound he4))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L4 e4.toNat) (hst4.read rfl rfl)) $$ H10
  iintro H10
  dsimp only
  generalize hL5 : ins L4 e4.toNat = L5
  have hst5 := hst4.step he4 (off := ![BitVec.toNat (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat)))]) (off' := ![e4.toNat]) (size := S1.size) rfl (hst4.ord_bound rfl) (word_bound he4) rfl rfl
  rw [hL5] at hst5
  iapply (w_assume Variants.none (c : Thread nD τ) none (hst5.ord_bound rfl))
  iapply (w_smem' Variants.none (c : Thread nD τ) none (m := arg10) _ rfl) $$ H10
  iintro H10
  iapply (w_store Variants.none (c : Thread nD τ) none (m := arg10)) $$ H10
  iintro H10
  -- choice 5
  iapply (w_smem' Variants.none (c : Thread nD τ) none (m := arg8) e5 ((ids_word ids 5 ⟨t.val, ht⟩ rfl ho5).trans hg5)) $$ H8
  iintro H8
  dsimp only
  iapply (w_assume Variants.none (c : Thread nD τ) none (P := k0_chk13 e5) (word_bound he5))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L5 e5.toNat) (hst5.read rfl rfl)) $$ H10
  iintro H10
  dsimp only
  generalize hL6 : ins L5 e5.toNat = L6
  have hst6 := hst5.step he5 (off := ![BitVec.toNat (Scalar.addi (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat))) (Scalar.subi 1#32 (sn L4 e4.toNat)))]) (off' := ![e5.toNat]) (size := S1.size) rfl (hst5.ord_bound rfl) (word_bound he5) rfl rfl
  rw [hL6] at hst6
  iapply (w_assume Variants.none (c : Thread nD τ) none (hst6.ord_bound rfl))
  iapply (w_smem' Variants.none (c : Thread nD τ) none (m := arg10) _ rfl) $$ H10
  iintro H10
  iapply (w_store Variants.none (c : Thread nD τ) none (m := arg10)) $$ H10
  iintro H10
  -- choice 6
  iapply (w_smem' Variants.none (c : Thread nD τ) none (m := arg8) e6 ((ids_word ids 6 ⟨t.val, ht⟩ rfl ho6).trans hg6)) $$ H8
  iintro H8
  dsimp only
  iapply (w_assume Variants.none (c : Thread nD τ) none (P := k0_chk15 e6) (word_bound he6))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L6 e6.toNat) (hst6.read rfl rfl)) $$ H10
  iintro H10
  dsimp only
  generalize hL7 : ins L6 e6.toNat = L7
  have hst7 := hst6.step he6 (off := ![BitVec.toNat (Scalar.addi (Scalar.addi (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat))) (Scalar.subi 1#32 (sn L4 e4.toNat))) (Scalar.subi 1#32 (sn L5 e5.toNat)))]) (off' := ![e6.toNat]) (size := S1.size) rfl (hst6.ord_bound rfl) (word_bound he6) rfl rfl
  rw [hL7] at hst7
  iapply (w_assume Variants.none (c : Thread nD τ) none (hst7.ord_bound rfl))
  iapply (w_smem' Variants.none (c : Thread nD τ) none (m := arg10) _ rfl) $$ H10
  iintro H10
  rw [wp_pure]
  imodintro
  dsimp only
  iapply (w_store Variants.none (c : Thread nD τ) none (m := arg10)) $$ H10
  iintro H10
  -- choice 7
  iapply (w_smem' Variants.none (c : Thread nD τ) none (m := arg8) e7 ((ids_word ids 7 ⟨t.val, ht⟩ rfl ho7).trans hg7)) $$ H8
  iintro H8
  dsimp only
  iapply (w_assume Variants.none (c : Thread nD τ) none (P := k0_chk17 e7) (word_bound he7))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L7 e7.toNat) (hst7.read rfl rfl)) $$ H10
  iintro H10
  dsimp only
  have hst8 := hst7.step he7 (off := ![BitVec.toNat (Scalar.addi (Scalar.addi (Scalar.addi (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat))) (Scalar.subi 1#32 (sn L4 e4.toNat))) (Scalar.subi 1#32 (sn L5 e5.toNat))) (Scalar.subi 1#32 (sn L6 e6.toNat)))]) (off' := ![e7.toNat]) (size := S1.size) rfl (hst7.ord_bound rfl) (word_bound he7) rfl rfl
  iapply (w_smem' Variants.none (c : Thread nD τ) none (m := arg10) _ rfl) $$ H10
  iintro H10
  iapply (w_store Variants.none (c : Thread nD τ) none (m := arg10)) $$ H10
  iintro H10
  rw [wp_pure]
  imodintro
  iexists _, _
  isplitr
  · ipureintro
    exact hst8
  isplitl [H8]; · iexact H8
  isplitl [H9]; · iexact H9
  iexact H10

/-- The clearing loop's holdings before trip `t`. -/
def clearI (c : Dev nD) (arg10 : Memref sig .tc .smem S31 .i32) (t : ℕ) (_ : Unit) : sProp 𝕄 :=
  iprop(∃ seen : S31.Idx → Elt F .i32, ⌜∀ i : S31.Idx, (i 0).val < t → seen i = 0#32⌝ ∗ owns (c : Thread nD τ) arg10 fullShare seen)

theorem t1_trip (c : Dev nD) (v10 : Elt F .i32) (k0_hw1 : k0_chk1 v10) (t : Fin k0_t1_loop.trips) (u : Unit) :
    (clearI (F := F) c arg10 t.val u : sProp 𝕄)
      ⊢ wp frame (wpE (defs₀ (F := F)) Variants.none (c : Thread nD τ) none (Ix := Unit) (Name := ℕ) (U := Pipeline.UD sig nD τ) (Lvl := ℕ)) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v10 k0_hw1 t u) (clearI c arg10 (t.val + 1)) := by
  have ht : t.val < 31 := t.isLt
  have hiv : k0_off4 t 0 = t.val := iv_one t.val (by omega)
  unfold clearI
  iintro ⟨%seen, %hs, H10⟩
  dsimp only [k0_t1_body]
  iapply (w_smem Variants.none (c : Thread nD τ) none (m := arg10)) $$ H10
  iintro H10
  iapply (w_store Variants.none (c : Thread nD τ) none (m := arg10)) $$ H10
  iintro H10
  rw [wp_pure]
  imodintro
  iexists _
  isplitr
  rotate_left
  · iexact H10
  · ipureintro
    intro i hi
    refine (put_word (V := BitVec 32) rfl (k0_off4_inb t) 0#32 seen i).trans ?_
    by_cases h : (i 0).val = k0_off4 t 0
    · rw [if_pos h]
    · rw [if_neg h]; exact hs i (by omega)

end Cert.Kernel.Hand
-- ==== Proof.Words.lean ====
/-
  The bounds and packing conditions the kernel asserts of the words it computes: the slot of a trip is the trip modulo
  two, an expert read from the order table is below 31, and the remainder loop has no trips.
-/
module

public import proofs.«01_k».proof.Proof.Gen.Kernel.Launch
public import Idealize.ShloMosaic.Lib.Pipeline.FrameBody
public import Idealize.ShloMosaic.Lib.Tactic
public import Idealize.ShloMosaic.Lib.WordCmp
public import Idealize.ShloMosaic.Lib.Affine
public import proofs.«01_k».proof.Proof.CollectPure

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Idealize.ShloMosaic.Affine

variable {v31 : BitVec 32}

theorem t3_word {v31 : BitVec 32} (hn : v31.toNat ≤ 31) :
    Scalar.addi 0#32 (Scalar.muli (Scalar.divsi (Scalar.subi v31 0#32) 1#32) 1#32) = v31 := by
  have h : ∀ n : Fin 32, Scalar.addi 0#32 (Scalar.muli (Scalar.divsi (Scalar.subi (BitVec.ofNat 32 n.val) 0#32) 1#32) 1#32)
      = BitVec.ofNat 32 n.val := by decide
  have e := h ⟨v31.toNat, by omega⟩
  rwa [BitVec.ofNat_toNat, BitVec.setWidth_eq] at e

theorem trips_word : ∀ n : Fin 32, Scf.trips 0#32 (BitVec.ofNat 32 n.val) 1#32 = n.val := by decide

/-- The main loop runs once per expert collected. -/
theorem t3_trips {v31 : BitVec 32} (hn : v31.toNat ≤ 31) : (k0_t3_loop v31).trips = v31.toNat := by
  show Scf.trips 0#32 (Scalar.addi 0#32 (Scalar.muli (Scalar.divsi (Scalar.subi v31 0#32) 1#32) 1#32)) 1#32 = _
  rw [t3_word hn]
  have e := trips_word ⟨v31.toNat, by omega⟩
  rwa [BitVec.ofNat_toNat, BitVec.setWidth_eq] at e

theorem t3_ok {v31 : BitVec 32} (hn : v31.toNat ≤ 31) : (k0_t3_loop v31).OK := by
  show Scf.OK 0#32 (Scalar.addi 0#32 (Scalar.muli (Scalar.divsi (Scalar.subi v31 0#32) 1#32) 1#32)) 1#32
  rw [t3_word hn]
  have h : ∀ n : Fin 32, Scf.OK 0#32 (BitVec.ofNat 32 n.val) 1#32 := by decide
  have e := h ⟨v31.toNat, by omega⟩
  rwa [BitVec.ofNat_toNat, BitVec.setWidth_eq] at e

theorem t4_shape {v31 : BitVec 32} (hn : v31.toNat ≤ 31) : k0_t4_loop v31 = ⟨v31, v31, 1#32⟩ := by
  show (⟨Scalar.addi 0#32 (Scalar.muli (Scalar.divsi (Scalar.subi v31 0#32) 1#32) 1#32), Scalar.addi 0#32 (Scalar.subi v31 0#32), 1#32⟩ : Scf.Loop 32) = _
  rw [t3_word hn]
  have h : Scalar.addi 0#32 (Scalar.subi v31 0#32) = v31 := by
    show 0#32 + (v31 - 0#32) = v31
    simp
  rw [h]

/-- The remainder loop has no trips. -/
theorem t4_trips {v31 : BitVec 32} (hn : v31.toNat ≤ 31) : (k0_t4_loop v31).trips = 0 := by
  rw [t4_shape hn]
  have h : ∀ n : Fin 32, Scf.trips (BitVec.ofNat 32 n.val) (BitVec.ofNat 32 n.val) 1#32 = 0 := by decide
  have e := h ⟨v31.toNat, by omega⟩
  rwa [BitVec.ofNat_toNat, BitVec.setWidth_eq] at e

theorem t4_ok {v31 : BitVec 32} (hn : v31.toNat ≤ 31) : (k0_t4_loop v31).OK := by
  rw [t4_shape hn]
  have h : ∀ n : Fin 32, Scf.OK (BitVec.ofNat 32 n.val) (BitVec.ofNat 32 n.val) 1#32 := by decide
  have e := h ⟨v31.toNat, by omega⟩
  rwa [BitVec.ofNat_toNat, BitVec.setWidth_eq] at e

theorem t4_none {v31 : BitVec 32} (hn : v31.toNat ≤ 31) (t : Fin (k0_t4_loop v31).trips) : False := by
  exact absurd (t.isLt.trans_eq (t4_trips hn)) (Nat.not_lt_zero _)

theorem t3_lt {v31 : BitVec 32} (hn : v31.toNat ≤ 31) (t : Fin (k0_t3_loop v31).trips) : t.val < v31.toNat :=
  t.isLt.trans_eq (t3_trips hn)

/-- The slot of trip `i`. -/
theorem slot_word : ∀ i : Fin 32, (Scalar.remsi (Scf.iv 0#32 1#32 i.val) 2#32).toNat = i.val % 2 := by decide

theorem slot_eq {v31 : BitVec 32} (hn : v31.toNat ≤ 31) (t : Fin (k0_t3_loop v31).trips) :
    (Scalar.remsi (Scf.iv 0#32 1#32 t.val) 2#32).toNat = t.val % 2 :=
  slot_word ⟨t.val, by have := t3_lt hn t; omega⟩

theorem slot_lt {v31 : BitVec 32} (hn : v31.toNat ≤ 31) (t : Fin (k0_t3_loop v31).trips) :
    (Scalar.remsi (Scf.iv 0#32 1#32 t.val) 2#32).toNat < 2 := by
  rw [slot_eq hn t]; omega

theorem iv_word : ∀ i : Fin 32, (Scf.iv 0#32 1#32 i.val).toNat = i.val := by decide

theorem ord0_eq {v31 : BitVec 32} (hn : v31.toNat ≤ 31) (t : Fin (k0_t3_loop v31).trips) : k0_off32 v31 t 0 = t.val :=
  iv_word ⟨t.val, by have := t3_lt hn t; omega⟩

theorem ord0_lt {v31 : BitVec 32} (hn : v31.toNat ≤ 31) (t : Fin (k0_t3_loop v31).trips) : k0_off32 v31 t 0 < 32 := by
  rw [ord0_eq hn t]; have := t3_lt hn t; omega

theorem next_word : ∀ (n i : Fin 32), i.val < n.val →
    (Scalar.minsi (Scalar.addi (Scf.iv 0#32 1#32 i.val) 2#32) (Scalar.subi (BitVec.ofNat 32 n.val) 1#32)).toNat = min (i.val + 2) (n.val - 1) := by decide

theorem ord2_eq {v31 : BitVec 32} (hn : v31.toNat ≤ 31) (t : Fin (k0_t3_loop v31).trips) :
    k0_off33 v31 t 0 = min (t.val + 2) (v31.toNat - 1) := by
  have ht := t3_lt hn t
  have e := next_word ⟨v31.toNat, by omega⟩ ⟨t.val, by omega⟩ ht
  rwa [BitVec.ofNat_toNat, BitVec.setWidth_eq] at e

theorem ord2_lt {v31 : BitVec 32} (hn : v31.toNat ≤ 31) (t : Fin (k0_t3_loop v31).trips) : k0_off33 v31 t 0 < 32 := by
  rw [ord2_eq hn t]; omega

theorem more_word : ∀ (n i : Fin 32), (Scalar.cmpi .ne (Scalar.extui (Scalar.cmpi .slt (Scalar.addi (Scf.iv 0#32 1#32 i.val) 2#32) (BitVec.ofNat 32 n.val)) : BitVec 32) 0#32 = 1#1)
    = (i.val + 2 < n.val) := by decide

/-- A trip starts the next copies exactly when an expert two places on is left. -/
theorem more_iff {v31 : BitVec 32} (hn : v31.toNat ≤ 31) (t : Fin (k0_t3_loop v31).trips) :
    (Scalar.cmpi .ne (Scalar.extui (Scalar.cmpi .slt (Scalar.addi (Scf.iv 0#32 1#32 t.val) 2#32) v31) : BitVec 32) 0#32 = 1#1) = (t.val + 2 < v31.toNat) := by
  have ht := t3_lt hn t
  have e := more_word ⟨v31.toNat, by omega⟩ ⟨t.val, by omega⟩
  rwa [BitVec.ofNat_toNat, BitVec.setWidth_eq] at e

theorem cond1_word : ∀ n : Fin 32, (k0_cond1 (BitVec.ofNat 32 n.val) = 1#1) = (1 < n.val) := by decide
theorem cond1_iff {v31 : BitVec 32} (hn : v31.toNat ≤ 31) : (k0_cond1 v31 = 1#1) = (1 < v31.toNat) := by
  have e := cond1_word ⟨v31.toNat, by omega⟩
  rwa [BitVec.ofNat_toNat, BitVec.setWidth_eq] at e

theorem ord_inb (off : Fin 1 → ℕ) (h : off 0 < 32) : ∀ a, off a + S1.size a ≤ S32.size a :=
  fun | ⟨0, _⟩ => h
theorem gu_inb (off : Fin 4 → ℕ) (h0 : off 0 < 2) (h1 : off 1 < 2) (h2 : off 2 = 0) (h3 : off 3 = 0) :
    ∀ a, off a + S1x1x2048x3072.size a ≤ S2x2x2048x3072.size a :=
  fun | ⟨0, _⟩ => h0 | ⟨1, _⟩ => h1 | ⟨2, _⟩ => (congrArg (· + 2048) h2).le | ⟨3, _⟩ => (congrArg (· + 3072) h3).le
theorem dn_inb (off : Fin 4 → ℕ) (h0 : off 0 < 2) (h1 : off 1 = 0) (h2 : off 2 = 0) (h3 : off 3 = 0) :
    ∀ a, off a + S1x1x1536x4096.size a ≤ S2x1x1536x4096.size a :=
  fun | ⟨0, _⟩ => h0 | ⟨1, _⟩ => (congrArg (· + 1) h1).le | ⟨2, _⟩ => (congrArg (· + 1536) h2).le | ⟨3, _⟩ => (congrArg (· + 4096) h3).le
theorem gs_inb (off : Fin 2 → ℕ) (h0 : off 0 < 2) (h1 : off 1 < 2) : ∀ a, off a + S1x1.size a ≤ S2x2.size a :=
  fun | ⟨0, _⟩ => h0 | ⟨1, _⟩ => h1
theorem ds_inb (off : Fin 2 → ℕ) (h0 : off 0 < 2) (h1 : off 1 = 0) : ∀ a, off a + S1x1.size a ≤ S2x1.size a :=
  fun | ⟨0, _⟩ => h0 | ⟨1, _⟩ => (congrArg (· + 1) h1).le
theorem wgu_inb (off : Fin 3 → ℕ) (h0 : off 0 < 31) (h1 : off 1 = 0 ∨ off 1 = 2048) (h2 : off 2 = 0) :
    ∀ a, off a + S1x2048x3072.size a ≤ S31x4096x3072.size a :=
  fun | ⟨0, _⟩ => h0
      | ⟨1, _⟩ => by rcases h1 with h | h; exacts [(congrArg (· + 2048) h).le.trans (show 0 + 2048 ≤ 4096 by omega), (congrArg (· + 2048) h).le]
      | ⟨2, _⟩ => (congrArg (· + 3072) h2).le
theorem wdn_inb (off : Fin 3 → ℕ) (h0 : off 0 < 31) (h1 : off 1 = 0) (h2 : off 2 = 0) :
    ∀ a, off a + S1x1536x4096.size a ≤ S31x1536x4096.size a :=
  fun | ⟨0, _⟩ => h0 | ⟨1, _⟩ => (congrArg (· + 1536) h1).le | ⟨2, _⟩ => (congrArg (· + 4096) h2).le
theorem sgu_inb (off : Fin 2 → ℕ) (h0 : off 0 < 31) (h1 : off 1 = 0) : ∀ a, off a + S1x3072.size a ≤ S31x3072.size a :=
  fun | ⟨0, _⟩ => h0 | ⟨1, _⟩ => (congrArg (· + 3072) h1).le
theorem sdn_inb (off : Fin 2 → ℕ) (h0 : off 0 < 31) (h1 : off 1 = 0) : ∀ a, off a + S1x4096.size a ≤ S31x4096.size a :=
  fun | ⟨0, _⟩ => h0 | ⟨1, _⟩ => (congrArg (· + 4096) h1).le

theorem chk19_0 {v31 : BitVec 32} (hn : v31.toNat ≤ 31) : k0_chk19_0 v31 :=
  ⟨t3_ok hn,
   fun t => ord_inb _ (ord0_lt hn t),
   fun t => ord_inb _ (ord2_lt hn t),
   fun t => gs_inb _ (slot_lt hn t) (by first | exact Nat.zero_lt_two | exact Nat.one_lt_two),
   fun t => gu_inb _ (slot_lt hn t) (by first | exact Nat.zero_lt_two | exact Nat.one_lt_two) rfl rfl,
   fun t _ => .inl (packed_dvd (by decide) (by first | exact dvd_zero 4 | exact (by decide : 4 ∣ 2048)) (by decide)),
   fun t => gu_inb _ (slot_lt hn t) (by first | exact Nat.zero_lt_two | exact Nat.one_lt_two) rfl rfl,
   fun t _ => gs_inb _ (slot_lt hn t) (by first | exact Nat.zero_lt_two | exact Nat.one_lt_two),
   fun t _ => gu_inb _ (slot_lt hn t) (by first | exact Nat.zero_lt_two | exact Nat.one_lt_two) rfl rfl,
   fun t _ _ => .inl (packed_dvd (by decide) (by first | exact dvd_zero 4 | exact (by decide : 4 ∣ 2048)) (by decide)),
   fun t => gs_inb _ (slot_lt hn t) (by first | exact Nat.zero_lt_two | exact Nat.one_lt_two),
   fun t => gu_inb _ (slot_lt hn t) (by first | exact Nat.zero_lt_two | exact Nat.one_lt_two) rfl rfl,
   fun t _ => .inl (packed_dvd (by decide) (by first | exact dvd_zero 4 | exact (by decide : 4 ∣ 2048)) (by decide)),
   fun t => gu_inb _ (slot_lt hn t) (by first | exact Nat.zero_lt_two | exact Nat.one_lt_two) rfl rfl,
   fun t _ => gs_inb _ (slot_lt hn t) (by first | exact Nat.zero_lt_two | exact Nat.one_lt_two),
   fun t _ => gu_inb _ (slot_lt hn t) (by first | exact Nat.zero_lt_two | exact Nat.one_lt_two) rfl rfl,
   fun t _ _ => .inl (packed_dvd (by decide) (by first | exact dvd_zero 4 | exact (by decide : 4 ∣ 2048)) (by decide)),
   fun t => ds_inb _ (slot_lt hn t) rfl,
   fun t => dn_inb _ (slot_lt hn t) rfl rfl rfl,
   fun t _ => .inl (packed_dvd (by decide) (by first | exact dvd_zero 4 | exact (by decide : 4 ∣ 2048)) (by decide)),
   fun t => dn_inb _ (slot_lt hn t) rfl rfl rfl,
   fun t _ => ds_inb _ (slot_lt hn t) rfl,
   fun t _ => dn_inb _ (slot_lt hn t) rfl rfl rfl,
   fun t _ _ => .inl (packed_dvd (by decide) (by first | exact dvd_zero 4 | exact (by decide : 4 ∣ 2048)) (by decide)),
   t4_ok hn,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim⟩

theorem chk19_1 {v31 : BitVec 32} (hn : v31.toNat ≤ 31) : k0_chk19_1 v31 :=
  ⟨fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim⟩

/-- Every access of the two loops of a count at most 31 is in bounds. -/
theorem chk19 {v31 : BitVec 32} (hn : v31.toNat ≤ 31) : k0_chk19 v31 := ⟨chk19_0 hn, chk19_1 hn⟩

theorem chk1 {e : BitVec 32} (he : e.toNat < 31) : k0_chk1 e :=
  ⟨wgu_inb _ he (by first | exact Or.inl rfl | exact Or.inr rfl) rfl,
   fun _ => .inl (packed_dvd (by decide) (by first | exact dvd_zero 4 | exact (by decide : 4 ∣ 2048)) (by decide)),
   wgu_inb _ he (by first | exact Or.inl rfl | exact Or.inr rfl) rfl,
   fun _ => .inl (packed_dvd (by decide) (by first | exact dvd_zero 4 | exact (by decide : 4 ∣ 2048)) (by decide)),
   wdn_inb _ he rfl rfl,
   fun _ => .inl (packed_dvd (by decide) (by first | exact dvd_zero 4 | exact (by decide : 4 ∣ 2048)) (by decide))⟩

theorem chk18 {v31 e : BitVec 32} (he : e.toNat < 31) : k0_chk18 v31 e :=
  ⟨fun _ => wgu_inb _ he (by first | exact Or.inl rfl | exact Or.inr rfl) rfl,
   fun _ _ => .inl (packed_dvd (by decide) (by first | exact dvd_zero 4 | exact (by decide : 4 ∣ 2048)) (by decide)),
   fun _ => wgu_inb _ he (by first | exact Or.inl rfl | exact Or.inr rfl) rfl,
   fun _ _ => .inl (packed_dvd (by decide) (by first | exact dvd_zero 4 | exact (by decide : 4 ∣ 2048)) (by decide)),
   fun _ => wdn_inb _ he rfl rfl,
   fun _ _ => .inl (packed_dvd (by decide) (by first | exact dvd_zero 4 | exact (by decide : 4 ∣ 2048)) (by decide))⟩

theorem chk20 {e : BitVec 32} (he : e.toNat < 31) : k0_chk20 e :=
  ⟨wgu_inb _ he (by first | exact Or.inl rfl | exact Or.inr rfl) rfl,
   fun _ => .inl (packed_dvd (by decide) (by first | exact dvd_zero 4 | exact (by decide : 4 ∣ 2048)) (by decide)),
   wgu_inb _ he (by first | exact Or.inl rfl | exact Or.inr rfl) rfl,
   fun _ => .inl (packed_dvd (by decide) (by first | exact dvd_zero 4 | exact (by decide : 4 ∣ 2048)) (by decide)),
   sgu_inb _ he rfl,
   sdn_inb _ he rfl,
   wdn_inb _ he rfl rfl,
   fun _ => .inl (packed_dvd (by decide) (by first | exact dvd_zero 4 | exact (by decide : 4 ∣ 2048)) (by decide))⟩

theorem chk21 {v31 : BitVec 32} {t : Fin (k0_t3_loop v31).trips} {e : BitVec 32} (he : e.toNat < 31) : k0_chk21 v31 t e :=
  ⟨fun _ => wgu_inb _ he (by first | exact Or.inl rfl | exact Or.inr rfl) rfl,
   fun _ _ => .inl (packed_dvd (by decide) (by first | exact dvd_zero 4 | exact (by decide : 4 ∣ 2048)) (by decide)),
   fun _ => wgu_inb _ he (by first | exact Or.inl rfl | exact Or.inr rfl) rfl,
   fun _ _ => .inl (packed_dvd (by decide) (by first | exact dvd_zero 4 | exact (by decide : 4 ∣ 2048)) (by decide)),
   fun _ => wdn_inb _ he rfl rfl,
   fun _ _ => .inl (packed_dvd (by decide) (by first | exact dvd_zero 4 | exact (by decide : 4 ∣ 2048)) (by decide))⟩

end Cert.Kernel.Hand
-- ==== Proof.Ring.lean ====
/-
  The two-slot ring of weight copies. Each slot holds two halves of an expert's gate-and-up matrix and its down matrix;
  every such place is free, in flight or delivered. The rules below start, await and read one place, whatever words the
  program uses to compute its offsets.
-/
module

public import proofs.«01_k».proof.Proof.Gen.Kernel.Launch
public import Idealize.ShloMosaic.Lib.Pipeline.FrameBody
public import Idealize.ShloMosaic.Lib.Tactic
public import Idealize.ShloMosaic.Lib.WordCmp
public import proofs.«01_k».proof.Proof.Rules
public import proofs.«01_k».proof.Proof.Words

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

variable (c : Dev nD)

/-- The slot of position `j` of the expert order. -/
def slot (j : ℕ) : Fin 2 := ⟨j % 2, Nat.mod_lt _ Nat.zero_lt_two⟩
theorem slot_add_two (j : ℕ) : slot (j + 2) = slot j := Fin.ext (Nat.add_mod_right j 2)

/-- Rows `2048 ch …` of expert `e`'s gate-and-up matrix. -/
def guC (W : S31x4096x3072.Idx → Elt F .fp8e4m3) (e : Fin 31) (ch : Fin 2) : S2048x3072.Idx → Elt F .fp8e4m3 := fun i =>
  W (ValueIdx.ix3 e (⟨2048 * ch.val + (i 0).val, by have h : (i 0).val < 2048 := (i 0).isLt; have := ch.isLt; omega⟩ : Fin 4096) (i 1))
/-- Expert `e`'s down matrix. -/
def dnC (W : S31x1536x4096.Idx → Elt F .fp8e4m3) (e : Fin 31) (_ : Fin 1) : S1536x4096.Idx → Elt F .fp8e4m3 := fun i =>
  W (ValueIdx.ix3 e (i 0) (i 1))

theorem gu_src (W : S31x4096x3072.Idx → Elt F .fp8e4m3) (e : Fin 31) (ch : Fin 2) (off : Fin 3 → ℕ)
    (h : ∀ a, off a + S1x2048x3072.size a ≤ S31x4096x3072.size a) (ho : off = ![e.val, 2048 * ch.val, 0]) (i : S2048x3072.Idx) :
    W ((Rect.unit (s := S31x4096x3072) off S1x2048x3072.size h).emb (Shape.reshapeEquiv squeezes_S1x2048x3072_S2048x3072.numel_eq i)) = guC W e ch i := by
  subst ho
  unfold guC
  have hr := Shape.reshapeEquiv_cons_one (n := 2) (d := ![2048, 3072]) squeezes_S1x2048x3072_S2048x3072.numel_eq i
  refine congrArg W ?_
  funext a
  refine Fin.ext ((congrArg (fun z => ((Rect.unit (s := S31x4096x3072) ![e.val, 2048 * ch.val, 0] S1x2048x3072.size h).emb z a).val) hr).trans ?_)
  match a with
  | ⟨0, _⟩ => exact Nat.add_zero _
  | ⟨1, _⟩ => exact congrArg (2048 * ch.val + ·) (Nat.one_mul _)
  | ⟨2, _⟩ => exact (Nat.zero_add _).trans (Nat.one_mul _)

theorem dn_src (W : S31x1536x4096.Idx → Elt F .fp8e4m3) (e : Fin 31) (ch : Fin 1) (off : Fin 3 → ℕ)
    (h : ∀ a, off a + S1x1536x4096.size a ≤ S31x1536x4096.size a) (ho : off = ![e.val, 0, 0]) (i : S1536x4096.Idx) :
    W ((Rect.unit (s := S31x1536x4096) off S1x1536x4096.size h).emb (Shape.reshapeEquiv squeezes_S1x1536x4096_S1536x4096.numel_eq i)) = dnC W e ch i := by
  subst ho
  unfold dnC
  have hr := Shape.reshapeEquiv_cons_one (n := 2) (d := ![1536, 4096]) squeezes_S1x1536x4096_S1536x4096.numel_eq i
  refine congrArg W ?_
  funext a
  refine Fin.ext ((congrArg (fun z => ((Rect.unit (s := S31x1536x4096) ![e.val, 0, 0] S1x1536x4096.size h).emb z a).val) hr).trans ?_)
  match a with
  | ⟨0, _⟩ => exact Nat.add_zero _
  | ⟨1, _⟩ => exact (Nat.zero_add _).trans (Nat.one_mul _)
  | ⟨2, _⟩ => exact (Nat.zero_add _).trans (Nat.one_mul _)

section
variable (arg3 : Memref sig .tc .hbm S31x4096x3072 .fp8e4m3) (arg22 : Memref sig .tc .vmem S2x2x2048x3072 .fp8e4m3) (arg26 : DmaSems sig S2x2)

/-- The place for half `ch` of the gate-and-up matrix of slot `s`, -/
abbrev guM (s : Fin 2) (ch : Fin 2) : Memref sig .tc .vmem S2048x3072 .fp8e4m3 :=
  (arg22.slice (Rect.unit (s := S2x2x2048x3072) ![s.val, ch.val, 0, 0] S1x1x2048x3072.size (gu_inb _ s.isLt ch.isLt rfl rfl)) (fun _ => rfl)).squeeze S2048x3072 squeezes_S1x1x2048x3072_S2048x3072
/-- and its semaphore. -/
abbrev guS (s : Fin 2) (ch : Fin 2) : DmaSem sig :=
  ((arg26.slice (Rect.unit (s := S2x2) ![s.val, ch.val] S1x1.size (gs_inb _ s.isLt ch.isLt))).squeeze S_ squeezes_S1x1_S_).sem

/-- The place delivered (or free), holding `v`, with its share of the weights, -/
def guGot (q : PosShare TreeShare) (X : S31x4096x3072.Idx → Elt F .fp8e4m3) (s : Fin 2) (ch : Fin 2) (v : S2048x3072.Idx → Elt F .fp8e4m3) : sProp 𝕄 :=
  iprop(owns (c : Thread nD τ) (guM arg22 s ch) fullShare v ∗ owns (c : Thread nD τ) arg3 q X ∗ semVal ((c : Thread nD τ), (SemLoc.dma (guS arg26 s ch) : SemLoc sig)) 0)
/-- free, -/
def guFree (q : PosShare TreeShare) (X : S31x4096x3072.Idx → Elt F .fp8e4m3) (s : Fin 2) (ch : Fin 2) : sProp 𝕄 :=
  iprop(∃ v, guGot c arg3 arg22 arg26 q X s ch v)
/-- and in flight from expert `e`'s matrix. -/
def guIn (q : PosShare TreeShare) (X : S31x4096x3072.Idx → Elt F .fp8e4m3) (s : Fin 2) (ch : Fin 2) (e : Fin 31) : sProp 𝕄 :=
  InFl (U := Pipeline.UD sig nD τ) (Name := ℕ) (Lvl := ℕ) (Ix := Unit) (c : Thread nD τ) (SemLoc.dma (guS arg26 s ch)) () (guM arg22 s ch).view.dmaCredit (guM arg22 s ch) (guC X e ch) arg3 q X
/-- The place at position `j` of an order of `N` experts: in flight while `j` is a position, else free. -/
def guAt (N : ℕ) (o : ℕ → Fin 31) (q : Fin 2 → Fin 2 → PosShare TreeShare) (X : S31x4096x3072.Idx → Elt F .fp8e4m3) (j : ℕ) (ch : Fin 2) : sProp 𝕄 :=
  if j < N then guIn c arg3 arg22 arg26 (q (slot j) ch) X (slot j) ch (o j) else guFree c arg3 arg22 arg26 (q (slot j) ch) X (slot j) ch

variable {arg3 arg22 arg26} {q : PosShare TreeShare} {X : S31x4096x3072.Idx → Elt F .fp8e4m3} {s : Fin 2} {ch : Fin 2}
variable {α : Type} {Φ : α → sProp (MT nD τ sig Unit (Elt F) ℕ (Pipeline.UD sig nD τ) ℕ)}

/-- The start of the copy of half `ch` of the gate-and-up matrix. -/
theorem gu_start {off : Fin 4 → ℕ} {h : ∀ a, off a + S1x1x2048x3072.size a ≤ S2x2x2048x3072.size a} {so : Fin 2 → ℕ} {hs : ∀ a, so a + S1x1.size a ≤ S2x2.size a}
    {wo : Fin 3 → ℕ} {hw : ∀ a, wo a + S1x2048x3072.size a ≤ S31x4096x3072.size a} (e : Fin 31)
    {hsrc : View.WordExact (Memref.view ((arg3.slice (Rect.unit (s := S31x4096x3072) wo S1x2048x3072.size hw) (fun _ => rfl)).squeeze S2048x3072 squeezes_S1x2048x3072_S2048x3072))}
    {hdst : View.WordExact (Memref.view ((arg22.slice (Rect.unit (s := S2x2x2048x3072) off S1x1x2048x3072.size h) (fun _ => rfl)).squeeze S2048x3072 squeezes_S1x1x2048x3072_S2048x3072))}
    {hsem : DmaTarget.Typed (nD := nD) (τ := τ) Space.hbm (SemLoc.dma ((arg26.slice (Rect.unit (s := S2x2) so S1x1.size hs)).squeeze S_ squeezes_S1x1_S_).sem)
      (DmaTarget.here (nD := nD) (τ := τ) (p := .tc) ((arg22.slice (Rect.unit (s := S2x2x2048x3072) off S1x1x2048x3072.size h) (fun _ => rfl)).squeeze S2048x3072 squeezes_S1x1x2048x3072_S2048x3072))}
    {k : PUnit → Prog (TpuEff nD τ sig (Elt F) Λ₀ .tc) α}
    (ho : off = ![s.val, ch.val, 0, 0]) (hso : so = ![s.val, ch.val]) (hwo : wo = ![e.val, 2048 * ch.val, 0]) :
    (guFree c arg3 arg22 arg26 q X s ch : sProp 𝕄)
      ⊢ iprop((guIn c arg3 arg22 arg26 q X s ch e -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.enqueueDma ((arg3.slice (Rect.unit (s := S31x4096x3072) wo S1x2048x3072.size hw) (fun _ => rfl)).squeeze S2048x3072 squeezes_S1x2048x3072_S2048x3072)
          (.here ((arg22.slice (Rect.unit (s := S2x2x2048x3072) off S1x1x2048x3072.size h) (fun _ => rfl)).squeeze S2048x3072 squeezes_S1x1x2048x3072_S2048x3072))
          (.dma ((arg26.slice (Rect.unit (s := S2x2) so S1x1.size hs)).squeeze S_ squeezes_S1x1_S_).sem) hsrc hdst hsem) >>= k) Φ) := by
  subst ho hso
  unfold guFree guGot guIn
  iintro ⟨%v, Hd, Hw, Hs⟩ Hk
  iapply (w_dma_part Variants.none (c : Thread nD τ) none () (guM arg22 s ch).view.dmaCredit rfl (View.dmaCredit_pos _ (by decide)) (guC X e ch)
    (fun i => gu_src X e ch wo hw hwo i)) $$ [Hd Hw Hs]
  · isplitl [Hw]; · iexact Hw
    isplitl [Hd]; · iexact Hd
    iexact Hs
  iexact Hk

/-- The wait for it. -/
theorem gu_wait {sp₃ : Space} {s₃ : Shape} {e₃ : EltTy} {srcw : Memref sig .tc sp₃ s₃ e₃} {off : Fin 4 → ℕ} {h : ∀ a, off a + S1x1x2048x3072.size a ≤ S2x2x2048x3072.size a} {so : Fin 2 → ℕ} {hs : ∀ a, so a + S1x1.size a ≤ S2x2.size a}
    {e : Fin 31} {hsrc : srcw.view.WordExact}
    {hdst : View.WordExact (Memref.view ((arg22.slice (Rect.unit (s := S2x2x2048x3072) off S1x1x2048x3072.size h) (fun _ => rfl)).squeeze S2048x3072 squeezes_S1x1x2048x3072_S2048x3072))}
    {k : PUnit → Prog (TpuEff nD τ sig (Elt F) Λ₀ .tc) α}
    (ho : off = ![s.val, ch.val, 0, 0]) (hso : so = ![s.val, ch.val]) :
    (iprop(guIn c arg3 arg22 arg26 q X s ch e ∗ ∃ W, owes (c : Thread nD τ) 0 W) : sProp 𝕄)
      ⊢ iprop((iprop(guGot c arg3 arg22 arg26 q X s ch (guC X e ch) ∗ ∃ W, owes (c : Thread nD τ) 0 W) -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.waitDma2 ((arg26.slice (Rect.unit (s := S2x2) so S1x1.size hs)).squeeze S_ squeezes_S1x1_S_).sem srcw
          ((arg22.slice (Rect.unit (s := S2x2x2048x3072) off S1x1x2048x3072.size h) (fun _ => rfl)).squeeze S2048x3072 squeezes_S1x1x2048x3072_S2048x3072) hsrc hdst) >>= k) Φ) := by
  subst ho hso
  unfold guGot guIn
  iintro H Hk
  iapply (w_wait Variants.none (c : Thread nD τ) none () (N := (guM arg22 s ch).view.dmaCredit) rfl) $$ H
  iintro ⟨Hd, Hw, Hs, HO⟩
  iapply Hk
  isplitl [Hd Hw Hs]
  · isplitl [Hd]; · iexact Hd
    isplitl [Hw]; · iexact Hw
    iexact Hs
  iexact HO

/-- The read of the delivered place. -/
theorem gu_load {off : Fin 4 → ℕ} {h : ∀ a, off a + S1x1x2048x3072.size a ≤ S2x2x2048x3072.size a} {v : S2048x3072.Idx → Elt F .fp8e4m3}
    {hl : arg22.view.LoadsAt (Rect.unit (s := S2x2x2048x3072) off S1x1x2048x3072.size h).toLoadRect}
    {k : (S1x1x2048x3072.Idx → Elt F .fp8e4m3) → Prog (TpuEff nD τ sig (Elt F) Λ₀ .tc) α}
    (ho : off = ![s.val, ch.val, 0, 0]) :
    (guGot c arg3 arg22 arg26 q X s ch v : sProp 𝕄)
      ⊢ iprop((guGot c arg3 arg22 arg26 q X s ch v -∗ wp frame (wpE (defs₀ (F := F)) Variants.none (c : Thread nD τ) none (Ix := Unit) (Name := ℕ) (U := Pipeline.UD sig nD τ) (Lvl := ℕ)) Set.univ (k (fun x => v ((Shape.reshapeEquiv squeezes_S1x1x2048x3072_S2048x3072.numel_eq).symm x))) Φ)
        -∗ wp frame (wpE (defs₀ (F := F)) Variants.none (c : Thread nD τ) none (Ix := Unit) (Name := ℕ) (U := Pipeline.UD sig nD τ) (Lvl := ℕ)) Set.univ (Prog.lift (.load arg22 (Rect.unit (s := S2x2x2048x3072) off S1x1x2048x3072.size h).toLoadRect hl) >>= k) Φ) := by
  subst ho
  unfold guGot
  iintro ⟨Hd, Hw, Hs⟩ Hk
  iapply (w_load_part Variants.none (c : Thread nD τ) none (hr := fun _ => rfl) (hq := squeezes_S1x1x2048x3072_S2048x3072)) $$ Hd
  iintro Hd
  iapply Hk
  isplitl [Hd]; · iexact Hd
  isplitl [Hw]; · iexact Hw
  iexact Hs

end

section
variable (arg5 : Memref sig .tc .hbm S31x1536x4096 .fp8e4m3) (arg23 : Memref sig .tc .vmem S2x1x1536x4096 .fp8e4m3) (arg27 : DmaSems sig S2x1)

/-- The place for the down matrix of slot `s`, -/
abbrev dnM (s : Fin 2) (ch : Fin 1) : Memref sig .tc .vmem S1536x4096 .fp8e4m3 :=
  (arg23.slice (Rect.unit (s := S2x1x1536x4096) ![s.val, ch.val, 0, 0] S1x1x1536x4096.size (dn_inb _ s.isLt (Fin.val_eq_zero ch) rfl rfl)) (fun _ => rfl)).squeeze S1536x4096 squeezes_S1x1x1536x4096_S1536x4096
/-- and its semaphore. -/
abbrev dnS (s : Fin 2) (ch : Fin 1) : DmaSem sig :=
  ((arg27.slice (Rect.unit (s := S2x1) ![s.val, ch.val] S1x1.size (ds_inb _ s.isLt (Fin.val_eq_zero ch)))).squeeze S_ squeezes_S1x1_S_).sem

/-- The place delivered (or free), holding `v`, with its share of the weights, -/
def dnGot (q : PosShare TreeShare) (X : S31x1536x4096.Idx → Elt F .fp8e4m3) (s : Fin 2) (ch : Fin 1) (v : S1536x4096.Idx → Elt F .fp8e4m3) : sProp 𝕄 :=
  iprop(owns (c : Thread nD τ) (dnM arg23 s ch) fullShare v ∗ owns (c : Thread nD τ) arg5 q X ∗ semVal ((c : Thread nD τ), (SemLoc.dma (dnS arg27 s ch) : SemLoc sig)) 0)
/-- free, -/
def dnFree (q : PosShare TreeShare) (X : S31x1536x4096.Idx → Elt F .fp8e4m3) (s : Fin 2) (ch : Fin 1) : sProp 𝕄 :=
  iprop(∃ v, dnGot c arg5 arg23 arg27 q X s ch v)
/-- and in flight from expert `e`'s matrix. -/
def dnIn (q : PosShare TreeShare) (X : S31x1536x4096.Idx → Elt F .fp8e4m3) (s : Fin 2) (ch : Fin 1) (e : Fin 31) : sProp 𝕄 :=
  InFl (U := Pipeline.UD sig nD τ) (Name := ℕ) (Lvl := ℕ) (Ix := Unit) (c : Thread nD τ) (SemLoc.dma (dnS arg27 s ch)) () (dnM arg23 s ch).view.dmaCredit (dnM arg23 s ch) (dnC X e ch) arg5 q X
/-- The place at position `j` of an order of `N` experts: in flight while `j` is a position, else free. -/
def dnAt (N : ℕ) (o : ℕ → Fin 31) (q : Fin 2 → Fin 1 → PosShare TreeShare) (X : S31x1536x4096.Idx → Elt F .fp8e4m3) (j : ℕ) (ch : Fin 1) : sProp 𝕄 :=
  if j < N then dnIn c arg5 arg23 arg27 (q (slot j) ch) X (slot j) ch (o j) else dnFree c arg5 arg23 arg27 (q (slot j) ch) X (slot j) ch

variable {arg5 arg23 arg27} {q : PosShare TreeShare} {X : S31x1536x4096.Idx → Elt F .fp8e4m3} {s : Fin 2} {ch : Fin 1}
variable {α : Type} {Φ : α → sProp (MT nD τ sig Unit (Elt F) ℕ (Pipeline.UD sig nD τ) ℕ)}

/-- The start of the copy of the down matrix. -/
theorem dn_start {off : Fin 4 → ℕ} {h : ∀ a, off a + S1x1x1536x4096.size a ≤ S2x1x1536x4096.size a} {so : Fin 2 → ℕ} {hs : ∀ a, so a + S1x1.size a ≤ S2x1.size a}
    {wo : Fin 3 → ℕ} {hw : ∀ a, wo a + S1x1536x4096.size a ≤ S31x1536x4096.size a} (e : Fin 31)
    {hsrc : View.WordExact (Memref.view ((arg5.slice (Rect.unit (s := S31x1536x4096) wo S1x1536x4096.size hw) (fun _ => rfl)).squeeze S1536x4096 squeezes_S1x1536x4096_S1536x4096))}
    {hdst : View.WordExact (Memref.view ((arg23.slice (Rect.unit (s := S2x1x1536x4096) off S1x1x1536x4096.size h) (fun _ => rfl)).squeeze S1536x4096 squeezes_S1x1x1536x4096_S1536x4096))}
    {hsem : DmaTarget.Typed (nD := nD) (τ := τ) Space.hbm (SemLoc.dma ((arg27.slice (Rect.unit (s := S2x1) so S1x1.size hs)).squeeze S_ squeezes_S1x1_S_).sem)
      (DmaTarget.here (nD := nD) (τ := τ) (p := .tc) ((arg23.slice (Rect.unit (s := S2x1x1536x4096) off S1x1x1536x4096.size h) (fun _ => rfl)).squeeze S1536x4096 squeezes_S1x1x1536x4096_S1536x4096))}
    {k : PUnit → Prog (TpuEff nD τ sig (Elt F) Λ₀ .tc) α}
    (ho : off = ![s.val, ch.val, 0, 0]) (hso : so = ![s.val, ch.val]) (hwo : wo = ![e.val, 0, 0]) :
    (dnFree c arg5 arg23 arg27 q X s ch : sProp 𝕄)
      ⊢ iprop((dnIn c arg5 arg23 arg27 q X s ch e -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.enqueueDma ((arg5.slice (Rect.unit (s := S31x1536x4096) wo S1x1536x4096.size hw) (fun _ => rfl)).squeeze S1536x4096 squeezes_S1x1536x4096_S1536x4096)
          (.here ((arg23.slice (Rect.unit (s := S2x1x1536x4096) off S1x1x1536x4096.size h) (fun _ => rfl)).squeeze S1536x4096 squeezes_S1x1x1536x4096_S1536x4096))
          (.dma ((arg27.slice (Rect.unit (s := S2x1) so S1x1.size hs)).squeeze S_ squeezes_S1x1_S_).sem) hsrc hdst hsem) >>= k) Φ) := by
  subst ho hso
  unfold dnFree dnGot dnIn
  iintro ⟨%v, Hd, Hw, Hs⟩ Hk
  iapply (w_dma_part Variants.none (c : Thread nD τ) none () (dnM arg23 s ch).view.dmaCredit rfl (View.dmaCredit_pos _ (by decide)) (dnC X e ch)
    (fun i => dn_src X e ch wo hw hwo i)) $$ [Hd Hw Hs]
  · isplitl [Hw]; · iexact Hw
    isplitl [Hd]; · iexact Hd
    iexact Hs
  iexact Hk

/-- The wait for it. -/
theorem dn_wait {sp₃ : Space} {s₃ : Shape} {e₃ : EltTy} {srcw : Memref sig .tc sp₃ s₃ e₃} {off : Fin 4 → ℕ} {h : ∀ a, off a + S1x1x1536x4096.size a ≤ S2x1x1536x4096.size a} {so : Fin 2 → ℕ} {hs : ∀ a, so a + S1x1.size a ≤ S2x1.size a}
    {e : Fin 31} {hsrc : srcw.view.WordExact}
    {hdst : View.WordExact (Memref.view ((arg23.slice (Rect.unit (s := S2x1x1536x4096) off S1x1x1536x4096.size h) (fun _ => rfl)).squeeze S1536x4096 squeezes_S1x1x1536x4096_S1536x4096))}
    {k : PUnit → Prog (TpuEff nD τ sig (Elt F) Λ₀ .tc) α}
    (ho : off = ![s.val, ch.val, 0, 0]) (hso : so = ![s.val, ch.val]) :
    (iprop(dnIn c arg5 arg23 arg27 q X s ch e ∗ ∃ W, owes (c : Thread nD τ) 0 W) : sProp 𝕄)
      ⊢ iprop((iprop(dnGot c arg5 arg23 arg27 q X s ch (dnC X e ch) ∗ ∃ W, owes (c : Thread nD τ) 0 W) -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.waitDma2 ((arg27.slice (Rect.unit (s := S2x1) so S1x1.size hs)).squeeze S_ squeezes_S1x1_S_).sem srcw
          ((arg23.slice (Rect.unit (s := S2x1x1536x4096) off S1x1x1536x4096.size h) (fun _ => rfl)).squeeze S1536x4096 squeezes_S1x1x1536x4096_S1536x4096) hsrc hdst) >>= k) Φ) := by
  subst ho hso
  unfold dnGot dnIn
  iintro H Hk
  iapply (w_wait Variants.none (c : Thread nD τ) none () (N := (dnM arg23 s ch).view.dmaCredit) rfl) $$ H
  iintro ⟨Hd, Hw, Hs, HO⟩
  iapply Hk
  isplitl [Hd Hw Hs]
  · isplitl [Hd]; · iexact Hd
    isplitl [Hw]; · iexact Hw
    iexact Hs
  iexact HO

/-- The read of the delivered place. -/
theorem dn_load {off : Fin 4 → ℕ} {h : ∀ a, off a + S1x1x1536x4096.size a ≤ S2x1x1536x4096.size a} {v : S1536x4096.Idx → Elt F .fp8e4m3}
    {hl : arg23.view.LoadsAt (Rect.unit (s := S2x1x1536x4096) off S1x1x1536x4096.size h).toLoadRect}
    {k : (S1x1x1536x4096.Idx → Elt F .fp8e4m3) → Prog (TpuEff nD τ sig (Elt F) Λ₀ .tc) α}
    (ho : off = ![s.val, ch.val, 0, 0]) :
    (dnGot c arg5 arg23 arg27 q X s ch v : sProp 𝕄)
      ⊢ iprop((dnGot c arg5 arg23 arg27 q X s ch v -∗ wp frame (wpE (defs₀ (F := F)) Variants.none (c : Thread nD τ) none (Ix := Unit) (Name := ℕ) (U := Pipeline.UD sig nD τ) (Lvl := ℕ)) Set.univ (k (fun x => v ((Shape.reshapeEquiv squeezes_S1x1x1536x4096_S1536x4096.numel_eq).symm x))) Φ)
        -∗ wp frame (wpE (defs₀ (F := F)) Variants.none (c : Thread nD τ) none (Ix := Unit) (Name := ℕ) (U := Pipeline.UD sig nD τ) (Lvl := ℕ)) Set.univ (Prog.lift (.load arg23 (Rect.unit (s := S2x1x1536x4096) off S1x1x1536x4096.size h).toLoadRect hl) >>= k) Φ) := by
  subst ho
  unfold dnGot
  iintro ⟨Hd, Hw, Hs⟩ Hk
  iapply (w_load_part Variants.none (c : Thread nD τ) none (hr := fun _ => rfl) (hq := squeezes_S1x1x1536x4096_S1536x4096)) $$ Hd
  iintro Hd
  iapply Hk
  isplitl [Hd]; · iexact Hd
  isplitl [Hw]; · iexact Hw
  iexact Hs

end

end Cert.Kernel.Hand
-- ==== Proof.Trip.lean ====
/-
  One trip of the kernel's main loop. Position `i` of the expert order is computed in slot `i mod 2`: its three copies
  are awaited, read, and, while an expert is left two places on, restarted for it. The accumulator is taken one step
  (`stepV`), and the ring moves on by one position.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Ring

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- A loaded half of an expert's gate-and-up matrix, as the program reads it, -/
def guV (W : S31x4096x3072.Idx → Elt F .fp8e4m3) (e : Fin 31) (ch : Fin 2) : S1x1x2048x3072.Idx → Elt F .fp8e4m3 :=
  fun x => guC W e ch ((Shape.reshapeEquiv squeezes_S1x1x2048x3072_S2048x3072.numel_eq).symm x)
/-- its down matrix, -/
def dnV (W : S31x1536x4096.Idx → Elt F .fp8e4m3) (e : Fin 31) : S1x1x1536x4096.Idx → Elt F .fp8e4m3 :=
  fun x => dnC W e 0 ((Shape.reshapeEquiv squeezes_S1x1x1536x4096_S1536x4096.numel_eq).symm x)
/-- and its rows of scales. -/
def sguV (s : S31x3072.Idx → Elt F .f32) (e : Fin 31) : S1x3072.Idx → Elt F .f32 := fun x => s (ValueIdx.ix2 e (x 1))
def sdnV (s : S31x4096.Idx → Elt F .f32) (e : Fin 31) : S1x4096.Idx → Elt F .f32 := fun x => s (ValueIdx.ix2 e (x 1))

/-- An expert's gate-and-up product of the padded rows `xp`, over the two halves of the model dimension. -/
def gateUp (xp : S32x4096.Idx → Elt F .bf16) (W : S31x4096x3072.Idx → Elt F .fp8e4m3) (e : Fin 31) : FVec F S32x3072 .f32 :=
  k0_pay3 (fun x => xp ((Rect.unit (s := S32x4096) ![0, 2048] S32x2048.size inb_S32x4096_S32x2048_0_2048).emb x)) (guV W e 1)
    (k0_pay2 (fun x => xp ((Rect.unit (s := S32x4096) ![0, 0] S32x2048.size inb_S32x4096_S32x2048_0_0).emb x)) (guV W e 0))

/-- Its hidden layer. -/
def hidden (xp : S32x4096.Idx → Elt F .bf16) (W : S31x4096x3072.Idx → Elt F .fp8e4m3) (s : S31x3072.Idx → Elt F .f32) (e : Fin 31) : FVec F S32x1536 .bf16 :=
  k0_pay4 (sguV s e)
    (fun x => gateUp xp W e ((Rect.unit (s := S32x3072) ![0, 0] S32x1536.size inb_S32x3072_S32x1536_0_0).emb x))
    (fun x => gateUp xp W e ((Rect.unit (s := S32x3072) ![0, 1536] S32x1536.size inb_S32x3072_S32x1536_0_1536).emb x))

/-- The accumulator after expert `e`. -/
def stepV (xp : S32x4096.Idx → Elt F .bf16) (W3 : S31x4096x3072.Idx → Elt F .fp8e4m3) (s4 : S31x3072.Idx → Elt F .f32)
    (W5 : S31x1536x4096.Idx → Elt F .fp8e4m3) (s6 : S31x4096.Idx → Elt F .f32) (ic : S32x8.Idx → Elt F .i32) (rc : S32x8.Idx → Elt F .f32)
    (e : Fin 31) (acc : S32x4096.Idx → Elt F .f32) : FVec F S32x4096 .f32 :=
  k0_pay6 (k0_pay5 (BitVec.ofNat 32 e.val) ic) rc (sdnV s6 e) (hidden xp W3 s4 e) (dnV W5 e) acc

theorem sgu_row (s : S31x3072.Idx → Elt F .f32) (e : Fin 31) (off : Fin 2 → ℕ) (h : ∀ a, off a + S1x3072.size a ≤ S31x3072.size a)
    (ho : off = ![e.val, 0]) : (fun x => s ((Rect.unit (s := S31x3072) off S1x3072.size h).emb x)) = sguV s e := by
  subst ho
  funext x
  refine congrArg s ?_
  funext a
  refine Fin.ext ?_
  match a with
  | ⟨0, _⟩ =>
    have h0 : (x 0).val < 1 := (x 0).isLt
    show e.val + 1 * (x 0).val = e.val
    omega
  | ⟨1, _⟩ => exact (Nat.zero_add _).trans (Nat.one_mul _)
theorem sdn_row (s : S31x4096.Idx → Elt F .f32) (e : Fin 31) (off : Fin 2 → ℕ) (h : ∀ a, off a + S1x4096.size a ≤ S31x4096.size a)
    (ho : off = ![e.val, 0]) : (fun x => s ((Rect.unit (s := S31x4096) off S1x4096.size h).emb x)) = sdnV s e := by
  subst ho
  funext x
  refine congrArg s ?_
  funext a
  refine Fin.ext ?_
  match a with
  | ⟨0, _⟩ =>
    have h0 : (x 0).val < 1 := (x 0).isLt
    show e.val + 1 * (x 0).val = e.val
    omega
  | ⟨1, _⟩ => exact (Nat.zero_add _).trans (Nat.one_mul _)

theorem word_exp (e : Fin 31) : (BitVec.ofNat 32 e.val).toNat = e.val := by
  rw [BitVec.toNat_ofNat]; have := e.isLt; omega

/-- The word of the order table at a position of the order. -/
theorem ord_word {N : ℕ} {o : ℕ → Fin 31} {ord : S32.Idx → Elt F .i32} (hord : ∀ i : S32.Idx, (i 0).val < N → ord i = BitVec.ofNat 32 (o (i 0).val).val)
    {off size : Fin 1 → ℕ} {h : ∀ a, off a + size a ≤ S32.size a} {x : (Rect.unit (s := S32) off size h).shape.Idx}
    (j : ℕ) (hj : j < N) (hs : size 0 = 1) (ho : off 0 = j) :
    ord ((Rect.unit (s := S32) off size h).emb x) = BitVec.ofNat 32 (o j).val := by
  have h0 : (x 0).val < 1 := hs ▸ (x 0).isLt
  have e : (((Rect.unit (s := S32) off size h).emb x) 0).val = j := by
    show off 0 + 1 * (x 0).val = j
    omega
  rw [hord _ (by rw [e]; exact hj), e]

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

/-- What the main loop holds before the trip at position `i`: the order table, the scales, the padded rows, the routing
    columns, two scratch buffers, the accumulator at `acc i`, and the ring at positions `i` and `i + 1`. -/
def tripI (c : Dev nD) (N : ℕ) (o : ℕ → Fin 31) (q3 : Fin 2 → Fin 2 → PosShare TreeShare) (q5 : Fin 2 → Fin 1 → PosShare TreeShare)
    (W3 : S31x4096x3072.Idx → Elt F .fp8e4m3) (W5 : S31x1536x4096.Idx → Elt F .fp8e4m3)
    (ord : S32.Idx → Elt F .i32) (s4 : S31x3072.Idx → Elt F .f32) (s6 : S31x4096.Idx → Elt F .f32)
    (ic : S32x8.Idx → Elt F .i32) (rc : S32x8.Idx → Elt F .f32) (xp : S32x4096.Idx → Elt F .bf16) (acc : ℕ → S32x4096.Idx → Elt F .f32)
    (i : ℕ) (_ : Unit) : sProp 𝕄 :=
  iprop(owns (c : Thread nD τ) arg9 fullShare ord ∗ owns (c : Thread nD τ) arg14 fullShare s4 ∗ owns (c : Thread nD τ) arg15 fullShare s6
    ∗ owns (c : Thread nD τ) arg16 fullShare ic ∗ owns (c : Thread nD τ) arg17 fullShare rc ∗ owns (c : Thread nD τ) arg18 fullShare xp
    ∗ (∃ v : S32x3072.Idx → Elt F .f32, owns (c : Thread nD τ) arg19 fullShare v) ∗ (∃ v : S32x1536.Idx → Elt F .bf16, owns (c : Thread nD τ) arg20 fullShare v)
    ∗ owns (c : Thread nD τ) arg21 fullShare (acc i) ∗ (∃ W, owes (c : Thread nD τ) 0 W)
    ∗ guAt c arg3 arg22 arg26 N o q3 W3 i 0 ∗ guAt c arg3 arg22 arg26 N o q3 W3 i 1 ∗ dnAt c arg5 arg23 arg27 N o q5 W5 i 0
    ∗ guAt c arg3 arg22 arg26 N o q3 W3 (i + 1) 0 ∗ guAt c arg3 arg22 arg26 N o q3 W3 (i + 1) 1 ∗ dnAt c arg5 arg23 arg27 N o q5 W5 (i + 1) 0)

set_option maxHeartbeats 4000000 in
theorem t3_trip (c : Dev nD) (v31 : BitVec 32) (k0_hw19 : k0_chk19 v31) (hn : v31.toNat ≤ 31) (o : ℕ → Fin 31)
    (q3 : Fin 2 → Fin 2 → PosShare TreeShare) (q5 : Fin 2 → Fin 1 → PosShare TreeShare)
    (W3 : S31x4096x3072.Idx → Elt F .fp8e4m3) (W5 : S31x1536x4096.Idx → Elt F .fp8e4m3)
    (ord : S32.Idx → Elt F .i32) (hord : ∀ i : S32.Idx, (i 0).val < v31.toNat → ord i = BitVec.ofNat 32 (o (i 0).val).val)
    (s4 : S31x3072.Idx → Elt F .f32) (s6 : S31x4096.Idx → Elt F .f32)
    (ic : S32x8.Idx → Elt F .i32) (rc : S32x8.Idx → Elt F .f32) (xp : S32x4096.Idx → Elt F .bf16) (acc : ℕ → S32x4096.Idx → Elt F .f32)
    (hacc : ∀ i, acc (i + 1) = stepV xp W3 s4 W5 s6 ic rc (o i) (acc i)) (t : Fin (k0_t3_loop v31).trips) (u : Unit) :
    (tripI arg3 arg5 arg9 arg14 arg15 arg16 arg17 arg18 arg19 arg20 arg21 arg22 arg23 arg26 arg27 c v31.toNat o q3 q5 W3 W5 ord s4 s6 ic rc xp acc t.val u : sProp 𝕄)
      ⊢ wp frame (wpE (defs₀ (F := F)) Variants.none (c : Thread nD τ) none (Ix := Unit) (Name := ℕ) (U := Pipeline.UD sig nD τ) (Lvl := ℕ)) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32 t u)
        (tripI arg3 arg5 arg9 arg14 arg15 arg16 arg17 arg18 arg19 arg20 arg21 arg22 arg23 arg26 arg27 c v31.toNat o q3 q5 W3 W5 ord s4 s6 ic rc xp acc (t.val + 1)) := by
  have ht : t.val < v31.toNat := t3_lt hn t
  have hslot : (Scalar.remsi (Scf.iv 0#32 1#32 t.val) 2#32).toNat = (slot t.val).val := slot_eq hn t
  have hb0 : ∀ z, z = (Scalar.remsi (Scf.iv 0#32 1#32 t.val) 2#32).toNat → (![z, 0, 0, 0] : Fin 4 → ℕ) = ![(slot t.val).val, (0 : Fin 2).val, 0, 0] := fun z hz => by rw [hz, hslot]; rfl
  have hb1 : ∀ z, z = (Scalar.remsi (Scf.iv 0#32 1#32 t.val) 2#32).toNat → (![z, 1, 0, 0] : Fin 4 → ℕ) = ![(slot t.val).val, (1 : Fin 2).val, 0, 0] := fun z hz => by rw [hz, hslot]; rfl
  have hd0 : ∀ z, z = (Scalar.remsi (Scf.iv 0#32 1#32 t.val) 2#32).toNat → (![z, 0, 0, 0] : Fin 4 → ℕ) = ![(slot t.val).val, (0 : Fin 1).val, 0, 0] := fun z hz => by rw [hz, hslot]; rfl
  have hs0 : ∀ z, z = (Scalar.remsi (Scf.iv 0#32 1#32 t.val) 2#32).toNat → (![z, 0] : Fin 2 → ℕ) = ![(slot t.val).val, (0 : Fin 2).val] := fun z hz => by rw [hz, hslot]; rfl
  have hs1 : ∀ z, z = (Scalar.remsi (Scf.iv 0#32 1#32 t.val) 2#32).toNat → (![z, 1] : Fin 2 → ℕ) = ![(slot t.val).val, (1 : Fin 2).val] := fun z hz => by rw [hz, hslot]; rfl
  have hsd : ∀ z, z = (Scalar.remsi (Scf.iv 0#32 1#32 t.val) 2#32).toNat → (![z, 0] : Fin 2 → ℕ) = ![(slot t.val).val, (0 : Fin 1).val] := fun z hz => by rw [hz, hslot]; rfl
  have he := word_exp (o t.val)
  have hmore : k0_cond2 v31 t = 1#1 → t.val + 2 < v31.toNat := fun h => (more_iff hn t).mp h
  have hnomore : ¬k0_cond2 v31 t = 1#1 → ¬t.val + 2 < v31.toNat := fun h h' => h ((more_iff hn t).mpr h')
  obtain ⟨e2, he2, hm2⟩ : ∃ e2 : Fin 31, o (min (t.val + 2) (v31.toNat - 1)) = e2 ∧ (t.val + 2 < v31.toNat → o (t.val + 2) = e2) :=
    ⟨_, rfl, fun h => congrArg o (by omega)⟩
  have hw2 := word_exp e2
  unfold tripI
  rw [show guAt c arg3 arg22 arg26 v31.toNat o q3 W3 t.val 0 = guIn c arg3 arg22 arg26 (q3 (slot t.val) 0) W3 (slot t.val) 0 (o t.val) from if_pos ht,
    show guAt c arg3 arg22 arg26 v31.toNat o q3 W3 t.val 1 = guIn c arg3 arg22 arg26 (q3 (slot t.val) 1) W3 (slot t.val) 1 (o t.val) from if_pos ht,
    show dnAt c arg5 arg23 arg27 v31.toNat o q5 W5 t.val 0 = dnIn c arg5 arg23 arg27 (q5 (slot t.val) 0) W5 (slot t.val) 0 (o t.val) from if_pos ht]
  iintro ⟨H9, H14, H15, H16, H17, H18, ⟨%v19, H19⟩, ⟨%v20, H20⟩, H21, HO, HA, HB, HD, HA', HB', HD'⟩
  dsimp only [k0_t3_body]
  rw [wp_bind, k0_part3_eq_skeleton]
  dsimp only [k0_part3_skel]
  iapply (w_smem' Variants.none (c : Thread nD τ) none (m := arg9) (BitVec.ofNat 32 (o t.val).val) (ord_word hord t.val ht rfl (ord0_eq hn t))) $$ H9
  iintro H9
  dsimp only
  iapply (w_assume Variants.none (c : Thread nD τ) none (P := k0_chk20 (BitVec.ofNat 32 (o t.val).val)) (chk20 (by rw [he]; exact (o t.val).isLt)))
  iapply (w_smem' Variants.none (c : Thread nD τ) none (m := arg9) (BitVec.ofNat 32 e2.val)
    ((ord_word hord (min (t.val + 2) (v31.toNat - 1)) (by omega) rfl (ord2_eq hn t)).trans (by rw [he2]))) $$ H9
  iintro H9
  dsimp only
  iapply (w_assume Variants.none (c : Thread nD τ) none (P := k0_chk21 v31 t (BitVec.ofNat 32 e2.val)) (chk21 (by rw [hw2]; exact e2.isLt)))
  -- the first half
  iapply (gu_wait c (hb0 _ rfl) (hs0 _ rfl)) $$ [HA HO]
  · isplitl [HA]; · iexact HA
    iexact HO
  iintro ⟨HA, HO⟩
  iapply (w_load Variants.none (c : Thread nD τ) none (m := arg18)) $$ H18
  iintro H18
  iapply (gu_load c (hb0 _ rfl)) $$ HA
  iintro HA
  iapply (w_load_full Variants.none (c : Thread nD τ) none (m := arg19)) $$ H19
  iintro H19
  iapply (w_store_full Variants.none (c : Thread nD τ) none (m := arg19)) $$ H19
  iintro H19
  rw [dite_tail]
  iapply (w_dite Variants.none (c : Thread nD τ) none (P := k0_cond2 v31 t = 1#1)
    (R := guGot c arg3 arg22 arg26 (q3 (slot t.val) 0) W3 (slot t.val) 0 (guC W3 (o t.val) 0))
    (R' := guAt c arg3 arg22 arg26 v31.toNat o q3 W3 (t.val + 2) 0) (fun hc => ?_) (fun hc => ?_)) $$ HA
  · rw [guAt, if_pos (hmore hc), slot_add_two, hm2 (hmore hc)]
    iintro HA
    iapply (gu_start c e2 (hb0 _ rfl) (hs0 _ rfl) (congrArg (fun z => (![z, 0, 0] : Fin 3 → ℕ)) hw2)) $$ [HA]
    · unfold guFree; iexists _; iexact HA
    iintro HA
    rw [wp_pure]; imodintro; iexact HA
  · rw [guAt, if_neg (hnomore hc), slot_add_two]
    iintro HA
    rw [wp_pure]; imodintro
    unfold guFree; iexists _; iexact HA
  iintro %_ HA
  rw [wp_pure]
  imodintro
  dsimp only
  rw [wp_bind, k0_part4_eq_skeleton]
  dsimp only [k0_part4_skel]
  -- the second half
  iapply (gu_wait c (hb1 _ rfl) (hs1 _ rfl)) $$ [HB HO]
  · isplitl [HB]; · iexact HB
    iexact HO
  iintro ⟨HB, HO⟩
  iapply (w_load Variants.none (c : Thread nD τ) none (m := arg18)) $$ H18
  iintro H18
  iapply (gu_load c (hb1 _ rfl)) $$ HB
  iintro HB
  iapply (w_load_full Variants.none (c : Thread nD τ) none (m := arg19)) $$ H19
  iintro H19
  iapply (w_load_full Variants.none (c : Thread nD τ) none (m := arg19)) $$ H19
  iintro H19
  iapply (w_store_full Variants.none (c : Thread nD τ) none (m := arg19)) $$ H19
  iintro H19
  rw [dite_tail]
  iapply (w_dite Variants.none (c : Thread nD τ) none (P := k0_cond3 v31 t = 1#1)
    (R := guGot c arg3 arg22 arg26 (q3 (slot t.val) 1) W3 (slot t.val) 1 (guC W3 (o t.val) 1))
    (R' := guAt c arg3 arg22 arg26 v31.toNat o q3 W3 (t.val + 2) 1) (fun hc => ?_) (fun hc => ?_)) $$ HB
  · rw [guAt, if_pos (hmore hc), slot_add_two, hm2 (hmore hc)]
    iintro HB
    iapply (gu_start c e2 (hb1 _ rfl) (hs1 _ rfl) (congrArg (fun z => (![z, 2048, 0] : Fin 3 → ℕ)) hw2)) $$ [HB]
    · unfold guFree; iexists _; iexact HB
    iintro HB
    rw [wp_pure]; imodintro; iexact HB
  · rw [guAt, if_neg (hnomore hc), slot_add_two]
    iintro HB
    rw [wp_pure]; imodintro
    unfold guFree; iexists _; iexact HB
  iintro %_ HB
  -- the hidden layer
  iapply (w_load_eq Variants.none (c : Thread nD τ) none (m := arg14) (sguV s4 (o t.val)) (sgu_row s4 (o t.val) _ _ (congrArg (fun z => (![z, 0] : Fin 2 → ℕ)) he))) $$ H14
  iintro H14
  iapply (w_load Variants.none (c : Thread nD τ) none (m := arg19)) $$ H19
  iintro H19
  iapply (w_load Variants.none (c : Thread nD τ) none (m := arg19)) $$ H19
  iintro H19
  iapply (w_load_full Variants.none (c : Thread nD τ) none (m := arg20)) $$ H20
  iintro H20
  iapply (w_store_full Variants.none (c : Thread nD τ) none (m := arg20)) $$ H20
  iintro H20
  iapply (w_load_full Variants.none (c : Thread nD τ) none (m := arg16)) $$ H16
  iintro H16
  rw [wp_pure]
  imodintro
  rw [wp_bind, k0_part5_eq_skeleton]
  dsimp only [k0_part5_skel]
  -- the down product
  iapply (w_load_full Variants.none (c : Thread nD τ) none (m := arg17)) $$ H17
  iintro H17
  iapply (w_load_eq Variants.none (c : Thread nD τ) none (m := arg15) (sdnV s6 (o t.val)) (sdn_row s6 (o t.val) _ _ (congrArg (fun z => (![z, 0] : Fin 2 → ℕ)) he))) $$ H15
  iintro H15
  iapply (dn_wait c (hd0 _ rfl) (hsd _ rfl)) $$ [HD HO]
  · isplitl [HD]; · iexact HD
    iexact HO
  iintro ⟨HD, HO⟩
  iapply (w_load_full Variants.none (c : Thread nD τ) none (m := arg20)) $$ H20
  iintro H20
  iapply (dn_load c (hd0 _ rfl)) $$ HD
  iintro HD
  iapply (w_load_full Variants.none (c : Thread nD τ) none (m := arg21)) $$ H21
  iintro H21
  iapply (w_load_full Variants.none (c : Thread nD τ) none (m := arg21)) $$ H21
  iintro H21
  rw [wp_pure]
  imodintro
  iapply (w_store_full Variants.none (c : Thread nD τ) none (m := arg21)) $$ H21
  iintro H21
  rw [dite_tail]
  iapply (w_dite Variants.none (c : Thread nD τ) none (P := k0_cond4 v31 t = 1#1)
    (R := dnGot c arg5 arg23 arg27 (q5 (slot t.val) 0) W5 (slot t.val) 0 (dnC W5 (o t.val) 0))
    (R' := dnAt c arg5 arg23 arg27 v31.toNat o q5 W5 (t.val + 2) 0) (fun hc => ?_) (fun hc => ?_)) $$ HD
  · rw [dnAt, if_pos (hmore hc), slot_add_two, hm2 (hmore hc)]
    iintro HD
    iapply (dn_start c e2 (hd0 _ rfl) (hsd _ rfl) (congrArg (fun z => (![z, 0, 0] : Fin 3 → ℕ)) hw2)) $$ [HD]
    · unfold dnFree; iexists _; iexact HD
    iintro HD
    rw [wp_pure]; imodintro; iexact HD
  · rw [dnAt, if_neg (hnomore hc), slot_add_two]
    iintro HD
    rw [wp_pure]; imodintro
    unfold dnFree; iexists _; iexact HD
  iintro %_ HD
  rw [wp_pure]
  imodintro
  rw [hacc]
  isplitl [H9]; · iexact H9
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexact H21
  isplitl [HO]; · iexact HO
  isplitl [HA']; · iexact HA'
  isplitl [HB']; · iexact HB'
  isplitl [HD']; · iexact HD'
  isplitl [HA]; · iexact HA
  isplitl [HB]; · iexact HB
  iexact HD

end Cert.Kernel.Hand
-- ==== Proof.Parts.lean ====
/-
  The kernel's run up to its main loop: the small copies and the first experts' copies are started, the tables of the
  walk are filled, the small copies are awaited, and the padded rows and the routing columns are written.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Collect
public import proofs.«01_k».proof.Proof.Trip

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- The expert at position `j` of the order the kernel collects. -/
def oF (ids : S8x20.Idx → Elt F .i32) (j : ℕ) : Fin 31 :=
  if h : (colT ids 20).getD j 0 < 31 then ⟨(colT ids 20).getD j 0, h⟩ else 0

theorem oF_of_lt {ids : S8x20.Idx → Elt F .i32} {ord seen n} (h : St (colT ids 20) ord seen n) {j : ℕ} (hj : j < (colT ids 20).length) :
    (oF (F := F) ids j).val = (colT ids 20)[j] := by
  have e : (colT ids 20).getD j 0 = (colT ids 20)[j] := by rw [List.getD_eq_getElem?_getD, List.getElem?_eq_getElem hj]; rfl
  have h31 : (colT ids 20).getD j 0 < 31 := by rw [e]; exact h.lt _ (List.getElem_mem hj)
  unfold oF
  rw [dif_pos h31, ← e]

theorem oF_zero {ids : S8x20.Idx → Elt F .i32} (hids : ∀ i, BitVec.toNat (ids i) < 31) :
    BitVec.toNat (ids (ValueIdx.ix2 0 0)) = (oF (F := F) ids 0).val := by
  have e : (colT ids 20).getD 0 0 = BitVec.toNat (ids (ValueIdx.ix2 0 0)) := by
    rw [List.getD_eq_getElem?_getD, colT_head]; rfl
  have h31 : (colT ids 20).getD 0 0 < 31 := by rw [e]; exact hids _
  unfold oF
  rw [dif_pos h31, ← e]

theorem colT_pos (ids : S8x20.Idx → Elt F .i32) : 0 < (colT ids 20).length := by
  have h := colT_head ids
  rcases Nat.eq_zero_or_pos (colT ids 20).length with h0 | h0
  · rw [List.length_eq_zero_iff.mp h0] at h; cases h
  · exact h0

/-- The padded rows, -/
def xpV (x : S20x4096.Idx → Elt F .bf16) : S32x4096.Idx → Elt F .bf16 :=
  put (Rect.unit (s := S32x4096) ![0, 0] S20x4096.size inb_S32x4096_S20x4096_0_0) (k0_pay13 x) (k0_pay12 (F := F))
/-- the padded column of choices, -/
def icV (ids : S8x20.Idx → Elt F .i32) : S32x8.Idx → Elt F .i32 :=
  put (Rect.unit (s := S32x8) ![0, 0] S20x8.size inb_S32x8_S20x8_0_0) (k0_pay16 ids) k0_pay14
/-- and the padded column of routing weights. -/
def rcV (rwt : S8x20.Idx → Elt F .f32) : S32x8.Idx → Elt F .f32 :=
  put (Rect.unit (s := S32x8) ![0, 0] S20x8.size inb_S32x8_S20x8_0_0) (k0_pay17 rwt) (k0_pay15 (F := F))

section
variable (c : Dev nD)

/-- A small copy's semaphore. -/
abbrev smS (arg25 : DmaSems sig S5) (off : Fin 1 → ℕ) (h : ∀ a, off a + S1.size a ≤ S5.size a) : DmaSem sig :=
  ((arg25.slice (Rect.unit (s := S5) off S1.size h)).squeeze S_ squeezes_S1_S_).sem

/-- A small copy in flight. -/
abbrev smIn {sp : Space} {s : Shape} {e : EltTy} (sm : DmaSem sig) (dst : Memref sig .tc sp s e) (v : s.Idx → Elt F e) (m : Memref sig .tc .hbm s e)
    (q : PosShare TreeShare) : sProp 𝕄 :=
  InFl (U := Pipeline.UD sig nD τ) (Name := ℕ) (Lvl := ℕ) (Ix := Unit) (c : Thread nD τ) (SemLoc.dma sm) () dst.view.dmaCredit dst v m q v

variable {sp : Space} {s : Shape} {e : EltTy} {sm : DmaSem sig} {dst : Memref sig .tc sp s e} {v : s.Idx → Elt F e} {m : Memref sig .tc .hbm s e}
  {q : PosShare TreeShare} {α : Type} {Φ : α → sProp (MT nD τ sig Unit (Elt F) ℕ (Pipeline.UD sig nD τ) ℕ)}

theorem sm_start {hsrc : m.view.WordExact} {hdst : dst.view.WordExact} {hsem : DmaTarget.Typed (nD := nD) (τ := τ) Space.hbm (SemLoc.dma sm) (DmaTarget.here (nD := nD) (τ := τ) (p := .tc) dst)}
    {k : PUnit → Prog (TpuEff nD τ sig (Elt F) Λ₀ .tc) α} (hp : 0 < s.numel) :
    (iprop(owns (c : Thread nD τ) m q v ∗ (∃ v₀, owns (c : Thread nD τ) dst fullShare v₀) ∗ semVal ((c : Thread nD τ), (SemLoc.dma sm : SemLoc sig)) 0) : sProp 𝕄)
      ⊢ iprop((smIn c sm dst v m q -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.enqueueDma m (.here dst) (.dma sm) hsrc hdst hsem) >>= k) Φ) := by
  iintro ⟨Hm, ⟨%v₀, Hd⟩, Hs⟩ Hk
  iapply (w_dma Variants.none (c : Thread nD τ) none () dst.view.dmaCredit rfl (View.dmaCredit_pos _ hp)) $$ [Hm Hd Hs]
  · isplitl [Hm]; · iexact Hm
    isplitl [Hd]; · iexact Hd
    iexact Hs
  iexact Hk

theorem sm_wait {hsrc : m.view.WordExact} {hdst : dst.view.WordExact} {k : PUnit → Prog (TpuEff nD τ sig (Elt F) Λ₀ .tc) α} :
    (iprop(smIn c sm dst v m q ∗ ∃ W, owes (c : Thread nD τ) 0 W) : sProp 𝕄)
      ⊢ iprop((iprop(owns (c : Thread nD τ) dst fullShare v ∗ owns (c : Thread nD τ) m q v ∗ semVal ((c : Thread nD τ), (SemLoc.dma sm : SemLoc sig)) 0
          ∗ ∃ W, owes (c : Thread nD τ) 0 W) -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.waitDma2 sm m dst hsrc hdst) >>= k) Φ) :=
  w_wait Variants.none (c : Thread nD τ) none () (N := dst.view.dmaCredit) rfl

/-- A program followed by another, the first turning `R` into `R'`. -/
theorem w_seq {β : Type} {A : Prog (TpuEff nD τ sig (Elt F) Λ₀ .tc) β} {k : β → Prog (TpuEff nD τ sig (Elt F) Λ₀ .tc) α}
    {R : sProp (MT nD τ sig Unit (Elt F) ℕ (Pipeline.UD sig nD τ) ℕ)} {R' : β → sProp (MT nD τ sig Unit (Elt F) ℕ (Pipeline.UD sig nD τ) ℕ)}
    (h : R ⊢ wp frame (wpE (defs₀ (F := F)) Variants.none (c : Thread nD τ) none (Ix := Unit) (Name := ℕ) (U := Pipeline.UD sig nD τ) (Lvl := ℕ)) Set.univ A R') :
    R ⊢ iprop((∀ b, R' b -∗ wp frame (wpE (defs₀ (F := F)) Variants.none (c : Thread nD τ) none (Ix := Unit) (Name := ℕ) (U := Pipeline.UD sig nD τ) (Lvl := ℕ)) Set.univ (k b) Φ) -∗ wp frame (wpE (defs₀ (F := F)) Variants.none (c : Thread nD τ) none (Ix := Unit) (Name := ℕ) (U := Pipeline.UD sig nD τ) (Lvl := ℕ)) Set.univ (A >>= k) Φ) := by
  iintro H Hk
  rw [wp_bind]
  ihave H := h $$ H
  iapply (wp_wand_r) $$ [H Hk]
  isplitl [H]; · iexact H
  iexact Hk
end

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

set_option maxHeartbeats 4000000 in
theorem part9_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32)
    (qa qb : PosShare TreeShare) (q3 : Fin 2 → Fin 2 → PosShare TreeShare) (q5 : Fin 2 → Fin 1 → PosShare TreeShare) (hids : ∀ i, BitVec.toNat (ids i) < 31) :
    (iprop(owns (c : Thread nD τ) arg0 qa ids
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ (∃ v, owns (c : Thread nD τ) arg8 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ guFree c arg3 arg22 arg26 (q3 0 0) W3 0 0
      ∗ guFree c arg3 arg22 arg26 (q3 0 1) W3 0 1
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27) (fun r => iprop(⌜BitVec.toNat (w := 32) r.1 = (oF ids 0).val⌝
      ∗ owns (c : Thread nD τ) arg0 qa ids
      ∗ owns (c : Thread nD τ) arg8 fullShare ids
      ∗ semVal ((c : Thread nD τ), (SemLoc.dma arg24.sem : SemLoc sig)) 0
      ∗ smIn c (smS arg25 ![0] inb_S5_S1_0) arg11 ids arg0 qb
      ∗ smIn c (smS arg25 ![1] inb_S5_S1_1) arg12 rwt arg1 fullShare
      ∗ smIn c (smS arg25 ![2] inb_S5_S1_2) arg13 x arg2 fullShare
      ∗ smIn c (smS arg25 ![3] inb_S5_S1_3) arg14 s4 arg4 fullShare
      ∗ smIn c (smS arg25 ![4] inb_S5_S1_4) arg15 s6 arg6 fullShare
      ∗ guIn c arg3 arg22 arg26 (q3 0 0) W3 0 0 (oF ids 0)
      ∗ guIn c arg3 arg22 arg26 (q3 0 1) W3 0 1 (oF ids 0)
      ∗ (∃ W, owes (c : Thread nD τ) 0 W))) := by
  have ho := oF_zero (F := F) hids
  rw [k0_part9_eq_skeleton]
  iintro ⟨H0, H0b, H1, H2, H4, H6, ⟨%v8, H8⟩, ⟨%v11, H11⟩, ⟨%v12, H12⟩, ⟨%v13, H13⟩, ⟨%v14, H14⟩, ⟨%v15, H15⟩, S, S0, S1, S2, S3, S4, HA, HB, HO⟩
  dsimp only [k0_part9_skel]
  iapply (sm_start c (v := ids) (by decide)) $$ [H0 H8 S]
  · isplitl [H0]; · iexact H0
    isplitl [H8]; · iexists _; iexact H8
    iexact S
  iintro C
  iapply (sm_start c (v := ids) (by decide)) $$ [H0b H11 S0]
  · isplitl [H0b]; · iexact H0b
    isplitl [H11]; · iexists _; iexact H11
    iexact S0
  iintro C0
  iapply (sm_start c (v := rwt) (by decide)) $$ [H1 H12 S1]
  · isplitl [H1]; · iexact H1
    isplitl [H12]; · iexists _; iexact H12
    iexact S1
  iintro C1
  iapply (sm_start c (v := x) (by decide)) $$ [H2 H13 S2]
  · isplitl [H2]; · iexact H2
    isplitl [H13]; · iexists _; iexact H13
    iexact S2
  iintro C2
  iapply (sm_start c (v := s4) (by decide)) $$ [H4 H14 S3]
  · isplitl [H4]; · iexact H4
    isplitl [H14]; · iexists _; iexact H14
    iexact S3
  iintro C3
  iapply (sm_start c (v := s6) (by decide)) $$ [H6 H15 S4]
  · isplitl [H6]; · iexact H6
    isplitl [H15]; · iexists _; iexact H15
    iexact S4
  iintro C4
  iapply (sm_wait c) $$ [C HO]
  · isplitl [C]; · iexact C
    iexact HO
  iintro ⟨H8, H0, S, HO⟩
  iapply (w_smem' Variants.none (c : Thread nD τ) none (m := arg8) (ids (ValueIdx.ix2 0 0)) (ids_word ids 0 0 rfl rfl)) $$ H8
  iintro H8
  dsimp only
  iapply (w_assume Variants.none (c : Thread nD τ) none (P := k0_chk1 (ids (ValueIdx.ix2 0 0))) (chk1 (hids _)))
  iapply (gu_start c (s := 0) (ch := 0) (oF ids 0) rfl rfl (congrArg (fun z => (![z, 0, 0] : Fin 3 → ℕ)) ho)) $$ HA
  iintro HA
  iapply (gu_start c (s := 0) (ch := 1) (oF ids 0) rfl rfl (congrArg (fun z => (![z, 2048, 0] : Fin 3 → ℕ)) ho)) $$ HB
  iintro HB
  rw [wp_pure]
  imodintro
  isplitr
  · ipureintro; exact ho
  isplitl [H0]
  · iexact H0
  isplitl [H8]
  · iexact H8
  isplitl [S]
  · iexact S
  isplitl [C0]
  · iexact C0
  isplitl [C1]
  · iexact C1
  isplitl [C2]
  · iexact C2
  isplitl [C3]
  · iexact C3
  isplitl [C4]
  · iexact C4
  isplitl [HA]
  · iexact HA
  isplitl [HB]
  · iexact HB
  iexact HO

set_option maxHeartbeats 4000000 in
theorem part10_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32)
    (qa qb : PosShare TreeShare) (q3 : Fin 2 → Fin 2 → PosShare TreeShare) (q5 : Fin 2 → Fin 1 → PosShare TreeShare) (hids : ∀ i, BitVec.toNat (ids i) < 31) (v10 : Elt F .i32) (k0_hw1 : k0_chk1 v10) (hv : BitVec.toNat (w := 32) v10 = (oF ids 0).val) :
    (iprop(owns (c : Thread nD τ) arg8 fullShare ids
      ∗ (∃ v, owns (c : Thread nD τ) arg9 fullShare v)
      ∗ (∃ v, owns (c : Thread nD τ) arg10 fullShare v)
      ∗ smIn c (smS arg25 ![0] inb_S5_S1_0) arg11 ids arg0 qb
      ∗ smIn c (smS arg25 ![1] inb_S5_S1_1) arg12 rwt arg1 fullShare
      ∗ smIn c (smS arg25 ![2] inb_S5_S1_2) arg13 x arg2 fullShare
      ∗ smIn c (smS arg25 ![3] inb_S5_S1_3) arg14 s4 arg4 fullShare
      ∗ smIn c (smS arg25 ![4] inb_S5_S1_4) arg15 s6 arg6 fullShare
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0
      ∗ (∃ v, owns (c : Thread nD τ) arg18 fullShare v)
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v10 k0_hw1) (fun r => iprop(⌜BitVec.toNat (w := 32) r.1 = (colT ids 20).length⌝
      ∗ owns (c : Thread nD τ) arg8 fullShare ids
      ∗ (∃ ord : S32.Idx → Elt F .i32, ⌜∀ i : S32.Idx, (i 0).val < (colT ids 20).length → ord i = BitVec.ofNat 32 (oF ids (i 0).val).val⌝ ∗ owns (c : Thread nD τ) arg9 fullShare ord)
      ∗ (∃ v, owns (c : Thread nD τ) arg10 fullShare v)
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ owns (c : Thread nD τ) arg11 fullShare ids
      ∗ owns (c : Thread nD τ) arg12 fullShare rwt
      ∗ owns (c : Thread nD τ) arg13 fullShare x
      ∗ owns (c : Thread nD τ) arg14 fullShare s4
      ∗ owns (c : Thread nD τ) arg15 fullShare s6
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ dnIn c arg5 arg23 arg27 (q5 0 0) W5 0 0 (oF ids 0)
      ∗ guAt c arg3 arg22 arg26 (colT ids 20).length (oF ids) q3 W3 1 0
      ∗ guAt c arg3 arg22 arg26 (colT ids 20).length (oF ids) q3 W3 1 1
      ∗ dnAt c arg5 arg23 arg27 (colT ids 20).length (oF ids) q5 W5 1 0
      ∗ owns (c : Thread nD τ) arg18 fullShare (k0_pay12 (F := F))
      ∗ (∃ W, owes (c : Thread nD τ) 0 W))) := by
  rw [k0_part10_eq_skeleton]
  iintro ⟨H8, ⟨%v9, H9⟩, ⟨%v10', H10⟩, C0, C1, C2, C3, C4, HD, HA', HB', HD', ⟨%v18, H18⟩, HO⟩
  dsimp only [k0_part10_skel]
  iapply (dn_start c (s := 0) (ch := 0) (oF ids 0) rfl rfl (congrArg (fun z => (![z, 0, 0] : Fin 3 → ℕ)) hv)) $$ HD
  iintro HD
  -- the membership table cleared
  iapply (Scf.wp_for_bind frame (wpE (defs₀ (F := F)) Variants.none (c : Thread nD τ) none (Ix := Unit) (Name := ℕ) (U := Pipeline.UD sig nD τ) (Lvl := ℕ)) Set.univ _ _ _ _ _ _ (clearI (F := F) c arg10) (fun t u => t1_trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v10 k0_hw1 t u)) $$ [H10]
  · unfold clearI
    iexists _
    isplitr
    rotate_left
    · iexact H10
    · ipureintro; intro i hi; exact absurd hi (Nat.not_lt_zero _)
  iintro %_ H10
  unfold clearI
  icases H10 with ⟨%seen0, %hs0, H10⟩
  -- the walk over the choices
  iapply (Scf.wp_for_bind frame (wpE (defs₀ (F := F)) Variants.none (c : Thread nD τ) none (Ix := Unit) (Name := ℕ) (U := Pipeline.UD sig nD τ) (Lvl := ℕ)) Set.univ _ _ _ _ _ _ (walkI c arg8 arg9 arg10 ids) (fun t n => t2_trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v10 k0_hw1 ids hids t n)) $$ [H8 H9 H10]
  · unfold walkI
    iexists v9, seen0
    isplitr
    · ipureintro; exact St.init (fun i => hs0 i (i 0).isLt)
    isplitl [H8]; · iexact H8
    isplitl [H9]; · iexact H9
    iexact H10
  iintro %n H
  unfold walkI
  icases H with ⟨%ord, %seen, %hSt, H8, H9, H10⟩
  have hSt' : St (colT ids 20) ord seen n := hSt
  have hlen : BitVec.toNat (w := 32) n = (colT ids 20).length := hSt'.len
  have hn : BitVec.toNat (w := 32) n ≤ 31 := hlen.trans_le hSt'.len_le
  have hord : ∀ i : S32.Idx, (i 0).val < (colT ids 20).length → ord i = BitVec.ofNat 32 (oF ids (i 0).val).val := fun i hi => by
    rw [hSt'.ord_eq i hi, oF_of_lt hSt' hi]
  iapply (w_assume Variants.none (c : Thread nD τ) none (P := k0_chk19 n) (chk19 hn))
  dsimp only
  have he1 := word_exp (oF ids 1)
  iapply (w_dite_tail Variants.none (c : Thread nD τ) none (P := k0_cond1 n = 1#1)
    (R := iprop(owns (c : Thread nD τ) arg9 fullShare ord
      ∗ guFree c arg3 arg22 arg26 (q3 1 0) W3 1 0
      ∗ guFree c arg3 arg22 arg26 (q3 1 1) W3 1 1
      ∗ dnFree c arg5 arg23 arg27 (q5 1 0) W5 1 0))
    (R' := iprop(owns (c : Thread nD τ) arg9 fullShare ord
      ∗ guAt c arg3 arg22 arg26 (colT ids 20).length (oF ids) q3 W3 1 0
      ∗ guAt c arg3 arg22 arg26 (colT ids 20).length (oF ids) q3 W3 1 1
      ∗ dnAt c arg5 arg23 arg27 (colT ids 20).length (oF ids) q5 W5 1 0)) (fun hc => ?_) (fun hc => ?_)) $$ [H9 HA' HB' HD']
  · have h1 : 1 < (colT ids 20).length := by rw [← hlen, ← cond1_iff hn]; exact hc
    rw [guAt, if_pos h1, guAt, if_pos h1, dnAt, if_pos h1]
    iintro ⟨H9, HA', HB', HD'⟩ Hk
    iapply (w_smem' Variants.none (c : Thread nD τ) none (m := arg9) (BitVec.ofNat 32 (oF ids 1).val) (ord_word hord 1 h1 rfl rfl)) $$ H9
    iintro H9
    dsimp only
    iapply (w_assume Variants.none (c : Thread nD τ) none (P := k0_chk18 n (BitVec.ofNat 32 (oF ids 1).val)) (chk18 (by rw [he1]; exact (oF ids 1).isLt)))
    iapply (gu_start c (s := 1) (ch := 0) (oF ids 1) rfl rfl (congrArg (fun z => (![z, 0, 0] : Fin 3 → ℕ)) he1)) $$ HA'
    iintro HA'
    iapply (gu_start c (s := 1) (ch := 1) (oF ids 1) rfl rfl (congrArg (fun z => (![z, 2048, 0] : Fin 3 → ℕ)) he1)) $$ HB'
    iintro HB'
    iapply (dn_start c (s := 1) (ch := 0) (oF ids 1) rfl rfl (congrArg (fun z => (![z, 0, 0] : Fin 3 → ℕ)) he1)) $$ HD'
    iintro HD'
    iapply Hk
    isplitl [H9]; · iexact H9
    isplitl [HA']; · iexact HA'
    isplitl [HB']; · iexact HB'
    iexact HD'
  · have h1 : ¬1 < (colT ids 20).length := fun h1 => hc (by rw [cond1_iff hn, hlen]; exact h1)
    rw [guAt, if_neg h1, guAt, if_neg h1, dnAt, if_neg h1]
    iintro H
    iexact H
  · isplitl [H9]; · iexact H9
    isplitl [HA']; · iexact HA'
    isplitl [HB']; · iexact HB'
    iexact HD'
  iintro ⟨H9, HA', HB', HD'⟩
  iapply (sm_wait c) $$ [C0 HO]
  · isplitl [C0]; · iexact C0
    iexact HO
  iintro ⟨H11, H0b, S0, HO⟩
  iapply (sm_wait c) $$ [C1 HO]
  · isplitl [C1]; · iexact C1
    iexact HO
  iintro ⟨H12, H1, S1, HO⟩
  iapply (sm_wait c) $$ [C2 HO]
  · isplitl [C2]; · iexact C2
    iexact HO
  iintro ⟨H13, H2, S2, HO⟩
  iapply (sm_wait c) $$ [C3 HO]
  · isplitl [C3]; · iexact C3
    iexact HO
  iintro ⟨H14, H4, S3, HO⟩
  iapply (sm_wait c) $$ [C4 HO]
  · isplitl [C4]; · iexact C4
    iexact HO
  iintro ⟨H15, H6, S4, HO⟩
  iapply (w_load_full Variants.none (c : Thread nD τ) none (m := arg18)) $$ H18
  iintro H18
  iapply (w_store_full Variants.none (c : Thread nD τ) none (m := arg18)) $$ H18
  iintro H18
  rw [wp_pure]
  imodintro
  isplitr
  · ipureintro; exact hlen
  isplitl [H8]
  · iexact H8
  isplitl [H9]
  · iexists ord
    isplitr
    · ipureintro; exact hord
    iexact H9
  isplitl [H10]
  · iexists _; iexact H10
  isplitl [H0b]
  · iexact H0b
  isplitl [H1]
  · iexact H1
  isplitl [H2]
  · iexact H2
  isplitl [H4]
  · iexact H4
  isplitl [H6]
  · iexact H6
  isplitl [H11]
  · iexact H11
  isplitl [H12]
  · iexact H12
  isplitl [H13]
  · iexact H13
  isplitl [H14]
  · iexact H14
  isplitl [H15]
  · iexact H15
  isplitl [S0]
  · iexact S0
  isplitl [S1]
  · iexact S1
  isplitl [S2]
  · iexact S2
  isplitl [S3]
  · iexact S3
  isplitl [S4]
  · iexact S4
  isplitl [HD]
  · iexact HD
  isplitl [HA']
  · iexact HA'
  isplitl [HB']
  · iexact HB'
  isplitl [HD']
  · iexact HD'
  isplitl [H18]
  · iexact H18
  iexact HO

set_option maxHeartbeats 4000000 in
theorem part11_run (c : Dev nD) (ids : S8x20.Idx → Elt F .i32) (rwt : S8x20.Idx → Elt F .f32) (x : S20x4096.Idx → Elt F .bf16) (v31 : BitVec 32) :
    (iprop(owns (c : Thread nD τ) arg11 fullShare ids
      ∗ owns (c : Thread nD τ) arg12 fullShare rwt
      ∗ owns (c : Thread nD τ) arg13 fullShare x
      ∗ (∃ v, owns (c : Thread nD τ) arg16 fullShare v)
      ∗ (∃ v, owns (c : Thread nD τ) arg17 fullShare v)
      ∗ owns (c : Thread nD τ) arg18 fullShare (k0_pay12 (F := F))
      ∗ (∃ v, owns (c : Thread nD τ) arg21 fullShare v)) : sProp 𝕄)
      ⊢ wp frame (wpE (defs₀ (F := F)) Variants.none (c : Thread nD τ) none (Ix := Unit) (Name := ℕ) (U := Pipeline.UD sig nD τ) (Lvl := ℕ)) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31) (fun r => iprop(⌜r.1 = 0#32⌝
      ∗ owns (c : Thread nD τ) arg11 fullShare ids
      ∗ owns (c : Thread nD τ) arg12 fullShare rwt
      ∗ owns (c : Thread nD τ) arg13 fullShare x
      ∗ owns (c : Thread nD τ) arg16 fullShare (icV ids)
      ∗ owns (c : Thread nD τ) arg17 fullShare (rcV rwt)
      ∗ owns (c : Thread nD τ) arg18 fullShare (xpV x)
      ∗ owns (c : Thread nD τ) arg21 fullShare (k0_pay18 (F := F)))) := by
  rw [k0_part11_eq_skeleton]
  iintro ⟨H11, H12, H13, ⟨%v16, H16⟩, ⟨%v17, H17⟩, H18, ⟨%v21, H21⟩⟩
  dsimp only [k0_part11_skel]
  iapply (w_load_full Variants.none (c : Thread nD τ) none (m := arg13)) $$ H13
  iintro H13
  iapply (w_load Variants.none (c : Thread nD τ) none (m := arg18)) $$ H18
  iintro H18
  iapply (w_store Variants.none (c : Thread nD τ) none (m := arg18)) $$ H18
  iintro H18
  iapply (w_load_full Variants.none (c : Thread nD τ) none (m := arg16)) $$ H16
  iintro H16
  iapply (w_store_full Variants.none (c : Thread nD τ) none (m := arg16)) $$ H16
  iintro H16
  iapply (w_load_full Variants.none (c : Thread nD τ) none (m := arg17)) $$ H17
  iintro H17
  iapply (w_store_full Variants.none (c : Thread nD τ) none (m := arg17)) $$ H17
  iintro H17
  iapply (w_load_full Variants.none (c : Thread nD τ) none (m := arg11)) $$ H11
  iintro H11
  iapply (w_load Variants.none (c : Thread nD τ) none (m := arg16)) $$ H16
  iintro H16
  iapply (w_store Variants.none (c : Thread nD τ) none (m := arg16)) $$ H16
  iintro H16
  iapply (w_load_full Variants.none (c : Thread nD τ) none (m := arg12)) $$ H12
  iintro H12
  iapply (w_load Variants.none (c : Thread nD τ) none (m := arg17)) $$ H17
  iintro H17
  iapply (w_store Variants.none (c : Thread nD τ) none (m := arg17)) $$ H17
  iintro H17
  iapply (w_load_full Variants.none (c : Thread nD τ) none (m := arg21)) $$ H21
  iintro H21
  iapply (w_store_full Variants.none (c : Thread nD τ) none (m := arg21)) $$ H21
  iintro H21
  rw [wp_pure]
  imodintro
  isplitr
  · ipureintro; rfl
  isplitl [H11]
  · iexact H11
  isplitl [H12]
  · iexact H12
  isplitl [H13]
  · iexact H13
  isplitl [H16]
  · iexact H16
  isplitl [H17]
  · iexact H17
  isplitl [H18]
  · iexact H18
  iexact H21

end Cert.Kernel.Hand
-- ==== Proof.OrderPure.lean ====
/-
  The order of experts: no expert twice, every one below 31.
-/
module

public import proofs.«01_k».proof.Proof.CollectPure

@[expose] public section

noncomputable section

namespace Cert.Moe

open Idealize.ShloMosaic

theorem colT_nodup (ids : (⟨2, ![8, 20]⟩ : Shape).Idx → BitVec 32) : ∀ t, (colT ids t).Nodup
  | 0 => List.nodup_nil
  | t + 1 => by
    rw [colT_succ]
    exact ins_nodup (ins_nodup (ins_nodup (ins_nodup (ins_nodup (ins_nodup (ins_nodup (ins_nodup (colT_nodup ids t))))))))

theorem cho_lt (ids : (⟨2, ![8, 20]⟩ : Shape).Idx → BitVec 32) (hids : ∀ i, (ids i).toNat < 31) (k : Fin 8) (t : ℕ) : cho ids k t < 31 := by
  unfold cho
  split
  · exact hids _
  · decide

theorem colT_lt (ids : (⟨2, ![8, 20]⟩ : Shape).Idx → BitVec 32) (hids : ∀ i, (ids i).toNat < 31) : ∀ t, ∀ x ∈ colT ids t, x < 31
  | 0 => fun x h => by cases h
  | t + 1 => fun x h => by
    rw [colT_succ] at h
    simp only [mem_ins] at h
    rcases h with ((((((((h | h) | h) | h) | h) | h) | h) | h) | h)
    · exact colT_lt ids hids t x h
    all_goals (rw [h]; exact cho_lt ids hids _ t)

end Cert.Moe
-- ==== Proof.Body.lean ====
/-
  The kernel's whole run: what it leaves in its result, `outV`, with every buffer and semaphore given back.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Parts
public import proofs.«01_k».proof.Proof.OrderPure

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- The accumulator after the first `i` experts of the order. -/
def accV (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) : ℕ → S32x4096.Idx → Elt F .f32
  | 0 => k0_pay18 (F := F)
  | i + 1 => stepV (xpV x) W3 s4 W5 s6 (icV ids) (rcV rwt) (oF ids i) (accV ids rwt x W3 s4 W5 s6 i)

/-- The kernel's result. -/
def outV (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) : S20x4096.Idx → Elt F .bf16 :=
  k0_pay1 (fun i => accV ids rwt x W3 s4 W5 s6 (colT ids 20).length ((Rect.unit (s := S32x4096) ![0, 0] S20x4096.size inb_S32x4096_S20x4096_0_0).emb i))

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

theorem slots_cases (n : ℕ) : (slot n = 0 ∧ slot (n + 1) = 1) ∨ (slot n = 1 ∧ slot (n + 1) = 0) := by
  rcases Nat.mod_two_eq_zero_or_one n with h | h
  · exact .inl ⟨Fin.ext h, Fin.ext (show (n + 1) % 2 = 1 by omega)⟩
  · exact .inr ⟨Fin.ext h, Fin.ext (show (n + 1) % 2 = 0 by omega)⟩

/-- After the last position every place of the ring is free. -/
theorem ring_end (c : Dev nD) (q3 : Fin 2 → Fin 2 → PosShare TreeShare) (q5 : Fin 2 → Fin 1 → PosShare TreeShare) (N : ℕ) (o : ℕ → Fin 31)
    (W3 : S31x4096x3072.Idx → Elt F .fp8e4m3) (W5 : S31x1536x4096.Idx → Elt F .fp8e4m3) :
    (iprop(guAt c arg3 arg22 arg26 N o q3 W3 N 0 ∗ guAt c arg3 arg22 arg26 N o q3 W3 N 1 ∗ dnAt c arg5 arg23 arg27 N o q5 W5 N 0
      ∗ guAt c arg3 arg22 arg26 N o q3 W3 (N + 1) 0 ∗ guAt c arg3 arg22 arg26 N o q3 W3 (N + 1) 1 ∗ dnAt c arg5 arg23 arg27 N o q5 W5 (N + 1) 0) : sProp 𝕄)
      ⊢ iprop(guFree c arg3 arg22 arg26 (q3 0 0) W3 0 0
      ∗ guFree c arg3 arg22 arg26 (q3 0 1) W3 0 1
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0) := by
  have h0 : ¬N < N := lt_irrefl _
  have h1 : ¬N + 1 < N := by omega
  simp only [guAt, dnAt, if_neg h0, if_neg h1]
  rcases slots_cases N with ⟨e0, e1⟩ | ⟨e0, e1⟩
  · rw [e0, e1]
  · rw [e0, e1]
    iintro ⟨A, B, D, A', B', D'⟩
    isplitl [A']; · iexact A'
    isplitl [B']; · iexact B'
    isplitl [D']; · iexact D'
    isplitl [A]; · iexact A
    isplitl [B]; · iexact B
    iexact D

theorem slot_zero : slot 0 = 0 := rfl

/-- At the first position the ring's copies are the first expert's. -/
theorem guAt_zero (c : Dev nD) {N : ℕ} (h : 0 < N) (o : ℕ → Fin 31) (q3 : Fin 2 → Fin 2 → PosShare TreeShare) (W3 : S31x4096x3072.Idx → Elt F .fp8e4m3) (ch : Fin 2) :
    (guAt c arg3 arg22 arg26 N o q3 W3 0 ch : sProp 𝕄) = guIn c arg3 arg22 arg26 (q3 0 ch) W3 0 ch (o 0) := by
  unfold guAt
  rw [if_pos h, slot_zero]
theorem dnAt_zero (c : Dev nD) {N : ℕ} (h : 0 < N) (o : ℕ → Fin 31) (q5 : Fin 2 → Fin 1 → PosShare TreeShare) (W5 : S31x1536x4096.Idx → Elt F .fp8e4m3) (ch : Fin 1) :
    (dnAt c arg5 arg23 arg27 N o q5 W5 0 ch : sProp 𝕄) = dnIn c arg5 arg23 arg27 (q5 0 ch) W5 0 ch (o 0) := by
  unfold dnAt
  rw [if_pos h, slot_zero]

theorem t3_trip' (c : Dev nD) (v31 : BitVec 32) (k0_hw19 : k0_chk19 v31) (hn : v31.toNat ≤ 31) (N : ℕ) (hN : v31.toNat = N) (o : ℕ → Fin 31)
    (q3 : Fin 2 → Fin 2 → PosShare TreeShare) (q5 : Fin 2 → Fin 1 → PosShare TreeShare)
    (W3 : S31x4096x3072.Idx → Elt F .fp8e4m3) (W5 : S31x1536x4096.Idx → Elt F .fp8e4m3)
    (ord : S32.Idx → Elt F .i32) (hord : ∀ i : S32.Idx, (i 0).val < N → ord i = BitVec.ofNat 32 (o (i 0).val).val)
    (s4 : S31x3072.Idx → Elt F .f32) (s6 : S31x4096.Idx → Elt F .f32)
    (ic : S32x8.Idx → Elt F .i32) (rc : S32x8.Idx → Elt F .f32) (xp : S32x4096.Idx → Elt F .bf16) (acc : ℕ → S32x4096.Idx → Elt F .f32)
    (hacc : ∀ i, acc (i + 1) = stepV xp W3 s4 W5 s6 ic rc (o i) (acc i)) (t : Fin (k0_t3_loop v31).trips) (u : Unit) :
    (tripI arg3 arg5 arg9 arg14 arg15 arg16 arg17 arg18 arg19 arg20 arg21 arg22 arg23 arg26 arg27 c N o q3 q5 W3 W5 ord s4 s6 ic rc xp acc t.val u : sProp 𝕄)
      ⊢ wp frame (wpE (defs₀ (F := F)) Variants.none (c : Thread nD τ) none (Ix := Unit) (Name := ℕ) (U := Pipeline.UD sig nD τ) (Lvl := ℕ)) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32 t u)
        (tripI arg3 arg5 arg9 arg14 arg15 arg16 arg17 arg18 arg19 arg20 arg21 arg22 arg23 arg26 arg27 c N o q3 q5 W3 W5 ord s4 s6 ic rc xp acc (t.val + 1)) := by
  subst hN
  exact t3_trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v31 k0_hw19 hn o q3 q5 W3 W5 ord hord s4 s6 ic rc xp acc hacc t u

theorem accV_zero (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) : accV ids rwt x W3 s4 W5 s6 0 = k0_pay18 (F := F) := by rw [accV]

theorem accV_succ (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) (i : ℕ) :
    accV ids rwt x W3 s4 W5 s6 (i + 1) = stepV (xpV x) W3 s4 W5 s6 (icV ids) (rcV rwt) (oF ids i) (accV ids rwt x W3 s4 W5 s6 i) := by rw [accV]

/-- The whole loop over the experts. -/
theorem loop_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) (q3 : Fin 2 → Fin 2 → PosShare TreeShare) (q5 : Fin 2 → Fin 1 → PosShare TreeShare)
    (v31 : BitVec 32) (k0_hw19 : k0_chk19 v31) (hn : v31.toNat ≤ 31) (N : ℕ) (hN : v31.toNat = N)
    (ord : S32.Idx → Elt F .i32) (hord : ∀ i : S32.Idx, (i 0).val < N → ord i = BitVec.ofNat 32 (oF ids (i 0).val).val)
    {α : Type} {Φ : α → sProp (MT nD τ sig Unit (Elt F) ℕ (Pipeline.UD sig nD τ) ℕ)} {kk : Unit → Prog (TpuEff nD τ sig (Elt F) Λ₀ .tc) α} :
    (tripI arg3 arg5 arg9 arg14 arg15 arg16 arg17 arg18 arg19 arg20 arg21 arg22 arg23 arg26 arg27 c N (oF ids) q3 q5 W3 W5 ord s4 s6 (icV ids) (rcV rwt) (xpV x) (accV ids rwt x W3 s4 W5 s6) 0 () : sProp 𝕄)
      ⊢ iprop((∀ u, tripI arg3 arg5 arg9 arg14 arg15 arg16 arg17 arg18 arg19 arg20 arg21 arg22 arg23 arg26 arg27 c N (oF ids) q3 q5 W3 W5 ord s4 s6 (icV ids) (rcV rwt) (xpV x) (accV ids rwt x W3 s4 W5 s6) N u -∗ wp frame (wpE (defs₀ (F := F)) Variants.none (c : Thread nD τ) none (Ix := Unit) (Name := ℕ) (U := Pipeline.UD sig nD τ) (Lvl := ℕ)) Set.univ (kk u) Φ)
        -∗ wp frame (wpE (defs₀ (F := F)) Variants.none (c : Thread nD τ) none (Ix := Unit) (Name := ℕ) (U := Pipeline.UD sig nD τ) (Lvl := ℕ)) Set.univ (Scf.Loop.for (k0_t3_loop v31) (k0_t3_ok v31 k0_hw19) () (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32) >>= kk) Φ) := by
  have htr : (k0_t3_loop v31).trips = N := (t3_trips hn).trans hN
  have hb := fun (t : Fin (k0_t3_loop v31).trips) (u : Unit) =>
    t3_trip' arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v31 k0_hw19 hn N hN (oF ids) q3 q5 W3 W5 ord hord s4 s6 (icV ids) (rcV rwt) (xpV x) (accV ids rwt x W3 s4 W5 s6) (accV_succ ids rwt x W3 s4 W5 s6) t u
  generalize accV ids rwt x W3 s4 W5 s6 = acc at hb ⊢
  have key := Scf.wp_for_bind frame (wpE (defs₀ (F := F)) Variants.none (c : Thread nD τ) none (Ix := Unit) (Name := ℕ) (U := Pipeline.UD sig nD τ) (Lvl := ℕ)) Set.univ (k0_t3_loop v31).lb (k0_t3_loop v31).ub (k0_t3_loop v31).st (k0_t3_ok v31 k0_hw19) ()
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32) (tripI arg3 arg5 arg9 arg14 arg15 arg16 arg17 arg18 arg19 arg20 arg21 arg22 arg23 arg26 arg27 c N (oF ids) q3 q5 W3 W5 ord s4 s6 (icV ids) (rcV rwt) (xpV x) acc) hb (kk := kk) (Q := Φ)
  rw [show Scf.trips (k0_t3_loop v31).lb (k0_t3_loop v31).ub (k0_t3_loop v31).st = N from htr] at key
  exact key

theorem colT_len_le (ids : S8x20.Idx → Elt F .i32) (hids : ∀ i, BitVec.toNat (ids i) < 31) : (colT ids 20).length ≤ 31 :=
  len_le_of (colT_nodup ids 20) (colT_lt ids hids 20)

set_option maxHeartbeats 1000000 in
theorem body_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32)
    (qa qb : PosShare TreeShare) (q3 : Fin 2 → Fin 2 → PosShare TreeShare) (q5 : Fin 2 → Fin 1 → PosShare TreeShare) (hids : ∀ i, BitVec.toNat (ids i) < 31) :
    (iprop(owns (c : Thread nD τ) arg0 qa ids
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ (∃ v, owns (c : Thread nD τ) arg8 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ guFree c arg3 arg22 arg26 (q3 0 0) W3 0 0
      ∗ guFree c arg3 arg22 arg26 (q3 0 1) W3 0 1
      ∗ (∃ v, owns (c : Thread nD τ) arg7 fullShare v)
      ∗ (∃ v, owns (c : Thread nD τ) arg9 fullShare v)
      ∗ (∃ v, owns (c : Thread nD τ) arg10 fullShare v)
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (cc0_moe_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27) (fun _ => iprop(owns (c : Thread nD τ) arg0 qa ids
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ owns (c : Thread nD τ) arg7 fullShare (outV ids rwt x W3 s4 W5 s6)
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ guFree c arg3 arg22 arg26 (q3 0 0) W3 0 0
      ∗ guFree c arg3 arg22 arg26 (q3 0 1) W3 0 1
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0
      ∗ (∃ W, owes (c : Thread nD τ) 0 W))) := by
  have hpos := colT_pos (F := F) ids
  rw [cc0_moe_decode_eq_skeleton]
  iintro ⟨H0, H0b, H1, H2, H4, H6, H8, H11, H12, H13, H14, H15, S, S0, S1, S2, S3, S4, HA, HB, H7, H9, H10, HD, HA', HB', HD', H16, H17, H18, H19, H20, H21, HO⟩
  dsimp only [cc0_moe_decode_skel]
  iapply (w_seq c (part9_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 qa qb q3 q5 hids)) $$ [H0 H0b H1 H2 H4 H6 H8 H11 H12 H13 H14 H15 S S0 S1 S2 S3 S4 HA HB HO]
  · isplitl [H0]; · iexact H0
    isplitl [H0b]; · iexact H0b
    isplitl [H1]; · iexact H1
    isplitl [H2]; · iexact H2
    isplitl [H4]; · iexact H4
    isplitl [H6]; · iexact H6
    isplitl [H8]; · iexact H8
    isplitl [H11]; · iexact H11
    isplitl [H12]; · iexact H12
    isplitl [H13]; · iexact H13
    isplitl [H14]; · iexact H14
    isplitl [H15]; · iexact H15
    isplitl [S]; · iexact S
    isplitl [S0]; · iexact S0
    isplitl [S1]; · iexact S1
    isplitl [S2]; · iexact S2
    isplitl [S3]; · iexact S3
    isplitl [S4]; · iexact S4
    isplitl [HA]; · iexact HA
    isplitl [HB]; · iexact HB
    iexact HO
  iintro %r ⟨%hv, H0, H8, S, C0, C1, C2, C3, C4, HA, HB, HO⟩
  obtain ⟨v10, k0_hw1⟩ := r
  dsimp only at hv ⊢
  iapply (w_seq c (part10_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 qa qb q3 q5 hids v10 k0_hw1 hv)) $$ [H8 H9 H10 C0 C1 C2 C3 C4 HD HA' HB' HD' H18 HO]
  · isplitl [H8]; · iexact H8
    isplitl [H9]; · iexact H9
    isplitl [H10]; · iexact H10
    isplitl [C0]; · iexact C0
    isplitl [C1]; · iexact C1
    isplitl [C2]; · iexact C2
    isplitl [C3]; · iexact C3
    isplitl [C4]; · iexact C4
    isplitl [HD]; · iexact HD
    isplitl [HA']; · iexact HA'
    isplitl [HB']; · iexact HB'
    isplitl [HD']; · iexact HD'
    isplitl [H18]; · iexact H18
    iexact HO
  iintro %r ⟨%hlen, H8, ⟨%ord, %hord, H9⟩, H10, H0b, H1, H2, H4, H6, H11, H12, H13, H14, H15, S0, S1, S2, S3, S4, HD, HA', HB', HD', H18, HO⟩
  obtain ⟨v31, k0_hw19⟩ := r
  dsimp only at hlen ⊢
  have hn : BitVec.toNat (w := 32) v31 ≤ 31 := by
    rw [hlen]
    exact colT_len_le ids hids
  iapply (w_seq c (part11_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x v31)) $$ [H11 H12 H13 H16 H17 H18 H21]
  · isplitl [H11]; · iexact H11
    isplitl [H12]; · iexact H12
    isplitl [H13]; · iexact H13
    isplitl [H16]; · iexact H16
    isplitl [H17]; · iexact H17
    isplitl [H18]; · iexact H18
    iexact H21
  iintro %r ⟨%hz, H11, H12, H13, H16, H17, H18, H21⟩
  obtain ⟨z, v79⟩ := r
  dsimp only at hz ⊢
  subst hz
  -- the loop over the experts
  iapply (loop_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 q3 q5 v31 k0_hw19 hn _ hlen ord hord)
    $$ [H9 H14 H15 H16 H17 H18 H19 H20 H21 HO HA HB HD HA' HB' HD']
  · unfold tripI
    rw [accV_zero, guAt_zero arg3 arg22 arg26 c hpos, guAt_zero arg3 arg22 arg26 c hpos, dnAt_zero arg5 arg23 arg27 c hpos]
    isplitl [H9]; · iexact H9
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HO]; · iexact HO
    isplitl [HA]; · iexact HA
    isplitl [HB]; · iexact HB
    isplitl [HD]; · iexact HD
    isplitl [HA']; · iexact HA'
    isplitl [HB']; · iexact HB'
    iexact HD'
  iintro %u H
  unfold tripI
  icases H with ⟨H9, H14, H15, H16, H17, H18, H19, H20, H21, HO, HA, HB, HD, HA', HB', HD'⟩
  ihave HR := (ring_end arg3 arg5 arg22 arg23 arg26 arg27 c q3 q5 (colT ids 20).length (oF ids) W3 W5) $$ [HA HB HD HA' HB' HD']
  · isplitl [HA]; · iexact HA
    isplitl [HB]; · iexact HB
    isplitl [HD]; · iexact HD
    isplitl [HA']; · iexact HA'
    isplitl [HB']; · iexact HB'
    iexact HD'
  icases HR with ⟨HA, HB, HD, HA', HB', HD'⟩
  -- no trip is left over
  iapply (Scf.wp_for_bind frame (wpE (defs₀ (F := F)) Variants.none (c : Thread nD τ) none (Ix := Unit) (Name := ℕ) (U := Pipeline.UD sig nD τ) (Lvl := ℕ)) Set.univ _ _ _ _ _ _ (fun _ _ => iprop(emp)) (fun t u => (t4_none hn t).elim)) $$ []
  · iempintro
  iintro %_ -
  iapply (w_load Variants.none (c : Thread nD τ) none (m := arg21)) $$ H21
  iintro H21
  icases H7 with ⟨%v7, H7⟩
  iapply (w_load_full Variants.none (c : Thread nD τ) none (m := arg7)) $$ H7
  iintro H7
  iapply (w_store_full Variants.none (c : Thread nD τ) none (m := arg7)) $$ H7
  iintro H7
  rw [wp_pure]
  imodintro
  isplitl [H0]
  · iexact H0
  isplitl [H0b]
  · iexact H0b
  isplitl [H1]
  · iexact H1
  isplitl [H2]
  · iexact H2
  isplitl [H4]
  · iexact H4
  isplitl [H6]
  · iexact H6
  isplitl [H7]
  · iexact H7
  isplitl [H8]
  · iexists _; iexact H8
  isplitl [H9]
  · iexists _; iexact H9
  isplitl [H10]
  · iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexact H19
  isplitl [H20]
  · iexact H20
  isplitl [H21]
  · iexists _; iexact H21
  isplitl [S]
  · iexact S
  isplitl [S0]
  · iexact S0
  isplitl [S1]
  · iexact S1
  isplitl [S2]
  · iexact S2
  isplitl [S3]
  · iexact S3
  isplitl [S4]
  · iexact S4
  isplitl [HA]
  · iexact HA
  isplitl [HB]
  · iexact HB
  isplitl [HD]
  · iexact HD
  isplitl [HA']
  · iexact HA'
  isplitl [HB']
  · iexact HB'
  isplitl [HD']
  · iexact HD'
  iexact HO

end Cert.Kernel.Hand
-- ==== Proof.Places.lean ====
/-
  A buffer cut into places: owned at some contents, it is each of a disjoint covering family of its rectangles owned at
  some contents, a rectangle read through a squeeze included; and a share cut into two or four.
-/
module

public import Idealize.ShloMosaic.Lib.Tactic
public import Idealize.ShloMosaic.Lib.Memref
public import Idealize.ShloMosaic.Lib.MemrefSat

@[expose] public section

noncomputable section

namespace Cert.Moe

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

open Classical in
/-- Values given on each of a disjoint family of rectangles are those of one function. -/
theorem glue {T V : Type} [Nonempty V] {s : Shape} (r : T → Rect s) (hd : ∀ t t', t ≠ t' → Disjoint (r t).set (r t').set)
    (v : ∀ t, (r t).shape.Idx → V) : ∃ X : s.Idx → V, ∀ t, (fun j => X ((r t).emb j)) = v t := by
  refine ⟨fun y => if h : ∃ p : (t : T) × (r t).shape.Idx, (r p.1).emb p.2 = y then v h.choose.1 h.choose.2 else Classical.arbitrary V, fun t => funext fun j => ?_⟩
  have h : ∃ p : (t : T) × (r t).shape.Idx, (r p.1).emb p.2 = (r t).emb j := ⟨⟨t, j⟩, rfl⟩
  dsimp only
  rw [dif_pos h]
  have hp : h.choose = ⟨t, j⟩ := by
    have hs := h.choose_spec
    generalize h.choose = p at hs
    obtain ⟨t', j'⟩ := p
    dsimp only at hs
    by_cases e : t' = t
    · subst e
      rw [(r t').emb.injective hs]
    · have h1 : (r t').emb j' ∈ (r t').set := (r t').map_emb_univ ▸ Finset.mem_map_of_mem _ (Finset.mem_univ j')
      have h2 : (r t').emb j' ∈ (r t).set := hs ▸ (r t).map_emb_univ ▸ Finset.mem_map_of_mem _ (Finset.mem_univ j)
      exact absurd h2 (Finset.disjoint_left.mp (hd t' t e) h1)
  rw [hp]

variable {nD : Nat} {τ : Topo} {sig : RefSig} {Ix : Type} [DecidableEq Ix] {Val : EltTy → Type} {Name : Type} [DecidableEq Name]
variable {U : Type} [URA U] {Lvl : Type}
local notation "𝕄" => MT nD τ sig Ix Val Name U Lvl
variable (c : Thread nD τ) {sp : Space} {sh s' : Shape} {e : EltTy} (m : Memref sig c.2.kind sp sh e) (q : PosShare TreeShare)

/-- Owned at some values, squeezed or not. -/
theorem some_squeeze (h : sh.Squeezes s') :
    (iprop(∃ v, owns c (m.squeeze s' h) q v) : sProp 𝕄) ⊣⊢ iprop(∃ v, owns c m q v) := by
  have hs : (m.squeeze s' h).view.set = m.view.set := View.set_reshape _ _
  constructor
  · unfold owns
    iintro ⟨%v, %f, -, H⟩
    iexists _, f
    isplitr
    · ipureintro; rfl
    · rw [hs]; iexact H
  · unfold owns
    iintro ⟨%v, %f, -, H⟩
    iexists _, f
    isplitr
    · ipureintro; rfl
    · rw [hs]; iexact H

variable {T : Type} [Fintype T] [DecidableEq T] (r : T → Rect sh) (hr : ∀ t a, (r t).stride a = 1)
  (hd : ∀ t t', t ≠ t' → Disjoint (r t).set (r t').set)
  (hcov : ∀ y : sh.Idx, ∃ t, y ∈ (r t).set)
include hd hcov

/-- A memref owned at some values: its rectangles owned at some values, -/
theorem some_rects : (iprop(∃ X, owns c m q X) : sProp 𝕄) ⊢ iprop(∃ v : ∀ t, (r t).shape.Idx → Val e, BI.bigSep Finset.univ fun t => owns c (m.slice (r t) (hr t)) q (v t)) := by
  have hc : (Finset.univ : Finset T).biUnion (fun t => (r t).set) = Finset.univ :=
    Finset.eq_univ_iff_forall.mpr fun y => let ⟨t, ht⟩ := hcov y; Finset.mem_biUnion.mpr ⟨t, Finset.mem_univ _, ht⟩
  iintro ⟨%X, H⟩
  iexists (fun t j => X ((r t).emb j))
  iapply (owns_rects c m q r hr hd hc X) $$ H

/-- and back. -/
theorem some_of_rects [∀ e, Nonempty (Val e)] (v : ∀ t, (r t).shape.Idx → Val e) :
    (BI.bigSep Finset.univ fun t => owns c (m.slice (r t) (hr t)) q (v t)) ⊢ (iprop(∃ X, owns c m q X) : sProp 𝕄) := by
  have hc : (Finset.univ : Finset T).biUnion (fun t => (r t).set) = Finset.univ :=
    Finset.eq_univ_iff_forall.mpr fun y => let ⟨t, ht⟩ := hcov y; Finset.mem_biUnion.mpr ⟨t, Finset.mem_univ _, ht⟩
  obtain ⟨X, hX⟩ := glue r hd v
  simp only [← hX]
  iintro H
  iexists X
  iapply (owns_of_rects c m q r hr hd hc X) $$ H

end Cert.Moe

end
-- ==== Proof.Whole.lean ====
/-
  The kernel's run with its buffers whole: the two weight rings cut into their places and the weights' shares handed
  out before it, both joined again after it.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Body
public import proofs.«01_k».proof.Proof.Places

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- The two halves of a share, by number. -/
def half (q : PosShare TreeShare) (i : Fin 2) : PosShare TreeShare := if i = 0 then q.left else q.right
/-- The share of the gate-and-up weights that goes with a place of the ring, -/
def q3 (s ch : Fin 2) : PosShare TreeShare := half (half fullShare s) ch
/-- and of the down weights. -/
def q5 (s : Fin 2) (_ : Fin 1) : PosShare TreeShare := half fullShare s

section
variable {sp : Space} {s : Shape} {e : EltTy} (c : Thread nD τ) (m : Memref sig c.2.kind sp s e) (X : s.Idx → Elt F e)
omit [FloatOps F] in
theorem share2 : (owns c m fullShare X : sProp 𝕄) ⊣⊢ iprop(owns c m (q5 0 0) X ∗ owns c m (q5 1 0) X) := owns_halves c m fullShare X
omit [FloatOps F] in
theorem share4 : (owns c m fullShare X : sProp 𝕄) ⊣⊢ iprop(owns c m (q3 0 0) X ∗ owns c m (q3 0 1) X ∗ owns c m (q3 1 0) X ∗ owns c m (q3 1 1) X) := by
  constructor
  · iintro H
    ihave H := (owns_halves c m fullShare X).1 $$ H
    icases H with ⟨H0, H1⟩
    ihave H0 := (owns_halves c m fullShare.left X).1 $$ H0
    icases H0 with ⟨H00, H01⟩
    ihave H1 := (owns_halves c m fullShare.right X).1 $$ H1
    icases H1 with ⟨H10, H11⟩
    isplitl [H00]; · iexact H00
    isplitl [H01]; · iexact H01
    isplitl [H10]; · iexact H10
    iexact H11
  · iintro ⟨H00, H01, H10, H11⟩
    iapply (owns_halves c m fullShare X).2
    isplitl [H00 H01]
    · iapply (owns_halves c m fullShare.left X).2
      isplitl [H00]; · iexact H00
      iexact H01
    · iapply (owns_halves c m fullShare.right X).2
      isplitl [H10]; · iexact H10
      iexact H11
end

/-- The rectangle of a place of the gate-and-up ring, -/
abbrev guR (t : Fin 2 × Fin 2) : Rect S2x2x2048x3072 := Rect.unit (s := S2x2x2048x3072) ![t.1.val, t.2.val, 0, 0] S1x1x2048x3072.size (gu_inb _ t.1.isLt t.2.isLt rfl rfl)
/-- and of the down ring. -/
abbrev dnR (t : Fin 2) : Rect S2x1x1536x4096 := Rect.unit (s := S2x1x1536x4096) ![t.val, (0 : Fin 1).val, 0, 0] S1x1x1536x4096.size (dn_inb _ t.isLt (Fin.val_eq_zero (0 : Fin 1)) rfl rfl)

theorem guR_disjoint (t t' : Fin 2 × Fin 2) (h : t ≠ t') : Disjoint (guR t).set (guR t').set := by
  by_cases h1 : t.1 = t'.1
  · have h2 : t.2 ≠ t'.2 := fun h2 => h (Prod.ext h1 h2)
    refine Rect.unit_disjoint 1 ?_
    have : t.2.val ≠ t'.2.val := fun e => h2 (Fin.ext e)
    show t.2.val + 1 ≤ t'.2.val ∨ t'.2.val + 1 ≤ t.2.val
    omega
  · refine Rect.unit_disjoint 0 ?_
    have : t.1.val ≠ t'.1.val := fun e => h1 (Fin.ext e)
    show t.1.val + 1 ≤ t'.1.val ∨ t'.1.val + 1 ≤ t.1.val
    omega
theorem dnR_disjoint (t t' : Fin 2) (h : t ≠ t') : Disjoint (dnR t).set (dnR t').set := by
  refine Rect.unit_disjoint 0 ?_
  have : t.val ≠ t'.val := fun e => h (Fin.ext e)
  show t.val + 1 ≤ t'.val ∨ t'.val + 1 ≤ t.val
  omega
theorem guR_cover (y : S2x2x2048x3072.Idx) : ∃ t, y ∈ (guR t).set := by
  refine ⟨(y 0, y 1), Rect.mem_set_unit.mpr fun a => ?_⟩
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, (Nat.zero_add 2048).symm ▸ (y 2).isLt⟩
  | ⟨3, _⟩ => exact ⟨Nat.zero_le _, (Nat.zero_add 3072).symm ▸ (y 3).isLt⟩
theorem dnR_cover (y : S2x1x1536x4096.Idx) : ∃ t, y ∈ (dnR t).set := by
  refine ⟨y 0, Rect.mem_set_unit.mpr fun a => ?_⟩
  match a with
  | ⟨0, _⟩ => exact ⟨Nat.le_refl _, Nat.lt_succ_self _⟩
  | ⟨1, _⟩ => exact ⟨Nat.zero_le _, (Nat.zero_add 1).symm ▸ (y 1).isLt⟩
  | ⟨2, _⟩ => exact ⟨Nat.zero_le _, (Nat.zero_add 1536).symm ▸ (y 2).isLt⟩
  | ⟨3, _⟩ => exact ⟨Nat.zero_le _, (Nat.zero_add 4096).symm ▸ (y 3).isLt⟩

omit [FloatOps F] in
theorem bigSep_four (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
omit [FloatOps F] in
theorem bigSep_two (Φ : Fin 2 → sProp 𝕄) : bigSep Finset.univ Φ = iprop(Φ 0 ∗ Φ 1) :=
  bigSep_univ_eq_bigSepL [0, 1] (by decide) (by decide) Φ

section
variable (m : Memref sig .tc .vmem S2x2x2048x3072 .fp8e4m3) (c : Dev nD)
abbrev guP (s ch : Fin 2) : sProp 𝕄 := iprop(∃ v, owns (c : Thread nD τ) (guM m s ch) fullShare v)

theorem gu_cut : (iprop(∃ X, owns (c : Thread nD τ) m fullShare X) : sProp 𝕄) ⊢ iprop(guP (F := F) m c 0 0 ∗ guP (F := F) m c 0 1 ∗ guP (F := F) m c 1 0 ∗ guP (F := F) m c 1 1) := by
  iintro H
  ihave H := (some_rects (c : Thread nD τ) m fullShare guR (fun _ _ => rfl) guR_disjoint guR_cover) $$ H
  icases H with ⟨%v, H⟩
  ihave H := (show _ ⊢ _ from by rw [bigSep_four]) $$ H
  icases H with ⟨H0, H1, H2, H3⟩
  isplitl [H0]
  · iapply (some_squeeze (c : Thread nD τ) _ fullShare squeezes_S1x1x2048x3072_S2048x3072).2
    iexists _; iexact H0
  isplitl [H1]
  · iapply (some_squeeze (c : Thread nD τ) _ fullShare squeezes_S1x1x2048x3072_S2048x3072).2
    iexists _; iexact H1
  isplitl [H2]
  · iapply (some_squeeze (c : Thread nD τ) _ fullShare squeezes_S1x1x2048x3072_S2048x3072).2
    iexists _; iexact H2
  iapply (some_squeeze (c : Thread nD τ) _ fullShare squeezes_S1x1x2048x3072_S2048x3072).2
  iexists _; iexact H3

theorem gu_join : iprop(guP (F := F) m c 0 0 ∗ guP (F := F) m c 0 1 ∗ guP (F := F) m c 1 0 ∗ guP (F := F) m c 1 1) ⊢ (iprop(∃ X, owns (c : Thread nD τ) m fullShare X) : sProp 𝕄) := by
  iintro ⟨H0, H1, H2, H3⟩
  ihave H0 := (some_squeeze (c : Thread nD τ) (m.slice (guR (0, 0)) (fun _ => rfl)) fullShare squeezes_S1x1x2048x3072_S2048x3072).1 $$ H0
  ihave H1 := (some_squeeze (c : Thread nD τ) (m.slice (guR (0, 1)) (fun _ => rfl)) fullShare squeezes_S1x1x2048x3072_S2048x3072).1 $$ H1
  ihave H2 := (some_squeeze (c : Thread nD τ) (m.slice (guR (1, 0)) (fun _ => rfl)) fullShare squeezes_S1x1x2048x3072_S2048x3072).1 $$ H2
  ihave H3 := (some_squeeze (c : Thread nD τ) (m.slice (guR (1, 1)) (fun _ => rfl)) fullShare squeezes_S1x1x2048x3072_S2048x3072).1 $$ H3
  icases H0 with ⟨%v0, H0⟩
  icases H1 with ⟨%v1, H1⟩
  icases H2 with ⟨%v2, H2⟩
  icases H3 with ⟨%v3, H3⟩
  iapply (some_of_rects (c : Thread nD τ) m fullShare guR (fun _ _ => rfl) guR_disjoint guR_cover (fun t => match t with
    | (0, 0) => v0 | (0, 1) => v1 | (1, 0) => v2 | (1, 1) => v3))
  rw [bigSep_four]
  isplitl [H0]; · iexact H0
  isplitl [H1]; · iexact H1
  isplitl [H2]; · iexact H2
  iexact H3
end

section
variable (m : Memref sig .tc .vmem S2x1x1536x4096 .fp8e4m3) (c : Dev nD)
abbrev dnP (s : Fin 2) : sProp 𝕄 := iprop(∃ v, owns (c : Thread nD τ) (dnM m s 0) fullShare v)

theorem dn_cut : (iprop(∃ X, owns (c : Thread nD τ) m fullShare X) : sProp 𝕄) ⊢ iprop(dnP (F := F) m c 0 ∗ dnP (F := F) m c 1) := by
  iintro H
  ihave H := (some_rects (c : Thread nD τ) m fullShare dnR (fun _ _ => rfl) dnR_disjoint dnR_cover) $$ H
  icases H with ⟨%v, H⟩
  ihave H := (show _ ⊢ _ from by rw [bigSep_two]) $$ H
  icases H with ⟨H0, H1⟩
  isplitl [H0]
  · iapply (some_squeeze (c : Thread nD τ) _ fullShare squeezes_S1x1x1536x4096_S1536x4096).2
    iexists _; iexact H0
  iapply (some_squeeze (c : Thread nD τ) _ fullShare squeezes_S1x1x1536x4096_S1536x4096).2
  iexists _; iexact H1

theorem dn_join : iprop(dnP (F := F) m c 0 ∗ dnP (F := F) m c 1) ⊢ (iprop(∃ X, owns (c : Thread nD τ) m fullShare X) : sProp 𝕄) := by
  iintro ⟨H0, H1⟩
  ihave H0 := (some_squeeze (c : Thread nD τ) (m.slice (dnR 0) (fun _ => rfl)) fullShare squeezes_S1x1x1536x4096_S1536x4096).1 $$ H0
  ihave H1 := (some_squeeze (c : Thread nD τ) (m.slice (dnR 1) (fun _ => rfl)) fullShare squeezes_S1x1x1536x4096_S1536x4096).1 $$ H1
  icases H0 with ⟨%v0, H0⟩
  icases H1 with ⟨%v1, H1⟩
  iapply (some_of_rects (c : Thread nD τ) m fullShare dnR (fun _ _ => rfl) dnR_disjoint dnR_cover (fun t => match t with | 0 => v0 | 1 => v1))
  rw [bigSep_two]
  isplitl [H0]; · iexact H0
  iexact H1
end

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

/-- On its inputs whole, its scratch at anything and its semaphores at zero the kernel leaves `outV` in its result, its
    inputs as they were and its semaphores at zero. -/
theorem whole_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) (hids : ∀ i, BitVec.toNat (ids i) < 31) :
    (iprop(owns (c : Thread nD τ) arg0 fullShare ids
      ∗ owns (c : Thread nD τ) arg1 fullShare rwt
      ∗ owns (c : Thread nD τ) arg2 fullShare x
      ∗ owns (c : Thread nD τ) arg3 fullShare W3
      ∗ owns (c : Thread nD τ) arg4 fullShare s4
      ∗ owns (c : Thread nD τ) arg5 fullShare W5
      ∗ owns (c : Thread nD τ) arg6 fullShare s6
      ∗ (∃ v, owns (c : Thread nD τ) arg7 fullShare v)
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ (∃ v, owns (c : Thread nD τ) arg22 fullShare v)
      ∗ (∃ v, owns (c : Thread nD τ) arg23 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ semVal ((c : Thread nD τ), (SemLoc.dma (guS arg26 0 0) : SemLoc sig)) 0
      ∗ semVal ((c : Thread nD τ), (SemLoc.dma (guS arg26 0 1) : SemLoc sig)) 0
      ∗ semVal ((c : Thread nD τ), (SemLoc.dma (guS arg26 1 0) : SemLoc sig)) 0
      ∗ semVal ((c : Thread nD τ), (SemLoc.dma (guS arg26 1 1) : SemLoc sig)) 0
      ∗ semVal ((c : Thread nD τ), (SemLoc.dma (dnS arg27 0 0) : SemLoc sig)) 0
      ∗ semVal ((c : Thread nD τ), (SemLoc.dma (dnS arg27 1 0) : SemLoc sig)) 0
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (cc0_moe_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27) (fun _ => iprop(owns (c : Thread nD τ) arg0 fullShare ids
      ∗ owns (c : Thread nD τ) arg1 fullShare rwt
      ∗ owns (c : Thread nD τ) arg2 fullShare x
      ∗ owns (c : Thread nD τ) arg3 fullShare W3
      ∗ owns (c : Thread nD τ) arg4 fullShare s4
      ∗ owns (c : Thread nD τ) arg5 fullShare W5
      ∗ owns (c : Thread nD τ) arg6 fullShare s6
      ∗ owns (c : Thread nD τ) arg7 fullShare (outV ids rwt x W3 s4 W5 s6)
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ (∃ v, owns (c : Thread nD τ) arg22 fullShare v)
      ∗ (∃ v, owns (c : Thread nD τ) arg23 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ semVal ((c : Thread nD τ), (SemLoc.dma (guS arg26 0 0) : SemLoc sig)) 0
      ∗ semVal ((c : Thread nD τ), (SemLoc.dma (guS arg26 0 1) : SemLoc sig)) 0
      ∗ semVal ((c : Thread nD τ), (SemLoc.dma (guS arg26 1 0) : SemLoc sig)) 0
      ∗ semVal ((c : Thread nD τ), (SemLoc.dma (guS arg26 1 1) : SemLoc sig)) 0
      ∗ semVal ((c : Thread nD τ), (SemLoc.dma (dnS arg27 0 0) : SemLoc sig)) 0
      ∗ semVal ((c : Thread nD τ), (SemLoc.dma (dnS arg27 1 0) : SemLoc sig)) 0
      ∗ (∃ W, owes (c : Thread nD τ) 0 W))) := by
  iintro ⟨H0, H1, H2, H3, H4, H5, H6, H7, H8, H9, H10, H11, H12, H13, H14, H15, H16, H17, H18, H19, H20, H21, H22, H23, S, S0, S1, S2, S3, S4, G00, G01, G10, G11, D0, D1, HO⟩
  ihave H0 := (owns_halves (c : Thread nD τ) arg0 fullShare ids).1 $$ H0
  icases H0 with ⟨H0, H0b⟩
  ihave H3 := (share4 (c : Thread nD τ) arg3 W3).1 $$ H3
  icases H3 with ⟨A00, A01, A10, A11⟩
  ihave H5 := (share2 (c : Thread nD τ) arg5 W5).1 $$ H5
  icases H5 with ⟨B0, B1⟩
  ihave H22 := (gu_cut arg22 c) $$ H22
  icases H22 with ⟨P00, P01, P10, P11⟩
  ihave H23 := (dn_cut arg23 c) $$ H23
  icases H23 with ⟨Q0, Q1⟩
  iapply (wp_wand_r)
  isplitl [H0 H0b H1 H2 H4 H6 H8 H11 H12 H13 H14 H15 S S0 S1 S2 S3 S4 A00 P00 G00 A01 P01 G01 H7 H9 H10 B0 Q0 D0 A10 P10 G10 A11 P11 G11 B1 Q1 D1 H16 H17 H18 H19 H20 H21 HO]
  · iapply (body_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 fullShare.left fullShare.right q3 q5 hids)
    isplitl [H0]
    · iexact H0
    isplitl [H0b]
    · iexact H0b
    isplitl [H1]
    · iexact H1
    isplitl [H2]
    · iexact H2
    isplitl [H4]
    · iexact H4
    isplitl [H6]
    · iexact H6
    isplitl [H8]
    · iexact H8
    isplitl [H11]
    · iexact H11
    isplitl [H12]
    · iexact H12
    isplitl [H13]
    · iexact H13
    isplitl [H14]
    · iexact H14
    isplitl [H15]
    · iexact H15
    isplitl [S]
    · iexact S
    isplitl [S0]
    · iexact S0
    isplitl [S1]
    · iexact S1
    isplitl [S2]
    · iexact S2
    isplitl [S3]
    · iexact S3
    isplitl [S4]
    · iexact S4
    isplitl [A00 P00 G00]
    · unfold guFree guGot
      icases P00 with ⟨%v, P00⟩
      iexists v
      isplitl [P00]; · iexact P00
      isplitl [A00]; · iexact A00
      iexact G00
    isplitl [A01 P01 G01]
    · unfold guFree guGot
      icases P01 with ⟨%v, P01⟩
      iexists v
      isplitl [P01]; · iexact P01
      isplitl [A01]; · iexact A01
      iexact G01
    isplitl [H7]
    · iexact H7
    isplitl [H9]
    · iexact H9
    isplitl [H10]
    · iexact H10
    isplitl [B0 Q0 D0]
    · unfold dnFree dnGot
      icases Q0 with ⟨%v, Q0⟩
      iexists v
      isplitl [Q0]; · iexact Q0
      isplitl [B0]; · iexact B0
      iexact D0
    isplitl [A10 P10 G10]
    · unfold guFree guGot
      icases P10 with ⟨%v, P10⟩
      iexists v
      isplitl [P10]; · iexact P10
      isplitl [A10]; · iexact A10
      iexact G10
    isplitl [A11 P11 G11]
    · unfold guFree guGot
      icases P11 with ⟨%v, P11⟩
      iexists v
      isplitl [P11]; · iexact P11
      isplitl [A11]; · iexact A11
      iexact G11
    isplitl [B1 Q1 D1]
    · unfold dnFree dnGot
      icases Q1 with ⟨%v, Q1⟩
      iexists v
      isplitl [Q1]; · iexact Q1
      isplitl [B1]; · iexact B1
      iexact D1
    isplitl [H16]
    · iexact H16
    isplitl [H17]
    · iexact H17
    isplitl [H18]
    · iexact H18
    isplitl [H19]
    · iexact H19
    isplitl [H20]
    · iexact H20
    isplitl [H21]
    · iexact H21
    iexact HO
  unfold guFree guGot dnFree dnGot
  iintro %_ ⟨H0, H0b, H1, H2, H4, H6, H7, H8, H9, H10, H11, H12, H13, H14, H15, H16, H17, H18, H19, H20, H21, S, S0, S1, S2, S3, S4, ⟨%_, P00, A00, G00⟩, ⟨%_, P01, A01, G01⟩, ⟨%_, Q0, B0, D0⟩, ⟨%_, P10, A10, G10⟩, ⟨%_, P11, A11, G11⟩, ⟨%_, Q1, B1, D1⟩, HO⟩
  isplitl [H0 H0b]
  · iapply (owns_halves (c : Thread nD τ) arg0 fullShare ids).2 $$ [H0 H0b]
    isplitl [H0]; · iexact H0
    iexact H0b
  isplitl [H1]
  · iexact H1
  isplitl [H2]
  · iexact H2
  isplitl [A00 A01 A10 A11]
  · iapply (share4 (c : Thread nD τ) arg3 W3).2 $$ [A00 A01 A10 A11]
    isplitl [A00]
    · iexact A00
    isplitl [A01]
    · iexact A01
    isplitl [A10]
    · iexact A10
    iexact A11
  isplitl [H4]
  · iexact H4
  isplitl [B0 B1]
  · iapply (share2 (c : Thread nD τ) arg5 W5).2 $$ [B0 B1]
    isplitl [B0]
    · iexact B0
    iexact B1
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [P00 P01 P10 P11]
  · iapply (gu_join arg22 (c : Dev nD)) $$ [P00 P01 P10 P11]
    isplitl [P00]
    · iexists _; iexact P00
    isplitl [P01]
    · iexists _; iexact P01
    isplitl [P10]
    · iexists _; iexact P10
    iexists _; iexact P11
  isplitl [Q0 Q1]
  · iapply (dn_join arg23 (c : Dev nD)) $$ [Q0 Q1]
    isplitl [Q0]
    · iexists _; iexact Q0
    iexists _; iexact Q1
  isplitl [S]
  · iexact S
  isplitl [S0]
  · iexact S0
  isplitl [S1]
  · iexact S1
  isplitl [S2]
  · iexact S2
  isplitl [S3]
  · iexact S3
  isplitl [S4]
  · iexact S4
  isplitl [G00]
  · iexact G00
  isplitl [G01]
  · iexact G01
  isplitl [G10]
  · iexact G10
  isplitl [G11]
  · iexact G11
  isplitl [D0]
  · iexact D0
  isplitl [D1]
  · iexact D1
  iexact HO

end Cert.Kernel.Hand

end
-- ==== Proof.Run.lean ====
/-
  The kernel's run: it terminates, nothing faults, its argument arrays end unchanged, every semaphore ends at zero, and
  its result holds `outV` of the arguments. The pipeline around the body has one point and writes one block back; the
  buffers, semaphores and inputs the body's own copies use are the invariant.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp
public import proofs.«01_k».proof.Proof.Whole
public import Idealize.ShloMosaic.Lib.StableHlo.Run
public import Idealize.ShloMosaic.Lib.Pipeline.Value
public import proofs.«01_k».proof.Proof.Gen.Kernel.Frame

@[expose] public section

noncomputable section

namespace Cert.Kernel.Hand

open Cert.Moe Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

set_option maxHeartbeats 800000 in
/-- The program up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's twelve DMA semaphores. -/
abbrev osem0 : Fin 12 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0) := by
  rw [Pipeline.ownSems0_eq_of_list c osem0 [0, 1, 2, 3, 4, 5, 6, 7, 8, 9, 10, 11] (by decide) (by decide)]; rfl
/-- The arrays the body reads. -/
def H0 : Finset (Ref sig .tc) := {main_v1, main_v3, main_v4, main_arg3, main_arg4, main_arg5, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v1) ↦{fullShare} V m c main_v1) ∗ (((c : Thread nD τ).loc main_v3) ↦{fullShare} V m c main_v3) ∗ (((c : Thread nD τ).loc main_v4) ↦{fullShare} V m c main_v4) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6)) := by
  rw [BI.bigSep_eq_bigSepL_of_eq [main_v1, main_v3, main_v4, main_arg3, main_arg4, main_arg5, main_arg6] (by decide) (by decide)]; rfl

/-- The invariant, piece by piece. -/
theorem PhiD0_eq (c : Dev nD) :
    (Pipeline.ΦD osem0 spec0 H0 (V m) c : sProp 𝕄)
      = iprop(iprop((∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)
          ∗ iprop(semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0)
          ∗ iprop(owns (c : Thread nD τ) (Memref.whole main_v1) fullShare (V m c main_v1) ∗ owns (c : Thread nD τ) (Memref.whole main_v3) fullShare (V m c main_v3) ∗ owns (c : Thread nD τ) (Memref.whole main_v4) fullShare (V m c main_v4) ∗ owns (c : Thread nD τ) (Memref.whole main_arg3) fullShare (V m c main_arg3) ∗ owns (c : Thread nD τ) (Memref.whole main_arg4) fullShare (V m c main_arg4) ∗ owns (c : Thread nD τ) (Memref.whole main_arg5) fullShare (V m c main_arg5) ∗ owns (c : Thread nD τ) (Memref.whole main_arg6) fullShare (V m c main_arg6))) := by
  rw [Pipeline.ΦD_eq, scopedRest0_eq, ownSems00_eq, hbmPts0_eq]
  simp only [owns_whole]

/-- What the kernel leaves in its result, of the arrays at the region. -/
def outAt (c : Dev nD) : S20x4096.Idx → Elt F .bf16 :=
  outV (V m c main_v1) (V m c main_v3) (V m c main_v4) (V m c main_arg3) (V m c main_arg4) (V m c main_arg5) (V m c main_arg6)

/-- The region's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outAt m c := by dsimp only [dats]

/-- The body's run at the program's buffers. -/
theorem point_run (c : Dev nD) (t : Fin cfg0.N) (hids : ∀ i, BitVec.toNat (V m c main_v1 i) < 31) :
    (iprop(owns (c : Thread nD τ) (Memref.whole main_v1) fullShare (V m c main_v1)
      ∗ owns (c : Thread nD τ) (Memref.whole main_v3) fullShare (V m c main_v3)
      ∗ owns (c : Thread nD τ) (Memref.whole main_v4) fullShare (V m c main_v4)
      ∗ owns (c : Thread nD τ) (Memref.whole main_arg3) fullShare (V m c main_arg3)
      ∗ owns (c : Thread nD τ) (Memref.whole main_arg4) fullShare (V m c main_arg4)
      ∗ owns (c : Thread nD τ) (Memref.whole main_arg5) fullShare (V m c main_arg5)
      ∗ owns (c : Thread nD τ) (Memref.whole main_arg6) fullShare (V m c main_arg6)
      ∗ (∃ d, owns (c : Thread nD τ) (win0_0.stage (cfg0.slots t 0)) fullShare d)
      ∗ (∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d)
      ∗ (∃ d, owns (c : Thread nD τ) (Memref.whole cc0_scratch11) fullShare d)
      ∗ (∃ d, owns (c : Thread nD τ) (Memref.whole cc0_scratch12) fullShare d)
      ∗ (∃ d, owns (c : Thread nD τ) (Memref.whole cc0_scratch13) fullShare d)
      ∗ (∃ d, owns (c : Thread nD τ) (Memref.whole cc0_scratch14) fullShare d)
      ∗ (∃ d, owns (c : Thread nD τ) (Memref.whole cc0_scratch15) fullShare d)
      ∗ semVal ((c : Thread nD τ), (SemLoc.dma 1 : SemLoc sig)) 0
      ∗ semVal ((c : Thread nD τ), (SemLoc.dma 2 : SemLoc sig)) 0
      ∗ semVal ((c : Thread nD τ), (SemLoc.dma 3 : SemLoc sig)) 0
      ∗ semVal ((c : Thread nD τ), (SemLoc.dma 4 : SemLoc sig)) 0
      ∗ semVal ((c : Thread nD τ), (SemLoc.dma 5 : SemLoc sig)) 0
      ∗ semVal ((c : Thread nD τ), (SemLoc.dma 6 : SemLoc sig)) 0
      ∗ semVal ((c : Thread nD τ), (SemLoc.dma 7 : SemLoc sig)) 0
      ∗ semVal ((c : Thread nD τ), (SemLoc.dma 8 : SemLoc sig)) 0
      ∗ semVal ((c : Thread nD τ), (SemLoc.dma 9 : SemLoc sig)) 0
      ∗ semVal ((c : Thread nD τ), (SemLoc.dma 10 : SemLoc sig)) 0
      ∗ semVal ((c : Thread nD τ), (SemLoc.dma 11 : SemLoc sig)) 0
      ∗ semVal ((c : Thread nD τ), (SemLoc.dma 12 : SemLoc sig)) 0
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (bodyAt0 t) (fun _ => iprop(owns (c : Thread nD τ) (Memref.whole main_v1) fullShare (V m c main_v1)
      ∗ owns (c : Thread nD τ) (Memref.whole main_v3) fullShare (V m c main_v3)
      ∗ owns (c : Thread nD τ) (Memref.whole main_v4) fullShare (V m c main_v4)
      ∗ owns (c : Thread nD τ) (Memref.whole main_arg3) fullShare (V m c main_arg3)
      ∗ owns (c : Thread nD τ) (Memref.whole main_arg4) fullShare (V m c main_arg4)
      ∗ owns (c : Thread nD τ) (Memref.whole main_arg5) fullShare (V m c main_arg5)
      ∗ owns (c : Thread nD τ) (Memref.whole main_arg6) fullShare (V m c main_arg6)
      ∗ owns (c : Thread nD τ) (win0_0.stage (cfg0.slots t 0)) fullShare (outAt m c)
      ∗ (∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d)
      ∗ (∃ d, owns (c : Thread nD τ) (Memref.whole cc0_scratch11) fullShare d)
      ∗ (∃ d, owns (c : Thread nD τ) (Memref.whole cc0_scratch12) fullShare d)
      ∗ (∃ d, owns (c : Thread nD τ) (Memref.whole cc0_scratch13) fullShare d)
      ∗ (∃ d, owns (c : Thread nD τ) (Memref.whole cc0_scratch14) fullShare d)
      ∗ (∃ d, owns (c : Thread nD τ) (Memref.whole cc0_scratch15) fullShare d)
      ∗ semVal ((c : Thread nD τ), (SemLoc.dma 1 : SemLoc sig)) 0
      ∗ semVal ((c : Thread nD τ), (SemLoc.dma 2 : SemLoc sig)) 0
      ∗ semVal ((c : Thread nD τ), (SemLoc.dma 3 : SemLoc sig)) 0
      ∗ semVal ((c : Thread nD τ), (SemLoc.dma 4 : SemLoc sig)) 0
      ∗ semVal ((c : Thread nD τ), (SemLoc.dma 5 : SemLoc sig)) 0
      ∗ semVal ((c : Thread nD τ), (SemLoc.dma 6 : SemLoc sig)) 0
      ∗ semVal ((c : Thread nD τ), (SemLoc.dma 7 : SemLoc sig)) 0
      ∗ semVal ((c : Thread nD τ), (SemLoc.dma 8 : SemLoc sig)) 0
      ∗ semVal ((c : Thread nD τ), (SemLoc.dma 9 : SemLoc sig)) 0
      ∗ semVal ((c : Thread nD τ), (SemLoc.dma 10 : SemLoc sig)) 0
      ∗ semVal ((c : Thread nD τ), (SemLoc.dma 11 : SemLoc sig)) 0
      ∗ semVal ((c : Thread nD τ), (SemLoc.dma 12 : SemLoc sig)) 0
      ∗ (∃ W, owes (c : Thread nD τ) 0 W))) :=
  whole_run (Memref.whole main_v1) (Memref.isWhole_whole _) (Memref.whole main_v3) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 c (V m c main_v1) (V m c main_v3) (V m c main_v4) (V m c main_arg3) (V m c main_arg4) (V m c main_arg5) (V m c main_arg6) hids

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

theorem sound_body (c : Dev nD) (t : Fin cfg0.N) (hids : ∀ i, BitVec.toNat (V m c main_v1 i) < 31) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨H11, H12, H13, H14, H15, H16, H17, H18, H19, H20, H21, H22, H23, H8, H9, H10⟩, Hg, ⟨Hq1, Hq2, Hq3, Hq4, Hq5, Hq6, Hq7, Hq8, Hq9, Hq10, Hq11, Hq12⟩, ⟨Hh0, Hh1, Hh2, Hh3, Hh4, Hh5, Hh6⟩⟩, ⟨%W, -, HW⟩, ⟨%d0, H7⟩⟩
  iapply (wp_wand_r)
  isplitl [Hh0 Hh1 Hh2 Hh3 Hh4 Hh5 Hh6 H7 H8 H9 H10 H11 H12 H13 H14 H15 H16 H17 H18 H19 H20 H21 H22 H23 Hq1 Hq2 Hq3 Hq4 Hq5 Hq6 Hq7 Hq8 Hq9 Hq10 Hq11 Hq12 HW]
  · iapply (point_run m c t hids)
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [H7]; · iexists _; iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    iexists _; iexact HW
  iintro %_ ⟨Hh0, Hh1, Hh2, Hh3, Hh4, Hh5, Hh6, H7, H8, H9, H10, H11, H12, H13, H14, H15, H16, H17, H18, H19, H20, H21, H22, H23, Hq1, Hq2, Hq3, Hq4, Hq5, Hq6, Hq7, Hq8, Hq9, Hq10, Hq11, Hq12, ⟨%W', HW'⟩⟩
  isplitl [Hg H11 H12 H13 H14 H15 H16 H17 H18 H19 H20 H21 H22 H23 H8 H9 H10 Hq1 Hq2 Hq3 Hq4 Hq5 Hq6 Hq7 Hq8 Hq9 Hq10 Hq11 Hq12 Hh0 Hh1 Hh2 Hh3 Hh4 Hh5 Hh6]
  · isplitl [H11 H12 H13 H14 H15 H16 H17 H18 H19 H20 H21 H22 H23 H8 H9 H10]
    · skip
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H8]; · iexact H8
      isplitl [H9]; · iexact H9
      iexact H10
    isplitl [Hg]; · iexact Hg
    isplitl [Hq1 Hq2 Hq3 Hq4 Hq5 Hq6 Hq7 Hq8 Hq9 Hq10 Hq11 Hq12]
    · skip
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexact Hh6
  isplitl [HW']
  · iexists W'; isplitr; · ipureintro; exact fun _ _ => Or.inl trivial
    iexact HW'
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) (hids : ∀ i, BitVec.toNat (V m c main_v1 i) < 31) :
    BodyObligation (dats (F := F) m 0 c) (defs₀ (F := F)) Variants.none () Set.univ := fun t => by
  rw [bigSep_W0, bigSep_W0, defs₀_row]
  exact triple_restated (sound_body m c t hids) rfl .rfl fun _ => .rfl

/-! ## The run and the frame -/

set_option backward.isDefEq.respectTransparency.types false in
theorem run_main (hids : ∀ c i, BitVec.toNat (V m c main_v1 i) < 31) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hids c)).loose) (hshare := fun c => (dats m 0 c).share_full fun _ => rfl)
    (howed := fun _ _ => rfl) (V := V m) (hmain := hmain m Variants.none) (hA := A_eq m)
    (hin := fun _ => .rfl) (hout := fun _ => .rfl)

/-- The region finds the ids reshaped and transposed. -/
theorem V_ids (c : Dev nD) : V m c main_v1 = (transpose S8x20 [1, 0] (shapeCast S20x8 (m ((c : Thread nD τ).loc main_arg1)) shapeCasts_S20x1x8_S20x8) transposes_S20x8_S8x20_1_0 : S8x20.Idx → Elt F .i32) := by
  unfold V
  after_results
  try rfl

/-- The region finds the routing weights reshaped and transposed. -/
theorem V_rw (c : Dev nD) : V m c main_v3 = (transpose S8x20 [1, 0] (shapeCast S20x8 (m ((c : Thread nD τ).loc main_arg2)) shapeCasts_S20x1x8_S20x8) transposes_S20x8_S8x20_1_0 : S8x20.Idx → Elt F .f32) := by
  unfold V
  after_results
  try rfl

/-- The region finds the tokens reshaped. -/
theorem V_x (c : Dev nD) : V m c main_v4 = (shapeCast S20x4096 (m ((c : Thread nD τ).loc main_arg0)) shapeCasts_S20x1x4096_S20x4096 : S20x4096.Idx → Elt F .bf16) := by
  unfold V
  after_results
  try rfl

/-- The kernel's run: the argument arrays unchanged, the semaphores at zero. -/
theorem frame (hids : ∀ c i, BitVec.toNat (V m c main_v1 i) < 31) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ hids)

/-! ## The result -/

theorem emb0 (t : Fin cfg0.N) (y : S20x4096.Idx) : ((cfg0.win 0).blk t).view.emb y = y := by
  obtain rfl : t = t0_0 := fin_N0 t
  funext a
  refine Fin.ext ?_
  match a with
  | ⟨0, _⟩ => show 0 * 20 + 1 * (y 0).val = (y 0).val; omega
  | ⟨1, _⟩ => show 0 * 4096 + 1 * (y 1).val = (y 1).val; omega

/-- The one block the region writes back is the whole result. -/
theorem final0 (c : Dev nD) : (dats m 0 c).arrAt 0 cfg0.N = outAt m c := by
  refine (dats m 0 c).arrAt_eq_of_cover 0 (outAt m c) (fun t _ => ?_) (fun i => ⟨t0_0, flush0_0 _, ?_⟩)
  · funext y
    rw [View.read_apply]
    show _ = outAt m c (((cfg0.win 0).blk t).view.emb y)
    rw [emb0]
    rfl
  · have h := View.emb_mem_set ((cfg0.win 0).blk t0_0).view i
    rw [emb0] at h
    exact h

/-- The kernel's run with its result named. -/
theorem run_value (hids : ∀ c i, BitVec.toNat (V m c main_v1 i) < 31) :
    θ_run defs (onTc (τ := τ) (main (F := F))) ⟨m, fun _ => 0, ρ⟩ (fun r => ∀ c : Dev nD,
      r.2.mem ((c.tc : Thread nD τ).loc main_v5) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 0).trans (final0 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩) (run_main m ρ hids)

end Cert.Kernel.Hand

end
-- ==== Proof.Ideal.Collect.lean ====
/-
  For the ideal program, whose text is the same: the proof of the module of this name outside Ideal/, repeated.
  The kernel's first two loops: the membership table is cleared, and the tokens' choices are walked in order, each
  expert not yet a member appended to the order table. The walk leaves the tables holding the list `colT`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.CollectPure

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ
variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

/-- The walk's holdings before token `t`, the count being `n`. -/
def walkI (c : Dev nD) (arg8 : Memref sig .tc .smem S8x20 .i32) (arg9 : Memref sig .tc .smem S32 .i32) (arg10 : Memref sig .tc .smem S31 .i32)
    (ids : S8x20.Idx → Elt F .i32) (t : ℕ) (n : BitVec 32) : sProp 𝕄 :=
  iprop(∃ (ord : S32.Idx → Elt F .i32) (seen : S31.Idx → Elt F .i32), ⌜St (colT ids t) ord seen n⌝ ∗ owns (c : Thread nD τ) arg8 fullShare ids
    ∗ owns (c : Thread nD τ) arg9 fullShare ord ∗ owns (c : Thread nD τ) arg10 fullShare seen)

theorem iv_one (k : ℕ) (h : k < 32) : (Scf.iv 0#32 1#32 k).toNat = k := by
  show (0#32 + BitVec.ofNat 32 k * 1#32).toNat = k
  simp
  omega

set_option maxHeartbeats 4000000 in
theorem t2_trip (c : Dev nD) (v10 : Elt F .i32) (k0_hw1 : k0_chk1 v10) (ids : S8x20.Idx → Elt F .i32) (hids : ∀ i, BitVec.toNat (ids i) < 31)
    (t : Fin k0_t2_loop.trips) (arg29 : BitVec 32) :
    (walkI c arg8 arg9 arg10 ids t.val arg29 : sProp 𝕄)
      ⊢ wp frame (wpE (defs₀ (F := F)) Variants.none (c : Thread nD τ) none (Ix := Unit) (Name := ℕ) (U := Pipeline.UD sig nD τ) (Lvl := ℕ)) Set.univ (k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v10 k0_hw1 t arg29)
        (walkI c arg8 arg9 arg10 ids (t.val + 1)) := by
  have ht : t.val < 20 := t.isLt
  have hiv := iv_one t.val (by omega)
  have ho0 : k0_off5 t = ![0, t.val] := congrArg (fun z => ![0, z]) hiv
  have ho1 : k0_off8 t = ![1, t.val] := congrArg (fun z => ![1, z]) hiv
  have ho2 : k0_off11 t = ![2, t.val] := congrArg (fun z => ![2, z]) hiv
  have ho3 : k0_off14 t = ![3, t.val] := congrArg (fun z => ![3, z]) hiv
  have ho4 : k0_off17 t = ![4, t.val] := congrArg (fun z => ![4, z]) hiv
  have ho5 : k0_off20 t = ![5, t.val] := congrArg (fun z => ![5, z]) hiv
  have ho6 : k0_off23 t = ![6, t.val] := congrArg (fun z => ![6, z]) hiv
  have ho7 : k0_off26 t = ![7, t.val] := congrArg (fun z => ![7, z]) hiv
  unfold walkI
  iintro ⟨%ord0, %seen0, %hst0, H8, H9, H10⟩
  have he0 := hids (ValueIdx.ix2 0 ⟨t.val, ht⟩)
  have hc0 : cho ids 0 t.val = (ids (ValueIdx.ix2 0 ⟨t.val, ht⟩)).toNat := dif_pos ht
  have he1 := hids (ValueIdx.ix2 1 ⟨t.val, ht⟩)
  have hc1 : cho ids 1 t.val = (ids (ValueIdx.ix2 1 ⟨t.val, ht⟩)).toNat := dif_pos ht
  have he2 := hids (ValueIdx.ix2 2 ⟨t.val, ht⟩)
  have hc2 : cho ids 2 t.val = (ids (ValueIdx.ix2 2 ⟨t.val, ht⟩)).toNat := dif_pos ht
  have he3 := hids (ValueIdx.ix2 3 ⟨t.val, ht⟩)
  have hc3 : cho ids 3 t.val = (ids (ValueIdx.ix2 3 ⟨t.val, ht⟩)).toNat := dif_pos ht
  have he4 := hids (ValueIdx.ix2 4 ⟨t.val, ht⟩)
  have hc4 : cho ids 4 t.val = (ids (ValueIdx.ix2 4 ⟨t.val, ht⟩)).toNat := dif_pos ht
  have he5 := hids (ValueIdx.ix2 5 ⟨t.val, ht⟩)
  have hc5 : cho ids 5 t.val = (ids (ValueIdx.ix2 5 ⟨t.val, ht⟩)).toNat := dif_pos ht
  have he6 := hids (ValueIdx.ix2 6 ⟨t.val, ht⟩)
  have hc6 : cho ids 6 t.val = (ids (ValueIdx.ix2 6 ⟨t.val, ht⟩)).toNat := dif_pos ht
  have he7 := hids (ValueIdx.ix2 7 ⟨t.val, ht⟩)
  have hc7 : cho ids 7 t.val = (ids (ValueIdx.ix2 7 ⟨t.val, ht⟩)).toNat := dif_pos ht
  rw [colT_succ, hc0, hc1, hc2, hc3, hc4, hc5, hc6, hc7]
  generalize hg0 : ids (ValueIdx.ix2 0 ⟨t.val, ht⟩) = e0 at he0 hc0 ⊢
  generalize hg1 : ids (ValueIdx.ix2 1 ⟨t.val, ht⟩) = e1 at he1 hc1 ⊢
  generalize hg2 : ids (ValueIdx.ix2 2 ⟨t.val, ht⟩) = e2 at he2 hc2 ⊢
  generalize hg3 : ids (ValueIdx.ix2 3 ⟨t.val, ht⟩) = e3 at he3 hc3 ⊢
  generalize hg4 : ids (ValueIdx.ix2 4 ⟨t.val, ht⟩) = e4 at he4 hc4 ⊢
  generalize hg5 : ids (ValueIdx.ix2 5 ⟨t.val, ht⟩) = e5 at he5 hc5 ⊢
  generalize hg6 : ids (ValueIdx.ix2 6 ⟨t.val, ht⟩) = e6 at he6 hc6 ⊢
  generalize hg7 : ids (ValueIdx.ix2 7 ⟨t.val, ht⟩) = e7 at he7 hc7 ⊢
  generalize colT ids t.val = L0 at hst0 ⊢
  dsimp only [k0_t2_body]
  rw [wp_bind, k0_part1_eq_skeleton]
  dsimp only [k0_part1_skel]
  iapply (w_assume Variants.none (c : Thread nD τ) none (P := k0_chk2 arg29) (hst0.ord_bound rfl))
  -- choice 0
  iapply (w_smem' Variants.none (c : Thread nD τ) none (m := arg8) e0 ((ids_word ids 0 ⟨t.val, ht⟩ rfl ho0).trans hg0)) $$ H8
  iintro H8
  dsimp only
  iapply (w_assume Variants.none (c : Thread nD τ) none (P := k0_chk3 e0) (word_bound he0))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L0 e0.toNat) (hst0.read rfl rfl)) $$ H10
  iintro H10
  dsimp only
  generalize hL1 : ins L0 e0.toNat = L1
  have hst1 := hst0.step he0 (off := ![BitVec.toNat arg29]) (off' := ![e0.toNat]) (size := S1.size) rfl (hst0.ord_bound rfl) (word_bound he0) rfl rfl
  rw [hL1] at hst1
  iapply (w_assume Variants.none (c : Thread nD τ) none (hst1.ord_bound rfl))
  iapply (w_smem' Variants.none (c : Thread nD τ) none (m := arg10) _ rfl) $$ H10
  iintro H10
  iapply (w_store Variants.none (c : Thread nD τ) none (m := arg10)) $$ H10
  iintro H10
  -- choice 1
  iapply (w_smem' Variants.none (c : Thread nD τ) none (m := arg8) e1 ((ids_word ids 1 ⟨t.val, ht⟩ rfl ho1).trans hg1)) $$ H8
  iintro H8
  dsimp only
  iapply (w_assume Variants.none (c : Thread nD τ) none (P := k0_chk5 e1) (word_bound he1))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L1 e1.toNat) (hst1.read rfl rfl)) $$ H10
  iintro H10
  dsimp only
  generalize hL2 : ins L1 e1.toNat = L2
  have hst2 := hst1.step he1 (off := ![BitVec.toNat (Scalar.addi arg29 (Scalar.subi 1#32 (sn L0 e0.toNat)))]) (off' := ![e1.toNat]) (size := S1.size) rfl (hst1.ord_bound rfl) (word_bound he1) rfl rfl
  rw [hL2] at hst2
  iapply (w_assume Variants.none (c : Thread nD τ) none (hst2.ord_bound rfl))
  iapply (w_smem' Variants.none (c : Thread nD τ) none (m := arg10) _ rfl) $$ H10
  iintro H10
  iapply (w_store Variants.none (c : Thread nD τ) none (m := arg10)) $$ H10
  iintro H10
  -- choice 2
  iapply (w_smem' Variants.none (c : Thread nD τ) none (m := arg8) e2 ((ids_word ids 2 ⟨t.val, ht⟩ rfl ho2).trans hg2)) $$ H8
  iintro H8
  dsimp only
  iapply (w_assume Variants.none (c : Thread nD τ) none (P := k0_chk7 e2) (word_bound he2))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L2 e2.toNat) (hst2.read rfl rfl)) $$ H10
  iintro H10
  dsimp only
  generalize hL3 : ins L2 e2.toNat = L3
  have hst3 := hst2.step he2 (off := ![BitVec.toNat (Scalar.addi (Scalar.addi arg29 (Scalar.subi 1#32 (sn L0 e0.toNat))) (Scalar.subi 1#32 (sn L1 e1.toNat)))]) (off' := ![e2.toNat]) (size := S1.size) rfl (hst2.ord_bound rfl) (word_bound he2) rfl rfl
  rw [hL3] at hst3
  iapply (w_assume Variants.none (c : Thread nD τ) none (hst3.ord_bound rfl))
  iapply (w_smem' Variants.none (c : Thread nD τ) none (m := arg10) _ rfl) $$ H10
  iintro H10
  iapply (w_store Variants.none (c : Thread nD τ) none (m := arg10)) $$ H10
  iintro H10
  -- choice 3
  iapply (w_smem' Variants.none (c : Thread nD τ) none (m := arg8) e3 ((ids_word ids 3 ⟨t.val, ht⟩ rfl ho3).trans hg3)) $$ H8
  iintro H8
  dsimp only
  iapply (w_assume Variants.none (c : Thread nD τ) none (P := k0_chk9 e3) (word_bound he3))
  iapply (w_smem' Variants.none (c : Thread nD τ) none (m := arg9) _ rfl) $$ H9
  iintro H9
  iapply (w_store Variants.none (c : Thread nD τ) none (m := arg9)) $$ H9
  iintro H9
  rw [wp_pure]
  imodintro
  dsimp only
  rw [wp_bind, k0_part2_eq_skeleton]
  dsimp only [k0_part2_skel]
  iapply (w_smem' Variants.none (c : Thread nD τ) none (m := arg10) (sn L3 e3.toNat) (hst3.read rfl rfl)) $$ H10
  iintro H10
  dsimp only
  generalize hL4 : ins L3 e3.toNat = L4
  have hst4 := hst3.step he3 (off := ![BitVec.toNat (Scalar.addi (Scalar.addi (Scalar.addi arg29 (Scalar.subi 1#32 (sn L0 e0.toNat))) (Scalar.subi 1#32 (sn L1 e1.toNat))) (Scalar.subi 1#32 (sn L2 e2.toNat)))]) (off' := ![e3.toNat]) (size := S1.size) rfl (hst3.ord_bound rfl) (word_bound he3) rfl rfl
  rw [hL4] at hst4
  iapply (w_assume Variants.none (c : Thread nD τ) none (hst4.ord_bound rfl))
  iapply (w_smem' Variants.none (c : Thread nD τ) none (m := arg10) _ rfl) $$ H10
  iintro H10
  iapply (w_store Variants.none (c : Thread nD τ) none (m := arg10)) $$ H10
  iintro H10
  -- choice 4
  iapply (w_smem' Variants.none (c : Thread nD τ) none (m := arg8) e4 ((ids_word ids 4 ⟨t.val, ht⟩ rfl ho4).trans hg4)) $$ H8
  iintro H8
  dsimp only
  iapply (w_assume Variants.none (c : Thread nD τ) none (P := k0_chk11 e4) (word_bound he4))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L4 e4.toNat) (hst4.read rfl rfl)) $$ H10
  iintro H10
  dsimp only
  generalize hL5 : ins L4 e4.toNat = L5
  have hst5 := hst4.step he4 (off := ![BitVec.toNat (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat)))]) (off' := ![e4.toNat]) (size := S1.size) rfl (hst4.ord_bound rfl) (word_bound he4) rfl rfl
  rw [hL5] at hst5
  iapply (w_assume Variants.none (c : Thread nD τ) none (hst5.ord_bound rfl))
  iapply (w_smem' Variants.none (c : Thread nD τ) none (m := arg10) _ rfl) $$ H10
  iintro H10
  iapply (w_store Variants.none (c : Thread nD τ) none (m := arg10)) $$ H10
  iintro H10
  -- choice 5
  iapply (w_smem' Variants.none (c : Thread nD τ) none (m := arg8) e5 ((ids_word ids 5 ⟨t.val, ht⟩ rfl ho5).trans hg5)) $$ H8
  iintro H8
  dsimp only
  iapply (w_assume Variants.none (c : Thread nD τ) none (P := k0_chk13 e5) (word_bound he5))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L5 e5.toNat) (hst5.read rfl rfl)) $$ H10
  iintro H10
  dsimp only
  generalize hL6 : ins L5 e5.toNat = L6
  have hst6 := hst5.step he5 (off := ![BitVec.toNat (Scalar.addi (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat))) (Scalar.subi 1#32 (sn L4 e4.toNat)))]) (off' := ![e5.toNat]) (size := S1.size) rfl (hst5.ord_bound rfl) (word_bound he5) rfl rfl
  rw [hL6] at hst6
  iapply (w_assume Variants.none (c : Thread nD τ) none (hst6.ord_bound rfl))
  iapply (w_smem' Variants.none (c : Thread nD τ) none (m := arg10) _ rfl) $$ H10
  iintro H10
  iapply (w_store Variants.none (c : Thread nD τ) none (m := arg10)) $$ H10
  iintro H10
  -- choice 6
  iapply (w_smem' Variants.none (c : Thread nD τ) none (m := arg8) e6 ((ids_word ids 6 ⟨t.val, ht⟩ rfl ho6).trans hg6)) $$ H8
  iintro H8
  dsimp only
  iapply (w_assume Variants.none (c : Thread nD τ) none (P := k0_chk15 e6) (word_bound he6))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L6 e6.toNat) (hst6.read rfl rfl)) $$ H10
  iintro H10
  dsimp only
  generalize hL7 : ins L6 e6.toNat = L7
  have hst7 := hst6.step he6 (off := ![BitVec.toNat (Scalar.addi (Scalar.addi (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat))) (Scalar.subi 1#32 (sn L4 e4.toNat))) (Scalar.subi 1#32 (sn L5 e5.toNat)))]) (off' := ![e6.toNat]) (size := S1.size) rfl (hst6.ord_bound rfl) (word_bound he6) rfl rfl
  rw [hL7] at hst7
  iapply (w_assume Variants.none (c : Thread nD τ) none (hst7.ord_bound rfl))
  iapply (w_smem' Variants.none (c : Thread nD τ) none (m := arg10) _ rfl) $$ H10
  iintro H10
  rw [wp_pure]
  imodintro
  dsimp only
  iapply (w_store Variants.none (c : Thread nD τ) none (m := arg10)) $$ H10
  iintro H10
  -- choice 7
  iapply (w_smem' Variants.none (c : Thread nD τ) none (m := arg8) e7 ((ids_word ids 7 ⟨t.val, ht⟩ rfl ho7).trans hg7)) $$ H8
  iintro H8
  dsimp only
  iapply (w_assume Variants.none (c : Thread nD τ) none (P := k0_chk17 e7) (word_bound he7))
  iapply (w_smem' Variants.none (c : Thread nD τ) none (m := arg9) _ rfl) $$ H9
  iintro H9
  iapply (w_store Variants.none (c : Thread nD τ) none (m := arg9)) $$ H9
  iintro H9
  iapply (w_smem' Variants.none (c : Thread nD τ) none (m := arg10) (sn L7 e7.toNat) (hst7.read rfl rfl)) $$ H10
  iintro H10
  dsimp only
  have hst8 := hst7.step he7 (off := ![BitVec.toNat (Scalar.addi (Scalar.addi (Scalar.addi (Scalar.addi (Scalar.addi (Scalar.addi (Scalar.addi arg29 (Scalar.subi 1#32 (sn L0 e0.toNat))) (Scalar.subi 1#32 (sn L1 e1.toNat))) (Scalar.subi 1#32 (sn L2 e2.toNat))) (Scalar.subi 1#32 (sn L3 e3.toNat))) (Scalar.subi 1#32 (sn L4 e4.toNat))) (Scalar.subi 1#32 (sn L5 e5.toNat))) (Scalar.subi 1#32 (sn L6 e6.toNat)))]) (off' := ![e7.toNat]) (size := S1.size) rfl (hst7.ord_bound rfl) (word_bound he7) rfl rfl
  iapply (w_smem' Variants.none (c : Thread nD τ) none (m := arg10) _ rfl) $$ H10
  iintro H10
  iapply (w_store Variants.none (c : Thread nD τ) none (m := arg10)) $$ H10
  iintro H10
  rw [wp_pure]
  imodintro
  iexists _, _
  isplitr
  · ipureintro
    exact hst8
  isplitl [H8]; · iexact H8
  isplitl [H9]; · iexact H9
  iexact H10

/-- The clearing loop's holdings before trip `t`. -/
def clearI (c : Dev nD) (arg10 : Memref sig .tc .smem S31 .i32) (t : ℕ) (_ : Unit) : sProp 𝕄 :=
  iprop(∃ seen : S31.Idx → Elt F .i32, ⌜∀ i : S31.Idx, (i 0).val < t → seen i = 0#32⌝ ∗ owns (c : Thread nD τ) arg10 fullShare seen)

theorem t1_trip (c : Dev nD) (v10 : Elt F .i32) (k0_hw1 : k0_chk1 v10) (t : Fin k0_t1_loop.trips) (u : Unit) :
    (clearI (F := F) c arg10 t.val u : sProp 𝕄)
      ⊢ wp frame (wpE (defs₀ (F := F)) Variants.none (c : Thread nD τ) none (Ix := Unit) (Name := ℕ) (U := Pipeline.UD sig nD τ) (Lvl := ℕ)) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v10 k0_hw1 t u) (clearI c arg10 (t.val + 1)) := by
  have ht : t.val < 31 := t.isLt
  have hiv : k0_off4 t 0 = t.val := iv_one t.val (by omega)
  unfold clearI
  iintro ⟨%seen, %hs, H10⟩
  dsimp only [k0_t1_body]
  iapply (w_smem Variants.none (c : Thread nD τ) none (m := arg10)) $$ H10
  iintro H10
  iapply (w_store Variants.none (c : Thread nD τ) none (m := arg10)) $$ H10
  iintro H10
  rw [wp_pure]
  imodintro
  iexists _
  isplitr
  rotate_left
  · iexact H10
  · ipureintro
    intro i hi
    refine (put_word (V := BitVec 32) rfl (k0_off4_inb t) 0#32 seen i).trans ?_
    by_cases h : (i 0).val = k0_off4 t 0
    · rw [if_pos h]
    · rw [if_neg h]; exact hs i (by omega)

end Cert.KernelIdeal.Hand
-- ==== Proof.Ideal.Words.lean ====
/-
  For the ideal program, whose text is the same: the proof of the module of this name outside Ideal/, repeated.
  The bounds and packing conditions the kernel asserts of the words it computes: the slot of a trip is the trip modulo
  two, an expert read from the order table is below 31, and the remainder loop has no trips.
-/
module

public import proofs.«01_k».proof.Proof.Gen.KernelIdeal.Launch
public import Idealize.ShloMosaic.Lib.Pipeline.FrameBody
public import Idealize.ShloMosaic.Lib.Tactic
public import Idealize.ShloMosaic.Lib.WordCmp
public import Idealize.ShloMosaic.Lib.Affine
public import proofs.«01_k».proof.Proof.CollectPure

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Idealize.ShloMosaic.Affine

variable {v31 : BitVec 32}

theorem t3_word {v31 : BitVec 32} (hn : v31.toNat ≤ 31) :
    Scalar.addi 0#32 (Scalar.muli (Scalar.divsi (Scalar.subi v31 0#32) 1#32) 1#32) = v31 := by
  have h : ∀ n : Fin 32, Scalar.addi 0#32 (Scalar.muli (Scalar.divsi (Scalar.subi (BitVec.ofNat 32 n.val) 0#32) 1#32) 1#32)
      = BitVec.ofNat 32 n.val := by decide
  have e := h ⟨v31.toNat, by omega⟩
  rwa [BitVec.ofNat_toNat, BitVec.setWidth_eq] at e

theorem trips_word : ∀ n : Fin 32, Scf.trips 0#32 (BitVec.ofNat 32 n.val) 1#32 = n.val := by decide

/-- The main loop runs once per expert collected. -/
theorem t3_trips {v31 : BitVec 32} (hn : v31.toNat ≤ 31) : (k0_t3_loop v31).trips = v31.toNat := by
  show Scf.trips 0#32 (Scalar.addi 0#32 (Scalar.muli (Scalar.divsi (Scalar.subi v31 0#32) 1#32) 1#32)) 1#32 = _
  rw [t3_word hn]
  have e := trips_word ⟨v31.toNat, by omega⟩
  rwa [BitVec.ofNat_toNat, BitVec.setWidth_eq] at e

theorem t3_ok {v31 : BitVec 32} (hn : v31.toNat ≤ 31) : (k0_t3_loop v31).OK := by
  show Scf.OK 0#32 (Scalar.addi 0#32 (Scalar.muli (Scalar.divsi (Scalar.subi v31 0#32) 1#32) 1#32)) 1#32
  rw [t3_word hn]
  have h : ∀ n : Fin 32, Scf.OK 0#32 (BitVec.ofNat 32 n.val) 1#32 := by decide
  have e := h ⟨v31.toNat, by omega⟩
  rwa [BitVec.ofNat_toNat, BitVec.setWidth_eq] at e

theorem t4_shape {v31 : BitVec 32} (hn : v31.toNat ≤ 31) : k0_t4_loop v31 = ⟨v31, v31, 1#32⟩ := by
  show (⟨Scalar.addi 0#32 (Scalar.muli (Scalar.divsi (Scalar.subi v31 0#32) 1#32) 1#32), Scalar.addi 0#32 (Scalar.subi v31 0#32), 1#32⟩ : Scf.Loop 32) = _
  rw [t3_word hn]
  have h : Scalar.addi 0#32 (Scalar.subi v31 0#32) = v31 := by
    show 0#32 + (v31 - 0#32) = v31
    simp
  rw [h]

/-- The remainder loop has no trips. -/
theorem t4_trips {v31 : BitVec 32} (hn : v31.toNat ≤ 31) : (k0_t4_loop v31).trips = 0 := by
  rw [t4_shape hn]
  have h : ∀ n : Fin 32, Scf.trips (BitVec.ofNat 32 n.val) (BitVec.ofNat 32 n.val) 1#32 = 0 := by decide
  have e := h ⟨v31.toNat, by omega⟩
  rwa [BitVec.ofNat_toNat, BitVec.setWidth_eq] at e

theorem t4_ok {v31 : BitVec 32} (hn : v31.toNat ≤ 31) : (k0_t4_loop v31).OK := by
  rw [t4_shape hn]
  have h : ∀ n : Fin 32, Scf.OK (BitVec.ofNat 32 n.val) (BitVec.ofNat 32 n.val) 1#32 := by decide
  have e := h ⟨v31.toNat, by omega⟩
  rwa [BitVec.ofNat_toNat, BitVec.setWidth_eq] at e

theorem t4_none {v31 : BitVec 32} (hn : v31.toNat ≤ 31) (t : Fin (k0_t4_loop v31).trips) : False := by
  exact absurd (t.isLt.trans_eq (t4_trips hn)) (Nat.not_lt_zero _)

theorem t3_lt {v31 : BitVec 32} (hn : v31.toNat ≤ 31) (t : Fin (k0_t3_loop v31).trips) : t.val < v31.toNat :=
  t.isLt.trans_eq (t3_trips hn)

/-- The slot of trip `i`. -/
theorem slot_word : ∀ i : Fin 32, (Scalar.remsi (Scf.iv 0#32 1#32 i.val) 2#32).toNat = i.val % 2 := by decide

theorem slot_eq {v31 : BitVec 32} (hn : v31.toNat ≤ 31) (t : Fin (k0_t3_loop v31).trips) :
    (Scalar.remsi (Scf.iv 0#32 1#32 t.val) 2#32).toNat = t.val % 2 :=
  slot_word ⟨t.val, by have := t3_lt hn t; omega⟩

theorem slot_lt {v31 : BitVec 32} (hn : v31.toNat ≤ 31) (t : Fin (k0_t3_loop v31).trips) :
    (Scalar.remsi (Scf.iv 0#32 1#32 t.val) 2#32).toNat < 2 := by
  rw [slot_eq hn t]; omega

theorem iv_word : ∀ i : Fin 32, (Scf.iv 0#32 1#32 i.val).toNat = i.val := by decide

theorem ord0_eq {v31 : BitVec 32} (hn : v31.toNat ≤ 31) (t : Fin (k0_t3_loop v31).trips) : k0_off32 v31 t 0 = t.val :=
  iv_word ⟨t.val, by have := t3_lt hn t; omega⟩

theorem ord0_lt {v31 : BitVec 32} (hn : v31.toNat ≤ 31) (t : Fin (k0_t3_loop v31).trips) : k0_off32 v31 t 0 < 32 := by
  rw [ord0_eq hn t]; have := t3_lt hn t; omega

theorem next_word : ∀ (n i : Fin 32), i.val < n.val →
    (Scalar.minsi (Scalar.addi (Scf.iv 0#32 1#32 i.val) 2#32) (Scalar.subi (BitVec.ofNat 32 n.val) 1#32)).toNat = min (i.val + 2) (n.val - 1) := by decide

theorem ord2_eq {v31 : BitVec 32} (hn : v31.toNat ≤ 31) (t : Fin (k0_t3_loop v31).trips) :
    k0_off33 v31 t 0 = min (t.val + 2) (v31.toNat - 1) := by
  have ht := t3_lt hn t
  have e := next_word ⟨v31.toNat, by omega⟩ ⟨t.val, by omega⟩ ht
  rwa [BitVec.ofNat_toNat, BitVec.setWidth_eq] at e

theorem ord2_lt {v31 : BitVec 32} (hn : v31.toNat ≤ 31) (t : Fin (k0_t3_loop v31).trips) : k0_off33 v31 t 0 < 32 := by
  rw [ord2_eq hn t]; omega

theorem more_word : ∀ (n i : Fin 32), (Scalar.cmpi .ne (Scalar.extui (Scalar.cmpi .slt (Scalar.addi (Scf.iv 0#32 1#32 i.val) 2#32) (BitVec.ofNat 32 n.val)) : BitVec 32) 0#32 = 1#1)
    = (i.val + 2 < n.val) := by decide

/-- A trip starts the next copies exactly when an expert two places on is left. -/
theorem more_iff {v31 : BitVec 32} (hn : v31.toNat ≤ 31) (t : Fin (k0_t3_loop v31).trips) :
    (Scalar.cmpi .ne (Scalar.extui (Scalar.cmpi .slt (Scalar.addi (Scf.iv 0#32 1#32 t.val) 2#32) v31) : BitVec 32) 0#32 = 1#1) = (t.val + 2 < v31.toNat) := by
  have ht := t3_lt hn t
  have e := more_word ⟨v31.toNat, by omega⟩ ⟨t.val, by omega⟩
  rwa [BitVec.ofNat_toNat, BitVec.setWidth_eq] at e

theorem cond1_word : ∀ n : Fin 32, (k0_cond1 (BitVec.ofNat 32 n.val) = 1#1) = (1 < n.val) := by decide
theorem cond1_iff {v31 : BitVec 32} (hn : v31.toNat ≤ 31) : (k0_cond1 v31 = 1#1) = (1 < v31.toNat) := by
  have e := cond1_word ⟨v31.toNat, by omega⟩
  rwa [BitVec.ofNat_toNat, BitVec.setWidth_eq] at e

theorem ord_inb (off : Fin 1 → ℕ) (h : off 0 < 32) : ∀ a, off a + S1.size a ≤ S32.size a :=
  fun | ⟨0, _⟩ => h
theorem gu_inb (off : Fin 4 → ℕ) (h0 : off 0 < 2) (h1 : off 1 < 2) (h2 : off 2 = 0) (h3 : off 3 = 0) :
    ∀ a, off a + S1x1x2048x3072.size a ≤ S2x2x2048x3072.size a :=
  fun | ⟨0, _⟩ => h0 | ⟨1, _⟩ => h1 | ⟨2, _⟩ => (congrArg (· + 2048) h2).le | ⟨3, _⟩ => (congrArg (· + 3072) h3).le
theorem dn_inb (off : Fin 4 → ℕ) (h0 : off 0 < 2) (h1 : off 1 = 0) (h2 : off 2 = 0) (h3 : off 3 = 0) :
    ∀ a, off a + S1x1x1536x4096.size a ≤ S2x1x1536x4096.size a :=
  fun | ⟨0, _⟩ => h0 | ⟨1, _⟩ => (congrArg (· + 1) h1).le | ⟨2, _⟩ => (congrArg (· + 1536) h2).le | ⟨3, _⟩ => (congrArg (· + 4096) h3).le
theorem gs_inb (off : Fin 2 → ℕ) (h0 : off 0 < 2) (h1 : off 1 < 2) : ∀ a, off a + S1x1.size a ≤ S2x2.size a :=
  fun | ⟨0, _⟩ => h0 | ⟨1, _⟩ => h1
theorem ds_inb (off : Fin 2 → ℕ) (h0 : off 0 < 2) (h1 : off 1 = 0) : ∀ a, off a + S1x1.size a ≤ S2x1.size a :=
  fun | ⟨0, _⟩ => h0 | ⟨1, _⟩ => (congrArg (· + 1) h1).le
theorem wgu_inb (off : Fin 3 → ℕ) (h0 : off 0 < 31) (h1 : off 1 = 0 ∨ off 1 = 2048) (h2 : off 2 = 0) :
    ∀ a, off a + S1x2048x3072.size a ≤ S31x4096x3072.size a :=
  fun | ⟨0, _⟩ => h0
      | ⟨1, _⟩ => by rcases h1 with h | h; exacts [(congrArg (· + 2048) h).le.trans (show 0 + 2048 ≤ 4096 by omega), (congrArg (· + 2048) h).le]
      | ⟨2, _⟩ => (congrArg (· + 3072) h2).le
theorem wdn_inb (off : Fin 3 → ℕ) (h0 : off 0 < 31) (h1 : off 1 = 0) (h2 : off 2 = 0) :
    ∀ a, off a + S1x1536x4096.size a ≤ S31x1536x4096.size a :=
  fun | ⟨0, _⟩ => h0 | ⟨1, _⟩ => (congrArg (· + 1536) h1).le | ⟨2, _⟩ => (congrArg (· + 4096) h2).le
theorem sgu_inb (off : Fin 2 → ℕ) (h0 : off 0 < 31) (h1 : off 1 = 0) : ∀ a, off a + S1x3072.size a ≤ S31x3072.size a :=
  fun | ⟨0, _⟩ => h0 | ⟨1, _⟩ => (congrArg (· + 3072) h1).le
theorem sdn_inb (off : Fin 2 → ℕ) (h0 : off 0 < 31) (h1 : off 1 = 0) : ∀ a, off a + S1x4096.size a ≤ S31x4096.size a :=
  fun | ⟨0, _⟩ => h0 | ⟨1, _⟩ => (congrArg (· + 4096) h1).le

theorem chk19_0 {v31 : BitVec 32} (hn : v31.toNat ≤ 31) : k0_chk19_0 v31 :=
  ⟨t3_ok hn,
   fun t => ord_inb _ (ord0_lt hn t),
   fun t => ord_inb _ (ord2_lt hn t),
   fun t => gs_inb _ (slot_lt hn t) (by first | exact Nat.zero_lt_two | exact Nat.one_lt_two),
   fun t => gu_inb _ (slot_lt hn t) (by first | exact Nat.zero_lt_two | exact Nat.one_lt_two) rfl rfl,
   fun t _ => .inl (packed_dvd (by decide) (by first | exact dvd_zero 4 | exact (by decide : 4 ∣ 2048)) (by decide)),
   fun t => gu_inb _ (slot_lt hn t) (by first | exact Nat.zero_lt_two | exact Nat.one_lt_two) rfl rfl,
   fun t _ => gs_inb _ (slot_lt hn t) (by first | exact Nat.zero_lt_two | exact Nat.one_lt_two),
   fun t _ => gu_inb _ (slot_lt hn t) (by first | exact Nat.zero_lt_two | exact Nat.one_lt_two) rfl rfl,
   fun t _ _ => .inl (packed_dvd (by decide) (by first | exact dvd_zero 4 | exact (by decide : 4 ∣ 2048)) (by decide)),
   fun t => gs_inb _ (slot_lt hn t) (by first | exact Nat.zero_lt_two | exact Nat.one_lt_two),
   fun t => gu_inb _ (slot_lt hn t) (by first | exact Nat.zero_lt_two | exact Nat.one_lt_two) rfl rfl,
   fun t _ => .inl (packed_dvd (by decide) (by first | exact dvd_zero 4 | exact (by decide : 4 ∣ 2048)) (by decide)),
   fun t => gu_inb _ (slot_lt hn t) (by first | exact Nat.zero_lt_two | exact Nat.one_lt_two) rfl rfl,
   fun t _ => gs_inb _ (slot_lt hn t) (by first | exact Nat.zero_lt_two | exact Nat.one_lt_two),
   fun t _ => gu_inb _ (slot_lt hn t) (by first | exact Nat.zero_lt_two | exact Nat.one_lt_two) rfl rfl,
   fun t _ _ => .inl (packed_dvd (by decide) (by first | exact dvd_zero 4 | exact (by decide : 4 ∣ 2048)) (by decide)),
   fun t => ds_inb _ (slot_lt hn t) rfl,
   fun t => dn_inb _ (slot_lt hn t) rfl rfl rfl,
   fun t _ => .inl (packed_dvd (by decide) (by first | exact dvd_zero 4 | exact (by decide : 4 ∣ 2048)) (by decide)),
   fun t => dn_inb _ (slot_lt hn t) rfl rfl rfl,
   fun t _ => ds_inb _ (slot_lt hn t) rfl,
   fun t _ => dn_inb _ (slot_lt hn t) rfl rfl rfl,
   fun t _ _ => .inl (packed_dvd (by decide) (by first | exact dvd_zero 4 | exact (by decide : 4 ∣ 2048)) (by decide)),
   t4_ok hn,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim⟩

theorem chk19_1 {v31 : BitVec 32} (hn : v31.toNat ≤ 31) : k0_chk19_1 v31 :=
  ⟨fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim,
   fun t => (t4_none hn t).elim⟩

/-- Every access of the two loops of a count at most 31 is in bounds. -/
theorem chk19 {v31 : BitVec 32} (hn : v31.toNat ≤ 31) : k0_chk19 v31 := ⟨chk19_0 hn, chk19_1 hn⟩

theorem chk1 {e : BitVec 32} (he : e.toNat < 31) : k0_chk1 e :=
  ⟨wgu_inb _ he (by first | exact Or.inl rfl | exact Or.inr rfl) rfl,
   fun _ => .inl (packed_dvd (by decide) (by first | exact dvd_zero 4 | exact (by decide : 4 ∣ 2048)) (by decide)),
   wgu_inb _ he (by first | exact Or.inl rfl | exact Or.inr rfl) rfl,
   fun _ => .inl (packed_dvd (by decide) (by first | exact dvd_zero 4 | exact (by decide : 4 ∣ 2048)) (by decide)),
   wdn_inb _ he rfl rfl,
   fun _ => .inl (packed_dvd (by decide) (by first | exact dvd_zero 4 | exact (by decide : 4 ∣ 2048)) (by decide))⟩

theorem chk18 {v31 e : BitVec 32} (he : e.toNat < 31) : k0_chk18 v31 e :=
  ⟨fun _ => wgu_inb _ he (by first | exact Or.inl rfl | exact Or.inr rfl) rfl,
   fun _ _ => .inl (packed_dvd (by decide) (by first | exact dvd_zero 4 | exact (by decide : 4 ∣ 2048)) (by decide)),
   fun _ => wgu_inb _ he (by first | exact Or.inl rfl | exact Or.inr rfl) rfl,
   fun _ _ => .inl (packed_dvd (by decide) (by first | exact dvd_zero 4 | exact (by decide : 4 ∣ 2048)) (by decide)),
   fun _ => wdn_inb _ he rfl rfl,
   fun _ _ => .inl (packed_dvd (by decide) (by first | exact dvd_zero 4 | exact (by decide : 4 ∣ 2048)) (by decide))⟩

theorem chk20 {e : BitVec 32} (he : e.toNat < 31) : k0_chk20 e :=
  ⟨wgu_inb _ he (by first | exact Or.inl rfl | exact Or.inr rfl) rfl,
   fun _ => .inl (packed_dvd (by decide) (by first | exact dvd_zero 4 | exact (by decide : 4 ∣ 2048)) (by decide)),
   wgu_inb _ he (by first | exact Or.inl rfl | exact Or.inr rfl) rfl,
   fun _ => .inl (packed_dvd (by decide) (by first | exact dvd_zero 4 | exact (by decide : 4 ∣ 2048)) (by decide)),
   sgu_inb _ he rfl,
   sdn_inb _ he rfl,
   wdn_inb _ he rfl rfl,
   fun _ => .inl (packed_dvd (by decide) (by first | exact dvd_zero 4 | exact (by decide : 4 ∣ 2048)) (by decide))⟩

theorem chk21 {v31 : BitVec 32} {t : Fin (k0_t3_loop v31).trips} {e : BitVec 32} (he : e.toNat < 31) : k0_chk21 v31 t e :=
  ⟨fun _ => wgu_inb _ he (by first | exact Or.inl rfl | exact Or.inr rfl) rfl,
   fun _ _ => .inl (packed_dvd (by decide) (by first | exact dvd_zero 4 | exact (by decide : 4 ∣ 2048)) (by decide)),
   fun _ => wgu_inb _ he (by first | exact Or.inl rfl | exact Or.inr rfl) rfl,
   fun _ _ => .inl (packed_dvd (by decide) (by first | exact dvd_zero 4 | exact (by decide : 4 ∣ 2048)) (by decide)),
   fun _ => wdn_inb _ he rfl rfl,
   fun _ _ => .inl (packed_dvd (by decide) (by first | exact dvd_zero 4 | exact (by decide : 4 ∣ 2048)) (by decide))⟩

end Cert.KernelIdeal.Hand
-- ==== Proof.Ideal.Ring.lean ====
/-
  For the ideal program, whose text is the same: the proof of the module of this name outside Ideal/, repeated.
  The two-slot ring of weight copies. Each slot holds two halves of an expert's gate-and-up matrix and its down matrix;
  every such place is free, in flight or delivered. The rules below start, await and read one place, whatever words the
  program uses to compute its offsets.
-/
module

public import proofs.«01_k».proof.Proof.Gen.KernelIdeal.Launch
public import Idealize.ShloMosaic.Lib.Pipeline.FrameBody
public import Idealize.ShloMosaic.Lib.Tactic
public import Idealize.ShloMosaic.Lib.WordCmp
public import proofs.«01_k».proof.Proof.Rules
public import proofs.«01_k».proof.Proof.Ideal.Words

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

variable (c : Dev nD)

/-- The slot of position `j` of the expert order. -/
def slot (j : ℕ) : Fin 2 := ⟨j % 2, Nat.mod_lt _ Nat.zero_lt_two⟩
theorem slot_add_two (j : ℕ) : slot (j + 2) = slot j := Fin.ext (Nat.add_mod_right j 2)

/-- Rows `2048 ch …` of expert `e`'s gate-and-up matrix. -/
def guC (W : S31x4096x3072.Idx → Elt F .fp8e4m3) (e : Fin 31) (ch : Fin 2) : S2048x3072.Idx → Elt F .fp8e4m3 := fun i =>
  W (ValueIdx.ix3 e (⟨2048 * ch.val + (i 0).val, by have h : (i 0).val < 2048 := (i 0).isLt; have := ch.isLt; omega⟩ : Fin 4096) (i 1))
/-- Expert `e`'s down matrix. -/
def dnC (W : S31x1536x4096.Idx → Elt F .fp8e4m3) (e : Fin 31) (_ : Fin 1) : S1536x4096.Idx → Elt F .fp8e4m3 := fun i =>
  W (ValueIdx.ix3 e (i 0) (i 1))

theorem gu_src (W : S31x4096x3072.Idx → Elt F .fp8e4m3) (e : Fin 31) (ch : Fin 2) (off : Fin 3 → ℕ)
    (h : ∀ a, off a + S1x2048x3072.size a ≤ S31x4096x3072.size a) (ho : off = ![e.val, 2048 * ch.val, 0]) (i : S2048x3072.Idx) :
    W ((Rect.unit (s := S31x4096x3072) off S1x2048x3072.size h).emb (Shape.reshapeEquiv squeezes_S1x2048x3072_S2048x3072.numel_eq i)) = guC W e ch i := by
  subst ho
  unfold guC
  have hr := Shape.reshapeEquiv_cons_one (n := 2) (d := ![2048, 3072]) squeezes_S1x2048x3072_S2048x3072.numel_eq i
  refine congrArg W ?_
  funext a
  refine Fin.ext ((congrArg (fun z => ((Rect.unit (s := S31x4096x3072) ![e.val, 2048 * ch.val, 0] S1x2048x3072.size h).emb z a).val) hr).trans ?_)
  match a with
  | ⟨0, _⟩ => exact Nat.add_zero _
  | ⟨1, _⟩ => exact congrArg (2048 * ch.val + ·) (Nat.one_mul _)
  | ⟨2, _⟩ => exact (Nat.zero_add _).trans (Nat.one_mul _)

theorem dn_src (W : S31x1536x4096.Idx → Elt F .fp8e4m3) (e : Fin 31) (ch : Fin 1) (off : Fin 3 → ℕ)
    (h : ∀ a, off a + S1x1536x4096.size a ≤ S31x1536x4096.size a) (ho : off = ![e.val, 0, 0]) (i : S1536x4096.Idx) :
    W ((Rect.unit (s := S31x1536x4096) off S1x1536x4096.size h).emb (Shape.reshapeEquiv squeezes_S1x1536x4096_S1536x4096.numel_eq i)) = dnC W e ch i := by
  subst ho
  unfold dnC
  have hr := Shape.reshapeEquiv_cons_one (n := 2) (d := ![1536, 4096]) squeezes_S1x1536x4096_S1536x4096.numel_eq i
  refine congrArg W ?_
  funext a
  refine Fin.ext ((congrArg (fun z => ((Rect.unit (s := S31x1536x4096) ![e.val, 0, 0] S1x1536x4096.size h).emb z a).val) hr).trans ?_)
  match a with
  | ⟨0, _⟩ => exact Nat.add_zero _
  | ⟨1, _⟩ => exact (Nat.zero_add _).trans (Nat.one_mul _)
  | ⟨2, _⟩ => exact (Nat.zero_add _).trans (Nat.one_mul _)

section
variable (arg3 : Memref sig .tc .hbm S31x4096x3072 .fp8e4m3) (arg22 : Memref sig .tc .vmem S2x2x2048x3072 .fp8e4m3) (arg26 : DmaSems sig S2x2)

/-- The place for half `ch` of the gate-and-up matrix of slot `s`, -/
abbrev guM (s : Fin 2) (ch : Fin 2) : Memref sig .tc .vmem S2048x3072 .fp8e4m3 :=
  (arg22.slice (Rect.unit (s := S2x2x2048x3072) ![s.val, ch.val, 0, 0] S1x1x2048x3072.size (gu_inb _ s.isLt ch.isLt rfl rfl)) (fun _ => rfl)).squeeze S2048x3072 squeezes_S1x1x2048x3072_S2048x3072
/-- and its semaphore. -/
abbrev guS (s : Fin 2) (ch : Fin 2) : DmaSem sig :=
  ((arg26.slice (Rect.unit (s := S2x2) ![s.val, ch.val] S1x1.size (gs_inb _ s.isLt ch.isLt))).squeeze S_ squeezes_S1x1_S_).sem

/-- The place delivered (or free), holding `v`, with its share of the weights, -/
def guGot (q : PosShare TreeShare) (X : S31x4096x3072.Idx → Elt F .fp8e4m3) (s : Fin 2) (ch : Fin 2) (v : S2048x3072.Idx → Elt F .fp8e4m3) : sProp 𝕄 :=
  iprop(owns (c : Thread nD τ) (guM arg22 s ch) fullShare v ∗ owns (c : Thread nD τ) arg3 q X ∗ semVal ((c : Thread nD τ), (SemLoc.dma (guS arg26 s ch) : SemLoc sig)) 0)
/-- free, -/
def guFree (q : PosShare TreeShare) (X : S31x4096x3072.Idx → Elt F .fp8e4m3) (s : Fin 2) (ch : Fin 2) : sProp 𝕄 :=
  iprop(∃ v, guGot c arg3 arg22 arg26 q X s ch v)
/-- and in flight from expert `e`'s matrix. -/
def guIn (q : PosShare TreeShare) (X : S31x4096x3072.Idx → Elt F .fp8e4m3) (s : Fin 2) (ch : Fin 2) (e : Fin 31) : sProp 𝕄 :=
  InFl (U := Pipeline.UD sig nD τ) (Name := ℕ) (Lvl := ℕ) (Ix := Unit) (c : Thread nD τ) (SemLoc.dma (guS arg26 s ch)) () (guM arg22 s ch).view.dmaCredit (guM arg22 s ch) (guC X e ch) arg3 q X
/-- The place at position `j` of an order of `N` experts: in flight while `j` is a position, else free. -/
def guAt (N : ℕ) (o : ℕ → Fin 31) (q : Fin 2 → Fin 2 → PosShare TreeShare) (X : S31x4096x3072.Idx → Elt F .fp8e4m3) (j : ℕ) (ch : Fin 2) : sProp 𝕄 :=
  if j < N then guIn c arg3 arg22 arg26 (q (slot j) ch) X (slot j) ch (o j) else guFree c arg3 arg22 arg26 (q (slot j) ch) X (slot j) ch

variable {arg3 arg22 arg26} {q : PosShare TreeShare} {X : S31x4096x3072.Idx → Elt F .fp8e4m3} {s : Fin 2} {ch : Fin 2}
variable {α : Type} {Φ : α → sProp (MT nD τ sig Unit (Elt F) ℕ (Pipeline.UD sig nD τ) ℕ)}

/-- The start of the copy of half `ch` of the gate-and-up matrix. -/
theorem gu_start {off : Fin 4 → ℕ} {h : ∀ a, off a + S1x1x2048x3072.size a ≤ S2x2x2048x3072.size a} {so : Fin 2 → ℕ} {hs : ∀ a, so a + S1x1.size a ≤ S2x2.size a}
    {wo : Fin 3 → ℕ} {hw : ∀ a, wo a + S1x2048x3072.size a ≤ S31x4096x3072.size a} (e : Fin 31)
    {hsrc : View.WordExact (Memref.view ((arg3.slice (Rect.unit (s := S31x4096x3072) wo S1x2048x3072.size hw) (fun _ => rfl)).squeeze S2048x3072 squeezes_S1x2048x3072_S2048x3072))}
    {hdst : View.WordExact (Memref.view ((arg22.slice (Rect.unit (s := S2x2x2048x3072) off S1x1x2048x3072.size h) (fun _ => rfl)).squeeze S2048x3072 squeezes_S1x1x2048x3072_S2048x3072))}
    {hsem : DmaTarget.Typed (nD := nD) (τ := τ) Space.hbm (SemLoc.dma ((arg26.slice (Rect.unit (s := S2x2) so S1x1.size hs)).squeeze S_ squeezes_S1x1_S_).sem)
      (DmaTarget.here (nD := nD) (τ := τ) (p := .tc) ((arg22.slice (Rect.unit (s := S2x2x2048x3072) off S1x1x2048x3072.size h) (fun _ => rfl)).squeeze S2048x3072 squeezes_S1x1x2048x3072_S2048x3072))}
    {k : PUnit → Prog (TpuEff nD τ sig (Elt F) Λ₀ .tc) α}
    (ho : off = ![s.val, ch.val, 0, 0]) (hso : so = ![s.val, ch.val]) (hwo : wo = ![e.val, 2048 * ch.val, 0]) :
    (guFree c arg3 arg22 arg26 q X s ch : sProp 𝕄)
      ⊢ iprop((guIn c arg3 arg22 arg26 q X s ch e -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.enqueueDma ((arg3.slice (Rect.unit (s := S31x4096x3072) wo S1x2048x3072.size hw) (fun _ => rfl)).squeeze S2048x3072 squeezes_S1x2048x3072_S2048x3072)
          (.here ((arg22.slice (Rect.unit (s := S2x2x2048x3072) off S1x1x2048x3072.size h) (fun _ => rfl)).squeeze S2048x3072 squeezes_S1x1x2048x3072_S2048x3072))
          (.dma ((arg26.slice (Rect.unit (s := S2x2) so S1x1.size hs)).squeeze S_ squeezes_S1x1_S_).sem) hsrc hdst hsem) >>= k) Φ) := by
  subst ho hso
  unfold guFree guGot guIn
  iintro ⟨%v, Hd, Hw, Hs⟩ Hk
  iapply (w_dma_part Variants.none (c : Thread nD τ) none () (guM arg22 s ch).view.dmaCredit rfl (View.dmaCredit_pos _ (by decide)) (guC X e ch)
    (fun i => gu_src X e ch wo hw hwo i)) $$ [Hd Hw Hs]
  · isplitl [Hw]; · iexact Hw
    isplitl [Hd]; · iexact Hd
    iexact Hs
  iexact Hk

/-- The wait for it. -/
theorem gu_wait {sp₃ : Space} {s₃ : Shape} {e₃ : EltTy} {srcw : Memref sig .tc sp₃ s₃ e₃} {off : Fin 4 → ℕ} {h : ∀ a, off a + S1x1x2048x3072.size a ≤ S2x2x2048x3072.size a} {so : Fin 2 → ℕ} {hs : ∀ a, so a + S1x1.size a ≤ S2x2.size a}
    {e : Fin 31} {hsrc : srcw.view.WordExact}
    {hdst : View.WordExact (Memref.view ((arg22.slice (Rect.unit (s := S2x2x2048x3072) off S1x1x2048x3072.size h) (fun _ => rfl)).squeeze S2048x3072 squeezes_S1x1x2048x3072_S2048x3072))}
    {k : PUnit → Prog (TpuEff nD τ sig (Elt F) Λ₀ .tc) α}
    (ho : off = ![s.val, ch.val, 0, 0]) (hso : so = ![s.val, ch.val]) :
    (iprop(guIn c arg3 arg22 arg26 q X s ch e ∗ ∃ W, owes (c : Thread nD τ) 0 W) : sProp 𝕄)
      ⊢ iprop((iprop(guGot c arg3 arg22 arg26 q X s ch (guC X e ch) ∗ ∃ W, owes (c : Thread nD τ) 0 W) -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.waitDma2 ((arg26.slice (Rect.unit (s := S2x2) so S1x1.size hs)).squeeze S_ squeezes_S1x1_S_).sem srcw
          ((arg22.slice (Rect.unit (s := S2x2x2048x3072) off S1x1x2048x3072.size h) (fun _ => rfl)).squeeze S2048x3072 squeezes_S1x1x2048x3072_S2048x3072) hsrc hdst) >>= k) Φ) := by
  subst ho hso
  unfold guGot guIn
  iintro H Hk
  iapply (w_wait Variants.none (c : Thread nD τ) none () (N := (guM arg22 s ch).view.dmaCredit) rfl) $$ H
  iintro ⟨Hd, Hw, Hs, HO⟩
  iapply Hk
  isplitl [Hd Hw Hs]
  · isplitl [Hd]; · iexact Hd
    isplitl [Hw]; · iexact Hw
    iexact Hs
  iexact HO

/-- The read of the delivered place. -/
theorem gu_load {off : Fin 4 → ℕ} {h : ∀ a, off a + S1x1x2048x3072.size a ≤ S2x2x2048x3072.size a} {v : S2048x3072.Idx → Elt F .fp8e4m3}
    {hl : arg22.view.LoadsAt (Rect.unit (s := S2x2x2048x3072) off S1x1x2048x3072.size h).toLoadRect}
    {k : (S1x1x2048x3072.Idx → Elt F .fp8e4m3) → Prog (TpuEff nD τ sig (Elt F) Λ₀ .tc) α}
    (ho : off = ![s.val, ch.val, 0, 0]) :
    (guGot c arg3 arg22 arg26 q X s ch v : sProp 𝕄)
      ⊢ iprop((guGot c arg3 arg22 arg26 q X s ch v -∗ wp frame (wpE (defs₀ (F := F)) Variants.none (c : Thread nD τ) none (Ix := Unit) (Name := ℕ) (U := Pipeline.UD sig nD τ) (Lvl := ℕ)) Set.univ (k (fun x => v ((Shape.reshapeEquiv squeezes_S1x1x2048x3072_S2048x3072.numel_eq).symm x))) Φ)
        -∗ wp frame (wpE (defs₀ (F := F)) Variants.none (c : Thread nD τ) none (Ix := Unit) (Name := ℕ) (U := Pipeline.UD sig nD τ) (Lvl := ℕ)) Set.univ (Prog.lift (.load arg22 (Rect.unit (s := S2x2x2048x3072) off S1x1x2048x3072.size h).toLoadRect hl) >>= k) Φ) := by
  subst ho
  unfold guGot
  iintro ⟨Hd, Hw, Hs⟩ Hk
  iapply (w_load_part Variants.none (c : Thread nD τ) none (hr := fun _ => rfl) (hq := squeezes_S1x1x2048x3072_S2048x3072)) $$ Hd
  iintro Hd
  iapply Hk
  isplitl [Hd]; · iexact Hd
  isplitl [Hw]; · iexact Hw
  iexact Hs

end

section
variable (arg5 : Memref sig .tc .hbm S31x1536x4096 .fp8e4m3) (arg23 : Memref sig .tc .vmem S2x1x1536x4096 .fp8e4m3) (arg27 : DmaSems sig S2x1)

/-- The place for the down matrix of slot `s`, -/
abbrev dnM (s : Fin 2) (ch : Fin 1) : Memref sig .tc .vmem S1536x4096 .fp8e4m3 :=
  (arg23.slice (Rect.unit (s := S2x1x1536x4096) ![s.val, ch.val, 0, 0] S1x1x1536x4096.size (dn_inb _ s.isLt (Fin.val_eq_zero ch) rfl rfl)) (fun _ => rfl)).squeeze S1536x4096 squeezes_S1x1x1536x4096_S1536x4096
/-- and its semaphore. -/
abbrev dnS (s : Fin 2) (ch : Fin 1) : DmaSem sig :=
  ((arg27.slice (Rect.unit (s := S2x1) ![s.val, ch.val] S1x1.size (ds_inb _ s.isLt (Fin.val_eq_zero ch)))).squeeze S_ squeezes_S1x1_S_).sem

/-- The place delivered (or free), holding `v`, with its share of the weights, -/
def dnGot (q : PosShare TreeShare) (X : S31x1536x4096.Idx → Elt F .fp8e4m3) (s : Fin 2) (ch : Fin 1) (v : S1536x4096.Idx → Elt F .fp8e4m3) : sProp 𝕄 :=
  iprop(owns (c : Thread nD τ) (dnM arg23 s ch) fullShare v ∗ owns (c : Thread nD τ) arg5 q X ∗ semVal ((c : Thread nD τ), (SemLoc.dma (dnS arg27 s ch) : SemLoc sig)) 0)
/-- free, -/
def dnFree (q : PosShare TreeShare) (X : S31x1536x4096.Idx → Elt F .fp8e4m3) (s : Fin 2) (ch : Fin 1) : sProp 𝕄 :=
  iprop(∃ v, dnGot c arg5 arg23 arg27 q X s ch v)
/-- and in flight from expert `e`'s matrix. -/
def dnIn (q : PosShare TreeShare) (X : S31x1536x4096.Idx → Elt F .fp8e4m3) (s : Fin 2) (ch : Fin 1) (e : Fin 31) : sProp 𝕄 :=
  InFl (U := Pipeline.UD sig nD τ) (Name := ℕ) (Lvl := ℕ) (Ix := Unit) (c : Thread nD τ) (SemLoc.dma (dnS arg27 s ch)) () (dnM arg23 s ch).view.dmaCredit (dnM arg23 s ch) (dnC X e ch) arg5 q X
/-- The place at position `j` of an order of `N` experts: in flight while `j` is a position, else free. -/
def dnAt (N : ℕ) (o : ℕ → Fin 31) (q : Fin 2 → Fin 1 → PosShare TreeShare) (X : S31x1536x4096.Idx → Elt F .fp8e4m3) (j : ℕ) (ch : Fin 1) : sProp 𝕄 :=
  if j < N then dnIn c arg5 arg23 arg27 (q (slot j) ch) X (slot j) ch (o j) else dnFree c arg5 arg23 arg27 (q (slot j) ch) X (slot j) ch

variable {arg5 arg23 arg27} {q : PosShare TreeShare} {X : S31x1536x4096.Idx → Elt F .fp8e4m3} {s : Fin 2} {ch : Fin 1}
variable {α : Type} {Φ : α → sProp (MT nD τ sig Unit (Elt F) ℕ (Pipeline.UD sig nD τ) ℕ)}

/-- The start of the copy of the down matrix. -/
theorem dn_start {off : Fin 4 → ℕ} {h : ∀ a, off a + S1x1x1536x4096.size a ≤ S2x1x1536x4096.size a} {so : Fin 2 → ℕ} {hs : ∀ a, so a + S1x1.size a ≤ S2x1.size a}
    {wo : Fin 3 → ℕ} {hw : ∀ a, wo a + S1x1536x4096.size a ≤ S31x1536x4096.size a} (e : Fin 31)
    {hsrc : View.WordExact (Memref.view ((arg5.slice (Rect.unit (s := S31x1536x4096) wo S1x1536x4096.size hw) (fun _ => rfl)).squeeze S1536x4096 squeezes_S1x1536x4096_S1536x4096))}
    {hdst : View.WordExact (Memref.view ((arg23.slice (Rect.unit (s := S2x1x1536x4096) off S1x1x1536x4096.size h) (fun _ => rfl)).squeeze S1536x4096 squeezes_S1x1x1536x4096_S1536x4096))}
    {hsem : DmaTarget.Typed (nD := nD) (τ := τ) Space.hbm (SemLoc.dma ((arg27.slice (Rect.unit (s := S2x1) so S1x1.size hs)).squeeze S_ squeezes_S1x1_S_).sem)
      (DmaTarget.here (nD := nD) (τ := τ) (p := .tc) ((arg23.slice (Rect.unit (s := S2x1x1536x4096) off S1x1x1536x4096.size h) (fun _ => rfl)).squeeze S1536x4096 squeezes_S1x1x1536x4096_S1536x4096))}
    {k : PUnit → Prog (TpuEff nD τ sig (Elt F) Λ₀ .tc) α}
    (ho : off = ![s.val, ch.val, 0, 0]) (hso : so = ![s.val, ch.val]) (hwo : wo = ![e.val, 0, 0]) :
    (dnFree c arg5 arg23 arg27 q X s ch : sProp 𝕄)
      ⊢ iprop((dnIn c arg5 arg23 arg27 q X s ch e -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.enqueueDma ((arg5.slice (Rect.unit (s := S31x1536x4096) wo S1x1536x4096.size hw) (fun _ => rfl)).squeeze S1536x4096 squeezes_S1x1536x4096_S1536x4096)
          (.here ((arg23.slice (Rect.unit (s := S2x1x1536x4096) off S1x1x1536x4096.size h) (fun _ => rfl)).squeeze S1536x4096 squeezes_S1x1x1536x4096_S1536x4096))
          (.dma ((arg27.slice (Rect.unit (s := S2x1) so S1x1.size hs)).squeeze S_ squeezes_S1x1_S_).sem) hsrc hdst hsem) >>= k) Φ) := by
  subst ho hso
  unfold dnFree dnGot dnIn
  iintro ⟨%v, Hd, Hw, Hs⟩ Hk
  iapply (w_dma_part Variants.none (c : Thread nD τ) none () (dnM arg23 s ch).view.dmaCredit rfl (View.dmaCredit_pos _ (by decide)) (dnC X e ch)
    (fun i => dn_src X e ch wo hw hwo i)) $$ [Hd Hw Hs]
  · isplitl [Hw]; · iexact Hw
    isplitl [Hd]; · iexact Hd
    iexact Hs
  iexact Hk

/-- The wait for it. -/
theorem dn_wait {sp₃ : Space} {s₃ : Shape} {e₃ : EltTy} {srcw : Memref sig .tc sp₃ s₃ e₃} {off : Fin 4 → ℕ} {h : ∀ a, off a + S1x1x1536x4096.size a ≤ S2x1x1536x4096.size a} {so : Fin 2 → ℕ} {hs : ∀ a, so a + S1x1.size a ≤ S2x1.size a}
    {e : Fin 31} {hsrc : srcw.view.WordExact}
    {hdst : View.WordExact (Memref.view ((arg23.slice (Rect.unit (s := S2x1x1536x4096) off S1x1x1536x4096.size h) (fun _ => rfl)).squeeze S1536x4096 squeezes_S1x1x1536x4096_S1536x4096))}
    {k : PUnit → Prog (TpuEff nD τ sig (Elt F) Λ₀ .tc) α}
    (ho : off = ![s.val, ch.val, 0, 0]) (hso : so = ![s.val, ch.val]) :
    (iprop(dnIn c arg5 arg23 arg27 q X s ch e ∗ ∃ W, owes (c : Thread nD τ) 0 W) : sProp 𝕄)
      ⊢ iprop((iprop(dnGot c arg5 arg23 arg27 q X s ch (dnC X e ch) ∗ ∃ W, owes (c : Thread nD τ) 0 W) -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.waitDma2 ((arg27.slice (Rect.unit (s := S2x1) so S1x1.size hs)).squeeze S_ squeezes_S1x1_S_).sem srcw
          ((arg23.slice (Rect.unit (s := S2x1x1536x4096) off S1x1x1536x4096.size h) (fun _ => rfl)).squeeze S1536x4096 squeezes_S1x1x1536x4096_S1536x4096) hsrc hdst) >>= k) Φ) := by
  subst ho hso
  unfold dnGot dnIn
  iintro H Hk
  iapply (w_wait Variants.none (c : Thread nD τ) none () (N := (dnM arg23 s ch).view.dmaCredit) rfl) $$ H
  iintro ⟨Hd, Hw, Hs, HO⟩
  iapply Hk
  isplitl [Hd Hw Hs]
  · isplitl [Hd]; · iexact Hd
    isplitl [Hw]; · iexact Hw
    iexact Hs
  iexact HO

/-- The read of the delivered place. -/
theorem dn_load {off : Fin 4 → ℕ} {h : ∀ a, off a + S1x1x1536x4096.size a ≤ S2x1x1536x4096.size a} {v : S1536x4096.Idx → Elt F .fp8e4m3}
    {hl : arg23.view.LoadsAt (Rect.unit (s := S2x1x1536x4096) off S1x1x1536x4096.size h).toLoadRect}
    {k : (S1x1x1536x4096.Idx → Elt F .fp8e4m3) → Prog (TpuEff nD τ sig (Elt F) Λ₀ .tc) α}
    (ho : off = ![s.val, ch.val, 0, 0]) :
    (dnGot c arg5 arg23 arg27 q X s ch v : sProp 𝕄)
      ⊢ iprop((dnGot c arg5 arg23 arg27 q X s ch v -∗ wp frame (wpE (defs₀ (F := F)) Variants.none (c : Thread nD τ) none (Ix := Unit) (Name := ℕ) (U := Pipeline.UD sig nD τ) (Lvl := ℕ)) Set.univ (k (fun x => v ((Shape.reshapeEquiv squeezes_S1x1x1536x4096_S1536x4096.numel_eq).symm x))) Φ)
        -∗ wp frame (wpE (defs₀ (F := F)) Variants.none (c : Thread nD τ) none (Ix := Unit) (Name := ℕ) (U := Pipeline.UD sig nD τ) (Lvl := ℕ)) Set.univ (Prog.lift (.load arg23 (Rect.unit (s := S2x1x1536x4096) off S1x1x1536x4096.size h).toLoadRect hl) >>= k) Φ) := by
  subst ho
  unfold dnGot
  iintro ⟨Hd, Hw, Hs⟩ Hk
  iapply (w_load_part Variants.none (c : Thread nD τ) none (hr := fun _ => rfl) (hq := squeezes_S1x1x1536x4096_S1536x4096)) $$ Hd
  iintro Hd
  iapply Hk
  isplitl [Hd]; · iexact Hd
  isplitl [Hw]; · iexact Hw
  iexact Hs

end

end Cert.KernelIdeal.Hand
-- ==== Proof.Ideal.Trip.lean ====
/-
  For the ideal program, whose text is the same: the proof of the module of this name outside Ideal/, repeated.
  One trip of the kernel's main loop. Position `i` of the expert order is computed in slot `i mod 2`: its three copies
  are awaited, read, and, while an expert is left two places on, restarted for it. The accumulator is taken one step
  (`stepV`), and the ring moves on by one position.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.Ideal.Ring

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- A loaded half of an expert's gate-and-up matrix, as the program reads it, -/
def guV (W : S31x4096x3072.Idx → Elt F .fp8e4m3) (e : Fin 31) (ch : Fin 2) : S1x1x2048x3072.Idx → Elt F .fp8e4m3 :=
  fun x => guC W e ch ((Shape.reshapeEquiv squeezes_S1x1x2048x3072_S2048x3072.numel_eq).symm x)
/-- its down matrix, -/
def dnV (W : S31x1536x4096.Idx → Elt F .fp8e4m3) (e : Fin 31) : S1x1x1536x4096.Idx → Elt F .fp8e4m3 :=
  fun x => dnC W e 0 ((Shape.reshapeEquiv squeezes_S1x1x1536x4096_S1536x4096.numel_eq).symm x)
/-- and its rows of scales. -/
def sguV (s : S31x3072.Idx → Elt F .f32) (e : Fin 31) : S1x3072.Idx → Elt F .f32 := fun x => s (ValueIdx.ix2 e (x 1))
def sdnV (s : S31x4096.Idx → Elt F .f32) (e : Fin 31) : S1x4096.Idx → Elt F .f32 := fun x => s (ValueIdx.ix2 e (x 1))

/-- An expert's gate-and-up product of the padded rows `xp`, over the two halves of the model dimension. -/
def gateUp (xp : S32x4096.Idx → Elt F .bf16) (W : S31x4096x3072.Idx → Elt F .fp8e4m3) (e : Fin 31) : FVec F S32x3072 .f32 :=
  k0_pay3 (fun x => xp ((Rect.unit (s := S32x4096) ![0, 2048] S32x2048.size inb_S32x4096_S32x2048_0_2048).emb x)) (guV W e 1)
    (k0_pay2 (fun x => xp ((Rect.unit (s := S32x4096) ![0, 0] S32x2048.size inb_S32x4096_S32x2048_0_0).emb x)) (guV W e 0))

/-- Its hidden layer. -/
def hidden (xp : S32x4096.Idx → Elt F .bf16) (W : S31x4096x3072.Idx → Elt F .fp8e4m3) (s : S31x3072.Idx → Elt F .f32) (e : Fin 31) : FVec F S32x1536 .bf16 :=
  k0_pay4 (sguV s e)
    (fun x => gateUp xp W e ((Rect.unit (s := S32x3072) ![0, 0] S32x1536.size inb_S32x3072_S32x1536_0_0).emb x))
    (fun x => gateUp xp W e ((Rect.unit (s := S32x3072) ![0, 1536] S32x1536.size inb_S32x3072_S32x1536_0_1536).emb x))

/-- The accumulator after expert `e`. -/
def stepV (xp : S32x4096.Idx → Elt F .bf16) (W3 : S31x4096x3072.Idx → Elt F .fp8e4m3) (s4 : S31x3072.Idx → Elt F .f32)
    (W5 : S31x1536x4096.Idx → Elt F .fp8e4m3) (s6 : S31x4096.Idx → Elt F .f32) (ic : S32x8.Idx → Elt F .i32) (rc : S32x8.Idx → Elt F .f32)
    (e : Fin 31) (acc : S32x4096.Idx → Elt F .f32) : FVec F S32x4096 .f32 :=
  k0_pay6 (k0_pay5 (BitVec.ofNat 32 e.val) ic) rc (sdnV s6 e) (hidden xp W3 s4 e) (dnV W5 e) acc

theorem sgu_row (s : S31x3072.Idx → Elt F .f32) (e : Fin 31) (off : Fin 2 → ℕ) (h : ∀ a, off a + S1x3072.size a ≤ S31x3072.size a)
    (ho : off = ![e.val, 0]) : (fun x => s ((Rect.unit (s := S31x3072) off S1x3072.size h).emb x)) = sguV s e := by
  subst ho
  funext x
  refine congrArg s ?_
  funext a
  refine Fin.ext ?_
  match a with
  | ⟨0, _⟩ =>
    have h0 : (x 0).val < 1 := (x 0).isLt
    show e.val + 1 * (x 0).val = e.val
    omega
  | ⟨1, _⟩ => exact (Nat.zero_add _).trans (Nat.one_mul _)
theorem sdn_row (s : S31x4096.Idx → Elt F .f32) (e : Fin 31) (off : Fin 2 → ℕ) (h : ∀ a, off a + S1x4096.size a ≤ S31x4096.size a)
    (ho : off = ![e.val, 0]) : (fun x => s ((Rect.unit (s := S31x4096) off S1x4096.size h).emb x)) = sdnV s e := by
  subst ho
  funext x
  refine congrArg s ?_
  funext a
  refine Fin.ext ?_
  match a with
  | ⟨0, _⟩ =>
    have h0 : (x 0).val < 1 := (x 0).isLt
    show e.val + 1 * (x 0).val = e.val
    omega
  | ⟨1, _⟩ => exact (Nat.zero_add _).trans (Nat.one_mul _)

theorem word_exp (e : Fin 31) : (BitVec.ofNat 32 e.val).toNat = e.val := by
  rw [BitVec.toNat_ofNat]; have := e.isLt; omega

/-- The word of the order table at a position of the order. -/
theorem ord_word {N : ℕ} {o : ℕ → Fin 31} {ord : S32.Idx → Elt F .i32} (hord : ∀ i : S32.Idx, (i 0).val < N → ord i = BitVec.ofNat 32 (o (i 0).val).val)
    {off size : Fin 1 → ℕ} {h : ∀ a, off a + size a ≤ S32.size a} {x : (Rect.unit (s := S32) off size h).shape.Idx}
    (j : ℕ) (hj : j < N) (hs : size 0 = 1) (ho : off 0 = j) :
    ord ((Rect.unit (s := S32) off size h).emb x) = BitVec.ofNat 32 (o j).val := by
  have h0 : (x 0).val < 1 := hs ▸ (x 0).isLt
  have e : (((Rect.unit (s := S32) off size h).emb x) 0).val = j := by
    show off 0 + 1 * (x 0).val = j
    omega
  rw [hord _ (by rw [e]; exact hj), e]

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

/-- What the main loop holds before the trip at position `i`: the order table, the scales, the padded rows, the routing
    columns, two scratch buffers, the accumulator at `acc i`, and the ring at positions `i` and `i + 1`. -/
def tripI (c : Dev nD) (N : ℕ) (o : ℕ → Fin 31) (q3 : Fin 2 → Fin 2 → PosShare TreeShare) (q5 : Fin 2 → Fin 1 → PosShare TreeShare)
    (W3 : S31x4096x3072.Idx → Elt F .fp8e4m3) (W5 : S31x1536x4096.Idx → Elt F .fp8e4m3)
    (ord : S32.Idx → Elt F .i32) (s4 : S31x3072.Idx → Elt F .f32) (s6 : S31x4096.Idx → Elt F .f32)
    (ic : S32x8.Idx → Elt F .i32) (rc : S32x8.Idx → Elt F .f32) (xp : S32x4096.Idx → Elt F .bf16) (acc : ℕ → S32x4096.Idx → Elt F .f32)
    (i : ℕ) (_ : Unit) : sProp 𝕄 :=
  iprop(owns (c : Thread nD τ) arg9 fullShare ord ∗ owns (c : Thread nD τ) arg14 fullShare s4 ∗ owns (c : Thread nD τ) arg15 fullShare s6
    ∗ owns (c : Thread nD τ) arg16 fullShare ic ∗ owns (c : Thread nD τ) arg17 fullShare rc ∗ owns (c : Thread nD τ) arg18 fullShare xp
    ∗ (∃ v : S32x3072.Idx → Elt F .f32, owns (c : Thread nD τ) arg19 fullShare v) ∗ (∃ v : S32x1536.Idx → Elt F .bf16, owns (c : Thread nD τ) arg20 fullShare v)
    ∗ owns (c : Thread nD τ) arg21 fullShare (acc i) ∗ (∃ W, owes (c : Thread nD τ) 0 W)
    ∗ guAt c arg3 arg22 arg26 N o q3 W3 i 0 ∗ guAt c arg3 arg22 arg26 N o q3 W3 i 1 ∗ dnAt c arg5 arg23 arg27 N o q5 W5 i 0
    ∗ guAt c arg3 arg22 arg26 N o q3 W3 (i + 1) 0 ∗ guAt c arg3 arg22 arg26 N o q3 W3 (i + 1) 1 ∗ dnAt c arg5 arg23 arg27 N o q5 W5 (i + 1) 0)

set_option maxHeartbeats 4000000 in
theorem t3_trip (c : Dev nD) (v31 : BitVec 32) (k0_hw19 : k0_chk19 v31) (hn : v31.toNat ≤ 31) (o : ℕ → Fin 31)
    (q3 : Fin 2 → Fin 2 → PosShare TreeShare) (q5 : Fin 2 → Fin 1 → PosShare TreeShare)
    (W3 : S31x4096x3072.Idx → Elt F .fp8e4m3) (W5 : S31x1536x4096.Idx → Elt F .fp8e4m3)
    (ord : S32.Idx → Elt F .i32) (hord : ∀ i : S32.Idx, (i 0).val < v31.toNat → ord i = BitVec.ofNat 32 (o (i 0).val).val)
    (s4 : S31x3072.Idx → Elt F .f32) (s6 : S31x4096.Idx → Elt F .f32)
    (ic : S32x8.Idx → Elt F .i32) (rc : S32x8.Idx → Elt F .f32) (xp : S32x4096.Idx → Elt F .bf16) (acc : ℕ → S32x4096.Idx → Elt F .f32)
    (hacc : ∀ i, acc (i + 1) = stepV xp W3 s4 W5 s6 ic rc (o i) (acc i)) (t : Fin (k0_t3_loop v31).trips) (u : Unit) :
    (tripI arg3 arg5 arg9 arg14 arg15 arg16 arg17 arg18 arg19 arg20 arg21 arg22 arg23 arg26 arg27 c v31.toNat o q3 q5 W3 W5 ord s4 s6 ic rc xp acc t.val u : sProp 𝕄)
      ⊢ wp frame (wpE (defs₀ (F := F)) Variants.none (c : Thread nD τ) none (Ix := Unit) (Name := ℕ) (U := Pipeline.UD sig nD τ) (Lvl := ℕ)) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32 t u)
        (tripI arg3 arg5 arg9 arg14 arg15 arg16 arg17 arg18 arg19 arg20 arg21 arg22 arg23 arg26 arg27 c v31.toNat o q3 q5 W3 W5 ord s4 s6 ic rc xp acc (t.val + 1)) := by
  have ht : t.val < v31.toNat := t3_lt hn t
  have hslot : (Scalar.remsi (Scf.iv 0#32 1#32 t.val) 2#32).toNat = (slot t.val).val := slot_eq hn t
  have hb0 : ∀ z, z = (Scalar.remsi (Scf.iv 0#32 1#32 t.val) 2#32).toNat → (![z, 0, 0, 0] : Fin 4 → ℕ) = ![(slot t.val).val, (0 : Fin 2).val, 0, 0] := fun z hz => by rw [hz, hslot]; rfl
  have hb1 : ∀ z, z = (Scalar.remsi (Scf.iv 0#32 1#32 t.val) 2#32).toNat → (![z, 1, 0, 0] : Fin 4 → ℕ) = ![(slot t.val).val, (1 : Fin 2).val, 0, 0] := fun z hz => by rw [hz, hslot]; rfl
  have hd0 : ∀ z, z = (Scalar.remsi (Scf.iv 0#32 1#32 t.val) 2#32).toNat → (![z, 0, 0, 0] : Fin 4 → ℕ) = ![(slot t.val).val, (0 : Fin 1).val, 0, 0] := fun z hz => by rw [hz, hslot]; rfl
  have hs0 : ∀ z, z = (Scalar.remsi (Scf.iv 0#32 1#32 t.val) 2#32).toNat → (![z, 0] : Fin 2 → ℕ) = ![(slot t.val).val, (0 : Fin 2).val] := fun z hz => by rw [hz, hslot]; rfl
  have hs1 : ∀ z, z = (Scalar.remsi (Scf.iv 0#32 1#32 t.val) 2#32).toNat → (![z, 1] : Fin 2 → ℕ) = ![(slot t.val).val, (1 : Fin 2).val] := fun z hz => by rw [hz, hslot]; rfl
  have hsd : ∀ z, z = (Scalar.remsi (Scf.iv 0#32 1#32 t.val) 2#32).toNat → (![z, 0] : Fin 2 → ℕ) = ![(slot t.val).val, (0 : Fin 1).val] := fun z hz => by rw [hz, hslot]; rfl
  have he := word_exp (o t.val)
  have hmore : k0_cond2 v31 t = 1#1 → t.val + 2 < v31.toNat := fun h => (more_iff hn t).mp h
  have hnomore : ¬k0_cond2 v31 t = 1#1 → ¬t.val + 2 < v31.toNat := fun h h' => h ((more_iff hn t).mpr h')
  obtain ⟨e2, he2, hm2⟩ : ∃ e2 : Fin 31, o (min (t.val + 2) (v31.toNat - 1)) = e2 ∧ (t.val + 2 < v31.toNat → o (t.val + 2) = e2) :=
    ⟨_, rfl, fun h => congrArg o (by omega)⟩
  have hw2 := word_exp e2
  unfold tripI
  rw [show guAt c arg3 arg22 arg26 v31.toNat o q3 W3 t.val 0 = guIn c arg3 arg22 arg26 (q3 (slot t.val) 0) W3 (slot t.val) 0 (o t.val) from if_pos ht,
    show guAt c arg3 arg22 arg26 v31.toNat o q3 W3 t.val 1 = guIn c arg3 arg22 arg26 (q3 (slot t.val) 1) W3 (slot t.val) 1 (o t.val) from if_pos ht,
    show dnAt c arg5 arg23 arg27 v31.toNat o q5 W5 t.val 0 = dnIn c arg5 arg23 arg27 (q5 (slot t.val) 0) W5 (slot t.val) 0 (o t.val) from if_pos ht]
  iintro ⟨H9, H14, H15, H16, H17, H18, ⟨%v19, H19⟩, ⟨%v20, H20⟩, H21, HO, HA, HB, HD, HA', HB', HD'⟩
  dsimp only [k0_t3_body]
  rw [wp_bind, k0_part3_eq_skeleton]
  dsimp only [k0_part3_skel]
  iapply (w_smem' Variants.none (c : Thread nD τ) none (m := arg9) (BitVec.ofNat 32 (o t.val).val) (ord_word hord t.val ht rfl (ord0_eq hn t))) $$ H9
  iintro H9
  dsimp only
  iapply (w_assume Variants.none (c : Thread nD τ) none (P := k0_chk20 (BitVec.ofNat 32 (o t.val).val)) (chk20 (by rw [he]; exact (o t.val).isLt)))
  iapply (w_smem' Variants.none (c : Thread nD τ) none (m := arg9) (BitVec.ofNat 32 e2.val)
    ((ord_word hord (min (t.val + 2) (v31.toNat - 1)) (by omega) rfl (ord2_eq hn t)).trans (by rw [he2]))) $$ H9
  iintro H9
  dsimp only
  iapply (w_assume Variants.none (c : Thread nD τ) none (P := k0_chk21 v31 t (BitVec.ofNat 32 e2.val)) (chk21 (by rw [hw2]; exact e2.isLt)))
  -- the first half
  iapply (gu_wait c (hb0 _ rfl) (hs0 _ rfl)) $$ [HA HO]
  · isplitl [HA]; · iexact HA
    iexact HO
  iintro ⟨HA, HO⟩
  iapply (w_load Variants.none (c : Thread nD τ) none (m := arg18)) $$ H18
  iintro H18
  iapply (gu_load c (hb0 _ rfl)) $$ HA
  iintro HA
  iapply (w_load_full Variants.none (c : Thread nD τ) none (m := arg19)) $$ H19
  iintro H19
  iapply (w_store_full Variants.none (c : Thread nD τ) none (m := arg19)) $$ H19
  iintro H19
  rw [dite_tail]
  iapply (w_dite Variants.none (c : Thread nD τ) none (P := k0_cond2 v31 t = 1#1)
    (R := guGot c arg3 arg22 arg26 (q3 (slot t.val) 0) W3 (slot t.val) 0 (guC W3 (o t.val) 0))
    (R' := guAt c arg3 arg22 arg26 v31.toNat o q3 W3 (t.val + 2) 0) (fun hc => ?_) (fun hc => ?_)) $$ HA
  · rw [guAt, if_pos (hmore hc), slot_add_two, hm2 (hmore hc)]
    iintro HA
    iapply (gu_start c e2 (hb0 _ rfl) (hs0 _ rfl) (congrArg (fun z => (![z, 0, 0] : Fin 3 → ℕ)) hw2)) $$ [HA]
    · unfold guFree; iexists _; iexact HA
    iintro HA
    rw [wp_pure]; imodintro; iexact HA
  · rw [guAt, if_neg (hnomore hc), slot_add_two]
    iintro HA
    rw [wp_pure]; imodintro
    unfold guFree; iexists _; iexact HA
  iintro %_ HA
  rw [wp_pure]
  imodintro
  dsimp only
  rw [wp_bind, k0_part4_eq_skeleton]
  dsimp only [k0_part4_skel]
  -- the second half
  iapply (gu_wait c (hb1 _ rfl) (hs1 _ rfl)) $$ [HB HO]
  · isplitl [HB]; · iexact HB
    iexact HO
  iintro ⟨HB, HO⟩
  iapply (w_load Variants.none (c : Thread nD τ) none (m := arg18)) $$ H18
  iintro H18
  iapply (gu_load c (hb1 _ rfl)) $$ HB
  iintro HB
  iapply (w_load_full Variants.none (c : Thread nD τ) none (m := arg19)) $$ H19
  iintro H19
  iapply (w_load_full Variants.none (c : Thread nD τ) none (m := arg19)) $$ H19
  iintro H19
  iapply (w_store_full Variants.none (c : Thread nD τ) none (m := arg19)) $$ H19
  iintro H19
  rw [dite_tail]
  iapply (w_dite Variants.none (c : Thread nD τ) none (P := k0_cond3 v31 t = 1#1)
    (R := guGot c arg3 arg22 arg26 (q3 (slot t.val) 1) W3 (slot t.val) 1 (guC W3 (o t.val) 1))
    (R' := guAt c arg3 arg22 arg26 v31.toNat o q3 W3 (t.val + 2) 1) (fun hc => ?_) (fun hc => ?_)) $$ HB
  · rw [guAt, if_pos (hmore hc), slot_add_two, hm2 (hmore hc)]
    iintro HB
    iapply (gu_start c e2 (hb1 _ rfl) (hs1 _ rfl) (congrArg (fun z => (![z, 2048, 0] : Fin 3 → ℕ)) hw2)) $$ [HB]
    · unfold guFree; iexists _; iexact HB
    iintro HB
    rw [wp_pure]; imodintro; iexact HB
  · rw [guAt, if_neg (hnomore hc), slot_add_two]
    iintro HB
    rw [wp_pure]; imodintro
    unfold guFree; iexists _; iexact HB
  iintro %_ HB
  -- the hidden layer
  iapply (w_load_eq Variants.none (c : Thread nD τ) none (m := arg14) (sguV s4 (o t.val)) (sgu_row s4 (o t.val) _ _ (congrArg (fun z => (![z, 0] : Fin 2 → ℕ)) he))) $$ H14
  iintro H14
  iapply (w_load Variants.none (c : Thread nD τ) none (m := arg19)) $$ H19
  iintro H19
  iapply (w_load Variants.none (c : Thread nD τ) none (m := arg19)) $$ H19
  iintro H19
  iapply (w_load_full Variants.none (c : Thread nD τ) none (m := arg20)) $$ H20
  iintro H20
  iapply (w_store_full Variants.none (c : Thread nD τ) none (m := arg20)) $$ H20
  iintro H20
  iapply (w_load_full Variants.none (c : Thread nD τ) none (m := arg16)) $$ H16
  iintro H16
  rw [wp_pure]
  imodintro
  rw [wp_bind, k0_part5_eq_skeleton]
  dsimp only [k0_part5_skel]
  -- the down product
  iapply (w_load_full Variants.none (c : Thread nD τ) none (m := arg17)) $$ H17
  iintro H17
  iapply (w_load_eq Variants.none (c : Thread nD τ) none (m := arg15) (sdnV s6 (o t.val)) (sdn_row s6 (o t.val) _ _ (congrArg (fun z => (![z, 0] : Fin 2 → ℕ)) he))) $$ H15
  iintro H15
  iapply (dn_wait c (hd0 _ rfl) (hsd _ rfl)) $$ [HD HO]
  · isplitl [HD]; · iexact HD
    iexact HO
  iintro ⟨HD, HO⟩
  iapply (w_load_full Variants.none (c : Thread nD τ) none (m := arg20)) $$ H20
  iintro H20
  iapply (dn_load c (hd0 _ rfl)) $$ HD
  iintro HD
  iapply (w_load_full Variants.none (c : Thread nD τ) none (m := arg21)) $$ H21
  iintro H21
  iapply (w_load_full Variants.none (c : Thread nD τ) none (m := arg21)) $$ H21
  iintro H21
  rw [wp_pure]
  imodintro
  iapply (w_store_full Variants.none (c : Thread nD τ) none (m := arg21)) $$ H21
  iintro H21
  rw [dite_tail]
  iapply (w_dite Variants.none (c : Thread nD τ) none (P := k0_cond4 v31 t = 1#1)
    (R := dnGot c arg5 arg23 arg27 (q5 (slot t.val) 0) W5 (slot t.val) 0 (dnC W5 (o t.val) 0))
    (R' := dnAt c arg5 arg23 arg27 v31.toNat o q5 W5 (t.val + 2) 0) (fun hc => ?_) (fun hc => ?_)) $$ HD
  · rw [dnAt, if_pos (hmore hc), slot_add_two, hm2 (hmore hc)]
    iintro HD
    iapply (dn_start c e2 (hd0 _ rfl) (hsd _ rfl) (congrArg (fun z => (![z, 0, 0] : Fin 3 → ℕ)) hw2)) $$ [HD]
    · unfold dnFree; iexists _; iexact HD
    iintro HD
    rw [wp_pure]; imodintro; iexact HD
  · rw [dnAt, if_neg (hnomore hc), slot_add_two]
    iintro HD
    rw [wp_pure]; imodintro
    unfold dnFree; iexists _; iexact HD
  iintro %_ HD
  rw [wp_pure]
  imodintro
  rw [hacc]
  isplitl [H9]; · iexact H9
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexact H21
  isplitl [HO]; · iexact HO
  isplitl [HA']; · iexact HA'
  isplitl [HB']; · iexact HB'
  isplitl [HD']; · iexact HD'
  isplitl [HA]; · iexact HA
  isplitl [HB]; · iexact HB
  iexact HD

end Cert.KernelIdeal.Hand
-- ==== Proof.Ideal.Parts.lean ====
/-
  For the ideal program, whose text is the same: the proof of the module of this name outside Ideal/, repeated.
  The kernel's run up to its main loop: the small copies and the first experts' copies are started, the tables of the
  walk are filled, the small copies are awaited, and the padded rows and the routing columns are written.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.Ideal.Collect
public import proofs.«01_k».proof.Proof.Ideal.Trip

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- The expert at position `j` of the order the kernel collects. -/
def oF (ids : S8x20.Idx → Elt F .i32) (j : ℕ) : Fin 31 :=
  if h : (colT ids 20).getD j 0 < 31 then ⟨(colT ids 20).getD j 0, h⟩ else 0

theorem oF_of_lt {ids : S8x20.Idx → Elt F .i32} {ord seen n} (h : St (colT ids 20) ord seen n) {j : ℕ} (hj : j < (colT ids 20).length) :
    (oF (F := F) ids j).val = (colT ids 20)[j] := by
  have e : (colT ids 20).getD j 0 = (colT ids 20)[j] := by rw [List.getD_eq_getElem?_getD, List.getElem?_eq_getElem hj]; rfl
  have h31 : (colT ids 20).getD j 0 < 31 := by rw [e]; exact h.lt _ (List.getElem_mem hj)
  unfold oF
  rw [dif_pos h31, ← e]

theorem oF_zero {ids : S8x20.Idx → Elt F .i32} (hids : ∀ i, BitVec.toNat (ids i) < 31) :
    BitVec.toNat (ids (ValueIdx.ix2 0 0)) = (oF (F := F) ids 0).val := by
  have e : (colT ids 20).getD 0 0 = BitVec.toNat (ids (ValueIdx.ix2 0 0)) := by
    rw [List.getD_eq_getElem?_getD, colT_head]; rfl
  have h31 : (colT ids 20).getD 0 0 < 31 := by rw [e]; exact hids _
  unfold oF
  rw [dif_pos h31, ← e]

theorem colT_pos (ids : S8x20.Idx → Elt F .i32) : 0 < (colT ids 20).length := by
  have h := colT_head ids
  rcases Nat.eq_zero_or_pos (colT ids 20).length with h0 | h0
  · rw [List.length_eq_zero_iff.mp h0] at h; cases h
  · exact h0

/-- The padded rows, -/
def xpV (x : S20x4096.Idx → Elt F .bf16) : S32x4096.Idx → Elt F .bf16 :=
  put (Rect.unit (s := S32x4096) ![0, 0] S20x4096.size inb_S32x4096_S20x4096_0_0) (k0_pay13 x) (k0_pay12 (F := F))
/-- the padded column of choices, -/
def icV (ids : S8x20.Idx → Elt F .i32) : S32x8.Idx → Elt F .i32 :=
  put (Rect.unit (s := S32x8) ![0, 0] S20x8.size inb_S32x8_S20x8_0_0) (k0_pay16 ids) k0_pay14
/-- and the padded column of routing weights. -/
def rcV (rwt : S8x20.Idx → Elt F .f32) : S32x8.Idx → Elt F .f32 :=
  put (Rect.unit (s := S32x8) ![0, 0] S20x8.size inb_S32x8_S20x8_0_0) (k0_pay17 rwt) (k0_pay15 (F := F))

section
variable (c : Dev nD)

/-- A small copy's semaphore. -/
abbrev smS (arg25 : DmaSems sig S5) (off : Fin 1 → ℕ) (h : ∀ a, off a + S1.size a ≤ S5.size a) : DmaSem sig :=
  ((arg25.slice (Rect.unit (s := S5) off S1.size h)).squeeze S_ squeezes_S1_S_).sem

/-- A small copy in flight. -/
abbrev smIn {sp : Space} {s : Shape} {e : EltTy} (sm : DmaSem sig) (dst : Memref sig .tc sp s e) (v : s.Idx → Elt F e) (m : Memref sig .tc .hbm s e)
    (q : PosShare TreeShare) : sProp 𝕄 :=
  InFl (U := Pipeline.UD sig nD τ) (Name := ℕ) (Lvl := ℕ) (Ix := Unit) (c : Thread nD τ) (SemLoc.dma sm) () dst.view.dmaCredit dst v m q v

variable {sp : Space} {s : Shape} {e : EltTy} {sm : DmaSem sig} {dst : Memref sig .tc sp s e} {v : s.Idx → Elt F e} {m : Memref sig .tc .hbm s e}
  {q : PosShare TreeShare} {α : Type} {Φ : α → sProp (MT nD τ sig Unit (Elt F) ℕ (Pipeline.UD sig nD τ) ℕ)}

theorem sm_start {hsrc : m.view.WordExact} {hdst : dst.view.WordExact} {hsem : DmaTarget.Typed (nD := nD) (τ := τ) Space.hbm (SemLoc.dma sm) (DmaTarget.here (nD := nD) (τ := τ) (p := .tc) dst)}
    {k : PUnit → Prog (TpuEff nD τ sig (Elt F) Λ₀ .tc) α} (hp : 0 < s.numel) :
    (iprop(owns (c : Thread nD τ) m q v ∗ (∃ v₀, owns (c : Thread nD τ) dst fullShare v₀) ∗ semVal ((c : Thread nD τ), (SemLoc.dma sm : SemLoc sig)) 0) : sProp 𝕄)
      ⊢ iprop((smIn c sm dst v m q -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.enqueueDma m (.here dst) (.dma sm) hsrc hdst hsem) >>= k) Φ) := by
  iintro ⟨Hm, ⟨%v₀, Hd⟩, Hs⟩ Hk
  iapply (w_dma Variants.none (c : Thread nD τ) none () dst.view.dmaCredit rfl (View.dmaCredit_pos _ hp)) $$ [Hm Hd Hs]
  · isplitl [Hm]; · iexact Hm
    isplitl [Hd]; · iexact Hd
    iexact Hs
  iexact Hk

theorem sm_wait {hsrc : m.view.WordExact} {hdst : dst.view.WordExact} {k : PUnit → Prog (TpuEff nD τ sig (Elt F) Λ₀ .tc) α} :
    (iprop(smIn c sm dst v m q ∗ ∃ W, owes (c : Thread nD τ) 0 W) : sProp 𝕄)
      ⊢ iprop((iprop(owns (c : Thread nD τ) dst fullShare v ∗ owns (c : Thread nD τ) m q v ∗ semVal ((c : Thread nD τ), (SemLoc.dma sm : SemLoc sig)) 0
          ∗ ∃ W, owes (c : Thread nD τ) 0 W) -∗ wp frame (wpE (defs₀ (F := F)) Variants.none (c : Thread nD τ) none (Ix := Unit) (Name := ℕ) (U := Pipeline.UD sig nD τ) (Lvl := ℕ)) Set.univ (k ⟨⟩) Φ)
        -∗ wp frame (wpE (defs₀ (F := F)) Variants.none (c : Thread nD τ) none (Ix := Unit) (Name := ℕ) (U := Pipeline.UD sig nD τ) (Lvl := ℕ)) Set.univ (Prog.lift (.waitDma2 sm m dst hsrc hdst) >>= k) Φ) :=
  w_wait Variants.none (c : Thread nD τ) none () (N := dst.view.dmaCredit) rfl

/-- A program followed by another, the first turning `R` into `R'`. -/
theorem w_seq {β : Type} {A : Prog (TpuEff nD τ sig (Elt F) Λ₀ .tc) β} {k : β → Prog (TpuEff nD τ sig (Elt F) Λ₀ .tc) α}
    {R : sProp (MT nD τ sig Unit (Elt F) ℕ (Pipeline.UD sig nD τ) ℕ)} {R' : β → sProp (MT nD τ sig Unit (Elt F) ℕ (Pipeline.UD sig nD τ) ℕ)}
    (h : R ⊢ wp frame (wpE (defs₀ (F := F)) Variants.none (c : Thread nD τ) none (Ix := Unit) (Name := ℕ) (U := Pipeline.UD sig nD τ) (Lvl := ℕ)) Set.univ A R') :
    R ⊢ iprop((∀ b, R' b -∗ wp frame (wpE (defs₀ (F := F)) Variants.none (c : Thread nD τ) none (Ix := Unit) (Name := ℕ) (U := Pipeline.UD sig nD τ) (Lvl := ℕ)) Set.univ (k b) Φ) -∗ wp frame (wpE (defs₀ (F := F)) Variants.none (c : Thread nD τ) none (Ix := Unit) (Name := ℕ) (U := Pipeline.UD sig nD τ) (Lvl := ℕ)) Set.univ (A >>= k) Φ) := by
  iintro H Hk
  rw [wp_bind]
  ihave H := h $$ H
  iapply (wp_wand_r) $$ [H Hk]
  isplitl [H]; · iexact H
  iexact Hk
end

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

set_option maxHeartbeats 4000000 in
theorem part9_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32)
    (qa qb : PosShare TreeShare) (q3 : Fin 2 → Fin 2 → PosShare TreeShare) (q5 : Fin 2 → Fin 1 → PosShare TreeShare) (hids : ∀ i, BitVec.toNat (ids i) < 31) :
    (iprop(owns (c : Thread nD τ) arg0 qa ids
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ (∃ v, owns (c : Thread nD τ) arg8 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ guFree c arg3 arg22 arg26 (q3 0 0) W3 0 0
      ∗ guFree c arg3 arg22 arg26 (q3 0 1) W3 0 1
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (k0_part9 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27) (fun r => iprop(⌜BitVec.toNat (w := 32) r.1 = (oF ids 0).val⌝
      ∗ owns (c : Thread nD τ) arg0 qa ids
      ∗ owns (c : Thread nD τ) arg8 fullShare ids
      ∗ semVal ((c : Thread nD τ), (SemLoc.dma arg24.sem : SemLoc sig)) 0
      ∗ smIn c (smS arg25 ![0] inb_S5_S1_0) arg11 ids arg0 qb
      ∗ smIn c (smS arg25 ![1] inb_S5_S1_1) arg12 rwt arg1 fullShare
      ∗ smIn c (smS arg25 ![2] inb_S5_S1_2) arg13 x arg2 fullShare
      ∗ smIn c (smS arg25 ![3] inb_S5_S1_3) arg14 s4 arg4 fullShare
      ∗ smIn c (smS arg25 ![4] inb_S5_S1_4) arg15 s6 arg6 fullShare
      ∗ guIn c arg3 arg22 arg26 (q3 0 0) W3 0 0 (oF ids 0)
      ∗ guIn c arg3 arg22 arg26 (q3 0 1) W3 0 1 (oF ids 0)
      ∗ (∃ W, owes (c : Thread nD τ) 0 W))) := by
  have ho := oF_zero (F := F) hids
  rw [k0_part9_eq_skeleton]
  iintro ⟨H0, H0b, H1, H2, H4, H6, ⟨%v8, H8⟩, ⟨%v11, H11⟩, ⟨%v12, H12⟩, ⟨%v13, H13⟩, ⟨%v14, H14⟩, ⟨%v15, H15⟩, S, S0, S1, S2, S3, S4, HA, HB, HO⟩
  dsimp only [k0_part9_skel]
  iapply (sm_start c (v := ids) (by decide)) $$ [H0 H8 S]
  · isplitl [H0]; · iexact H0
    isplitl [H8]; · iexists _; iexact H8
    iexact S
  iintro C
  iapply (sm_start c (v := ids) (by decide)) $$ [H0b H11 S0]
  · isplitl [H0b]; · iexact H0b
    isplitl [H11]; · iexists _; iexact H11
    iexact S0
  iintro C0
  iapply (sm_start c (v := rwt) (by decide)) $$ [H1 H12 S1]
  · isplitl [H1]; · iexact H1
    isplitl [H12]; · iexists _; iexact H12
    iexact S1
  iintro C1
  iapply (sm_start c (v := x) (by decide)) $$ [H2 H13 S2]
  · isplitl [H2]; · iexact H2
    isplitl [H13]; · iexists _; iexact H13
    iexact S2
  iintro C2
  iapply (sm_start c (v := s4) (by decide)) $$ [H4 H14 S3]
  · isplitl [H4]; · iexact H4
    isplitl [H14]; · iexists _; iexact H14
    iexact S3
  iintro C3
  iapply (sm_start c (v := s6) (by decide)) $$ [H6 H15 S4]
  · isplitl [H6]; · iexact H6
    isplitl [H15]; · iexists _; iexact H15
    iexact S4
  iintro C4
  iapply (sm_wait c) $$ [C HO]
  · isplitl [C]; · iexact C
    iexact HO
  iintro ⟨H8, H0, S, HO⟩
  iapply (w_smem' Variants.none (c : Thread nD τ) none (m := arg8) (ids (ValueIdx.ix2 0 0)) (ids_word ids 0 0 rfl rfl)) $$ H8
  iintro H8
  dsimp only
  iapply (w_assume Variants.none (c : Thread nD τ) none (P := k0_chk1 (ids (ValueIdx.ix2 0 0))) (chk1 (hids _)))
  iapply (gu_start c (s := 0) (ch := 0) (oF ids 0) rfl rfl (congrArg (fun z => (![z, 0, 0] : Fin 3 → ℕ)) ho)) $$ HA
  iintro HA
  iapply (gu_start c (s := 0) (ch := 1) (oF ids 0) rfl rfl (congrArg (fun z => (![z, 2048, 0] : Fin 3 → ℕ)) ho)) $$ HB
  iintro HB
  rw [wp_pure]
  imodintro
  isplitr
  · ipureintro; exact ho
  isplitl [H0]
  · iexact H0
  isplitl [H8]
  · iexact H8
  isplitl [S]
  · iexact S
  isplitl [C0]
  · iexact C0
  isplitl [C1]
  · iexact C1
  isplitl [C2]
  · iexact C2
  isplitl [C3]
  · iexact C3
  isplitl [C4]
  · iexact C4
  isplitl [HA]
  · iexact HA
  isplitl [HB]
  · iexact HB
  iexact HO

set_option maxHeartbeats 4000000 in
theorem part10_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32)
    (qa qb : PosShare TreeShare) (q3 : Fin 2 → Fin 2 → PosShare TreeShare) (q5 : Fin 2 → Fin 1 → PosShare TreeShare) (hids : ∀ i, BitVec.toNat (ids i) < 31) (v10 : Elt F .i32) (k0_hw1 : k0_chk1 v10) (hv : BitVec.toNat (w := 32) v10 = (oF ids 0).val) :
    (iprop(owns (c : Thread nD τ) arg8 fullShare ids
      ∗ (∃ v, owns (c : Thread nD τ) arg9 fullShare v)
      ∗ (∃ v, owns (c : Thread nD τ) arg10 fullShare v)
      ∗ smIn c (smS arg25 ![0] inb_S5_S1_0) arg11 ids arg0 qb
      ∗ smIn c (smS arg25 ![1] inb_S5_S1_1) arg12 rwt arg1 fullShare
      ∗ smIn c (smS arg25 ![2] inb_S5_S1_2) arg13 x arg2 fullShare
      ∗ smIn c (smS arg25 ![3] inb_S5_S1_3) arg14 s4 arg4 fullShare
      ∗ smIn c (smS arg25 ![4] inb_S5_S1_4) arg15 s6 arg6 fullShare
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0
      ∗ (∃ v, owns (c : Thread nD τ) arg18 fullShare v)
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (k0_part10 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v10 k0_hw1) (fun r => iprop(⌜BitVec.toNat (w := 32) r.1 = (colT ids 20).length⌝
      ∗ owns (c : Thread nD τ) arg8 fullShare ids
      ∗ (∃ ord : S32.Idx → Elt F .i32, ⌜∀ i : S32.Idx, (i 0).val < (colT ids 20).length → ord i = BitVec.ofNat 32 (oF ids (i 0).val).val⌝ ∗ owns (c : Thread nD τ) arg9 fullShare ord)
      ∗ (∃ v, owns (c : Thread nD τ) arg10 fullShare v)
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ owns (c : Thread nD τ) arg11 fullShare ids
      ∗ owns (c : Thread nD τ) arg12 fullShare rwt
      ∗ owns (c : Thread nD τ) arg13 fullShare x
      ∗ owns (c : Thread nD τ) arg14 fullShare s4
      ∗ owns (c : Thread nD τ) arg15 fullShare s6
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ dnIn c arg5 arg23 arg27 (q5 0 0) W5 0 0 (oF ids 0)
      ∗ guAt c arg3 arg22 arg26 (colT ids 20).length (oF ids) q3 W3 1 0
      ∗ guAt c arg3 arg22 arg26 (colT ids 20).length (oF ids) q3 W3 1 1
      ∗ dnAt c arg5 arg23 arg27 (colT ids 20).length (oF ids) q5 W5 1 0
      ∗ owns (c : Thread nD τ) arg18 fullShare (k0_pay12 (F := F))
      ∗ (∃ W, owes (c : Thread nD τ) 0 W))) := by
  rw [k0_part10_eq_skeleton]
  iintro ⟨H8, ⟨%v9, H9⟩, ⟨%v10', H10⟩, C0, C1, C2, C3, C4, HD, HA', HB', HD', ⟨%v18, H18⟩, HO⟩
  dsimp only [k0_part10_skel]
  iapply (dn_start c (s := 0) (ch := 0) (oF ids 0) rfl rfl (congrArg (fun z => (![z, 0, 0] : Fin 3 → ℕ)) hv)) $$ HD
  iintro HD
  -- the membership table cleared
  iapply (Scf.wp_for_bind frame (wpE (defs₀ (F := F)) Variants.none (c : Thread nD τ) none (Ix := Unit) (Name := ℕ) (U := Pipeline.UD sig nD τ) (Lvl := ℕ)) Set.univ _ _ _ _ _ _ (clearI (F := F) c arg10) (fun t u => t1_trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v10 k0_hw1 t u)) $$ [H10]
  · unfold clearI
    iexists _
    isplitr
    rotate_left
    · iexact H10
    · ipureintro; intro i hi; exact absurd hi (Nat.not_lt_zero _)
  iintro %_ H10
  unfold clearI
  icases H10 with ⟨%seen0, %hs0, H10⟩
  -- the walk over the choices
  iapply (Scf.wp_for_bind frame (wpE (defs₀ (F := F)) Variants.none (c : Thread nD τ) none (Ix := Unit) (Name := ℕ) (U := Pipeline.UD sig nD τ) (Lvl := ℕ)) Set.univ _ _ _ _ _ _ (walkI c arg8 arg9 arg10 ids) (fun t n => t2_trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v10 k0_hw1 ids hids t n)) $$ [H8 H9 H10]
  · unfold walkI
    iexists v9, seen0
    isplitr
    · ipureintro; exact St.init (fun i => hs0 i (i 0).isLt)
    isplitl [H8]; · iexact H8
    isplitl [H9]; · iexact H9
    iexact H10
  iintro %n H
  unfold walkI
  icases H with ⟨%ord, %seen, %hSt, H8, H9, H10⟩
  have hSt' : St (colT ids 20) ord seen n := hSt
  have hlen : BitVec.toNat (w := 32) n = (colT ids 20).length := hSt'.len
  have hn : BitVec.toNat (w := 32) n ≤ 31 := hlen.trans_le hSt'.len_le
  have hord : ∀ i : S32.Idx, (i 0).val < (colT ids 20).length → ord i = BitVec.ofNat 32 (oF ids (i 0).val).val := fun i hi => by
    rw [hSt'.ord_eq i hi, oF_of_lt hSt' hi]
  iapply (w_assume Variants.none (c : Thread nD τ) none (P := k0_chk19 n) (chk19 hn))
  dsimp only
  have he1 := word_exp (oF ids 1)
  iapply (w_dite_tail Variants.none (c : Thread nD τ) none (P := k0_cond1 n = 1#1)
    (R := iprop(owns (c : Thread nD τ) arg9 fullShare ord
      ∗ guFree c arg3 arg22 arg26 (q3 1 0) W3 1 0
      ∗ guFree c arg3 arg22 arg26 (q3 1 1) W3 1 1
      ∗ dnFree c arg5 arg23 arg27 (q5 1 0) W5 1 0))
    (R' := iprop(owns (c : Thread nD τ) arg9 fullShare ord
      ∗ guAt c arg3 arg22 arg26 (colT ids 20).length (oF ids) q3 W3 1 0
      ∗ guAt c arg3 arg22 arg26 (colT ids 20).length (oF ids) q3 W3 1 1
      ∗ dnAt c arg5 arg23 arg27 (colT ids 20).length (oF ids) q5 W5 1 0)) (fun hc => ?_) (fun hc => ?_)) $$ [H9 HA' HB' HD']
  · have h1 : 1 < (colT ids 20).length := by rw [← hlen, ← cond1_iff hn]; exact hc
    rw [guAt, if_pos h1, guAt, if_pos h1, dnAt, if_pos h1]
    iintro ⟨H9, HA', HB', HD'⟩ Hk
    iapply (w_smem' Variants.none (c : Thread nD τ) none (m := arg9) (BitVec.ofNat 32 (oF ids 1).val) (ord_word hord 1 h1 rfl rfl)) $$ H9
    iintro H9
    dsimp only
    iapply (w_assume Variants.none (c : Thread nD τ) none (P := k0_chk18 n (BitVec.ofNat 32 (oF ids 1).val)) (chk18 (by rw [he1]; exact (oF ids 1).isLt)))
    iapply (gu_start c (s := 1) (ch := 0) (oF ids 1) rfl rfl (congrArg (fun z => (![z, 0, 0] : Fin 3 → ℕ)) he1)) $$ HA'
    iintro HA'
    iapply (gu_start c (s := 1) (ch := 1) (oF ids 1) rfl rfl (congrArg (fun z => (![z, 2048, 0] : Fin 3 → ℕ)) he1)) $$ HB'
    iintro HB'
    iapply (dn_start c (s := 1) (ch := 0) (oF ids 1) rfl rfl (congrArg (fun z => (![z, 0, 0] : Fin 3 → ℕ)) he1)) $$ HD'
    iintro HD'
    iapply Hk
    isplitl [H9]; · iexact H9
    isplitl [HA']; · iexact HA'
    isplitl [HB']; · iexact HB'
    iexact HD'
  · have h1 : ¬1 < (colT ids 20).length := fun h1 => hc (by rw [cond1_iff hn, hlen]; exact h1)
    rw [guAt, if_neg h1, guAt, if_neg h1, dnAt, if_neg h1]
    iintro H
    iexact H
  · isplitl [H9]; · iexact H9
    isplitl [HA']; · iexact HA'
    isplitl [HB']; · iexact HB'
    iexact HD'
  iintro ⟨H9, HA', HB', HD'⟩
  iapply (sm_wait c) $$ [C0 HO]
  · isplitl [C0]; · iexact C0
    iexact HO
  iintro ⟨H11, H0b, S0, HO⟩
  iapply (sm_wait c) $$ [C1 HO]
  · isplitl [C1]; · iexact C1
    iexact HO
  iintro ⟨H12, H1, S1, HO⟩
  iapply (sm_wait c) $$ [C2 HO]
  · isplitl [C2]; · iexact C2
    iexact HO
  iintro ⟨H13, H2, S2, HO⟩
  iapply (sm_wait c) $$ [C3 HO]
  · isplitl [C3]; · iexact C3
    iexact HO
  iintro ⟨H14, H4, S3, HO⟩
  iapply (sm_wait c) $$ [C4 HO]
  · isplitl [C4]; · iexact C4
    iexact HO
  iintro ⟨H15, H6, S4, HO⟩
  iapply (w_load_full Variants.none (c : Thread nD τ) none (m := arg18)) $$ H18
  iintro H18
  iapply (w_store_full Variants.none (c : Thread nD τ) none (m := arg18)) $$ H18
  iintro H18
  rw [wp_pure]
  imodintro
  isplitr
  · ipureintro; exact hlen
  isplitl [H8]
  · iexact H8
  isplitl [H9]
  · iexists ord
    isplitr
    · ipureintro; exact hord
    iexact H9
  isplitl [H10]
  · iexists _; iexact H10
  isplitl [H0b]
  · iexact H0b
  isplitl [H1]
  · iexact H1
  isplitl [H2]
  · iexact H2
  isplitl [H4]
  · iexact H4
  isplitl [H6]
  · iexact H6
  isplitl [H11]
  · iexact H11
  isplitl [H12]
  · iexact H12
  isplitl [H13]
  · iexact H13
  isplitl [H14]
  · iexact H14
  isplitl [H15]
  · iexact H15
  isplitl [S0]
  · iexact S0
  isplitl [S1]
  · iexact S1
  isplitl [S2]
  · iexact S2
  isplitl [S3]
  · iexact S3
  isplitl [S4]
  · iexact S4
  isplitl [HD]
  · iexact HD
  isplitl [HA']
  · iexact HA'
  isplitl [HB']
  · iexact HB'
  isplitl [HD']
  · iexact HD'
  isplitl [H18]
  · iexact H18
  iexact HO

set_option maxHeartbeats 4000000 in
theorem part11_run (c : Dev nD) (ids : S8x20.Idx → Elt F .i32) (rwt : S8x20.Idx → Elt F .f32) (x : S20x4096.Idx → Elt F .bf16) (v31 : BitVec 32) :
    (iprop(owns (c : Thread nD τ) arg11 fullShare ids
      ∗ owns (c : Thread nD τ) arg12 fullShare rwt
      ∗ owns (c : Thread nD τ) arg13 fullShare x
      ∗ (∃ v, owns (c : Thread nD τ) arg16 fullShare v)
      ∗ (∃ v, owns (c : Thread nD τ) arg17 fullShare v)
      ∗ owns (c : Thread nD τ) arg18 fullShare (k0_pay12 (F := F))
      ∗ (∃ v, owns (c : Thread nD τ) arg21 fullShare v)) : sProp 𝕄)
      ⊢ wp frame (wpE (defs₀ (F := F)) Variants.none (c : Thread nD τ) none (Ix := Unit) (Name := ℕ) (U := Pipeline.UD sig nD τ) (Lvl := ℕ)) Set.univ (k0_part11 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31) (fun r => iprop(⌜r.1 = 0#32⌝
      ∗ owns (c : Thread nD τ) arg11 fullShare ids
      ∗ owns (c : Thread nD τ) arg12 fullShare rwt
      ∗ owns (c : Thread nD τ) arg13 fullShare x
      ∗ owns (c : Thread nD τ) arg16 fullShare (icV ids)
      ∗ owns (c : Thread nD τ) arg17 fullShare (rcV rwt)
      ∗ owns (c : Thread nD τ) arg18 fullShare (xpV x)
      ∗ owns (c : Thread nD τ) arg21 fullShare (k0_pay18 (F := F)))) := by
  rw [k0_part11_eq_skeleton]
  iintro ⟨H11, H12, H13, ⟨%v16, H16⟩, ⟨%v17, H17⟩, H18, ⟨%v21, H21⟩⟩
  dsimp only [k0_part11_skel]
  iapply (w_load_full Variants.none (c : Thread nD τ) none (m := arg13)) $$ H13
  iintro H13
  iapply (w_load Variants.none (c : Thread nD τ) none (m := arg18)) $$ H18
  iintro H18
  iapply (w_store Variants.none (c : Thread nD τ) none (m := arg18)) $$ H18
  iintro H18
  iapply (w_load_full Variants.none (c : Thread nD τ) none (m := arg16)) $$ H16
  iintro H16
  iapply (w_store_full Variants.none (c : Thread nD τ) none (m := arg16)) $$ H16
  iintro H16
  iapply (w_load_full Variants.none (c : Thread nD τ) none (m := arg17)) $$ H17
  iintro H17
  iapply (w_store_full Variants.none (c : Thread nD τ) none (m := arg17)) $$ H17
  iintro H17
  iapply (w_load_full Variants.none (c : Thread nD τ) none (m := arg11)) $$ H11
  iintro H11
  iapply (w_load Variants.none (c : Thread nD τ) none (m := arg16)) $$ H16
  iintro H16
  iapply (w_store Variants.none (c : Thread nD τ) none (m := arg16)) $$ H16
  iintro H16
  iapply (w_load_full Variants.none (c : Thread nD τ) none (m := arg12)) $$ H12
  iintro H12
  iapply (w_load Variants.none (c : Thread nD τ) none (m := arg17)) $$ H17
  iintro H17
  iapply (w_store Variants.none (c : Thread nD τ) none (m := arg17)) $$ H17
  iintro H17
  iapply (w_load_full Variants.none (c : Thread nD τ) none (m := arg21)) $$ H21
  iintro H21
  iapply (w_store_full Variants.none (c : Thread nD τ) none (m := arg21)) $$ H21
  iintro H21
  rw [wp_pure]
  imodintro
  isplitr
  · ipureintro; rfl
  isplitl [H11]
  · iexact H11
  isplitl [H12]
  · iexact H12
  isplitl [H13]
  · iexact H13
  isplitl [H16]
  · iexact H16
  isplitl [H17]
  · iexact H17
  isplitl [H18]
  · iexact H18
  iexact H21

end Cert.KernelIdeal.Hand
-- ==== Proof.Ideal.Body.lean ====
/-
  For the ideal program, whose text is the same: the proof of the module of this name outside Ideal/, repeated.
  The kernel's whole run: what it leaves in its result, `outV`, with every buffer and semaphore given back.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.Ideal.Parts
public import proofs.«01_k».proof.Proof.OrderPure

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- The accumulator after the first `i` experts of the order. -/
def accV (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) : ℕ → S32x4096.Idx → Elt F .f32
  | 0 => k0_pay18 (F := F)
  | i + 1 => stepV (xpV x) W3 s4 W5 s6 (icV ids) (rcV rwt) (oF ids i) (accV ids rwt x W3 s4 W5 s6 i)

/-- The kernel's result. -/
def outV (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) : S20x4096.Idx → Elt F .bf16 :=
  k0_pay1 (fun i => accV ids rwt x W3 s4 W5 s6 (colT ids 20).length ((Rect.unit (s := S32x4096) ![0, 0] S20x4096.size inb_S32x4096_S20x4096_0_0).emb i))

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

theorem slots_cases (n : ℕ) : (slot n = 0 ∧ slot (n + 1) = 1) ∨ (slot n = 1 ∧ slot (n + 1) = 0) := by
  rcases Nat.mod_two_eq_zero_or_one n with h | h
  · exact .inl ⟨Fin.ext h, Fin.ext (show (n + 1) % 2 = 1 by omega)⟩
  · exact .inr ⟨Fin.ext h, Fin.ext (show (n + 1) % 2 = 0 by omega)⟩

/-- After the last position every place of the ring is free. -/
theorem ring_end (c : Dev nD) (q3 : Fin 2 → Fin 2 → PosShare TreeShare) (q5 : Fin 2 → Fin 1 → PosShare TreeShare) (N : ℕ) (o : ℕ → Fin 31)
    (W3 : S31x4096x3072.Idx → Elt F .fp8e4m3) (W5 : S31x1536x4096.Idx → Elt F .fp8e4m3) :
    (iprop(guAt c arg3 arg22 arg26 N o q3 W3 N 0 ∗ guAt c arg3 arg22 arg26 N o q3 W3 N 1 ∗ dnAt c arg5 arg23 arg27 N o q5 W5 N 0
      ∗ guAt c arg3 arg22 arg26 N o q3 W3 (N + 1) 0 ∗ guAt c arg3 arg22 arg26 N o q3 W3 (N + 1) 1 ∗ dnAt c arg5 arg23 arg27 N o q5 W5 (N + 1) 0) : sProp 𝕄)
      ⊢ iprop(guFree c arg3 arg22 arg26 (q3 0 0) W3 0 0
      ∗ guFree c arg3 arg22 arg26 (q3 0 1) W3 0 1
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0) := by
  have h0 : ¬N < N := lt_irrefl _
  have h1 : ¬N + 1 < N := by omega
  simp only [guAt, dnAt, if_neg h0, if_neg h1]
  rcases slots_cases N with ⟨e0, e1⟩ | ⟨e0, e1⟩
  · rw [e0, e1]
  · rw [e0, e1]
    iintro ⟨A, B, D, A', B', D'⟩
    isplitl [A']; · iexact A'
    isplitl [B']; · iexact B'
    isplitl [D']; · iexact D'
    isplitl [A]; · iexact A
    isplitl [B]; · iexact B
    iexact D

theorem slot_zero : slot 0 = 0 := rfl

/-- At the first position the ring's copies are the first expert's. -/
theorem guAt_zero (c : Dev nD) {N : ℕ} (h : 0 < N) (o : ℕ → Fin 31) (q3 : Fin 2 → Fin 2 → PosShare TreeShare) (W3 : S31x4096x3072.Idx → Elt F .fp8e4m3) (ch : Fin 2) :
    (guAt c arg3 arg22 arg26 N o q3 W3 0 ch : sProp 𝕄) = guIn c arg3 arg22 arg26 (q3 0 ch) W3 0 ch (o 0) := by
  unfold guAt
  rw [if_pos h, slot_zero]
theorem dnAt_zero (c : Dev nD) {N : ℕ} (h : 0 < N) (o : ℕ → Fin 31) (q5 : Fin 2 → Fin 1 → PosShare TreeShare) (W5 : S31x1536x4096.Idx → Elt F .fp8e4m3) (ch : Fin 1) :
    (dnAt c arg5 arg23 arg27 N o q5 W5 0 ch : sProp 𝕄) = dnIn c arg5 arg23 arg27 (q5 0 ch) W5 0 ch (o 0) := by
  unfold dnAt
  rw [if_pos h, slot_zero]

theorem t3_trip' (c : Dev nD) (v31 : BitVec 32) (k0_hw19 : k0_chk19 v31) (hn : v31.toNat ≤ 31) (N : ℕ) (hN : v31.toNat = N) (o : ℕ → Fin 31)
    (q3 : Fin 2 → Fin 2 → PosShare TreeShare) (q5 : Fin 2 → Fin 1 → PosShare TreeShare)
    (W3 : S31x4096x3072.Idx → Elt F .fp8e4m3) (W5 : S31x1536x4096.Idx → Elt F .fp8e4m3)
    (ord : S32.Idx → Elt F .i32) (hord : ∀ i : S32.Idx, (i 0).val < N → ord i = BitVec.ofNat 32 (o (i 0).val).val)
    (s4 : S31x3072.Idx → Elt F .f32) (s6 : S31x4096.Idx → Elt F .f32)
    (ic : S32x8.Idx → Elt F .i32) (rc : S32x8.Idx → Elt F .f32) (xp : S32x4096.Idx → Elt F .bf16) (acc : ℕ → S32x4096.Idx → Elt F .f32)
    (hacc : ∀ i, acc (i + 1) = stepV xp W3 s4 W5 s6 ic rc (o i) (acc i)) (t : Fin (k0_t3_loop v31).trips) (u : Unit) :
    (tripI arg3 arg5 arg9 arg14 arg15 arg16 arg17 arg18 arg19 arg20 arg21 arg22 arg23 arg26 arg27 c N o q3 q5 W3 W5 ord s4 s6 ic rc xp acc t.val u : sProp 𝕄)
      ⊢ wp frame (wpE (defs₀ (F := F)) Variants.none (c : Thread nD τ) none (Ix := Unit) (Name := ℕ) (U := Pipeline.UD sig nD τ) (Lvl := ℕ)) Set.univ (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32 t u)
        (tripI arg3 arg5 arg9 arg14 arg15 arg16 arg17 arg18 arg19 arg20 arg21 arg22 arg23 arg26 arg27 c N o q3 q5 W3 W5 ord s4 s6 ic rc xp acc (t.val + 1)) := by
  subst hN
  exact t3_trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v31 k0_hw19 hn o q3 q5 W3 W5 ord hord s4 s6 ic rc xp acc hacc t u

theorem accV_zero (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) : accV ids rwt x W3 s4 W5 s6 0 = k0_pay18 (F := F) := by rw [accV]

theorem accV_succ (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) (i : ℕ) :
    accV ids rwt x W3 s4 W5 s6 (i + 1) = stepV (xpV x) W3 s4 W5 s6 (icV ids) (rcV rwt) (oF ids i) (accV ids rwt x W3 s4 W5 s6 i) := by rw [accV]

/-- The whole loop over the experts. -/
theorem loop_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) (q3 : Fin 2 → Fin 2 → PosShare TreeShare) (q5 : Fin 2 → Fin 1 → PosShare TreeShare)
    (v31 : BitVec 32) (k0_hw19 : k0_chk19 v31) (hn : v31.toNat ≤ 31) (N : ℕ) (hN : v31.toNat = N)
    (ord : S32.Idx → Elt F .i32) (hord : ∀ i : S32.Idx, (i 0).val < N → ord i = BitVec.ofNat 32 (oF ids (i 0).val).val)
    {α : Type} {Φ : α → sProp (MT nD τ sig Unit (Elt F) ℕ (Pipeline.UD sig nD τ) ℕ)} {kk : Unit → Prog (TpuEff nD τ sig (Elt F) Λ₀ .tc) α} :
    (tripI arg3 arg5 arg9 arg14 arg15 arg16 arg17 arg18 arg19 arg20 arg21 arg22 arg23 arg26 arg27 c N (oF ids) q3 q5 W3 W5 ord s4 s6 (icV ids) (rcV rwt) (xpV x) (accV ids rwt x W3 s4 W5 s6) 0 () : sProp 𝕄)
      ⊢ iprop((∀ u, tripI arg3 arg5 arg9 arg14 arg15 arg16 arg17 arg18 arg19 arg20 arg21 arg22 arg23 arg26 arg27 c N (oF ids) q3 q5 W3 W5 ord s4 s6 (icV ids) (rcV rwt) (xpV x) (accV ids rwt x W3 s4 W5 s6) N u -∗ wp frame (wpE (defs₀ (F := F)) Variants.none (c : Thread nD τ) none (Ix := Unit) (Name := ℕ) (U := Pipeline.UD sig nD τ) (Lvl := ℕ)) Set.univ (kk u) Φ)
        -∗ wp frame (wpE (defs₀ (F := F)) Variants.none (c : Thread nD τ) none (Ix := Unit) (Name := ℕ) (U := Pipeline.UD sig nD τ) (Lvl := ℕ)) Set.univ (Scf.Loop.for (k0_t3_loop v31) (k0_t3_ok v31 k0_hw19) () (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32) >>= kk) Φ) := by
  have htr : (k0_t3_loop v31).trips = N := (t3_trips hn).trans hN
  have hb := fun (t : Fin (k0_t3_loop v31).trips) (u : Unit) =>
    t3_trip' arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c v31 k0_hw19 hn N hN (oF ids) q3 q5 W3 W5 ord hord s4 s6 (icV ids) (rcV rwt) (xpV x) (accV ids rwt x W3 s4 W5 s6) (accV_succ ids rwt x W3 s4 W5 s6) t u
  generalize accV ids rwt x W3 s4 W5 s6 = acc at hb ⊢
  have key := Scf.wp_for_bind frame (wpE (defs₀ (F := F)) Variants.none (c : Thread nD τ) none (Ix := Unit) (Name := ℕ) (U := Pipeline.UD sig nD τ) (Lvl := ℕ)) Set.univ (k0_t3_loop v31).lb (k0_t3_loop v31).ub (k0_t3_loop v31).st (k0_t3_ok v31 k0_hw19) ()
    (k0_t3_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 v31 k0_hw19 0#32) (tripI arg3 arg5 arg9 arg14 arg15 arg16 arg17 arg18 arg19 arg20 arg21 arg22 arg23 arg26 arg27 c N (oF ids) q3 q5 W3 W5 ord s4 s6 (icV ids) (rcV rwt) (xpV x) acc) hb (kk := kk) (Q := Φ)
  rw [show Scf.trips (k0_t3_loop v31).lb (k0_t3_loop v31).ub (k0_t3_loop v31).st = N from htr] at key
  exact key

theorem colT_len_le (ids : S8x20.Idx → Elt F .i32) (hids : ∀ i, BitVec.toNat (ids i) < 31) : (colT ids 20).length ≤ 31 :=
  len_le_of (colT_nodup ids 20) (colT_lt ids hids 20)

set_option maxHeartbeats 1000000 in
theorem body_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32)
    (qa qb : PosShare TreeShare) (q3 : Fin 2 → Fin 2 → PosShare TreeShare) (q5 : Fin 2 → Fin 1 → PosShare TreeShare) (hids : ∀ i, BitVec.toNat (ids i) < 31) :
    (iprop(owns (c : Thread nD τ) arg0 qa ids
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ (∃ v, owns (c : Thread nD τ) arg8 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ guFree c arg3 arg22 arg26 (q3 0 0) W3 0 0
      ∗ guFree c arg3 arg22 arg26 (q3 0 1) W3 0 1
      ∗ (∃ v, owns (c : Thread nD τ) arg7 fullShare v)
      ∗ (∃ v, owns (c : Thread nD τ) arg9 fullShare v)
      ∗ (∃ v, owns (c : Thread nD τ) arg10 fullShare v)
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (cc0_moe_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27) (fun _ => iprop(owns (c : Thread nD τ) arg0 qa ids
      ∗ owns (c : Thread nD τ) arg0 qb ids
      ∗ owns (c : Thread nD τ) arg1 fullShare rwt
      ∗ owns (c : Thread nD τ) arg2 fullShare x
      ∗ owns (c : Thread nD τ) arg4 fullShare s4
      ∗ owns (c : Thread nD τ) arg6 fullShare s6
      ∗ owns (c : Thread nD τ) arg7 fullShare (outV ids rwt x W3 s4 W5 s6)
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ guFree c arg3 arg22 arg26 (q3 0 0) W3 0 0
      ∗ guFree c arg3 arg22 arg26 (q3 0 1) W3 0 1
      ∗ dnFree c arg5 arg23 arg27 (q5 0 0) W5 0 0
      ∗ guFree c arg3 arg22 arg26 (q3 1 0) W3 1 0
      ∗ guFree c arg3 arg22 arg26 (q3 1 1) W3 1 1
      ∗ dnFree c arg5 arg23 arg27 (q5 1 0) W5 1 0
      ∗ (∃ W, owes (c : Thread nD τ) 0 W))) := by
  have hpos := colT_pos (F := F) ids
  rw [cc0_moe_decode_eq_skeleton]
  iintro ⟨H0, H0b, H1, H2, H4, H6, H8, H11, H12, H13, H14, H15, S, S0, S1, S2, S3, S4, HA, HB, H7, H9, H10, HD, HA', HB', HD', H16, H17, H18, H19, H20, H21, HO⟩
  dsimp only [cc0_moe_decode_skel]
  iapply (w_seq c (part9_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 qa qb q3 q5 hids)) $$ [H0 H0b H1 H2 H4 H6 H8 H11 H12 H13 H14 H15 S S0 S1 S2 S3 S4 HA HB HO]
  · isplitl [H0]; · iexact H0
    isplitl [H0b]; · iexact H0b
    isplitl [H1]; · iexact H1
    isplitl [H2]; · iexact H2
    isplitl [H4]; · iexact H4
    isplitl [H6]; · iexact H6
    isplitl [H8]; · iexact H8
    isplitl [H11]; · iexact H11
    isplitl [H12]; · iexact H12
    isplitl [H13]; · iexact H13
    isplitl [H14]; · iexact H14
    isplitl [H15]; · iexact H15
    isplitl [S]; · iexact S
    isplitl [S0]; · iexact S0
    isplitl [S1]; · iexact S1
    isplitl [S2]; · iexact S2
    isplitl [S3]; · iexact S3
    isplitl [S4]; · iexact S4
    isplitl [HA]; · iexact HA
    isplitl [HB]; · iexact HB
    iexact HO
  iintro %r ⟨%hv, H0, H8, S, C0, C1, C2, C3, C4, HA, HB, HO⟩
  obtain ⟨v10, k0_hw1⟩ := r
  dsimp only at hv ⊢
  iapply (w_seq c (part10_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 qa qb q3 q5 hids v10 k0_hw1 hv)) $$ [H8 H9 H10 C0 C1 C2 C3 C4 HD HA' HB' HD' H18 HO]
  · isplitl [H8]; · iexact H8
    isplitl [H9]; · iexact H9
    isplitl [H10]; · iexact H10
    isplitl [C0]; · iexact C0
    isplitl [C1]; · iexact C1
    isplitl [C2]; · iexact C2
    isplitl [C3]; · iexact C3
    isplitl [C4]; · iexact C4
    isplitl [HD]; · iexact HD
    isplitl [HA']; · iexact HA'
    isplitl [HB']; · iexact HB'
    isplitl [HD']; · iexact HD'
    isplitl [H18]; · iexact H18
    iexact HO
  iintro %r ⟨%hlen, H8, ⟨%ord, %hord, H9⟩, H10, H0b, H1, H2, H4, H6, H11, H12, H13, H14, H15, S0, S1, S2, S3, S4, HD, HA', HB', HD', H18, HO⟩
  obtain ⟨v31, k0_hw19⟩ := r
  dsimp only at hlen ⊢
  have hn : BitVec.toNat (w := 32) v31 ≤ 31 := by
    rw [hlen]
    exact colT_len_le ids hids
  iapply (w_seq c (part11_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x v31)) $$ [H11 H12 H13 H16 H17 H18 H21]
  · isplitl [H11]; · iexact H11
    isplitl [H12]; · iexact H12
    isplitl [H13]; · iexact H13
    isplitl [H16]; · iexact H16
    isplitl [H17]; · iexact H17
    isplitl [H18]; · iexact H18
    iexact H21
  iintro %r ⟨%hz, H11, H12, H13, H16, H17, H18, H21⟩
  obtain ⟨z, v79⟩ := r
  dsimp only at hz ⊢
  subst hz
  -- the loop over the experts
  iapply (loop_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 q3 q5 v31 k0_hw19 hn _ hlen ord hord)
    $$ [H9 H14 H15 H16 H17 H18 H19 H20 H21 HO HA HB HD HA' HB' HD']
  · unfold tripI
    rw [accV_zero, guAt_zero arg3 arg22 arg26 c hpos, guAt_zero arg3 arg22 arg26 c hpos, dnAt_zero arg5 arg23 arg27 c hpos]
    isplitl [H9]; · iexact H9
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [HO]; · iexact HO
    isplitl [HA]; · iexact HA
    isplitl [HB]; · iexact HB
    isplitl [HD]; · iexact HD
    isplitl [HA']; · iexact HA'
    isplitl [HB']; · iexact HB'
    iexact HD'
  iintro %u H
  unfold tripI
  icases H with ⟨H9, H14, H15, H16, H17, H18, H19, H20, H21, HO, HA, HB, HD, HA', HB', HD'⟩
  ihave HR := (ring_end arg3 arg5 arg22 arg23 arg26 arg27 c q3 q5 (colT ids 20).length (oF ids) W3 W5) $$ [HA HB HD HA' HB' HD']
  · isplitl [HA]; · iexact HA
    isplitl [HB]; · iexact HB
    isplitl [HD]; · iexact HD
    isplitl [HA']; · iexact HA'
    isplitl [HB']; · iexact HB'
    iexact HD'
  icases HR with ⟨HA, HB, HD, HA', HB', HD'⟩
  -- no trip is left over
  iapply (Scf.wp_for_bind frame (wpE (defs₀ (F := F)) Variants.none (c : Thread nD τ) none (Ix := Unit) (Name := ℕ) (U := Pipeline.UD sig nD τ) (Lvl := ℕ)) Set.univ _ _ _ _ _ _ (fun _ _ => iprop(emp)) (fun t u => (t4_none hn t).elim)) $$ []
  · iempintro
  iintro %_ -
  iapply (w_load Variants.none (c : Thread nD τ) none (m := arg21)) $$ H21
  iintro H21
  icases H7 with ⟨%v7, H7⟩
  iapply (w_load_full Variants.none (c : Thread nD τ) none (m := arg7)) $$ H7
  iintro H7
  iapply (w_store_full Variants.none (c : Thread nD τ) none (m := arg7)) $$ H7
  iintro H7
  rw [wp_pure]
  imodintro
  isplitl [H0]
  · iexact H0
  isplitl [H0b]
  · iexact H0b
  isplitl [H1]
  · iexact H1
  isplitl [H2]
  · iexact H2
  isplitl [H4]
  · iexact H4
  isplitl [H6]
  · iexact H6
  isplitl [H7]
  · iexact H7
  isplitl [H8]
  · iexists _; iexact H8
  isplitl [H9]
  · iexists _; iexact H9
  isplitl [H10]
  · iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexact H19
  isplitl [H20]
  · iexact H20
  isplitl [H21]
  · iexists _; iexact H21
  isplitl [S]
  · iexact S
  isplitl [S0]
  · iexact S0
  isplitl [S1]
  · iexact S1
  isplitl [S2]
  · iexact S2
  isplitl [S3]
  · iexact S3
  isplitl [S4]
  · iexact S4
  isplitl [HA]
  · iexact HA
  isplitl [HB]
  · iexact HB
  isplitl [HD]
  · iexact HD
  isplitl [HA']
  · iexact HA'
  isplitl [HB']
  · iexact HB'
  isplitl [HD']
  · iexact HD'
  iexact HO

end Cert.KernelIdeal.Hand
-- ==== Proof.Ideal.Whole.lean ====
/-
  For the ideal program, whose text is the same: the proof of the module of this name outside Ideal/, repeated.
  The kernel's run with its buffers whole: the two weight rings cut into their places and the weights' shares handed
  out before it, both joined again after it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.Ideal.Body
public import proofs.«01_k».proof.Proof.Places

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Cert.Moe

/-- The two halves of a share, by number. -/
def half (q : PosShare TreeShare) (i : Fin 2) : PosShare TreeShare := if i = 0 then q.left else q.right
/-- The share of the gate-and-up weights that goes with a place of the ring, -/
def q3 (s ch : Fin 2) : PosShare TreeShare := half (half fullShare s) ch
/-- and of the down weights. -/
def q5 (s : Fin 2) (_ : Fin 1) : PosShare TreeShare := half fullShare s

section
variable {sp : Space} {s : Shape} {e : EltTy} (c : Thread nD τ) (m : Memref sig c.2.kind sp s e) (X : s.Idx → Elt F e)
omit [FloatOps F] in
theorem share2 : (owns c m fullShare X : sProp 𝕄) ⊣⊢ iprop(owns c m (q5 0 0) X ∗ owns c m (q5 1 0) X) := owns_halves c m fullShare X
omit [FloatOps F] in
theorem share4 : (owns c m fullShare X : sProp 𝕄) ⊣⊢ iprop(owns c m (q3 0 0) X ∗ owns c m (q3 0 1) X ∗ owns c m (q3 1 0) X ∗ owns c m (q3 1 1) X) := by
  constructor
  · iintro H
    ihave H := (owns_halves c m fullShare X).1 $$ H
    icases H with ⟨H0, H1⟩
    ihave H0 := (owns_halves c m fullShare.left X).1 $$ H0
    icases H0 with ⟨H00, H01⟩
    ihave H1 := (owns_halves c m fullShare.right X).1 $$ H1
    icases H1 with ⟨H10, H11⟩
    isplitl [H00]; · iexact H00
    isplitl [H01]; · iexact H01
    isplitl [H10]; · iexact H10
    iexact H11
  · iintro ⟨H00, H01, H10, H11⟩
    iapply (owns_halves c m fullShare X).2
    isplitl [H00 H01]
    · iapply (owns_halves c m fullShare.left X).2
      isplitl [H00]; · iexact H00
      iexact H01
    · iapply (owns_halves c m fullShare.right X).2
      isplitl [H10]; · iexact H10
      iexact H11
end

/-- The rectangle of a place of the gate-and-up ring, -/
abbrev guR (t : Fin 2 × Fin 2) : Rect S2x2x2048x3072 := Rect.unit (s := S2x2x2048x3072) ![t.1.val, t.2.val, 0, 0] S1x1x2048x3072.size (gu_inb _ t.1.isLt t.2.isLt rfl rfl)
/-- and of the down ring. -/
abbrev dnR (t : Fin 2) : Rect S2x1x1536x4096 := Rect.unit (s := S2x1x1536x4096) ![t.val, (0 : Fin 1).val, 0, 0] S1x1x1536x4096.size (dn_inb _ t.isLt (Fin.val_eq_zero (0 : Fin 1)) rfl rfl)

theorem guR_disjoint (t t' : Fin 2 × Fin 2) (h : t ≠ t') : Disjoint (guR t).set (guR t').set := by
  by_cases h1 : t.1 = t'.1
  · have h2 : t.2 ≠ t'.2 := fun h2 => h (Prod.ext h1 h2)
    refine Rect.unit_disjoint 1 ?_
    have : t.2.val ≠ t'.2.val := fun e => h2 (Fin.ext e)
    show t.2.val + 1 ≤ t'.2.val ∨ t'.2.val + 1 ≤ t.2.val
    omega
  · refine Rect.unit_disjoint 0 ?_
    have : t.1.val ≠ t'.1.val := fun e => h1 (Fin.ext e)
    show t.1.val + 1 ≤ t'.1.val ∨ t'.1.val + 1 ≤ t.1.val
    omega
theorem dnR_disjoint (t t' : Fin 2) (h : t ≠ t') : Disjoint (dnR t).set (dnR t').set := by
  refine Rect.unit_disjoint 0 ?_
  have : t.val ≠ t'.val := fun e => h (Fin.ext e)
  show t.val + 1 ≤ t'.val ∨ t'.val + 1 ≤ t.val
  omega
theorem guR_cover (y : S2x2x2048x3072.Idx) : ∃ t, y ∈ (guR t).set := by
  refine ⟨(y 0, y 1), Rect.mem_set_unit.mpr fun a => ?_⟩
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, (Nat.zero_add 2048).symm ▸ (y 2).isLt⟩
  | ⟨3, _⟩ => exact ⟨Nat.zero_le _, (Nat.zero_add 3072).symm ▸ (y 3).isLt⟩
theorem dnR_cover (y : S2x1x1536x4096.Idx) : ∃ t, y ∈ (dnR t).set := by
  refine ⟨y 0, Rect.mem_set_unit.mpr fun a => ?_⟩
  match a with
  | ⟨0, _⟩ => exact ⟨Nat.le_refl _, Nat.lt_succ_self _⟩
  | ⟨1, _⟩ => exact ⟨Nat.zero_le _, (Nat.zero_add 1).symm ▸ (y 1).isLt⟩
  | ⟨2, _⟩ => exact ⟨Nat.zero_le _, (Nat.zero_add 1536).symm ▸ (y 2).isLt⟩
  | ⟨3, _⟩ => exact ⟨Nat.zero_le _, (Nat.zero_add 4096).symm ▸ (y 3).isLt⟩

omit [FloatOps F] in
theorem bigSep_four (Φ : Fin 2 × Fin 2 → sProp 𝕄) : bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ
omit [FloatOps F] in
theorem bigSep_two (Φ : Fin 2 → sProp 𝕄) : bigSep Finset.univ Φ = iprop(Φ 0 ∗ Φ 1) :=
  bigSep_univ_eq_bigSepL [0, 1] (by decide) (by decide) Φ

section
variable (m : Memref sig .tc .vmem S2x2x2048x3072 .fp8e4m3) (c : Dev nD)
abbrev guP (s ch : Fin 2) : sProp 𝕄 := iprop(∃ v, owns (c : Thread nD τ) (guM m s ch) fullShare v)

theorem gu_cut : (iprop(∃ X, owns (c : Thread nD τ) m fullShare X) : sProp 𝕄) ⊢ iprop(guP (F := F) m c 0 0 ∗ guP (F := F) m c 0 1 ∗ guP (F := F) m c 1 0 ∗ guP (F := F) m c 1 1) := by
  iintro H
  ihave H := (some_rects (c : Thread nD τ) m fullShare guR (fun _ _ => rfl) guR_disjoint guR_cover) $$ H
  icases H with ⟨%v, H⟩
  ihave H := (show _ ⊢ _ from by rw [bigSep_four]) $$ H
  icases H with ⟨H0, H1, H2, H3⟩
  isplitl [H0]
  · iapply (some_squeeze (c : Thread nD τ) _ fullShare squeezes_S1x1x2048x3072_S2048x3072).2
    iexists _; iexact H0
  isplitl [H1]
  · iapply (some_squeeze (c : Thread nD τ) _ fullShare squeezes_S1x1x2048x3072_S2048x3072).2
    iexists _; iexact H1
  isplitl [H2]
  · iapply (some_squeeze (c : Thread nD τ) _ fullShare squeezes_S1x1x2048x3072_S2048x3072).2
    iexists _; iexact H2
  iapply (some_squeeze (c : Thread nD τ) _ fullShare squeezes_S1x1x2048x3072_S2048x3072).2
  iexists _; iexact H3

theorem gu_join : iprop(guP (F := F) m c 0 0 ∗ guP (F := F) m c 0 1 ∗ guP (F := F) m c 1 0 ∗ guP (F := F) m c 1 1) ⊢ (iprop(∃ X, owns (c : Thread nD τ) m fullShare X) : sProp 𝕄) := by
  iintro ⟨H0, H1, H2, H3⟩
  ihave H0 := (some_squeeze (c : Thread nD τ) (m.slice (guR (0, 0)) (fun _ => rfl)) fullShare squeezes_S1x1x2048x3072_S2048x3072).1 $$ H0
  ihave H1 := (some_squeeze (c : Thread nD τ) (m.slice (guR (0, 1)) (fun _ => rfl)) fullShare squeezes_S1x1x2048x3072_S2048x3072).1 $$ H1
  ihave H2 := (some_squeeze (c : Thread nD τ) (m.slice (guR (1, 0)) (fun _ => rfl)) fullShare squeezes_S1x1x2048x3072_S2048x3072).1 $$ H2
  ihave H3 := (some_squeeze (c : Thread nD τ) (m.slice (guR (1, 1)) (fun _ => rfl)) fullShare squeezes_S1x1x2048x3072_S2048x3072).1 $$ H3
  icases H0 with ⟨%v0, H0⟩
  icases H1 with ⟨%v1, H1⟩
  icases H2 with ⟨%v2, H2⟩
  icases H3 with ⟨%v3, H3⟩
  iapply (some_of_rects (c : Thread nD τ) m fullShare guR (fun _ _ => rfl) guR_disjoint guR_cover (fun t => match t with
    | (0, 0) => v0 | (0, 1) => v1 | (1, 0) => v2 | (1, 1) => v3))
  rw [bigSep_four]
  isplitl [H0]; · iexact H0
  isplitl [H1]; · iexact H1
  isplitl [H2]; · iexact H2
  iexact H3
end

section
variable (m : Memref sig .tc .vmem S2x1x1536x4096 .fp8e4m3) (c : Dev nD)
abbrev dnP (s : Fin 2) : sProp 𝕄 := iprop(∃ v, owns (c : Thread nD τ) (dnM m s 0) fullShare v)

theorem dn_cut : (iprop(∃ X, owns (c : Thread nD τ) m fullShare X) : sProp 𝕄) ⊢ iprop(dnP (F := F) m c 0 ∗ dnP (F := F) m c 1) := by
  iintro H
  ihave H := (some_rects (c : Thread nD τ) m fullShare dnR (fun _ _ => rfl) dnR_disjoint dnR_cover) $$ H
  icases H with ⟨%v, H⟩
  ihave H := (show _ ⊢ _ from by rw [bigSep_two]) $$ H
  icases H with ⟨H0, H1⟩
  isplitl [H0]
  · iapply (some_squeeze (c : Thread nD τ) _ fullShare squeezes_S1x1x1536x4096_S1536x4096).2
    iexists _; iexact H0
  iapply (some_squeeze (c : Thread nD τ) _ fullShare squeezes_S1x1x1536x4096_S1536x4096).2
  iexists _; iexact H1

theorem dn_join : iprop(dnP (F := F) m c 0 ∗ dnP (F := F) m c 1) ⊢ (iprop(∃ X, owns (c : Thread nD τ) m fullShare X) : sProp 𝕄) := by
  iintro ⟨H0, H1⟩
  ihave H0 := (some_squeeze (c : Thread nD τ) (m.slice (dnR 0) (fun _ => rfl)) fullShare squeezes_S1x1x1536x4096_S1536x4096).1 $$ H0
  ihave H1 := (some_squeeze (c : Thread nD τ) (m.slice (dnR 1) (fun _ => rfl)) fullShare squeezes_S1x1x1536x4096_S1536x4096).1 $$ H1
  icases H0 with ⟨%v0, H0⟩
  icases H1 with ⟨%v1, H1⟩
  iapply (some_of_rects (c : Thread nD τ) m fullShare dnR (fun _ _ => rfl) dnR_disjoint dnR_cover (fun t => match t with | 0 => v0 | 1 => v1))
  rw [bigSep_two]
  isplitl [H0]; · iexact H0
  iexact H1
end

variable (arg0 : Memref sig .tc .hbm S8x20 .i32) (harg0 : arg0.IsWhole) (arg1 : Memref sig .tc .hbm S8x20 .f32) (harg1 : arg1.IsWhole) (arg2 : Memref sig .tc .hbm S20x4096 .bf16) (harg2 : arg2.IsWhole) (arg3 : Memref sig .tc .hbm S31x4096x3072 .fp8e4m3) (harg3 : arg3.IsWhole) (arg4 : Memref sig .tc .hbm S31x3072 .f32) (harg4 : arg4.IsWhole) (arg5 : Memref sig .tc .hbm S31x1536x4096 .fp8e4m3) (harg5 : arg5.IsWhole) (arg6 : Memref sig .tc .hbm S31x4096 .f32) (harg6 : arg6.IsWhole) (arg7 : Memref sig .tc .vmem S20x4096 .bf16) (harg7 : arg7.IsWhole) (arg8 : Memref sig .tc .smem S8x20 .i32) (harg8 : arg8.IsWhole) (arg9 : Memref sig .tc .smem S32 .i32) (harg9 : arg9.IsWhole) (arg10 : Memref sig .tc .smem S31 .i32) (harg10 : arg10.IsWhole) (arg11 : Memref sig .tc .vmem S8x20 .i32) (harg11 : arg11.IsWhole) (arg12 : Memref sig .tc .vmem S8x20 .f32) (harg12 : arg12.IsWhole) (arg13 : Memref sig .tc .vmem S20x4096 .bf16) (harg13 : arg13.IsWhole) (arg14 : Memref sig .tc .vmem S31x3072 .f32) (harg14 : arg14.IsWhole) (arg15 : Memref sig .tc .vmem S31x4096 .f32) (harg15 : arg15.IsWhole) (arg16 : Memref sig .tc .vmem S32x8 .i32) (harg16 : arg16.IsWhole) (arg17 : Memref sig .tc .vmem S32x8 .f32) (harg17 : arg17.IsWhole) (arg18 : Memref sig .tc .vmem S32x4096 .bf16) (harg18 : arg18.IsWhole) (arg19 : Memref sig .tc .vmem S32x3072 .f32) (harg19 : arg19.IsWhole) (arg20 : Memref sig .tc .vmem S32x1536 .bf16) (harg20 : arg20.IsWhole) (arg21 : Memref sig .tc .vmem S32x4096 .f32) (harg21 : arg21.IsWhole) (arg22 : Memref sig .tc .vmem S2x2x2048x3072 .fp8e4m3) (harg22 : arg22.IsWhole) (arg23 : Memref sig .tc .vmem S2x1x1536x4096 .fp8e4m3) (harg23 : arg23.IsWhole) (arg24 : DmaSems sig S_) (arg25 : DmaSems sig S5) (arg26 : DmaSems sig S2x2) (arg27 : DmaSems sig S2x1)

/-- On its inputs whole, its scratch at anything and its semaphores at zero the kernel leaves `outV` in its result, its
    inputs as they were and its semaphores at zero. -/
theorem whole_run (c : Dev nD) (ids : S8x20.Idx → Elt F .i32) (rwt : S8x20.Idx → Elt F .f32) (x : S20x4096.Idx → Elt F .bf16)
    (W3 : S31x4096x3072.Idx → Elt F .fp8e4m3) (s4 : S31x3072.Idx → Elt F .f32)
    (W5 : S31x1536x4096.Idx → Elt F .fp8e4m3) (s6 : S31x4096.Idx → Elt F .f32) (hids : ∀ i, BitVec.toNat (ids i) < 31) :
    (iprop(owns (c : Thread nD τ) arg0 fullShare ids
      ∗ owns (c : Thread nD τ) arg1 fullShare rwt
      ∗ owns (c : Thread nD τ) arg2 fullShare x
      ∗ owns (c : Thread nD τ) arg3 fullShare W3
      ∗ owns (c : Thread nD τ) arg4 fullShare s4
      ∗ owns (c : Thread nD τ) arg5 fullShare W5
      ∗ owns (c : Thread nD τ) arg6 fullShare s6
      ∗ (∃ v, owns (c : Thread nD τ) arg7 fullShare v)
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ (∃ v, owns (c : Thread nD τ) arg22 fullShare v)
      ∗ (∃ v, owns (c : Thread nD τ) arg23 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ semVal ((c : Thread nD τ), (SemLoc.dma (guS arg26 0 0) : SemLoc sig)) 0
      ∗ semVal ((c : Thread nD τ), (SemLoc.dma (guS arg26 0 1) : SemLoc sig)) 0
      ∗ semVal ((c : Thread nD τ), (SemLoc.dma (guS arg26 1 0) : SemLoc sig)) 0
      ∗ semVal ((c : Thread nD τ), (SemLoc.dma (guS arg26 1 1) : SemLoc sig)) 0
      ∗ semVal ((c : Thread nD τ), (SemLoc.dma (dnS arg27 0 0) : SemLoc sig)) 0
      ∗ semVal ((c : Thread nD τ), (SemLoc.dma (dnS arg27 1 0) : SemLoc sig)) 0
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (cc0_moe_decode arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27) (fun _ => iprop(owns (c : Thread nD τ) arg0 fullShare ids
      ∗ owns (c : Thread nD τ) arg1 fullShare rwt
      ∗ owns (c : Thread nD τ) arg2 fullShare x
      ∗ owns (c : Thread nD τ) arg3 fullShare W3
      ∗ owns (c : Thread nD τ) arg4 fullShare s4
      ∗ owns (c : Thread nD τ) arg5 fullShare W5
      ∗ owns (c : Thread nD τ) arg6 fullShare s6
      ∗ owns (c : Thread nD τ) arg7 fullShare (outV ids rwt x W3 s4 W5 s6)
      ∗ (∃ v, owns (c : Thread nD τ) arg8 fullShare v)
      ∗ (∃ v, owns (c : Thread nD τ) arg9 fullShare v)
      ∗ (∃ v, owns (c : Thread nD τ) arg10 fullShare v)
      ∗ (∃ v, owns (c : Thread nD τ) arg11 fullShare v)
      ∗ (∃ v, owns (c : Thread nD τ) arg12 fullShare v)
      ∗ (∃ v, owns (c : Thread nD τ) arg13 fullShare v)
      ∗ (∃ v, owns (c : Thread nD τ) arg14 fullShare v)
      ∗ (∃ v, owns (c : Thread nD τ) arg15 fullShare v)
      ∗ (∃ v, owns (c : Thread nD τ) arg16 fullShare v)
      ∗ (∃ v, owns (c : Thread nD τ) arg17 fullShare v)
      ∗ (∃ v, owns (c : Thread nD τ) arg18 fullShare v)
      ∗ (∃ v, owns (c : Thread nD τ) arg19 fullShare v)
      ∗ (∃ v, owns (c : Thread nD τ) arg20 fullShare v)
      ∗ (∃ v, owns (c : Thread nD τ) arg21 fullShare v)
      ∗ (∃ v, owns (c : Thread nD τ) arg22 fullShare v)
      ∗ (∃ v, owns (c : Thread nD τ) arg23 fullShare v)
      ∗ semVal ((c : Thread nD τ), (SemLoc.dma arg24.sem : SemLoc sig)) 0
      ∗ semVal ((c : Thread nD τ), (SemLoc.dma (smS arg25 ![0] inb_S5_S1_0) : SemLoc sig)) 0
      ∗ semVal ((c : Thread nD τ), (SemLoc.dma (smS arg25 ![1] inb_S5_S1_1) : SemLoc sig)) 0
      ∗ semVal ((c : Thread nD τ), (SemLoc.dma (smS arg25 ![2] inb_S5_S1_2) : SemLoc sig)) 0
      ∗ semVal ((c : Thread nD τ), (SemLoc.dma (smS arg25 ![3] inb_S5_S1_3) : SemLoc sig)) 0
      ∗ semVal ((c : Thread nD τ), (SemLoc.dma (smS arg25 ![4] inb_S5_S1_4) : SemLoc sig)) 0
      ∗ semVal ((c : Thread nD τ), (SemLoc.dma (guS arg26 0 0) : SemLoc sig)) 0
      ∗ semVal ((c : Thread nD τ), (SemLoc.dma (guS arg26 0 1) : SemLoc sig)) 0
      ∗ semVal ((c : Thread nD τ), (SemLoc.dma (guS arg26 1 0) : SemLoc sig)) 0
      ∗ semVal ((c : Thread nD τ), (SemLoc.dma (guS arg26 1 1) : SemLoc sig)) 0
      ∗ semVal ((c : Thread nD τ), (SemLoc.dma (dnS arg27 0 0) : SemLoc sig)) 0
      ∗ semVal ((c : Thread nD τ), (SemLoc.dma (dnS arg27 1 0) : SemLoc sig)) 0
      ∗ (∃ W, owes (c : Thread nD τ) 0 W))) := by
  iintro ⟨H0, H1, H2, H3, H4, H5, H6, H7, H8, H9, H10, H11, H12, H13, H14, H15, H16, H17, H18, H19, H20, H21, H22, H23, S, S0, S1, S2, S3, S4, G00, G01, G10, G11, D0, D1, HO⟩
  ihave H0 := (owns_halves (c : Thread nD τ) arg0 fullShare ids).1 $$ H0
  icases H0 with ⟨H0, H0b⟩
  ihave H3 := (share4 (c : Thread nD τ) arg3 W3).1 $$ H3
  icases H3 with ⟨A00, A01, A10, A11⟩
  ihave H5 := (share2 (c : Thread nD τ) arg5 W5).1 $$ H5
  icases H5 with ⟨B0, B1⟩
  ihave H22 := (gu_cut arg22 c) $$ H22
  icases H22 with ⟨P00, P01, P10, P11⟩
  ihave H23 := (dn_cut arg23 c) $$ H23
  icases H23 with ⟨Q0, Q1⟩
  iapply (wp_wand_r)
  isplitl [H0 H0b H1 H2 H4 H6 H8 H11 H12 H13 H14 H15 S S0 S1 S2 S3 S4 A00 P00 G00 A01 P01 G01 H7 H9 H10 B0 Q0 D0 A10 P10 G10 A11 P11 G11 B1 Q1 D1 H16 H17 H18 H19 H20 H21 HO]
  · iapply (body_run arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 arg26 arg27 c ids rwt x W3 s4 W5 s6 fullShare.left fullShare.right q3 q5 hids)
    isplitl [H0]
    · iexact H0
    isplitl [H0b]
    · iexact H0b
    isplitl [H1]
    · iexact H1
    isplitl [H2]
    · iexact H2
    isplitl [H4]
    · iexact H4
    isplitl [H6]
    · iexact H6
    isplitl [H8]
    · iexact H8
    isplitl [H11]
    · iexact H11
    isplitl [H12]
    · iexact H12
    isplitl [H13]
    · iexact H13
    isplitl [H14]
    · iexact H14
    isplitl [H15]
    · iexact H15
    isplitl [S]
    · iexact S
    isplitl [S0]
    · iexact S0
    isplitl [S1]
    · iexact S1
    isplitl [S2]
    · iexact S2
    isplitl [S3]
    · iexact S3
    isplitl [S4]
    · iexact S4
    isplitl [A00 P00 G00]
    · unfold guFree guGot
      icases P00 with ⟨%v, P00⟩
      iexists v
      isplitl [P00]; · iexact P00
      isplitl [A00]; · iexact A00
      iexact G00
    isplitl [A01 P01 G01]
    · unfold guFree guGot
      icases P01 with ⟨%v, P01⟩
      iexists v
      isplitl [P01]; · iexact P01
      isplitl [A01]; · iexact A01
      iexact G01
    isplitl [H7]
    · iexact H7
    isplitl [H9]
    · iexact H9
    isplitl [H10]
    · iexact H10
    isplitl [B0 Q0 D0]
    · unfold dnFree dnGot
      icases Q0 with ⟨%v, Q0⟩
      iexists v
      isplitl [Q0]; · iexact Q0
      isplitl [B0]; · iexact B0
      iexact D0
    isplitl [A10 P10 G10]
    · unfold guFree guGot
      icases P10 with ⟨%v, P10⟩
      iexists v
      isplitl [P10]; · iexact P10
      isplitl [A10]; · iexact A10
      iexact G10
    isplitl [A11 P11 G11]
    · unfold guFree guGot
      icases P11 with ⟨%v, P11⟩
      iexists v
      isplitl [P11]; · iexact P11
      isplitl [A11]; · iexact A11
      iexact G11
    isplitl [B1 Q1 D1]
    · unfold dnFree dnGot
      icases Q1 with ⟨%v, Q1⟩
      iexists v
      isplitl [Q1]; · iexact Q1
      isplitl [B1]; · iexact B1
      iexact D1
    isplitl [H16]
    · iexact H16
    isplitl [H17]
    · iexact H17
    isplitl [H18]
    · iexact H18
    isplitl [H19]
    · iexact H19
    isplitl [H20]
    · iexact H20
    isplitl [H21]
    · iexact H21
    iexact HO
  unfold guFree guGot dnFree dnGot
  iintro %_ ⟨H0, H0b, H1, H2, H4, H6, H7, H8, H9, H10, H11, H12, H13, H14, H15, H16, H17, H18, H19, H20, H21, S, S0, S1, S2, S3, S4, ⟨%_, P00, A00, G00⟩, ⟨%_, P01, A01, G01⟩, ⟨%_, Q0, B0, D0⟩, ⟨%_, P10, A10, G10⟩, ⟨%_, P11, A11, G11⟩, ⟨%_, Q1, B1, D1⟩, HO⟩
  isplitl [H0 H0b]
  · iapply (owns_halves (c : Thread nD τ) arg0 fullShare ids).2 $$ [H0 H0b]
    isplitl [H0]; · iexact H0
    iexact H0b
  isplitl [H1]
  · iexact H1
  isplitl [H2]
  · iexact H2
  isplitl [A00 A01 A10 A11]
  · iapply (share4 (c : Thread nD τ) arg3 W3).2 $$ [A00 A01 A10 A11]
    isplitl [A00]
    · iexact A00
    isplitl [A01]
    · iexact A01
    isplitl [A10]
    · iexact A10
    iexact A11
  isplitl [H4]
  · iexact H4
  isplitl [B0 B1]
  · iapply (share2 (c : Thread nD τ) arg5 W5).2 $$ [B0 B1]
    isplitl [B0]
    · iexact B0
    iexact B1
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [P00 P01 P10 P11]
  · iapply (gu_join arg22 (c : Dev nD)) $$ [P00 P01 P10 P11]
    isplitl [P00]
    · iexists _; iexact P00
    isplitl [P01]
    · iexists _; iexact P01
    isplitl [P10]
    · iexists _; iexact P10
    iexists _; iexact P11
  isplitl [Q0 Q1]
  · iapply (dn_join arg23 (c : Dev nD)) $$ [Q0 Q1]
    isplitl [Q0]
    · iexists _; iexact Q0
    iexists _; iexact Q1
  isplitl [S]
  · iexact S
  isplitl [S0]
  · iexact S0
  isplitl [S1]
  · iexact S1
  isplitl [S2]
  · iexact S2
  isplitl [S3]
  · iexact S3
  isplitl [S4]
  · iexact S4
  isplitl [G00]
  · iexact G00
  isplitl [G01]
  · iexact G01
  isplitl [G10]
  · iexact G10
  isplitl [G11]
  · iexact G11
  isplitl [D0]
  · iexact D0
  isplitl [D1]
  · iexact D1
  iexact HO

end Cert.KernelIdeal.Hand

end
-- ==== Proof.Ideal.Run.lean ====
/-
  For the ideal program, whose text is the same: the proof of the module of this name outside Ideal/, repeated.
  The kernel's run: it terminates, nothing faults, its argument arrays end unchanged, every semaphore ends at zero, and
  its result holds `outV` of the arguments. The pipeline around the body has one point and writes one block back; the
  buffers, semaphores and inputs the body's own copies use are the invariant.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import proofs.«01_k».proof.Proof.Ideal.Whole
public import Idealize.ShloMosaic.Lib.StableHlo.Run
public import Idealize.ShloMosaic.Lib.Pipeline.Value
public import proofs.«01_k».proof.Proof.Gen.KernelIdeal.Frame

@[expose] public section

noncomputable section

namespace Cert.KernelIdeal.Hand

open Cert.Moe Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

set_option maxHeartbeats 800000 in
/-- The program up to the region: the host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's twelve DMA semaphores. -/
abbrev osem0 : Fin 12 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0) := by
  rw [Pipeline.ownSems0_eq_of_list c osem0 [0, 1, 2, 3, 4, 5, 6, 7, 8, 9, 10, 11] (by decide) (by decide)]; rfl
/-- The arrays the body reads. -/
def H0 : Finset (Ref sig .tc) := {main_v1, main_v3, main_v4, main_arg3, main_arg4, main_arg5, main_arg6}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v1) ↦{fullShare} V m c main_v1) ∗ (((c : Thread nD τ).loc main_v3) ↦{fullShare} V m c main_v3) ∗ (((c : Thread nD τ).loc main_v4) ↦{fullShare} V m c main_v4) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6)) := by
  rw [BI.bigSep_eq_bigSepL_of_eq [main_v1, main_v3, main_v4, main_arg3, main_arg4, main_arg5, main_arg6] (by decide) (by decide)]; rfl

/-- The invariant, piece by piece. -/
theorem PhiD0_eq (c : Dev nD) :
    (Pipeline.ΦD osem0 spec0 H0 (V m) c : sProp 𝕄)
      = iprop(iprop((∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ (∃ r, prngReg c r)
          ∗ iprop(semVal ((c : Thread nD τ), (SemLoc.dma 1 : SemLoc sig)) 0 ∗ semVal ((c : Thread nD τ), (SemLoc.dma 2 : SemLoc sig)) 0 ∗ semVal ((c : Thread nD τ), (SemLoc.dma 3 : SemLoc sig)) 0 ∗ semVal ((c : Thread nD τ), (SemLoc.dma 4 : SemLoc sig)) 0 ∗ semVal ((c : Thread nD τ), (SemLoc.dma 5 : SemLoc sig)) 0 ∗ semVal ((c : Thread nD τ), (SemLoc.dma 6 : SemLoc sig)) 0 ∗ semVal ((c : Thread nD τ), (SemLoc.dma 7 : SemLoc sig)) 0 ∗ semVal ((c : Thread nD τ), (SemLoc.dma 8 : SemLoc sig)) 0 ∗ semVal ((c : Thread nD τ), (SemLoc.dma 9 : SemLoc sig)) 0 ∗ semVal ((c : Thread nD τ), (SemLoc.dma 10 : SemLoc sig)) 0 ∗ semVal ((c : Thread nD τ), (SemLoc.dma 11 : SemLoc sig)) 0 ∗ semVal ((c : Thread nD τ), (SemLoc.dma 12 : SemLoc sig)) 0)
          ∗ iprop(owns (c : Thread nD τ) (Memref.whole main_v1) fullShare (V m c main_v1) ∗ owns (c : Thread nD τ) (Memref.whole main_v3) fullShare (V m c main_v3) ∗ owns (c : Thread nD τ) (Memref.whole main_v4) fullShare (V m c main_v4) ∗ owns (c : Thread nD τ) (Memref.whole main_arg3) fullShare (V m c main_arg3) ∗ owns (c : Thread nD τ) (Memref.whole main_arg4) fullShare (V m c main_arg4) ∗ owns (c : Thread nD τ) (Memref.whole main_arg5) fullShare (V m c main_arg5) ∗ owns (c : Thread nD τ) (Memref.whole main_arg6) fullShare (V m c main_arg6))) := by
  rw [Pipeline.ΦD_eq, scopedRest0_eq, ownSems00_eq, hbmPts0_eq]
  simp only [owns_whole]

/-- What the kernel leaves in its result, of the arrays at the region. -/
def outAt (c : Dev nD) : S20x4096.Idx → Elt F .bf16 :=
  outV (V m c main_v1) (V m c main_v3) (V m c main_v4) (V m c main_arg3) (V m c main_arg4) (V m c main_arg5) (V m c main_arg6)

/-- The region's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => outAt m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = outAt m c := by dsimp only [dats]

/-- The body's run at the program's buffers. -/
theorem point_run (c : Dev nD) (t : Fin cfg0.N) (hids : ∀ i, BitVec.toNat (V m c main_v1 i) < 31) :
    (iprop(owns (c : Thread nD τ) (Memref.whole main_v1) fullShare (V m c main_v1)
      ∗ owns (c : Thread nD τ) (Memref.whole main_v3) fullShare (V m c main_v3)
      ∗ owns (c : Thread nD τ) (Memref.whole main_v4) fullShare (V m c main_v4)
      ∗ owns (c : Thread nD τ) (Memref.whole main_arg3) fullShare (V m c main_arg3)
      ∗ owns (c : Thread nD τ) (Memref.whole main_arg4) fullShare (V m c main_arg4)
      ∗ owns (c : Thread nD τ) (Memref.whole main_arg5) fullShare (V m c main_arg5)
      ∗ owns (c : Thread nD τ) (Memref.whole main_arg6) fullShare (V m c main_arg6)
      ∗ (∃ d, owns (c : Thread nD τ) (win0_0.stage (cfg0.slots t 0)) fullShare d)
      ∗ (∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d)
      ∗ (∃ d, owns (c : Thread nD τ) (Memref.whole cc0_scratch11) fullShare d)
      ∗ (∃ d, owns (c : Thread nD τ) (Memref.whole cc0_scratch12) fullShare d)
      ∗ (∃ d, owns (c : Thread nD τ) (Memref.whole cc0_scratch13) fullShare d)
      ∗ (∃ d, owns (c : Thread nD τ) (Memref.whole cc0_scratch14) fullShare d)
      ∗ (∃ d, owns (c : Thread nD τ) (Memref.whole cc0_scratch15) fullShare d)
      ∗ semVal ((c : Thread nD τ), (SemLoc.dma 1 : SemLoc sig)) 0
      ∗ semVal ((c : Thread nD τ), (SemLoc.dma 2 : SemLoc sig)) 0
      ∗ semVal ((c : Thread nD τ), (SemLoc.dma 3 : SemLoc sig)) 0
      ∗ semVal ((c : Thread nD τ), (SemLoc.dma 4 : SemLoc sig)) 0
      ∗ semVal ((c : Thread nD τ), (SemLoc.dma 5 : SemLoc sig)) 0
      ∗ semVal ((c : Thread nD τ), (SemLoc.dma 6 : SemLoc sig)) 0
      ∗ semVal ((c : Thread nD τ), (SemLoc.dma 7 : SemLoc sig)) 0
      ∗ semVal ((c : Thread nD τ), (SemLoc.dma 8 : SemLoc sig)) 0
      ∗ semVal ((c : Thread nD τ), (SemLoc.dma 9 : SemLoc sig)) 0
      ∗ semVal ((c : Thread nD τ), (SemLoc.dma 10 : SemLoc sig)) 0
      ∗ semVal ((c : Thread nD τ), (SemLoc.dma 11 : SemLoc sig)) 0
      ∗ semVal ((c : Thread nD τ), (SemLoc.dma 12 : SemLoc sig)) 0
      ∗ (∃ W, owes (c : Thread nD τ) 0 W)) : sProp 𝕄)
      ⊢ wp frame (wpE (defs₀ (F := F)) Variants.none (c : Thread nD τ) none (Ix := Unit) (Name := ℕ) (U := Pipeline.UD sig nD τ) (Lvl := ℕ)) Set.univ (bodyAt0 t) (fun _ => iprop(owns (c : Thread nD τ) (Memref.whole main_v1) fullShare (V m c main_v1)
      ∗ owns (c : Thread nD τ) (Memref.whole main_v3) fullShare (V m c main_v3)
      ∗ owns (c : Thread nD τ) (Memref.whole main_v4) fullShare (V m c main_v4)
      ∗ owns (c : Thread nD τ) (Memref.whole main_arg3) fullShare (V m c main_arg3)
      ∗ owns (c : Thread nD τ) (Memref.whole main_arg4) fullShare (V m c main_arg4)
      ∗ owns (c : Thread nD τ) (Memref.whole main_arg5) fullShare (V m c main_arg5)
      ∗ owns (c : Thread nD τ) (Memref.whole main_arg6) fullShare (V m c main_arg6)
      ∗ owns (c : Thread nD τ) (win0_0.stage (cfg0.slots t 0)) fullShare (outAt m c)
      ∗ (∃ d, owns (c : Thread nD τ) (Memref.whole cc0_scratch0) fullShare d)
      ∗ (∃ d, owns (c : Thread nD τ) (Memref.whole cc0_scratch1) fullShare d)
      ∗ (∃ d, owns (c : Thread nD τ) (Memref.whole cc0_scratch2) fullShare d)
      ∗ (∃ d, owns (c : Thread nD τ) (Memref.whole cc0_scratch3) fullShare d)
      ∗ (∃ d, owns (c : Thread nD τ) (Memref.whole cc0_scratch4) fullShare d)
      ∗ (∃ d, owns (c : Thread nD τ) (Memref.whole cc0_scratch5) fullShare d)
      ∗ (∃ d, owns (c : Thread nD τ) (Memref.whole cc0_scratch6) fullShare d)
      ∗ (∃ d, owns (c : Thread nD τ) (Memref.whole cc0_scratch7) fullShare d)
      ∗ (∃ d, owns (c : Thread nD τ) (Memref.whole cc0_scratch8) fullShare d)
      ∗ (∃ d, owns (c : Thread nD τ) (Memref.whole cc0_scratch9) fullShare d)
      ∗ (∃ d, owns (c : Thread nD τ) (Memref.whole cc0_scratch10) fullShare d)
      ∗ (∃ d, owns (c : Thread nD τ) (Memref.whole cc0_scratch11) fullShare d)
      ∗ (∃ d, owns (c : Thread nD τ) (Memref.whole cc0_scratch12) fullShare d)
      ∗ (∃ d, owns (c : Thread nD τ) (Memref.whole cc0_scratch13) fullShare d)
      ∗ (∃ d, owns (c : Thread nD τ) (Memref.whole cc0_scratch14) fullShare d)
      ∗ (∃ d, owns (c : Thread nD τ) (Memref.whole cc0_scratch15) fullShare d)
      ∗ semVal ((c : Thread nD τ), (SemLoc.dma 1 : SemLoc sig)) 0
      ∗ semVal ((c : Thread nD τ), (SemLoc.dma 2 : SemLoc sig)) 0
      ∗ semVal ((c : Thread nD τ), (SemLoc.dma 3 : SemLoc sig)) 0
      ∗ semVal ((c : Thread nD τ), (SemLoc.dma 4 : SemLoc sig)) 0
      ∗ semVal ((c : Thread nD τ), (SemLoc.dma 5 : SemLoc sig)) 0
      ∗ semVal ((c : Thread nD τ), (SemLoc.dma 6 : SemLoc sig)) 0
      ∗ semVal ((c : Thread nD τ), (SemLoc.dma 7 : SemLoc sig)) 0
      ∗ semVal ((c : Thread nD τ), (SemLoc.dma 8 : SemLoc sig)) 0
      ∗ semVal ((c : Thread nD τ), (SemLoc.dma 9 : SemLoc sig)) 0
      ∗ semVal ((c : Thread nD τ), (SemLoc.dma 10 : SemLoc sig)) 0
      ∗ semVal ((c : Thread nD τ), (SemLoc.dma 11 : SemLoc sig)) 0
      ∗ semVal ((c : Thread nD τ), (SemLoc.dma 12 : SemLoc sig)) 0
      ∗ (∃ W, owes (c : Thread nD τ) 0 W))) :=
  whole_run (Memref.whole main_v1) (Memref.isWhole_whole _) (Memref.whole main_v3) (Memref.isWhole_whole _) (Memref.whole main_v4) (Memref.isWhole_whole _) (Memref.whole main_arg3) (Memref.isWhole_whole _) (Memref.whole main_arg4) (Memref.isWhole_whole _) (Memref.whole main_arg5) (Memref.isWhole_whole _) (Memref.whole main_arg6) (Memref.isWhole_whole _) (win0_0.stage (cfg0.slots t 0)) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) cc0_scratch16 cc0_scratch17 cc0_scratch18 cc0_scratch19 c (V m c main_v1) (V m c main_v3) (V m c main_v4) (V m c main_arg3) (V m c main_arg4) (V m c main_arg5) (V m c main_arg6) hids

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

theorem sound_body (c : Dev nD) (t : Fin cfg0.N) (hids : ∀ i, BitVec.toNat (V m c main_v1 i) < 31) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl, after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨H11, H12, H13, H14, H15, H16, H17, H18, H19, H20, H21, H22, H23, H8, H9, H10⟩, Hg, ⟨Hq1, Hq2, Hq3, Hq4, Hq5, Hq6, Hq7, Hq8, Hq9, Hq10, Hq11, Hq12⟩, ⟨Hh0, Hh1, Hh2, Hh3, Hh4, Hh5, Hh6⟩⟩, ⟨%W, -, HW⟩, ⟨%d0, H7⟩⟩
  iapply (wp_wand_r)
  isplitl [Hh0 Hh1 Hh2 Hh3 Hh4 Hh5 Hh6 H7 H8 H9 H10 H11 H12 H13 H14 H15 H16 H17 H18 H19 H20 H21 H22 H23 Hq1 Hq2 Hq3 Hq4 Hq5 Hq6 Hq7 Hq8 Hq9 Hq10 Hq11 Hq12 HW]
  · iapply (point_run m c t hids)
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [H7]; · iexists _; iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    iexists _; iexact HW
  iintro %_ ⟨Hh0, Hh1, Hh2, Hh3, Hh4, Hh5, Hh6, H7, H8, H9, H10, H11, H12, H13, H14, H15, H16, H17, H18, H19, H20, H21, H22, H23, Hq1, Hq2, Hq3, Hq4, Hq5, Hq6, Hq7, Hq8, Hq9, Hq10, Hq11, Hq12, ⟨%W', HW'⟩⟩
  isplitl [Hg H11 H12 H13 H14 H15 H16 H17 H18 H19 H20 H21 H22 H23 H8 H9 H10 Hq1 Hq2 Hq3 Hq4 Hq5 Hq6 Hq7 Hq8 Hq9 Hq10 Hq11 Hq12 Hh0 Hh1 Hh2 Hh3 Hh4 Hh5 Hh6]
  · isplitl [H11 H12 H13 H14 H15 H16 H17 H18 H19 H20 H21 H22 H23 H8 H9 H10]
    · skip
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H8]; · iexact H8
      isplitl [H9]; · iexact H9
      iexact H10
    isplitl [Hg]; · iexact Hg
    isplitl [Hq1 Hq2 Hq3 Hq4 Hq5 Hq6 Hq7 Hq8 Hq9 Hq10 Hq11 Hq12]
    · skip
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexact Hh6
  isplitl [HW']
  · iexists W'; isplitr; · ipureintro; exact fun _ _ => Or.inl trivial
    iexact HW'
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) (hids : ∀ i, BitVec.toNat (V m c main_v1 i) < 31) :
    BodyObligation (dats (F := F) m 0 c) (defs₀ (F := F)) Variants.none () Set.univ := fun t => by
  rw [bigSep_W0, bigSep_W0, defs₀_row]
  exact triple_restated (sound_body m c t hids) rfl .rfl fun _ => .rfl

/-! ## The run and the frame -/

set_option backward.isDefEq.respectTransparency.types false in
theorem run_main (hids : ∀ c i, BitVec.toNat (V m c main_v1 i) < 31) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c (hids c)).loose) (hshare := fun c => (dats m 0 c).share_full fun _ => rfl)
    (howed := fun _ _ => rfl) (V := V m) (hmain := hmain m Variants.none) (hA := A_eq m)
    (hin := fun _ => .rfl) (hout := fun _ => .rfl)

/-- The region finds the ids reshaped and transposed. -/
theorem V_ids (c : Dev nD) : V m c main_v1 = (transpose S8x20 [1, 0] (shapeCast S20x8 (m ((c : Thread nD τ).loc main_arg1)) shapeCasts_S20x1x8_S20x8) transposes_S20x8_S8x20_1_0 : S8x20.Idx → Elt F .i32) := by
  unfold V
  after_results
  try rfl

/-- The region finds the routing weights reshaped and transposed. -/
theorem V_rw (c : Dev nD) : V m c main_v3 = (transpose S8x20 [1, 0] (shapeCast S20x8 (m ((c : Thread nD τ).loc main_arg2)) shapeCasts_S20x1x8_S20x8) transposes_S20x8_S8x20_1_0 : S8x20.Idx → Elt F .f32) := by
  unfold V
  after_results
  try rfl

/-- The region finds the tokens reshaped. -/
theorem V_x (c : Dev nD) : V m c main_v4 = (shapeCast S20x4096 (m ((c : Thread nD τ).loc main_arg0)) shapeCasts_S20x1x4096_S20x4096 : S20x4096.Idx → Elt F .bf16) := by
  unfold V
  after_results
  try rfl

/-- The kernel's run: the argument arrays unchanged, the semaphores at zero. -/
theorem frame (hids : ∀ c i, BitVec.toNat (V m c main_v1 i) < 31) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_main m ρ hids)

/-! ## The result -/

theorem emb0 (t : Fin cfg0.N) (y : S20x4096.Idx) : ((cfg0.win 0).blk t).view.emb y = y := by
  obtain rfl : t = t0_0 := fin_N0 t
  funext a
  refine Fin.ext ?_
  match a with
  | ⟨0, _⟩ => show 0 * 20 + 1 * (y 0).val = (y 0).val; omega
  | ⟨1, _⟩ => show 0 * 4096 + 1 * (y 1).val = (y 1).val; omega

/-- The one block the region writes back is the whole result. -/
theorem final0 (c : Dev nD) : (dats m 0 c).arrAt 0 cfg0.N = outAt m c := by
  refine (dats m 0 c).arrAt_eq_of_cover 0 (outAt m c) (fun t _ => ?_) (fun i => ⟨t0_0, flush0_0 _, ?_⟩)
  · funext y
    rw [View.read_apply]
    show _ = outAt m c (((cfg0.win 0).blk t).view.emb y)
    rw [emb0]
    rfl
  · have h := View.emb_mem_set ((cfg0.win 0).blk t0_0).view i
    rw [emb0] at h
    exact h

/-- The kernel's run with its result named. -/
theorem run_value (hids : ∀ c i, BitVec.toNat (V m c main_v1 i) < 31) :
    θ_run defs (onTc (τ := τ) (main (F := F))) ⟨m, fun _ => 0, ρ⟩ (fun r => ∀ c : Dev nD,
      r.2.mem ((c.tc : Thread nD τ).loc main_v5) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 0).trans (final0 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩) (run_main m ρ hids)

end Cert.KernelIdeal.Hand

end
-- ==== Proof.Pre.lean ====
/-
  What the first precondition says of the ids, read off its printed predicate: every id names one of the 31 experts.
-/
module

public import proofs.«01_k».proof.Proof.Gen.Pre_routed
public import Idealize.ShloMosaic.Lib.StableHlo.Predicate
public import Idealize.ShloMosaic.Lib.ReduceAll

@[expose] public section

namespace Cert.Moe

open Idealize.ShloMosaic

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem ofBool_eq_one (p : Bool) : (BitVec.ofBool p = 1#1) ↔ p = true := by cases p <;> decide

/-- A word that is not negative and below 31, as signed words, is below 31. -/
theorem word_lt {v : BitVec 32} (h : (BitVec.sle 0#32 v && BitVec.slt v 31#32) = true) : v.toNat < 31 := by
  simp only [Bool.and_eq_true] at h
  obtain ⟨hge, hlt⟩ := h
  simp only [BitVec.sle, BitVec.slt, decide_eq_true_eq, BitVec.toInt, BitVec.toNat_ofNat] at hge hlt
  omega

section
open Cert.Pre_routed Cert.Pre_routed.Facts

/-- `routed`: every id is below 31. -/
theorem routed_lt {F : FTy → Type} [FloatOps F] [Cert.Pre_routed.Facts] (a0 : FVec F S20x1x4096 .bf16) (a1 : IVec S20x1x8 32) (a2 : FVec F S20x1x8 .f32) (a3 : FVec F S31x4096x3072 .fp8e4m3) (a4 : FVec F S31x3072 .f32) (a5 : FVec F S31x1536x4096 .fp8e4m3) (a6 : FVec F S31x4096 .f32)
    (h : Cert.Pre_routed.fn a0 a1 a2 a3 a4 a5 a6 = fun _ => 1#1) (i : S20x1x8.Idx) : (a1 i).toNat < 31 := by
  have : Subsingleton S_.Idx := ⟨fun a b => funext fun k => k.elim0⟩
  have e := congrFun h (fun k => k.elim0)
  unfold Cert.Pre_routed.fn at e
  have e' := Host.reduce_andi_all _ _ _ _ _ e i
  simp only [andi, cmpi, broadcastInDim, constantI, IntOp.cmpi, andi_ofBool, ofBool_eq_one] at e'
  exact word_lt e'
end

end Cert.Moe
-- ==== Proof.PreDistinct.lean ====
/-
  What the second precondition says of the ids, read off its printed predicate: every id names one of the 31 experts, and
  a token's eight ids are pairwise different.
-/
module

public import proofs.«01_k».proof.Proof.Gen.Pre_routed_distinct
public import proofs.«01_k».proof.Proof.Pre
public import Idealize.ShloMosaic.Lib.ValueIdxCore

@[expose] public section

namespace Cert.Moe

open Idealize.ShloMosaic Idealize.ShloMosaic.ValueIdx

section
open Cert.Pre_routed_distinct Cert.Pre_routed_distinct.Facts

variable {F : FTy → Type} [FloatOps F] [Cert.Pre_routed_distinct.Facts] (a0 : FVec F S20x1x4096 .bf16) (a1 : IVec S20x1x8 32) (a2 : FVec F S20x1x8 .f32) (a3 : FVec F S31x4096x3072 .fp8e4m3) (a4 : FVec F S31x3072 .f32) (a5 : FVec F S31x1536x4096 .fp8e4m3) (a6 : FVec F S31x4096 .f32)

/-- `routed_distinct`: every id is below 31. -/
theorem distinct_lt (h : Cert.Pre_routed_distinct.fn a0 a1 a2 a3 a4 a5 a6 = fun _ => 1#1) (i : S20x1x8.Idx) : (a1 i).toNat < 31 := by
  have : Subsingleton S_.Idx := ⟨fun a b => funext fun k => k.elim0⟩
  have e := congrFun h (fun k => k.elim0)
  unfold Cert.Pre_routed_distinct.fn at e
  have e1 := (IntOp.andi_eq_one.1 e).1
  have e' := Host.reduce_andi_all _ _ _ _ _ e1 i
  simp only [andi, cmpi, broadcastInDim, constantI, IntOp.cmpi, andi_ofBool, ofBool_eq_one] at e'
  exact word_lt e'

/-- `routed_distinct`: two different places of one token hold different ids. -/
theorem distinct_ne (h : Cert.Pre_routed_distinct.fn a0 a1 a2 a3 a4 a5 a6 = fun _ => 1#1) (t : Fin 20) (k k' : Fin 8) (hk : k ≠ k') :
    a1 (ix3 t 0 k) ≠ a1 (ix3 t 0 k') := by
  have : Subsingleton S_.Idx := ⟨fun a b => funext fun k => k.elim0⟩
  have e := congrFun h (fun k => k.elim0)
  unfold Cert.Pre_routed_distinct.fn at e
  have e1 := (IntOp.andi_eq_one.1 e).2
  have e' := Host.reduce_andi_all _ _ _ _ _ e1 (ix4 t 0 k k')
  simp only [ori, cmpi, IntOp.cmpi, ori_ofBool, ofBool_eq_one, Bool.or_eq_true] at e'
  rcases e' with e' | e'
  · exfalso
    have e2 : iotaInDim S20x1x8x8 32 2 (ix4 t 0 k k') = iotaInDim S20x1x8x8 32 3 (ix4 t 0 k k') := by simpa using e'
    have e3 : BitVec.ofNat 32 k.val = BitVec.ofNat 32 k'.val := e2
    have e4 := congrArg BitVec.toNat e3
    simp only [BitVec.toNat_ofNat] at e4
    exact hk (Fin.ext (by omega))
  · intro heq
    have e2 : a1 (ix3 t 0 k) ≠ a1 (ix3 t 0 k') := by
      have hl : broadcastInDim S20x1x8x8 ![0, 1, 2, 3] bcast_S20x1x8x1_S20x1x8x8_0_1_2_3 (broadcastInDim S20x1x8x1 ![0, 1, 2] bcast_S20x1x8_S20x1x8x1_0_1_2 a1) (ix4 t 0 k k') = a1 (ix3 t 0 k) := by
        unfold broadcastInDim; congr 1; funext b; fin_cases b <;> rfl
      have hr : broadcastInDim S20x1x8x8 ![0, 1, 2, 3] bcast_S20x1x1x8_S20x1x8x8_0_1_2_3 (broadcastInDim S20x1x1x8 ![0, 1, 3] bcast_S20x1x8_S20x1x1x8_0_1_3 a1) (ix4 t 0 k k') = a1 (ix3 t 0 k') := by
        unfold broadcastInDim; congr 1; funext b; fin_cases b <;> rfl
      rw [hl, hr] at e'
      simpa using e'
    exact e2 heq
end

end Cert.Moe
-- ==== Proof.Spec.lean ====
/-
  The layer's mathematics over the extended reals: one expert's answer for one token (`yv`), an expert's share of a
  token's result (`share`), and the two facts of plain algebra between the kernel's grouping and the reference's. The
  reference adds, choice by choice, `y · w` where the choice names the expert; the kernel adds the weights of those
  choices first and multiplies once. A token that names no expert twice makes the two agree (`share_eq`). The kernel
  goes through the experts that are named, in its own order; the reference through all of them (`sum_order`).
-/
module

public import Idealize.ShloMosaic.Lib.Pointwise

@[expose] public section

noncomputable section

namespace Cert.Moe

open Idealize.ShloMosaic

/-- The column of the gate half, and of the up half. -/
def lo (n : Fin 1536) : Fin 3072 := ⟨n.val, by omega⟩
def hi (n : Fin 1536) : Fin 3072 := ⟨1536 + n.val, by omega⟩

/-- The scaled gate-and-up product of a token's row. -/
def gu (X : Fin 4096 → EReal) (A : Fin 4096 → Fin 3072 → EReal) (s : Fin 3072 → EReal) (n : Fin 3072) : EReal :=
  (∑ k, X k * A k n) * s n

/-- The hidden layer: `silu` of the gate half times the up half. -/
def hid (X : Fin 4096 → EReal) (A : Fin 4096 → Fin 3072 → EReal) (s : Fin 3072 → EReal) (n : Fin 1536) : EReal :=
  gu X A s (lo n) * Ideal.logistic (gu X A s (lo n)) * gu X A s (hi n)

/-- One expert's answer for one token, at column `j`. -/
def yv (X : Fin 4096 → EReal) (A : Fin 4096 → Fin 3072 → EReal) (s : Fin 3072 → EReal)
    (B : Fin 1536 → Fin 4096 → EReal) (r : Fin 4096 → EReal) (j : Fin 4096) : EReal :=
  (∑ n, hid X A s n * B n j) * r j

/-- An expert's share of a token's result: its answer `y` times the weight of every choice `k` that names it. -/
def share (I : Fin 8 → BitVec 32) (w : Fin 8 → EReal) (e : BitVec 32) (y : EReal) : EReal :=
  ∑ k, if I k = e then y * w k else 0

/-- The kernel's grouping of the share, for a token that names no expert twice. -/
theorem share_eq (I : Fin 8 → BitVec 32) (hI : Function.Injective I) (w : Fin 8 → EReal) (e : BitVec 32) (y : EReal) :
    (if ∃ k, I k = e then y * ∑ k, (if I k = e then w k else 0) else 0) = share I w e y := by
  unfold share
  by_cases h : ∃ k, I k = e
  · obtain ⟨k0, hk⟩ := h
    rw [if_pos ⟨k0, hk⟩]
    rw [Finset.sum_eq_single k0 (fun b _ hb => if_neg fun h' => hb (hI (h'.trans hk.symm))) (fun h => absurd (Finset.mem_univ _) h), if_pos hk]
    rw [Finset.sum_eq_single k0 (fun b _ hb => if_neg fun h' => hb (hI (h'.trans hk.symm))) (fun h => absurd (Finset.mem_univ _) h), if_pos hk]
  · rw [if_neg h]
    exact (Finset.sum_eq_zero fun k _ => if_neg fun h' => h ⟨k, h'⟩).symm

/-- A choice by equality of words. -/
theorem select_eq {V : Type} (a b : BitVec 32) (x y : V) : Scalar.select (IntOp.cmpi .eq a b) x y = if a = b then x else y := by
  unfold Scalar.select IntOp.cmpi
  by_cases h : a = b
  · subst h
    simp
  · rw [if_neg h, beq_eq_false_iff_ne.mpr h]
    rfl

/-- An expert no choice names has no share. -/
theorem share_zero (I : Fin 8 → BitVec 32) (w : Fin 8 → EReal) (e : BitVec 32) (y : EReal) (h : ∀ k, I k ≠ e) : share I w e y = 0 :=
  Finset.sum_eq_zero fun k _ => if_neg (h k)

/-- The sum along an order of distinct experts is the sum over all of them, when the others contribute nothing. -/
theorem sum_order (L : List ℕ) (hn : L.Nodup) (hl : ∀ x ∈ L, x < 31) (o : ℕ → Fin 31) (ho : ∀ (i : ℕ) (h : i < L.length), (o i).val = L[i])
    (f : Fin 31 → EReal) (hf : ∀ e : Fin 31, e.val ∉ L → f e = 0) :
    ∑ i ∈ Finset.range L.length, f (o i) = ∑ e, f e := by
  refine Finset.sum_of_injOn o ?_ (fun _ _ => Finset.mem_coe.mpr (Finset.mem_univ _)) ?_ (fun _ _ => rfl)
  · intro i hi j hj hij
    have hi' := Finset.mem_range.mp hi
    have hj' := Finset.mem_range.mp hj
    have h : L[i] = L[j] := by rw [← ho i hi', ← ho j hj', hij]
    exact (List.Nodup.getElem_inj_iff hn).mp h
  · intro e _ he
    refine hf e fun hm => he ?_
    obtain ⟨i, hi, hx⟩ := List.getElem_of_mem hm
    exact ⟨i, Finset.mem_coe.mpr (Finset.mem_range.mpr hi), Fin.ext (by rw [ho i hi, hx])⟩

/-- The layer's result for token `t` at column `j`, from the seven arguments as given: the sum, over all the experts, of
    the expert's share. -/
def moe (a0 : (⟨3, ![20, 1, 4096]⟩ : Shape).Idx → EReal) (a1 : (⟨3, ![20, 1, 8]⟩ : Shape).Idx → BitVec 32) (a2 : (⟨3, ![20, 1, 8]⟩ : Shape).Idx → EReal)
    (a3 : (⟨3, ![31, 4096, 3072]⟩ : Shape).Idx → EReal) (a4 : (⟨2, ![31, 3072]⟩ : Shape).Idx → EReal)
    (a5 : (⟨3, ![31, 1536, 4096]⟩ : Shape).Idx → EReal) (a6 : (⟨2, ![31, 4096]⟩ : Shape).Idx → EReal) (t : Fin 20) (j : Fin 4096) : EReal :=
  ∑ e : Fin 31, share (fun k => a1 (ix3 t 0 k)) (fun k => a2 (ix3 t 0 k)) (BitVec.ofNat 32 e.val)
    (yv (fun k => a0 (ix3 t 0 k)) (fun k n => a3 (ix3 e k n)) (fun n => a4 (ix2 e n)) (fun n j => a5 (ix3 e n j)) (fun j => a6 (ix2 e j)) j)

end Cert.Moe

end
-- ==== Proof.KerPay.lean ====
/-
  The kernel's payloads, read element by element over the extended reals: one trip of its main loop adds the expert's
  share, in the kernel's grouping, to every row of the accumulator.
-/
module

public import proofs.«01_k».proof.Proof.Ideal.Trip
public import proofs.«01_k».proof.Proof.Spec
public import Idealize.ShloMosaic.Lib.ValueLayout
public import Idealize.ShloMosaic.Lib.Pointwise.IndexBridge

@[expose] public section

noncomputable section

namespace Cert.KernelIdeal.Hand

open Cert.Moe Cert.KernelIdeal Cert.KernelIdeal.Gen
open Idealize.ShloMosaic

theorem guV_apply (W : S31x4096x3072.Idx → Elt Ideal .fp8e4m3) (e : Fin 31) (ch : Fin 2) (k : Fin 2048) (n : Fin 3072) :
    guV (F := Ideal) W e ch (ix4 0 0 k n) = W (ix3 e ⟨2048 * ch.val + k.val, by omega⟩ n) := by
  unfold guV
  have h : (Shape.reshapeEquiv squeezes_S1x1x2048x3072_S2048x3072.numel_eq).symm (ix4 (0 : Fin 1) (0 : Fin 1) k n) = (ix2 k n : S2048x3072.Idx) := by
    rw [Equiv.symm_apply_eq, ix4_eq_valueIdx, ix2_eq_valueIdx]
    exact (ValueIdx.reshapeEquiv_ix2_11ab _ _ _).symm
  rw [h]
  unfold guC
  rfl

theorem dnV_apply (W : S31x1536x4096.Idx → Elt Ideal .fp8e4m3) (e : Fin 31) (k : Fin 1536) (n : Fin 4096) :
    dnV (F := Ideal) W e (ix4 0 0 k n) = W (ix3 e k n) := by
  unfold dnV
  have h : (Shape.reshapeEquiv squeezes_S1x1x1536x4096_S1536x4096.numel_eq).symm (ix4 (0 : Fin 1) (0 : Fin 1) k n) = (ix2 k n : S1536x4096.Idx) := by
    rw [Equiv.symm_apply_eq, ix4_eq_valueIdx, ix2_eq_valueIdx]
    exact (ValueIdx.reshapeEquiv_ix2_11ab _ _ _).symm
  rw [h]
  unfold dnC
  rfl

/-- The place of a rectangle's element in a two-dimensional array. -/
theorem unit_emb2 {a b a' b' : ℕ} (o o' : ℕ) (h : ∀ i, (![o, o'] : Fin 2 → ℕ) i + (![a', b'] : Fin 2 → ℕ) i ≤ (⟨2, ![a, b]⟩ : Shape).size i)
    (x : Fin a') (y : Fin b') (hx : o + x.val < a) (hy : o' + y.val < b) :
    (Rect.unit (s := ⟨2, ![a, b]⟩) ![o, o'] ![a', b'] h).emb (ix2 x y) = ix2 ⟨o + x.val, hx⟩ ⟨o' + y.val, hy⟩ := by
  funext i
  refine Fin.ext ?_
  fin_cases i <;> simp [Rect.emb_apply]

theorem gateUp_apply (xp : S32x4096.Idx → Elt Ideal .bf16) (W : S31x4096x3072.Idx → Elt Ideal .fp8e4m3) (e : Fin 31) (p : Fin 32) (n : Fin 3072) :
    gateUp (F := Ideal) xp W e (ix2 p n) = ∑ k : Fin 4096, xp (ix2 p k) * W (ix3 e k n) := by
  rw [Fin.sum_univ_two_halves 2048 2048 (by norm_num)]
  unfold gateUp
  pointwise [k0_pay3, k0_pay2]
  refine congrArg₂ (· + ·) (Finset.sum_congr rfl fun k _ => ?_) (Finset.sum_congr rfl fun k _ => ?_)
  · rw [guV_apply, unit_emb2 0 0 _ p k (by omega) (by omega)]
    simp
  · rw [guV_apply, unit_emb2 0 2048 _ p k (by omega) (by omega)]
    simp

theorem pay4_apply (s : Vec Ideal S1x3072 .f32) (g u : Vec Ideal S32x1536 .f32) (p : Fin 32) (n : Fin 1536) :
    k0_pay4 (F := Ideal) s g u (ix2 p n) = g (ix2 p n) * s (ix2 0 (lo n)) * Ideal.logistic (g (ix2 p n) * s (ix2 0 (lo n))) * (u (ix2 p n) * s (ix2 0 (hi n))) := by
  pointwise [k0_pay4]
  rfl

/-- The largest of eight comparison bits exceeds zero exactly when some comparison holds. -/
theorem any_bits : ∀ g : Fin 8 → Bool,
    IntOp.cmpi .sgt (Finset.fold IntOp.maxsi (2147483648#32) (fun x => BitVec.setWidth 32 (BitVec.ofBool (g x))) Finset.univ) 0#32
      = BitVec.ofBool (decide (∃ k, g k = true)) := by
  decide +kernel

theorem any_eq {V : Type} (I : Fin 8 → BitVec 32) (e : BitVec 32) (x y : V) :
    Scalar.select (IntOp.cmpi .sgt (Finset.fold IntOp.maxsi (2147483648#32) (fun x => BitVec.setWidth 32 (IntOp.cmpi .eq (I x) e)) Finset.univ) 0#32) x y
      = if ∃ k, I k = e then x else y := by
  have h := any_bits fun k => I k == e
  unfold IntOp.cmpi at h ⊢
  dsimp only at h ⊢
  rw [h]
  unfold Scalar.select
  by_cases hk : ∃ k, I k = e
  · rw [if_pos hk, decide_eq_true (by simpa using hk)]
    rfl
  · rw [if_neg hk, decide_eq_false (by simpa using hk)]
    rfl

theorem pay6_apply (ic : Vec Ideal S32x8 .i32) (e : BitVec 32) (rc : Vec Ideal S32x8 .f32) (r : Vec Ideal S1x4096 .f32) (h : Vec Ideal S32x1536 .bf16)
    (B : Vec Ideal S1x1x1536x4096 .fp8e4m3) (acc : Vec Ideal S32x4096 .f32) (p : Fin 32) (j : Fin 4096) :
    k0_pay6 (F := Ideal) (k0_pay5 (F := Ideal) e ic) rc r h B acc (ix2 p j)
      = acc (ix2 p j) + if ∃ k : Fin 8, ic (ix2 p k) = e then
          ((∑ n, h (ix2 p n) * B (ix4 0 0 n j)) * r (ix2 0 j)) * ∑ k : Fin 8, (if ic (ix2 p k) = e then rc (ix2 p k) else 0) else 0 := by
  pointwise [k0_pay6, k0_pay5]
  simp only [select_eq]
  rw [any_eq]

/-- One trip of the main loop. -/
theorem stepV_apply (xp : S32x4096.Idx → Elt Ideal .bf16) (W3 : S31x4096x3072.Idx → Elt Ideal .fp8e4m3) (s4 : S31x3072.Idx → Elt Ideal .f32)
    (W5 : S31x1536x4096.Idx → Elt Ideal .fp8e4m3) (s6 : S31x4096.Idx → Elt Ideal .f32) (ic : S32x8.Idx → Elt Ideal .i32) (rc : S32x8.Idx → Elt Ideal .f32)
    (e : Fin 31) (acc : S32x4096.Idx → Elt Ideal .f32) (p : Fin 32) (j : Fin 4096) :
    stepV (F := Ideal) xp W3 s4 W5 s6 ic rc e acc (ix2 p j)
      = acc (ix2 p j) + if ∃ k : Fin 8, ic (ix2 p k) = BitVec.ofNat 32 e.val then
          yv (fun k => xp (ix2 p k)) (fun k n => W3 (ix3 e k n)) (fun n => s4 (ix2 e n)) (fun n j => W5 (ix3 e n j)) (fun j => s6 (ix2 e j)) j
            * ∑ k : Fin 8, (if ic (ix2 p k) = BitVec.ofNat 32 e.val then rc (ix2 p k) else 0) else 0 := by
  unfold stepV
  rw [pay6_apply]
  have hy : (∑ n, hidden (F := Ideal) xp W3 s4 e (ix2 p n) * dnV (F := Ideal) W5 e (ix4 0 0 n j)) * sdnV (F := Ideal) s6 e (ix2 0 j)
      = yv (fun k => xp (ix2 p k)) (fun k n => W3 (ix3 e k n)) (fun n => s4 (ix2 e n)) (fun n j => W5 (ix3 e n j)) (fun j => s6 (ix2 e j)) j := by
    unfold yv
    refine congrArg₂ (· * ·) (Finset.sum_congr rfl fun n _ => ?_) ?_
    · rw [dnV_apply]
      refine congrArg₂ (· * ·) ?_ rfl
      unfold hidden hid gu
      rw [pay4_apply]
      rw [unit_emb2 0 0 _ p n (by omega) (by omega), unit_emb2 0 1536 _ p n (by omega) (by omega)]
      rw [gateUp_apply, gateUp_apply]
      unfold sguV lo hi
      simp [ix2_eq_valueIdx]
    · unfold sdnV
      exact congrArg s6 (ix2_eq_valueIdx e j).symm
  rw [hy]

end Cert.KernelIdeal.Hand

end
-- ==== Proof.KerVal.lean ====
/-
  The kernel's result over the extended reals: every token's row is the sum, over all the experts, of the expert's share —
  for choices that name experts, none of them twice for one token.
-/
module

public import proofs.«01_k».proof.Proof.Ideal.Run
public import proofs.«01_k».proof.Proof.KerPay

@[expose] public section

noncomputable section

namespace Cert.KernelIdeal.Hand

open Cert.Moe Cert.KernelIdeal Cert.KernelIdeal.Gen
open Idealize.ShloMosaic Idealize.ShloMosaic.TcCoe

variable (ids : S8x20.Idx → Elt Ideal .i32) (rwt : S8x20.Idx → Elt Ideal .f32) (x : S20x4096.Idx → Elt Ideal .bf16)
    (W3 : S31x4096x3072.Idx → Elt Ideal .fp8e4m3) (s4 : S31x3072.Idx → Elt Ideal .f32)
    (W5 : S31x1536x4096.Idx → Elt Ideal .fp8e4m3) (s6 : S31x4096.Idx → Elt Ideal .f32)

/-- A token's row among the padded ones. -/
abbrev pr (t : Fin 20) : Fin 32 := ⟨t.val, by omega⟩

theorem xpV_apply (t : Fin 20) (k : Fin 4096) : xpV (F := Ideal) x (ix2 (pr t) k) = x (ix2 t k) := by
  unfold xpV
  rw [show (ix2 (pr t) k : S32x4096.Idx) = (Rect.unit (s := S32x4096) ![0, 0] S20x4096.size inb_S32x4096_S20x4096_0_0).emb (ix2 t k) from
    ((unit_emb2 0 0 _ t k (by omega) (by omega)).trans (by simp)).symm, put_emb]
  unfold k0_pay13
  exact congrFun (shapeCast_id x _) _

theorem icV_apply (t : Fin 20) (k : Fin 8) : icV (F := Ideal) ids (ix2 (pr t) k) = ids (ix2 k t) := by
  unfold icV
  rw [show (ix2 (pr t) k : S32x8.Idx) = (Rect.unit (s := S32x8) ![0, 0] S20x8.size inb_S32x8_S20x8_0_0).emb (ix2 t k) from
    ((unit_emb2 0 0 _ t k (by omega) (by omega)).trans (by simp)).symm, put_emb]
  pointwise [k0_pay16]

theorem rcV_apply (t : Fin 20) (k : Fin 8) : rcV (F := Ideal) rwt (ix2 (pr t) k) = rwt (ix2 k t) := by
  unfold rcV
  rw [show (ix2 (pr t) k : S32x8.Idx) = (Rect.unit (s := S32x8) ![0, 0] S20x8.size inb_S32x8_S20x8_0_0).emb (ix2 t k) from
    ((unit_emb2 0 0 _ t k (by omega) (by omega)).trans (by simp)).symm, put_emb]
  pointwise [k0_pay17]

/-- An expert's share of token `t`'s result at column `j`. -/
def kterm (t : Fin 20) (j : Fin 4096) (e : Fin 31) : EReal :=
  share (fun k => ids (ix2 k t)) (fun k => rwt (ix2 k t)) (BitVec.ofNat 32 e.val)
    (yv (fun k => x (ix2 t k)) (fun k n => W3 (ix3 e k n)) (fun n => s4 (ix2 e n)) (fun n j => W5 (ix3 e n j)) (fun j => s6 (ix2 e j)) j)

/-- The accumulator after `n` experts of the order. -/
theorem accV_apply (t : Fin 20) (ht : Function.Injective fun k : Fin 8 => ids (ix2 k t)) (j : Fin 4096) : ∀ n,
    accV (F := Ideal) ids rwt x W3 s4 W5 s6 n (ix2 (pr t) j) = ∑ i ∈ Finset.range n, kterm ids rwt x W3 s4 W5 s6 t j (oF (F := Ideal) ids i) := by
  intro n
  induction n with
  | zero =>
    unfold accV
    pointwise [k0_pay18]
    simp
  | succ n ih =>
    unfold accV
    rw [Finset.sum_range_succ, ← ih, stepV_apply]
    refine congrArg₂ (· + ·) rfl ?_
    unfold kterm
    rw [← share_eq _ ht]
    simp only [xpV_apply, icV_apply, rcV_apply]

/-- The expert at a place of the order. -/
theorem oF_eq (hids : ∀ i, BitVec.toNat (ids i) < 31) (i : ℕ) (h : i < (colT ids 20).length) : (oF (F := Ideal) ids i).val = (colT ids 20)[i] := by
  have e : (colT ids 20).getD i 0 = (colT ids 20)[i] := by rw [List.getD_eq_getElem?_getD, List.getElem?_eq_getElem h]; rfl
  have hl : (colT ids 20).getD i 0 < 31 := by rw [e]; exact colT_lt ids hids 20 _ (List.getElem_mem h)
  unfold oF
  rw [dif_pos hl, ← e]

/-- An expert no token routes to shares nothing. -/
theorem kterm_zero (t : Fin 20) (j : Fin 4096) (e : Fin 31) (he : e.val ∉ colT ids 20) : kterm ids rwt x W3 s4 W5 s6 t j e = 0 := by
  unfold kterm
  refine share_zero _ _ _ _ fun k hk => he ?_
  have hm := colT_mem ids k t
  rw [← ix2_eq_valueIdx] at hm
  rw [hk, BitVec.toNat_ofNat, Nat.mod_eq_of_lt (by have := e.isLt; omega)] at hm
  exact hm

theorem order_sum (hids : ∀ i, BitVec.toNat (ids i) < 31) (t : Fin 20) (j : Fin 4096) :
    ∑ i ∈ Finset.range (colT ids 20).length, kterm ids rwt x W3 s4 W5 s6 t j (oF (F := Ideal) ids i) = ∑ e, kterm ids rwt x W3 s4 W5 s6 t j e :=
  sum_order (colT ids 20) (colT_nodup ids 20) (colT_lt ids hids 20) (oF (F := Ideal) ids) (oF_eq ids hids) (kterm ids rwt x W3 s4 W5 s6 t j)
    (kterm_zero ids rwt x W3 s4 W5 s6 t j)

/-- The last rounding keeps the value, and the padded rows are left out. -/
theorem pay1_apply (a : S32x4096.Idx → EReal) (t : Fin 20) (j : Fin 4096) :
    k0_pay1 (F := Ideal) (fun i => a ((Rect.unit (s := S32x4096) ![0, 0] S20x4096.size inb_S32x4096_S20x4096_0_0).emb i)) (ix2 t j) = a (ix2 (pr t) j) := by
  pointwise [k0_pay1]
  exact congrArg a ((unit_emb2 0 0 _ t j (by omega) (by omega)).trans (by simp))

/-- The result at a token and a column: the experts' shares, summed. -/
theorem outV_apply (hids : ∀ i, BitVec.toNat (ids i) < 31) (t : Fin 20) (ht : Function.Injective fun k : Fin 8 => ids (ix2 k t)) (j : Fin 4096) :
    outV (F := Ideal) ids rwt x W3 s4 W5 s6 (ix2 t j) = ∑ e, kterm ids rwt x W3 s4 W5 s6 t j e := by
  unfold outV
  exact (pay1_apply _ t j).trans ((accV_apply ids rwt x W3 s4 W5 s6 t ht j _).trans (order_sum ids rwt x W3 s4 W5 s6 hids t j))

/-! ## From the arguments -/

/-- The ids and the weights reach the region with token and choice exchanged. -/
theorem swapped {α : Type} (w : S20x1x8.Idx → α) (k : Fin 8) (t : Fin 20) :
    (transpose S8x20 [1, 0] (shapeCast S20x8 w shapeCasts_S20x1x8_S20x8) transposes_S20x8_S8x20_1_0 : S8x20.Idx → α) (ix2 k t) = w (ix3 t 0 k) := by
  pointwise []

theorem tokens {α : Type} (w : S20x1x4096.Idx → α) (t : Fin 20) (k : Fin 4096) :
    (shapeCast S20x4096 w shapeCasts_S20x1x4096_S20x4096 : S20x4096.Idx → α) (ix2 t k) = w (ix3 t 0 k) := by
  pointwise []

variable (m : (ℓ : Loc nD τ sig) → Buf (Elt Ideal) ℓ)

/-- What the kernel leaves, from the arguments as launched. -/
theorem outAt_apply (c : Dev nD) (hids : ∀ i, BitVec.toNat (V m c main_v1 i) < 31) (t : Fin 20)
    (ht : Function.Injective fun k : Fin 8 => (m ((c : Thread nD τ).loc main_arg1) : S20x1x8.Idx → BitVec 32) (ix3 t 0 k)) (j : Fin 4096) :
    (outAt m c : S20x4096.Idx → EReal) (ix2 t j) = moe (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) t j := by
  have e1 : ∀ k, (V m c main_v1 : S8x20.Idx → BitVec 32) (ix2 k t) = (m ((c : Thread nD τ).loc main_arg1) : S20x1x8.Idx → BitVec 32) (ix3 t 0 k) := fun k => by
    rw [V_ids]; exact swapped _ k t
  have e3 : ∀ k, (V m c main_v3 : S8x20.Idx → EReal) (ix2 k t) = (m ((c : Thread nD τ).loc main_arg2) : S20x1x8.Idx → EReal) (ix3 t 0 k) := fun k => by
    rw [V_rw]; exact swapped _ k t
  have e4 : ∀ k, (V m c main_v4 : S20x4096.Idx → EReal) (ix2 t k) = (m ((c : Thread nD τ).loc main_arg0) : S20x1x4096.Idx → EReal) (ix3 t 0 k) := fun k => by
    rw [V_x]; exact tokens _ t k
  unfold outAt
  rw [V_main_arg3, V_main_arg4, V_main_arg5, V_main_arg6]
  refine (outV_apply _ _ _ _ _ _ _ hids t ?_ j).trans ?_
  · intro k k' h
    exact ht ((e1 k).symm.trans (Eq.trans h (e1 k')))
  · unfold moe kterm
    simp only [e1, e3, e4]

end Cert.KernelIdeal.Hand

end
-- ==== Proof.RefPay.lean ====
/-
  The reference's payloads, read element by element over the extended reals: one trip of its loop over the experts adds
  the expert's share of every token's result.
-/
module

public import proofs.«01_k».proof.Proof.Gen.ReferenceIdeal.Skeleton
public import proofs.«01_k».proof.Proof.Spec

@[expose] public section

noncomputable section

namespace Cert.ReferenceIdeal.Hand

open Cert.Moe Cert.ReferenceIdeal Cert.ReferenceIdeal.Gen
open Idealize.ShloMosaic

theorem pay7_apply (v1 : FVec Ideal S20x4096 .bf16) (v12 : Vec Ideal S1x4096x3072 .fp8e4m3) (v17 : Vec Ideal S1x3072 .f32)
    (v27 : Vec Ideal S1x1536x4096 .fp8e4m3) (v32 : Vec Ideal S1x4096 .f32) (t : Fin 20) (j : Fin 4096) :
    k0_pay7 (F := Ideal) v1 v12 v17 v27 v32 (ix2 t j)
      = yv (fun k => v1 (ix2 t k)) (fun k n => v12 (ix3 0 k n)) (fun n => v17 (ix2 0 n)) (fun n j => v27 (ix3 0 n j)) (fun j => v32 (ix2 0 j)) j := by
  pointwise [k0_pay7]
  rfl

/-- One trip's value: the accumulator after it. -/
def refStep (v1 : FVec Ideal S20x4096 .bf16) (v3 : IVec S20x8 32) (v4 : Vec Ideal S20x8 .f32) (c0 c1 : BitVec 32) (e : Fin k0_t1_loop.trips)
    (acc : FVec Ideal S20x4096 .f32) (v12 : Vec Ideal S1x4096x3072 .fp8e4m3) (v17 : Vec Ideal S1x3072 .f32)
    (v27 : Vec Ideal S1x1536x4096 .fp8e4m3) (v32 : Vec Ideal S1x4096 .f32) : FVec Ideal S20x4096 .f32 :=
  k0_pay5 (F := Ideal) v4 (k0_pay7 v1 v12 v17 v27 v32)
    (k0_pay10 v3 (k0_pay3 v4) (Scf.iv c0 c1 e) (k0_pay7 v1 v12 v17 v27 v32) (k0_pay8 v1 v3 (k0_pay3 v4) c0 c1 e acc v12 v17 v27 v32) (k0_pay9 v3 c0 c1 e))
    (k0_pay11 v3 (Scf.iv c0 c1 e))

theorem refStep_apply (v1 : FVec Ideal S20x4096 .bf16) (v3 : IVec S20x8 32) (v4 : Vec Ideal S20x8 .f32) (c0 c1 : BitVec 32) (e : Fin k0_t1_loop.trips)
    (acc : FVec Ideal S20x4096 .f32) (v12 : Vec Ideal S1x4096x3072 .fp8e4m3) (v17 : Vec Ideal S1x3072 .f32)
    (v27 : Vec Ideal S1x1536x4096 .fp8e4m3) (v32 : Vec Ideal S1x4096 .f32) (t : Fin 20) (j : Fin 4096) :
    refStep v1 v3 v4 c0 c1 e acc v12 v17 v27 v32 (ix2 t j)
      = acc (ix2 t j) + share (fun k => v3 (ix2 t k)) (fun k => v4 (ix2 t k)) (Scf.iv c0 c1 e)
          (yv (fun k => v1 (ix2 t k)) (fun k n => v12 (ix3 0 k n)) (fun n => v17 (ix2 0 n)) (fun n j => v27 (ix3 0 n j)) (fun j => v32 (ix2 0 j)) j) := by
  rw [← pay7_apply]
  unfold refStep
  generalize hy : k0_pay7 (F := Ideal) v1 v12 v17 v27 v32 = y
  unfold k0_pay8 k0_pay9
  rw [hy]
  generalize Scf.iv c0 c1 e = q
  pointwise [k0_pay5, k0_pay10, k0_pay9, k0_pay11, k0_pay3, share]
  simp only [select_eq, Fin.sum_univ_eight, add_assoc]

end Cert.ReferenceIdeal.Hand

end
-- ==== Proof.RefTrip.lean ====
/-
  The reference's loop, trip by trip, and the array it stores: every token's row is the sum, over all the experts, of the
  expert's share.
-/
module

public import proofs.«01_k».proof.Proof.Gen.ReferenceIdeal.Value
public import proofs.«01_k».proof.Proof.RefPay
public import Idealize.ShloMosaic.Lib.WritesUnit

@[expose] public section

set_option maxHeartbeats 1000000

noncomputable section

namespace Cert.ReferenceIdeal.Hand

open Cert.Moe Cert.ReferenceIdeal Cert.ReferenceIdeal.Gen
open Idealize.ShloMosaic Idealize.ShloMosaic.TcCoe Idealize.SL.Sem

variable (𝒱 : Variants) (c : Dev nD) (bd : Option 𝒱.V) (arg0 : Memref sig .tc .vmem S20x4096 .bf16) (harg0 : arg0.IsWhole) (arg1 : Memref sig .tc .vmem S20x8 .i32) (harg1 : arg1.IsWhole) (arg2 : Memref sig .tc .vmem S20x8 .f32) (harg2 : arg2.IsWhole) (arg3 : Memref sig .tc .vmem S31x4096x3072 .fp8e4m3) (harg3 : arg3.IsWhole) (arg4 : Memref sig .tc .vmem S31x3072 .f32) (harg4 : arg4.IsWhole) (arg5 : Memref sig .tc .vmem S31x1536x4096 .fp8e4m3) (harg5 : arg5.IsWhole) (arg6 : Memref sig .tc .vmem S31x4096 .f32) (harg6 : arg6.IsWhole) (arg7 : Memref sig .tc .vmem S20x4096 .bf16) (harg7 : arg7.IsWhole)

/-- One trip of the loop is `refStep` at the expert's rows of the four weight arrays. -/
theorem tripR_eq (v0 : Vec Ideal S20x4096 .bf16) (v2 : Vec Ideal S20x8 .i32) (v4 : Vec Ideal S20x8 .f32)
    (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
    (k : Fin k0_t1_loop.trips) (acc : FVec Ideal S20x4096 .f32) :
    tripR_k0_t1 (F := Ideal) 𝒱 c bd arg0 harg0 arg1 harg1 arg2 harg2 arg3 harg3 arg4 harg4 arg5 harg5 arg6 harg6 arg7 harg7 v0 v2 v4 X3 X4 X5 X6 k acc
      = refStep (k0_pay1 v0) (k0_pay2 (F := Ideal) v2) v4 0#32 1#32 k acc
          (arg3.view.readAt (Elt Ideal) (Rect.unit (s := S31x4096x3072) (k0_off1 k) S1x4096x3072.size (k0_off1_inb k)).toLoadRect X3)
          (arg4.view.readAt (Elt Ideal) (Rect.unit (s := S31x3072) (k0_off2 k) S1x3072.size (k0_off2_inb k)).toLoadRect X4)
          (arg5.view.readAt (Elt Ideal) (Rect.unit (s := S31x1536x4096) (k0_off3 k) S1x1536x4096.size (k0_off3_inb k)).toLoadRect X5)
          (arg6.view.readAt (Elt Ideal) (Rect.unit (s := S31x4096) (k0_off4 k) S1x4096.size (k0_off4_inb k)).toLoadRect X6) := by
  unfold tripR_k0_t1 trip_k0_t1
  rfl

/-- A row of a staged array, read as the trip reads it. -/
theorem row3 {a b : ℕ} (arg : Memref sig .tc .vmem ⟨3, ![31, a, b]⟩ .fp8e4m3) (harg : arg.IsWhole) (x : (⟨3, ![31, a, b]⟩ : Shape).Idx → EReal)
    (off : Fin 3 → ℕ) (h : ∀ i, off i + (⟨3, ![1, a, b]⟩ : Shape).size i ≤ (⟨3, ![31, a, b]⟩ : Shape).size i) (e : Fin 31) (ho : off = ![e.val, 0, 0]) (k : Fin a) (n : Fin b) :
    arg.view.readAt (Elt Ideal) (Rect.unit (s := ⟨3, ![31, a, b]⟩) off (⟨3, ![1, a, b]⟩ : Shape).size h).toLoadRect (harg.unread x) (ix3 0 k n) = x (ix3 e k n) := by
  subst ho
  rw [View.readAt_apply, harg.read_unread]
  refine congrArg x ?_
  funext i
  refine Fin.ext ?_
  fin_cases i <;> simp [Rect.emb_apply]

/-- The same of an array of rows. -/
theorem row2 {b : ℕ} (arg : Memref sig .tc .vmem ⟨2, ![31, b]⟩ .f32) (harg : arg.IsWhole) (x : (⟨2, ![31, b]⟩ : Shape).Idx → EReal)
    (off : Fin 2 → ℕ) (h : ∀ i, off i + (⟨2, ![1, b]⟩ : Shape).size i ≤ (⟨2, ![31, b]⟩ : Shape).size i) (e : Fin 31) (ho : off = ![e.val, 0]) (n : Fin b) :
    arg.view.readAt (Elt Ideal) (Rect.unit (s := ⟨2, ![31, b]⟩) off (⟨2, ![1, b]⟩ : Shape).size h).toLoadRect (harg.unread x) (ix2 0 n) = x (ix2 e n) := by
  subst ho
  rw [View.readAt_apply, harg.read_unread]
  refine congrArg x ?_
  funext i
  refine Fin.ext ?_
  fin_cases i <;> simp [Rect.emb_apply]

/-- A whole array, read as the body reads it. -/
theorem whole2 {a b : ℕ} {ty : EltTy} (arg : Memref sig .tc .vmem ⟨2, ![a, b]⟩ ty) (harg : arg.IsWhole) (x : (⟨2, ![a, b]⟩ : Shape).Idx → Elt Ideal ty)
    (h : ∀ i, (![0, 0] : Fin 2 → ℕ) i + (⟨2, ![a, b]⟩ : Shape).size i ≤ (⟨2, ![a, b]⟩ : Shape).size i) :
    arg.view.readAt (Elt Ideal) (Rect.unit (s := ⟨2, ![a, b]⟩) ![0, 0] (⟨2, ![a, b]⟩ : Shape).size h).toLoadRect (harg.unread x) = x := by
  funext y
  rw [View.readAt_apply, harg.read_unread]
  refine congrArg x ?_
  funext i
  refine Fin.ext ?_
  fin_cases i <;> simp [Rect.emb_apply]

theorem trips_eq : k0_t1_loop.trips = 31 := by decide +kernel

theorem iv_eq : ∀ k : Fin k0_t1_loop.trips, Scf.iv 0#32 1#32 k = BitVec.ofNat 32 k.val := by decide +kernel

/-- Expert number `i`. -/
def ex (i : ℕ) : Fin 31 := ⟨i % 31, Nat.mod_lt _ (by norm_num)⟩

/-- Token `t`'s result at column `j`: the sum of the experts' shares. -/
def term (x0 : S20x4096.Idx → EReal) (x1 : S20x8.Idx → BitVec 32) (x2 : S20x8.Idx → EReal) (x3 : S31x4096x3072.Idx → EReal) (x4 : S31x3072.Idx → EReal)
    (x5 : S31x1536x4096.Idx → EReal) (x6 : S31x4096.Idx → EReal) (t : Fin 20) (j : Fin 4096) (e : Fin 31) : EReal :=
  share (fun k => x1 (ix2 t k)) (fun k => x2 (ix2 t k)) (BitVec.ofNat 32 e.val)
    (yv (fun k => x0 (ix2 t k)) (fun k n => x3 (ix3 e k n)) (fun n => x4 (ix2 e n)) (fun n j => x5 (ix3 e n j)) (fun j => x6 (ix2 e j)) j)

variable (x0 : Vec Ideal S20x4096 .bf16) (x1 : Vec Ideal S20x8 .i32) (x2 : Vec Ideal S20x8 .f32) (x3 : Vec Ideal S31x4096x3072 .fp8e4m3) (x4 : Vec Ideal S31x3072 .f32) (x5 : Vec Ideal S31x1536x4096 .fp8e4m3) (x6 : Vec Ideal S31x4096 .f32)

/-- The accumulator before trip `n`. -/
theorem st_apply (t : Fin 20) (j : Fin 4096) : ∀ n, n ≤ 31 →
    st_k0_t1 (F := Ideal) 𝒱 c bd arg0 harg0 arg1 harg1 arg2 harg2 arg3 harg3 arg4 harg4 arg5 harg5 arg6 harg6 arg7 harg7 x0 x1 x2 (harg3.unread x3) (harg4.unread x4) (harg5.unread x5) (harg6.unread x6) (k0_pay4 (F := Ideal)) n (ix2 t j)
      = ∑ i ∈ Finset.range n, term x0 x1 x2 x3 x4 x5 x6 t j (ex i) := by
  intro n
  induction n with
  | zero =>
    intro _
    rw [st_k0_t1_zero]
    pointwise [k0_pay4]
    simp
  | succ n ih =>
    intro hn
    have hk : n < k0_t1_loop.trips := by rw [trips_eq]; omega
    have he : (ex n).val = n := Nat.mod_eq_of_lt (by omega)
    rw [Finset.sum_range_succ, ← ih (by omega)]
    rw [st_k0_t1_succ 𝒱 c bd arg0 harg0 arg1 harg1 arg2 harg2 arg3 harg3 arg4 harg4 arg5 harg5 arg6 harg6 arg7 harg7 x0 x1 x2 (harg3.unread x3) (harg4.unread x4) (harg5.unread x5) (harg6.unread x6) (k0_pay4 (F := Ideal)) ⟨n, hk⟩]
    rw [tripR_eq, refStep_apply]
    refine congrArg₂ (· + ·) rfl ?_
    unfold term
    rw [iv_eq, he]
    have h3 := fun k m => row3 arg3 harg3 x3 _ (k0_off1_inb ⟨n, hk⟩) (ex n) (by rw [k0_off1_eq, he]) k m
    have h4 := fun m => row2 arg4 harg4 x4 _ (k0_off2_inb ⟨n, hk⟩) (ex n) (by rw [k0_off2_eq, he]) m
    have h5 := fun k m => row3 arg5 harg5 x5 _ (k0_off3_inb ⟨n, hk⟩) (ex n) (by rw [k0_off3_eq, he]) k m
    have h6 := fun m => row2 arg6 harg6 x6 _ (k0_off4_inb ⟨n, hk⟩) (ex n) (by rw [k0_off4_eq, he]) m
    simp only [h3, h4, h5, h6]
    unfold k0_pay1 k0_pay2
    simp only [shapeCast_id]

/-- What the body leaves in the output block. -/
theorem out_apply (t : Fin 20) (j : Fin 4096) :
    out0_A_7 (F := Ideal) c arg0 harg0 arg1 harg1 arg2 harg2 arg3 harg3 arg4 harg4 arg5 harg5 arg6 harg6 arg7 harg7 x0 x1 x2 x3 x4 x5 x6 (ix2 t j)
      = ∑ e, term x0 x1 x2 x3 x4 x5 x6 t j e := by
  unfold out0_A_7 kernelRun0_A
  dsimp only
  refine (View.read_writes_cons_unit_of_mem VO0_7 VO0_7.junk inb_S20x4096_S20x4096_0_0 _ [] (ix2 t j) (ix2 t j) rfl
    (by intro a; fin_cases a <;> simp)).trans ?_
  rw [whole2 arg0 harg0 x0, whole2 arg1 harg1 x1, whole2 arg2 harg2 x2]
  rw [show Scf.trips 0#32 (Scalar.addi 0#32 31#32) 1#32 = 31 from trips_eq]
  unfold k0_pay6
  pointwise
  refine (st_apply _ c _ arg0 harg0 arg1 harg1 arg2 harg2 arg3 harg3 arg4 harg4 arg5 harg5 arg6 harg6 arg7 harg7 x0 x1 x2 x3 x4 x5 x6 t j 31 (le_refl _)).trans ?_
  rw [Finset.sum_range]
  exact Finset.sum_congr rfl fun e _ => congrArg _ (Fin.ext (Nat.mod_eq_of_lt e.isLt))

end Cert.ReferenceIdeal.Hand

end
-- ==== Proof.RefVal.lean ====
/-
  The reference's run: its result holds, for every token, the sum of all the experts' shares over the arguments as
  launched.
-/
module

public import proofs.«01_k».proof.Proof.RefTrip
public import Idealize.ShloMosaic.Lib.StableHlo.Run
public import Idealize.ShloMosaic.Lib.Pipeline.Value

@[expose] public section

noncomputable section

namespace Cert.ReferenceIdeal.Hand

open Cert.Moe Cert.ReferenceIdeal Cert.ReferenceIdeal.Gen
open Idealize.ShloMosaic Idealize.ShloMosaic.TcCoe Idealize.SL.Sem
open Idealize.ShloMosaic.Pipeline (Dat Cfg Window)

variable (m : (ℓ : Loc nD τ sig) → Buf (Elt Ideal) ℓ)

theorem V_x (c : Dev nD) : V m c main_v0 = (shapeCast S20x4096 (m ((c : Thread nD τ).loc main_arg0)) shapeCasts_S20x1x4096_S20x4096 : S20x4096.Idx → Elt Ideal .bf16) := by
  unfold V
  after_results
  try rfl

theorem V_ids (c : Dev nD) : V m c main_v1 = (shapeCast S20x8 (m ((c : Thread nD τ).loc main_arg1)) shapeCasts_S20x1x8_S20x8 : S20x8.Idx → Elt Ideal .i32) := by
  unfold V
  after_results
  try rfl

theorem V_rw (c : Dev nD) : V m c main_v2 = (shapeCast S20x8 (m ((c : Thread nD τ).loc main_arg2)) shapeCasts_S20x1x8_S20x8 : S20x8.Idx → Elt Ideal .f32) := by
  unfold V
  after_results
  try rfl

/-- Each input block is its whole array. -/
theorem iblk0 (c : Dev nD) (t : Fin cfg0.N) : iblk m c 0 t = V m c main_v0 := by
  funext y
  exact congrArg (V m c main_v0) (funext fun a => Fin.ext ((cfg0.win 0).rect_emb_val_of_index_zero t a rfl y))

theorem iblk1 (c : Dev nD) (t : Fin cfg0.N) : iblk m c 1 t = V m c main_v1 := by
  funext y
  exact congrArg (V m c main_v1) (funext fun a => Fin.ext ((cfg0.win 1).rect_emb_val_of_index_zero t a rfl y))

theorem iblk2 (c : Dev nD) (t : Fin cfg0.N) : iblk m c 2 t = V m c main_v2 := by
  funext y
  exact congrArg (V m c main_v2) (funext fun a => Fin.ext ((cfg0.win 2).rect_emb_val_of_index_zero t a rfl y))

theorem iblk3 (c : Dev nD) (t : Fin cfg0.N) : iblk m c 3 t = V m c main_arg3 := by
  funext y
  exact congrArg (V m c main_arg3) (funext fun a => Fin.ext ((cfg0.win 3).rect_emb_val_of_index_zero t a rfl y))

theorem iblk4 (c : Dev nD) (t : Fin cfg0.N) : iblk m c 4 t = V m c main_arg4 := by
  funext y
  exact congrArg (V m c main_arg4) (funext fun a => Fin.ext ((cfg0.win 4).rect_emb_val_of_index_zero t a rfl y))

theorem iblk5 (c : Dev nD) (t : Fin cfg0.N) : iblk m c 5 t = V m c main_arg5 := by
  funext y
  exact congrArg (V m c main_arg5) (funext fun a => Fin.ext ((cfg0.win 5).rect_emb_val_of_index_zero t a rfl y))

theorem iblk6 (c : Dev nD) (t : Fin cfg0.N) : iblk m c 6 t = V m c main_arg6 := by
  funext y
  exact congrArg (V m c main_arg6) (funext fun a => Fin.ext ((cfg0.win 6).rect_emb_val_of_index_zero t a rfl y))

/-- The last array of the run holds every token's sum. -/
theorem final_value (c : Dev nD) (t : Fin 20) (j : Fin 4096) :
    (dats (F := Ideal) m 0 c).arrAt 7 cfg0.N (ix2 t j)
      = ∑ e, term (V m c main_v0) (V m c main_v1) (V m c main_v2) (V m c main_arg3) (V m c main_arg4) (V m c main_arg5) (V m c main_arg6) t j e := by
  have hb := Value.blocks7 m c t0_0 (by decide)
  rw [Value.flushed7_A] at hb
  rw [iblk0, iblk1, iblk2, iblk3, iblk4, iblk5, iblk6] at hb
  have hc := congrFun hb (ix2 t j)
  refine Eq.trans ?_ (hc.trans ?_)
  · exact congrArg ((dats (F := Ideal) m 0 c).arrAt 7 cfg0.N) (funext fun a => Fin.ext ((cfg0.win 7).rect_emb_val_of_index_zero t0_0 a rfl (ix2 t j)).symm)
  · exact out_apply c _ _ _ _ _ _ _ _ _ _ _ _ _ _ _ _ _ _ _ _ _ _ _ t j

theorem ids_at {α : Type} (w : S20x1x8.Idx → α) (t : Fin 20) (k : Fin 8) :
    (shapeCast S20x8 w shapeCasts_S20x1x8_S20x8 : S20x8.Idx → α) (ix2 t k) = w (ix3 t 0 k) := by
  pointwise []

theorem tokens_at {α : Type} (w : S20x1x4096.Idx → α) (t : Fin 20) (k : Fin 4096) :
    (shapeCast S20x4096 w shapeCasts_S20x1x4096_S20x4096 : S20x4096.Idx → α) (ix2 t k) = w (ix3 t 0 k) := by
  pointwise []

/-- What the reference leaves, from the arguments as launched. -/
theorem final_apply (c : Dev nD) (t : Fin 20) (j : Fin 4096) :
    ((dats (F := Ideal) m 0 c).arrAt 7 cfg0.N : S20x4096.Idx → EReal) (ix2 t j) = moe (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) t j := by
  have e0 : ∀ k, (V m c main_v0 : S20x4096.Idx → EReal) (ix2 t k) = (m ((c : Thread nD τ).loc main_arg0) : S20x1x4096.Idx → EReal) (ix3 t 0 k) := fun k => by
    rw [V_x]; exact tokens_at _ t k
  have e1 : ∀ k, (V m c main_v1 : S20x8.Idx → BitVec 32) (ix2 t k) = (m ((c : Thread nD τ).loc main_arg1) : S20x1x8.Idx → BitVec 32) (ix3 t 0 k) := fun k => by
    rw [V_ids]; exact ids_at _ t k
  have e2 : ∀ k, (V m c main_v2 : S20x8.Idx → EReal) (ix2 t k) = (m ((c : Thread nD τ).loc main_arg2) : S20x1x8.Idx → EReal) (ix3 t 0 k) := fun k => by
    rw [V_rw]; exact ids_at _ t k
  refine (final_value m c t j).trans ?_
  rw [V_main_arg3, V_main_arg4, V_main_arg5, V_main_arg6]
  unfold moe term
  simp only [e0, e1, e2]

end Cert.ReferenceIdeal.Hand

end
-- ==== Proof.lean ====
/-
  The claims, assembled: the kernel and its ideal program run to the end, without fault, their arguments unchanged and
  every semaphore at zero, when the ids name experts (Run.lean, Ideal/Run.lean); the reference always does; the ideal
  program is the kernel over the extended reals; and, when no token names an expert twice, the two leave the same result
  (KerVal.lean, RefVal.lean), the sum over all the experts of the expert's share (Spec.lean, `moe`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_routed
public import proofs.«01_k».proof.Proof.Gen.Pre_routed_distinct
public import proofs.«01_k».proof.Proof.Gen.ReferenceIdeal.Value
public import proofs.«01_k».proof.Proof.Run
public import proofs.«01_k».proof.Proof.Ideal.Run
public import proofs.«01_k».proof.Proof.Pre
public import proofs.«01_k».proof.Proof.PreDistinct
public import proofs.«01_k».proof.Proof.KerVal
public import proofs.«01_k».proof.Proof.RefVal

@[expose] public section

noncomputable section

namespace Cert.Proof

open Idealize.ShloMosaic Idealize.ShloMosaic.TcCoe Idealize.SL.Sem

/-- Under the kernel's precondition the region finds every id below 31. -/
theorem kernel_ids (m : (ℓ : Loc Cert.Kernel.nD Cert.Kernel.τ Cert.Kernel.sig) → Buf (Elt Bits) ℓ) (h : Cert.Pre_Kernel m)
    (c : Dev Cert.Kernel.nD) (i : Cert.Kernel.S8x20.Idx) : BitVec.toNat (Cert.Kernel.Gen.V m c Cert.Kernel.main_v1 i) < 31 := by
  rw [Cert.Kernel.Hand.V_ids]
  exact Cert.Moe.routed_lt _ _ _ _ _ _ _ (h c) _

/-- The same of the ideal program. -/
theorem ideal_ids (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S8x20.Idx) : BitVec.toNat (Cert.KernelIdeal.Gen.V m c Cert.KernelIdeal.main_v1 i) < 31 := by
  rw [Cert.KernelIdeal.Hand.V_ids]
  exact Cert.Moe.routed_lt _ _ _ _ _ _ _ (h c) _

/-- The same, under the value claim's precondition. -/
theorem distinct_ids (m : (ℓ : Loc Cert.KernelIdeal.nD Cert.KernelIdeal.τ Cert.KernelIdeal.sig) → Buf (Elt Ideal) ℓ) (h : Cert.Pre_KernelIdeal_routed_distinct m)
    (c : Dev Cert.KernelIdeal.nD) (i : Cert.KernelIdeal.S8x20.Idx) : BitVec.toNat (Cert.KernelIdeal.Gen.V m c Cert.KernelIdeal.main_v1 i) < 31 := by
  rw [Cert.KernelIdeal.Hand.V_ids]
  exact Cert.Moe.distinct_lt _ _ _ _ _ _ _ (h c) _

/-- A token's eight ids differ. -/
theorem distinct_inj (m : (ℓ : Loc Cert.KernelIdeal.nD Cert.KernelIdeal.τ Cert.KernelIdeal.sig) → Buf (Elt Ideal) ℓ) (h : Cert.Pre_KernelIdeal_routed_distinct m)
    (c : Dev Cert.KernelIdeal.nD) (t : Fin 20) :
    Function.Injective fun k : Fin 8 => (m ((c.tc : Thread Cert.KernelIdeal.nD Cert.KernelIdeal.τ).loc Cert.KernelIdeal.main_arg1) : Cert.KernelIdeal.S20x1x8.Idx → BitVec 32) (ix3 t 0 k) := by
  intro k k' hk
  by_contra hne
  refine Cert.Moe.distinct_ne _ _ _ _ _ _ _ (h c) t k k' hne ?_
  rw [← ix3_eq_valueIdx, ← ix3_eq_valueIdx]
  exact hk

/-- From memories that agree on the arguments, the reference leaves what the kernel leaves. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (h : Cert.Pre_KernelIdeal_routed_distinct m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ((Cert.ReferenceIdeal.Gen.dats (F := Ideal) m' 0 c).arrAt 7 Cert.ReferenceIdeal.cfg0.N : Cert.ReferenceIdeal.S20x4096.Idx → EReal)
      = (Cert.KernelIdeal.Hand.outAt m c : Cert.KernelIdeal.S20x4096.Idx → EReal) := by
  funext i
  rw [eq_ix2 i]
  refine (Cert.ReferenceIdeal.Hand.final_apply m' c (i 0) (i 1)).trans
    (Eq.trans ?_ (Cert.KernelIdeal.Hand.outAt_apply m c (distinct_ids m h c) (i 0) (distinct_inj m h c (i 0)) (i 1)).symm)
  rw [e0, e1, e2, e3, e4, e5, e6]

/-- Both programs end with the layer's result. -/
theorem value : Cert.algebraic_KernelIdeal_ReferenceIdeal_pre_routed_distinct (hKernelIdeal := Cert.KernelIdeal.Gen.facts)
    (hReferenceIdeal := Cert.ReferenceIdeal.Gen.facts) (hPre_routed_distinct := Cert.Pre_routed_distinct.Gen.facts) := fun m g m' g' h ha =>
  ⟨fun c => Cert.KernelIdeal.Hand.outAt m c, Cert.KernelIdeal.Hand.run_value m g (distinct_ids m h),
    (θ_run Cert.ReferenceIdeal.defs _ _).mono (fun _ hr c => ⟨(hr c).1.trans
        (same m m' h c (ha c).1 (ha c).2.1 (ha c).2.2.1 (ha c).2.2.2.1 (ha c).2.2.2.2.1 (ha c).2.2.2.2.2.1 (ha c).2.2.2.2.2.2), (hr c).2⟩)
      (Cert.ReferenceIdeal.Value.run_blocks m' g')⟩

theorem claim : Cert.Claim := ⟨Cert.Kernel.Gen.facts, Cert.KernelIdeal.Gen.facts, Cert.ReferenceIdeal.Gen.facts, Cert.Pre_routed.Gen.facts,
  Cert.Pre_routed_distinct.Gen.facts,
  fun m ρ h => Cert.Kernel.Hand.frame m ρ (kernel_ids m h),
  fun m ρ h => Cert.KernelIdeal.Hand.frame m ρ (ideal_ids m h),
  fun m ρ h => Cert.KernelIdeal.Hand.frame m ρ (distinct_ids m h),
  fun m ρ _ => Cert.ReferenceIdeal.Gen.frame m ρ,
  fun m ρ _ => Cert.ReferenceIdeal.Gen.frame m ρ,
  trivial,
  value⟩

end Cert.Proof

end
